-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v1_0)) (v2 : (c : Dev Cert.Kernel2Ideal.nD) → Buf (Elt Ideal) ((c.tc : Thread Cert.Kernel2Ideal.nD Cert.Kernel2Ideal.τ).loc Cert.Kernel2Ideal.main_v1_4)) (v3 : (c : Dev Cert.Kernel2Ideal.nD) → Buf (Elt Ideal) ((c.tc : Thread Cert.Kernel2Ideal.nD Cert.Kernel2Ideal.τ).loc Cert.Kernel2Ideal.main_v2)) (v4 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v1_0) = v1 c
          ∧ r.2.mem ((c.tc : Thread Cert.Kernel2Ideal.nD Cert.Kernel2Ideal.τ).loc Cert.Kernel2Ideal.main_v1_4) = v2 c
          ∧ r.2.mem ((c.tc : Thread Cert.Kernel2Ideal.nD Cert.Kernel2Ideal.τ).loc Cert.Kernel2Ideal.main_v2) = v3 c
          ∧ r.2.mem ((c.tc : Thread Cert.Kernel2Ideal.nD Cert.Kernel2Ideal.τ).loc Cert.Kernel2Ideal.main_v3) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v122) = v1 c
          ∧ r.2.mem ((c.tc : Thread Cert.Reference2Ideal.nD Cert.Reference2Ideal.τ).loc Cert.Reference2Ideal.main_v124) = v2 c
          ∧ r.2.mem ((c.tc : Thread Cert.Reference2Ideal.nD Cert.Reference2Ideal.τ).loc Cert.Reference2Ideal.main_v127) = v3 c
          ∧ r.2.mem ((c.tc : Thread Cert.Reference2Ideal.nD Cert.Reference2Ideal.τ).loc Cert.Reference2Ideal.main_v129) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v31)) (v1 : (c : Dev Cert.Kernel3Ideal.nD) → Buf (Elt Ideal) ((c.tc : Thread Cert.Kernel3Ideal.nD Cert.Kernel3Ideal.τ).loc Cert.Kernel3Ideal.main_v26)) (v2 : (c : Dev Cert.Kernel3Ideal.nD) → Buf (Elt Ideal) ((c.tc : Thread Cert.Kernel3Ideal.nD Cert.Kernel3Ideal.τ).loc Cert.Kernel3Ideal.main_v28)) (v3 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_v26) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_v30) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v55) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v1_0)) (v2 : (c : Dev Cert.Kernel4Ideal.nD) → Buf (Elt Ideal) ((c.tc : Thread Cert.Kernel4Ideal.nD Cert.Kernel4Ideal.τ).loc Cert.Kernel4Ideal.main_v1_4)) (v3 : (c : Dev Cert.Kernel4Ideal.nD) → Buf (Elt Ideal) ((c.tc : Thread Cert.Kernel4Ideal.nD Cert.Kernel4Ideal.τ).loc Cert.Kernel4Ideal.main_v2)) (v4 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v1_0) = v1 c
          ∧ r.2.mem ((c.tc : Thread Cert.Kernel4Ideal.nD Cert.Kernel4Ideal.τ).loc Cert.Kernel4Ideal.main_v1_4) = v2 c
          ∧ r.2.mem ((c.tc : Thread Cert.Kernel4Ideal.nD Cert.Kernel4Ideal.τ).loc Cert.Kernel4Ideal.main_v2) = v3 c
          ∧ r.2.mem ((c.tc : Thread Cert.Kernel4Ideal.nD Cert.Kernel4Ideal.τ).loc Cert.Kernel4Ideal.main_v3) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v136) = v1 c
          ∧ r.2.mem ((c.tc : Thread Cert.Reference4Ideal.nD Cert.Reference4Ideal.τ).loc Cert.Reference4Ideal.main_v138) = v2 c
          ∧ r.2.mem ((c.tc : Thread Cert.Reference4Ideal.nD Cert.Reference4Ideal.τ).loc Cert.Reference4Ideal.main_v141) = v3 c
          ∧ r.2.mem ((c.tc : Thread Cert.Reference4Ideal.nD Cert.Reference4Ideal.τ).loc Cert.Reference4Ideal.main_v143) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v31)) (v1 : (c : Dev Cert.Kernel5Ideal.nD) → Buf (Elt Ideal) ((c.tc : Thread Cert.Kernel5Ideal.nD Cert.Kernel5Ideal.τ).loc Cert.Kernel5Ideal.main_v26)) (v2 : (c : Dev Cert.Kernel5Ideal.nD) → Buf (Elt Ideal) ((c.tc : Thread Cert.Kernel5Ideal.nD Cert.Kernel5Ideal.τ).loc Cert.Kernel5Ideal.main_v28)) (v3 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31) = v0 c
          ∧ r.2.mem ((c.tc : Thread Cert.Kernel5Ideal.nD Cert.Kernel5Ideal.τ).loc Cert.Kernel5Ideal.main_v26) = v1 c
          ∧ r.2.mem ((c.tc : Thread Cert.Kernel5Ideal.nD Cert.Kernel5Ideal.τ).loc Cert.Kernel5Ideal.main_v28) = v2 c
          ∧ r.2.mem ((c.tc : Thread Cert.Kernel5Ideal.nD Cert.Kernel5Ideal.τ).loc Cert.Kernel5Ideal.main_v30) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v61) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4096x1024 : Shape := ⟨2, ![4096, 1024]⟩
abbrev S4096x7168 : Shape := ⟨2, ![4096, 7168]⟩
abbrev S2x6x1024 : Shape := ⟨3, ![2, 6, 1024]⟩
abbrev S2x16x1024 : Shape := ⟨3, ![2, 16, 1024]⟩
abbrev S2x8x1024 : Shape := ⟨3, ![2, 8, 1024]⟩
abbrev S2x8x128x128 : Shape := ⟨4, ![2, 8, 128, 128]⟩
abbrev S1024x1024 : Shape := ⟨2, ![1024, 1024]⟩
abbrev S8x128 : Shape := ⟨2, ![8, 128]⟩
abbrev S16x1024 : Shape := ⟨2, ![16, 1024]⟩
abbrev S128x1024 : Shape := ⟨2, ![128, 1024]⟩
abbrev S8x1024 : Shape := ⟨2, ![8, 1024]⟩
abbrev S128x7168 : Shape := ⟨2, ![128, 7168]⟩
abbrev S8x7168 : Shape := ⟨2, ![8, 7168]⟩
abbrev S1x6x1024 : Shape := ⟨3, ![1, 6, 1024]⟩
abbrev S1x16x1024 : Shape := ⟨3, ![1, 16, 1024]⟩
abbrev S1x8x1024 : Shape := ⟨3, ![1, 8, 1024]⟩
abbrev S1x8x128x128 : Shape := ⟨4, ![1, 8, 128, 128]⟩
abbrev S8x128x128 : Shape := ⟨3, ![8, 128, 128]⟩
abbrev S1x1x1024 : Shape := ⟨3, ![1, 1, 1024]⟩
abbrev S1x1024 : Shape := ⟨2, ![1, 1024]⟩
abbrev S128 : Shape := ⟨1, ![128]⟩
abbrev S128x1 : Shape := ⟨2, ![128, 1]⟩
abbrev S1024 : Shape := ⟨1, ![1024]⟩
abbrev S16x8x1024 : Shape := ⟨3, ![16, 8, 1024]⟩
abbrev S15x8x1024 : Shape := ⟨3, ![15, 8, 1024]⟩
abbrev S128x128 : Shape := ⟨2, ![128, 128]⟩
abbrev S1x1x128x128 : Shape := ⟨4, ![1, 1, 128, 128]⟩
abbrev S1x128x128 : Shape := ⟨3, ![1, 128, 128]⟩
abbrev S1x8x128 : Shape := ⟨3, ![1, 8, 128]⟩
abbrev S1x128 : Shape := ⟨2, ![1, 128]⟩

abbrev nBuf : Space → Nat
  | .hbm => 24
  | .vmem => 47
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x7168, .f32⟩
  | .hbm, ⟨6, _⟩ => ⟨S2x6x1024, .f32⟩
  | .hbm, ⟨7, _⟩ => ⟨S2x16x1024, .f32⟩
  | .hbm, ⟨8, _⟩ => ⟨S2x8x1024, .f32⟩
  | .hbm, ⟨9, _⟩ => ⟨S2x8x128x128, .bf16⟩
  | .hbm, ⟨10, _⟩ => ⟨S2x8x128x128, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8x128, .f32⟩
  | .hbm, ⟨15, _⟩ => ⟨S4096x7168, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S16x1024, .f32⟩
  | .hbm, ⟨23, _⟩ => ⟨S2x8x128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S8x1024, .f32⟩
  | .local _ .vmem, ⟨11, _⟩ => ⟨S8x1024, .f32⟩
  | .local _ .vmem, ⟨12, _⟩ => ⟨S128x7168, .f32⟩
  | .local _ .vmem, ⟨13, _⟩ => ⟨S128x7168, .f32⟩
  | .local _ .vmem, ⟨14, _⟩ => ⟨S8x7168, .f32⟩
  | .local _ .vmem, ⟨15, _⟩ => ⟨S8x7168, .f32⟩
  | .local _ .vmem, ⟨16, _⟩ => ⟨S1x6x1024, .f32⟩
  | .local _ .vmem, ⟨17, _⟩ => ⟨S1x16x1024, .f32⟩
  | .local _ .vmem, ⟨18, _⟩ => ⟨S1x8x1024, .f32⟩
  | .local _ .vmem, ⟨19, _⟩ => ⟨S1x8x128x128, .bf16⟩
  | .local _ .vmem, ⟨20, _⟩ => ⟨S1x8x128x128, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S128x7168, .bf16⟩
  | .local _ .vmem, ⟨25, _⟩ => ⟨S128x7168, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | .local _ .vmem, ⟨30, _⟩ => ⟨S128x1024, .bf16⟩
  | .local _ .vmem, ⟨31, _⟩ => ⟨S128x1024, .bf16⟩
  | .local _ .vmem, ⟨32, _⟩ => ⟨S128x1024, .bf16⟩
  | .local _ .vmem, ⟨33, _⟩ => ⟨S128x1024, .bf16⟩
  | .local _ .vmem, ⟨34, _⟩ => ⟨S128x1024, .bf16⟩
  | .local _ .vmem, ⟨35, _⟩ => ⟨S128x1024, .bf16⟩
  | .local _ .vmem, ⟨36, _⟩ => ⟨S128x1024, .bf16⟩
  | .local _ .vmem, ⟨37, _⟩ => ⟨S128x1024, .bf16⟩
  | .local _ .vmem, ⟨38, _⟩ => ⟨S16x1024, .f32⟩
  | .local _ .vmem, ⟨39, _⟩ => ⟨S2x8x128x128, .f32⟩
  | .local _ .vmem, ⟨40, _⟩ => ⟨S8x1024, .f32⟩
  | .local _ .vmem, ⟨41, _⟩ => ⟨S8x1024, .f32⟩
  | .local _ .vmem, ⟨42, _⟩ => ⟨S8x1024, .f32⟩
  | .local _ .vmem, ⟨43, _⟩ => ⟨S8x128x128, .f32⟩
  | .local _ .vmem, ⟨44, _⟩ => ⟨S8x128x128, .f32⟩
  | .local _ .vmem, ⟨45, _⟩ => ⟨S8x128x128, .f32⟩
  | .local _ .vmem, ⟨46, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg24_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_313 : BitVec 32 := 0#32
  let c2_i32_314 : BitVec 32 := 2#32
  let v519 : BitVec 32 := Scalar.addi c0_i32_313 c2_i32_314
  let c1_i32_315 : BitVec 32 := 1#32
  ⟨c0_i32_313, v519, c1_i32_315⟩
def k0_mult1 (k0_t1 : Fin k0_t1_loop.trips) : BitVec 32 :=
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  v923
def k0_off1 (k0_t1 : Fin k0_t1_loop.trips) (c7_i32_638 : BitVec 32) : Fin 3 → Nat :=
  let c0_639 : Index := 0#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v926 : BitVec 32 := Scalar.addi v924 c7_i32_638
  let v927 : Index := Scalar.indexCast v926
  let c0_640 : Index := 0#32
  ![0, v927.toNat, 0]
def k0_off2 (k0_t1 : Fin k0_t1_loop.trips) (c7_i32_726 : BitVec 32) : Fin 3 → Nat :=
  let c1_727 : Index := 1#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v1112 : BitVec 32 := Scalar.addi v924 c7_i32_726
  let v1113 : Index := Scalar.indexCast v1112
  let c0_728 : Index := 0#32
  ![1, v1113.toNat, 0]
def k0_off3 (k0_t1 : Fin k0_t1_loop.trips) (c7_i32_815 : BitVec 32) : Fin 3 → Nat :=
  let c2_816 : Index := 2#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v1298 : BitVec 32 := Scalar.addi v924 c7_i32_815
  let v1299 : Index := Scalar.indexCast v1298
  let c0_817 : Index := 0#32
  ![2, v1299.toNat, 0]
def k0_off4 (k0_t1 : Fin k0_t1_loop.trips) (c7_i32_904 : BitVec 32) : Fin 3 → Nat :=
  let c3_905 : Index := 3#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v1484 : BitVec 32 := Scalar.addi v924 c7_i32_904
  let v1485 : Index := Scalar.indexCast v1484
  let c0_906 : Index := 0#32
  ![3, v1485.toNat, 0]
def k0_off5 (k0_t1 : Fin k0_t1_loop.trips) (c7_i32_993 : BitVec 32) : Fin 3 → Nat :=
  let c4_994 : Index := 4#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v1670 : BitVec 32 := Scalar.addi v924 c7_i32_993
  let v1671 : Index := Scalar.indexCast v1670
  let c0_995 : Index := 0#32
  ![4, v1671.toNat, 0]
def k0_off6 (k0_t1 : Fin k0_t1_loop.trips) (c7_i32_1082 : BitVec 32) : Fin 3 → Nat :=
  let c5_1083 : Index := 5#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v1856 : BitVec 32 := Scalar.addi v924 c7_i32_1082
  let v1857 : Index := Scalar.indexCast v1856
  let c0_1084 : Index := 0#32
  ![5, v1857.toNat, 0]
def k0_off7 (k0_t1 : Fin k0_t1_loop.trips) (c7_i32_1171 : BitVec 32) : Fin 3 → Nat :=
  let c6_1172 : Index := 6#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v2042 : BitVec 32 := Scalar.addi v924 c7_i32_1171
  let v2043 : Index := Scalar.indexCast v2042
  let c0_1173 : Index := 0#32
  ![6, v2043.toNat, 0]
def k0_off8 (k0_t1 : Fin k0_t1_loop.trips) (c7_i32_1260 : BitVec 32) : Fin 3 → Nat :=
  let c7_1261 : Index := 7#32
  let c1_i32_637 : BitVec 32 := 1#32
  let c0_i32_313 : BitVec 32 := 0#32
  let c1_i32_315 : BitVec 32 := 1#32
  let arg34 : BitVec 32 := Scf.iv c0_i32_313 c1_i32_315 k0_t1
  let v922 : BitVec 32 := Scalar.subi c1_i32_637 arg34
  let c64_i32 : BitVec 32 := 64#32
  let v923 : BitVec 32 := Scalar.muli v922 c64_i32
  let v924 : BitVec 32 := v923
  let v2228 : BitVec 32 := Scalar.addi v924 c7_i32_1260
  let v2229 : Index := Scalar.indexCast v2228
  let c0_1262 : Index := 0#32
  ![7, v2229.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x7168 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S16x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2x8x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Kernel2.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x512 : Shape := ⟨3, ![8, 1024, 512]⟩
abbrev S8x128 : Shape := ⟨2, ![8, 128]⟩
abbrev S4096x4096 : Shape := ⟨2, ![4096, 4096]⟩
abbrev S512x1024 : Shape := ⟨2, ![512, 1024]⟩
abbrev S1x6x1024 : Shape := ⟨3, ![1, 6, 1024]⟩
abbrev S1x16x1024 : Shape := ⟨3, ![1, 16, 1024]⟩
abbrev S512x4096 : Shape := ⟨2, ![512, 4096]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S4096x512 : Shape := ⟨2, ![4096, 512]⟩
abbrev S1x512x512 : Shape := ⟨3, ![1, 512, 512]⟩
abbrev S8x512x1024 : Shape := ⟨3, ![8, 512, 1024]⟩
abbrev S1x512x1024 : Shape := ⟨3, ![1, 512, 1024]⟩

abbrev nBuf : Space → Nat
  | .hbm => 18
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x1024x512, .bf16⟩
  | .hbm, ⟨5, _⟩ => ⟨S4096x1024, .bf16⟩
  | .hbm, ⟨6, _⟩ => ⟨S8x128, .f32⟩
  | .hbm, ⟨7, _⟩ => ⟨S4096x1024, .f32⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x4096, .bf16⟩
  | .hbm, ⟨14, _⟩ => ⟨S4096x4096, .bf16⟩
  | .hbm, ⟨15, _⟩ => ⟨S8x1024, .f32⟩
  | .hbm, ⟨16, _⟩ => ⟨S8x1024x512, .bf16⟩
  | .hbm, ⟨17, _⟩ => ⟨S8x512x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x16x1024, .f32⟩
  | .local _ .vmem, ⟨4, _⟩ => ⟨S8x1024x512, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x4096, .bf16⟩
  | .local _ .vmem, ⟨21, _⟩ => ⟨S256x4096, .bf16⟩
  | .local _ .vmem, ⟨22, _⟩ => ⟨S1x6x1024, .f32⟩
  | .local _ .vmem, ⟨23, _⟩ => ⟨S1x16x1024, .f32⟩
  | .local _ .vmem, ⟨24, _⟩ => ⟨S8x1024x512, .bf16⟩
  | .local _ .vmem, ⟨25, _⟩ => ⟨S4096x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x4096, .bf16⟩
  | .local _ .vmem, ⟨31, _⟩ => ⟨S256x4096, .bf16⟩
  | .local _ .vmem, ⟨32, _⟩ => ⟨S256x4096, .bf16⟩
  | .local _ .vmem, ⟨33, _⟩ => ⟨S256x4096, .bf16⟩
  | .local _ .vmem, ⟨34, _⟩ => ⟨S8x1024, .f32⟩
  | .local _ .vmem, ⟨35, _⟩ => ⟨S4096x1024, .bf16⟩
  | .local _ .vmem, ⟨36, _⟩ => ⟨S4096x512, .bf16⟩
  | .local _ .vmem, ⟨37, _⟩ => ⟨S4096x512, .bf16⟩
  | .local _ .vmem, ⟨38, _⟩ => ⟨S1x1024x512, .bf16⟩
  | .local _ .vmem, ⟨39, _⟩ => ⟨S1x1024x512, .bf16⟩
  | .local _ .vmem, ⟨40, _⟩ => ⟨S4096x512, .bf16⟩
  | .local _ .vmem, ⟨41, _⟩ => ⟨S4096x512, .bf16⟩
  | .local _ .vmem, ⟨42, _⟩ => ⟨S4096x1024, .bf16⟩
  | .local _ .vmem, ⟨43, _⟩ => ⟨S1x512x1024, .bf16⟩
  | .local _ .vmem, ⟨44, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc2_stg0_0 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc2_sem0_0 : DmaSem sig := 35
abbrev cc2_sem1_0 : DmaSem sig := 36
abbrev cc2_sem1_1 : DmaSem sig := 37
abbrev cc2_sem2_0 : DmaSem sig := 38
abbrev cc2_sem2_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem2_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x6x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference2Ideal.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x512 : Shape := ⟨3, ![8, 1024, 512]⟩
abbrev S8x128 : Shape := ⟨2, ![8, 128]⟩
abbrev S1024x8x512 : Shape := ⟨3, ![1024, 8, 512]⟩
abbrev S1024x4096 : Shape := ⟨2, ![1024, 4096]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S3x1024 : Shape := ⟨2, ![3, 1024]⟩
abbrev S8x1024 : Shape := ⟨2, ![8, 1024]⟩
abbrev S8x512x1024 : Shape := ⟨3, ![8, 512, 1024]⟩

abbrev nBuf : Space → Nat
  | .hbm => 164
  | .vmem => 0
  | .smem => 0
  | _ => 0

abbrev hbmTy0_0 (i : Nat) : BufTy := match i % 128 with
  | 0 => ⟨S4096x1024, .f32⟩
  | 1 => ⟨S4096x1024, .f32⟩
  | 2 => ⟨S2x6x1024, .f32⟩
  | 3 => ⟨S2x16x1024, .f32⟩
  | 4 => ⟨S8x1024x512, .bf16⟩
  | 5 => ⟨S4096x1024, .bf16⟩
  | 6 => ⟨S8x128, .f32⟩
  | 7 => ⟨S1024x8x512, .bf16⟩
  | 8 => ⟨S1024x4096, .bf16⟩
  | 9 => ⟨S1024x4096, .f32⟩
  | 10 => ⟨S4096x1024, .f32⟩
  | 11 => ⟨S1x1x1024, .f32⟩
  | 12 => ⟨S1x1024, .f32⟩
  | 13 => ⟨S1x1x1024, .f32⟩
  | 14 => ⟨S1x1024, .f32⟩
  | 15 => ⟨S1x1x1024, .f32⟩
  | 16 => ⟨S1x1024, .f32⟩
  | 17 => ⟨S1x1x1024, .f32⟩
  | 18 => ⟨S1x1024, .f32⟩
  | 19 => ⟨S1x1x1024, .f32⟩
  | 20 => ⟨S1x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S1x1024, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .i1⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1024x4096, .f32⟩
  | 114 => ⟨S4096x1024, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S4096x1024, .f32⟩
  | 121 => ⟨S1024x4096, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1024, .f32⟩
  | 16 => ⟨S4096x1024, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S3x1024, .f32⟩
  | 30 => ⟨S8x1024, .f32⟩
  | 31 => ⟨S1024x8x512, .f32⟩
  | 32 => ⟨S8x1024x512, .f32⟩
  | 33 => ⟨S8x1024x512, .bf16⟩
  | 34 => ⟨S8x512x1024, .f32⟩
  | 35 => ⟨S8x512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_18 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_20 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_21 : Ref sig .tc := ⟨.hbm, 146, rfl⟩
abbrev main_v115 : Ref sig .tc := ⟨.hbm, 147, rfl⟩
abbrev main_v116 : Ref sig .tc := ⟨.hbm, 148, rfl⟩
abbrev main_cst_22 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_23 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩

abbrev nD : Nat := 1
abbrev τ : Topo := Topo.v7x

variable {F : FTy → Type} [FloatOps F]
-- ==== Kernel3.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x512x1024 : Shape := ⟨3, ![2, 512, 1024]⟩
abbrev S4096x512 : Shape := ⟨2, ![4096, 512]⟩
abbrev S1x512x1024 : Shape := ⟨3, ![1, 512, 1024]⟩
abbrev S512x1024 : Shape := ⟨2, ![512, 1024]⟩
abbrev S8x128x1024 : Shape := ⟨3, ![8, 128, 1024]⟩
abbrev S8x1024x896 : Shape := ⟨3, ![8, 1024, 896]⟩
abbrev S4096x1792 : Shape := ⟨2, ![4096, 1792]⟩
abbrev S2x1024x896 : Shape := ⟨3, ![2, 1024, 896]⟩
abbrev S512x1792 : Shape := ⟨2, ![512, 1792]⟩
abbrev S512x896 : Shape := ⟨2, ![512, 896]⟩
abbrev S1x512x896 : Shape := ⟨3, ![1, 512, 896]⟩

abbrev nBuf : Space → Nat
  | .hbm => 47
  | .vmem => 20
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x128, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S2x512x1024, .bf16⟩
  | .hbm, ⟨41, _⟩ => ⟨S8x128x1024, .bf16⟩
  | .hbm, ⟨42, _⟩ => ⟨S2x512x1024, .bf16⟩
  | .hbm, ⟨43, _⟩ => ⟨S8x128x1024, .bf16⟩
  | .hbm, ⟨44, _⟩ => ⟨S2x512x1024, .bf16⟩
  | .hbm, ⟨45, _⟩ => ⟨S8x128x1024, .bf16⟩
  | .hbm, ⟨46, _⟩ => ⟨S8x1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S4096x512, .bf16⟩
  | .local _ .vmem, ⟨11, _⟩ => ⟨S4096x512, .bf16⟩
  | .local _ .vmem, ⟨12, _⟩ => ⟨S4096x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S4096x1024, .bf16⟩
  | .local _ .vmem, ⟨16, _⟩ => ⟨S4096x1792, .bf16⟩
  | .local _ .vmem, ⟨17, _⟩ => ⟨S4096x1792, .bf16⟩
  | .local _ .vmem, ⟨18, _⟩ => ⟨S2x1024x896, .bf16⟩
  | .local _ .vmem, ⟨19, _⟩ => ⟨S2x1024x896, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x1792 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2x1024x896 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference3Ideal.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x128 : Shape := ⟨2, ![8, 128]⟩
abbrev S_ : Shape := ⟨0, ![]⟩
abbrev S1024x7168 : Shape := ⟨2, ![1024, 7168]⟩
abbrev S1x1x1024 : Shape := ⟨3, ![1, 1, 1024]⟩
abbrev S1x1024 : Shape := ⟨2, ![1, 1024]⟩
abbrev S4096 : Shape := ⟨1, ![4096]⟩
abbrev S4096x1 : Shape := ⟨2, ![4096, 1]⟩
abbrev S7168x1024 : Shape := ⟨2, ![7168, 1024]⟩
abbrev S1024x8x896 : Shape := ⟨3, ![1024, 8, 896]⟩
abbrev S8x1024x896 : Shape := ⟨3, ![8, 1024, 896]⟩
abbrev S1024x1024 : Shape := ⟨2, ![1024, 1024]⟩
abbrev S8x128x1024 : Shape := ⟨3, ![8, 128, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x128, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S_, .f32⟩
  | .hbm, ⟨12, _⟩ => ⟨S1024x7168, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S1x1024, .f32⟩
  | .hbm, ⟨17, _⟩ => ⟨S1x1x1024, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x7168, .f32⟩
  | .hbm, ⟨42, _⟩ => ⟨S4096x7168, .f32⟩
  | .hbm, ⟨43, _⟩ => ⟨S7168x1024, .f32⟩
  | .hbm, ⟨44, _⟩ => ⟨S1024x7168, .f32⟩
  | .hbm, ⟨45, _⟩ => ⟨S1024x8x896, .f32⟩
  | .hbm, ⟨46, _⟩ => ⟨S8x1024x896, .f32⟩
  | .hbm, ⟨47, _⟩ => ⟨S8x1024x896, .bf16⟩
  | .hbm, ⟨48, _⟩ => ⟨S_, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x1024, .f32⟩
  | .hbm, ⟨54, _⟩ => ⟨S1024x1024, .f32⟩
  | .hbm, ⟨55, _⟩ => ⟨S8x128x1024, .f32⟩
  | .hbm, ⟨56, _⟩ => ⟨S8x128x1024, .bf16⟩
  | .hbm, ⟨57, _⟩ => ⟨S_, .f32⟩
  | .hbm, ⟨58, _⟩ => ⟨S1024x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S8x128x1024, .f32⟩
  | .hbm, ⟨65, _⟩ => ⟨S8x128x1024, .bf16⟩
  | .hbm, ⟨66, _⟩ => ⟨S_, .f32⟩
  | .hbm, ⟨67, _⟩ => ⟨S1024x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S8x128x1024, .f32⟩
  | .hbm, ⟨74, _⟩ => ⟨S8x128x1024, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel4.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x512 : Shape := ⟨3, ![8, 1024, 512]⟩
abbrev S8x128 : Shape := ⟨2, ![8, 128]⟩
abbrev S4096x4096 : Shape := ⟨2, ![4096, 4096]⟩
abbrev S512x1024 : Shape := ⟨2, ![512, 1024]⟩
abbrev S1x6x1024 : Shape := ⟨3, ![1, 6, 1024]⟩
abbrev S1x16x1024 : Shape := ⟨3, ![1, 16, 1024]⟩
abbrev S512x4096 : Shape := ⟨2, ![512, 4096]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S4096x512 : Shape := ⟨2, ![4096, 512]⟩
abbrev S1x512x512 : Shape := ⟨3, ![1, 512, 512]⟩
abbrev S8x512x1024 : Shape := ⟨3, ![8, 512, 1024]⟩
abbrev S1x512x1024 : Shape := ⟨3, ![1, 512, 1024]⟩
abbrev S_ : Shape := ⟨0, ![]⟩

abbrev nBuf : Space → Nat
  | .hbm => 22
  | .vmem => 50
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x1024x512, .bf16⟩
  | .hbm, ⟨5, _⟩ => ⟨S4096x1024, .bf16⟩
  | .hbm, ⟨6, _⟩ => ⟨S8x128, .f32⟩
  | .hbm, ⟨7, _⟩ => ⟨S4096x1024, .f32⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S8x128, .f32⟩
  | .hbm, ⟨13, _⟩ => ⟨S4096x1024, .f32⟩
  | .hbm, ⟨14, _⟩ => ⟨S4096x1024, .bf16⟩
  | .hbm, ⟨15, _⟩ => ⟨S4096x4096, .bf16⟩
  | .hbm, ⟨16, _⟩ => ⟨S4096x4096, .bf16⟩
  | .hbm, ⟨17, _⟩ => ⟨S8x1024, .f32⟩
  | .hbm, ⟨18, _⟩ => ⟨S8x1024x512, .bf16⟩
  | .hbm, ⟨19, _⟩ => ⟨S8x512x1024, .bf16⟩
  | .hbm, ⟨20, _⟩ => ⟨S1x1, .f32⟩
  | .hbm, ⟨21, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x16x1024, .f32⟩
  | .local _ .vmem, ⟨4, _⟩ => ⟨S8x1024x512, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x128, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x4096, .bf16⟩
  | .local _ .vmem, ⟨26, _⟩ => ⟨S256x4096, .bf16⟩
  | .local _ .vmem, ⟨27, _⟩ => ⟨S1x6x1024, .f32⟩
  | .local _ .vmem, ⟨28, _⟩ => ⟨S1x16x1024, .f32⟩
  | .local _ .vmem, ⟨29, _⟩ => ⟨S8x1024x512, .bf16⟩
  | .local _ .vmem, ⟨30, _⟩ => ⟨S4096x1024, .bf16⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S256x4096, .bf16⟩
  | .local _ .vmem, ⟨36, _⟩ => ⟨S256x4096, .bf16⟩
  | .local _ .vmem, ⟨37, _⟩ => ⟨S256x4096, .bf16⟩
  | .local _ .vmem, ⟨38, _⟩ => ⟨S256x4096, .bf16⟩
  | .local _ .vmem, ⟨39, _⟩ => ⟨S8x1024, .f32⟩
  | .local _ .vmem, ⟨40, _⟩ => ⟨S4096x1024, .bf16⟩
  | .local _ .vmem, ⟨41, _⟩ => ⟨S4096x512, .bf16⟩
  | .local _ .vmem, ⟨42, _⟩ => ⟨S4096x512, .bf16⟩
  | .local _ .vmem, ⟨43, _⟩ => ⟨S1x1024x512, .bf16⟩
  | .local _ .vmem, ⟨44, _⟩ => ⟨S1x1024x512, .bf16⟩
  | .local _ .vmem, ⟨45, _⟩ => ⟨S4096x512, .bf16⟩
  | .local _ .vmem, ⟨46, _⟩ => ⟨S4096x512, .bf16⟩
  | .local _ .vmem, ⟨47, _⟩ => ⟨S4096x1024, .bf16⟩
  | .local _ .vmem, ⟨48, _⟩ => ⟨S1x512x1024, .bf16⟩
  | .local _ .vmem, ⟨49, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc2_stg0_0 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc2_sem0_0 : DmaSem sig := 40
abbrev cc2_sem1_0 : DmaSem sig := 41
abbrev cc2_sem1_1 : DmaSem sig := 42
abbrev cc2_sem2_0 : DmaSem sig := 43
abbrev cc2_sem2_1 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem2_1 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x6x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference4Ideal.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x512 : Shape := ⟨3, ![8, 1024, 512]⟩
abbrev S8x128 : Shape := ⟨2, ![8, 128]⟩
abbrev S1024x8x512 : Shape := ⟨3, ![1024, 8, 512]⟩
abbrev S1024x4096 : Shape := ⟨2, ![1024, 4096]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S3x1024 : Shape := ⟨2, ![3, 1024]⟩
abbrev S8x1024 : Shape := ⟨2, ![8, 1024]⟩
abbrev S8x512x1024 : Shape := ⟨3, ![8, 512, 1024]⟩

abbrev nBuf : Space → Nat
  | .hbm => 186
  | .vmem => 0
  | .smem => 0
  | _ => 0

abbrev hbmTy0_0 (i : Nat) : BufTy := match i % 128 with
  | 0 => ⟨S4096x1024, .f32⟩
  | 1 => ⟨S4096x1024, .f32⟩
  | 2 => ⟨S2x6x1024, .f32⟩
  | 3 => ⟨S2x16x1024, .f32⟩
  | 4 => ⟨S8x1024x512, .bf16⟩
  | 5 => ⟨S4096x1024, .bf16⟩
  | 6 => ⟨S8x128, .f32⟩
  | 7 => ⟨S1024x8x512, .bf16⟩
  | 8 => ⟨S1024x4096, .bf16⟩
  | 9 => ⟨S1024x4096, .f32⟩
  | 10 => ⟨S4096x1024, .f32⟩
  | 11 => ⟨S1x1x1024, .f32⟩
  | 12 => ⟨S1x1024, .f32⟩
  | 13 => ⟨S1x1x1024, .f32⟩
  | 14 => ⟨S1x1024, .f32⟩
  | 15 => ⟨S1x1x1024, .f32⟩
  | 16 => ⟨S1x1024, .f32⟩
  | 17 => ⟨S1x1x1024, .f32⟩
  | 18 => ⟨S1x1024, .f32⟩
  | 19 => ⟨S1x1x1024, .f32⟩
  | 20 => ⟨S1x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S1x1024, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .i1⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S_, .f32⟩
  | 89 => ⟨S4096, .f32⟩
  | 90 => ⟨S_, .f32⟩
  | 91 => ⟨S4096, .f32⟩
  | 92 => ⟨S4096, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S4096, .f32⟩
  | 101 => ⟨S_, .f32⟩
  | 102 => ⟨S4096, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S1024x4096, .f32⟩
  | 8 => ⟨S4096x1024, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x1024, .f32⟩
  | 15 => ⟨S1024x4096, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S_, .f32⟩
  | 22 => ⟨S1024, .f32⟩
  | 23 => ⟨S1x1024, .f32⟩
  | 24 => ⟨S4096x1024, .f32⟩
  | 25 => ⟨S4096x1024, .f32⟩
  | 26 => ⟨S4096x1024, .f32⟩
  | 27 => ⟨S_, .f32⟩
  | 28 => ⟨S1024, .f32⟩
  | 29 => ⟨S1x1024, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S4096x1024, .f32⟩
  | 37 => ⟨S4096x1024, .f32⟩
  | 38 => ⟨S4096x1024, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S3x1024, .f32⟩
  | 52 => ⟨S8x1024, .f32⟩
  | 53 => ⟨S1024x8x512, .f32⟩
  | 54 => ⟨S8x1024x512, .f32⟩
  | 55 => ⟨S8x1024x512, .bf16⟩
  | 56 => ⟨S8x512x1024, .f32⟩
  | 57 => ⟨S8x512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_cst_16 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_20 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_21 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_cst_23 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_24 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_25 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_26 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_27 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_28 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_29 : Ref sig .tc := ⟨.hbm, 168, rfl⟩
abbrev main_v129 : Ref sig .tc := ⟨.hbm, 169, rfl⟩
abbrev main_v130 : Ref sig .tc := ⟨.hbm, 170, rfl⟩
abbrev main_cst_30 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_31 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩

abbrev nD : Nat := 1
abbrev τ : Topo := Topo.v7x

variable {F : FTy → Type} [FloatOps F]
-- ==== Kernel5.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x512x1024 : Shape := ⟨3, ![2, 512, 1024]⟩
abbrev S4096x512 : Shape := ⟨2, ![4096, 512]⟩
abbrev S1x512x1024 : Shape := ⟨3, ![1, 512, 1024]⟩
abbrev S512x1024 : Shape := ⟨2, ![512, 1024]⟩
abbrev S8x128x1024 : Shape := ⟨3, ![8, 128, 1024]⟩
abbrev S8x1024x896 : Shape := ⟨3, ![8, 1024, 896]⟩
abbrev S4096x1792 : Shape := ⟨2, ![4096, 1792]⟩
abbrev S2x1024x896 : Shape := ⟨3, ![2, 1024, 896]⟩
abbrev S512x1792 : Shape := ⟨2, ![512, 1792]⟩
abbrev S512x896 : Shape := ⟨2, ![512, 896]⟩
abbrev S1x512x896 : Shape := ⟨3, ![1, 512, 896]⟩

abbrev nBuf : Space → Nat
  | .hbm => 47
  | .vmem => 20
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x128, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S2x512x1024, .bf16⟩
  | .hbm, ⟨41, _⟩ => ⟨S8x128x1024, .bf16⟩
  | .hbm, ⟨42, _⟩ => ⟨S2x512x1024, .bf16⟩
  | .hbm, ⟨43, _⟩ => ⟨S8x128x1024, .bf16⟩
  | .hbm, ⟨44, _⟩ => ⟨S2x512x1024, .bf16⟩
  | .hbm, ⟨45, _⟩ => ⟨S8x128x1024, .bf16⟩
  | .hbm, ⟨46, _⟩ => ⟨S8x1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S4096x512, .bf16⟩
  | .local _ .vmem, ⟨11, _⟩ => ⟨S4096x512, .bf16⟩
  | .local _ .vmem, ⟨12, _⟩ => ⟨S4096x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S4096x1024, .bf16⟩
  | .local _ .vmem, ⟨16, _⟩ => ⟨S4096x1792, .bf16⟩
  | .local _ .vmem, ⟨17, _⟩ => ⟨S4096x1792, .bf16⟩
  | .local _ .vmem, ⟨18, _⟩ => ⟨S2x1024x896, .bf16⟩
  | .local _ .vmem, ⟨19, _⟩ => ⟨S2x1024x896, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x1792 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2x1024x896 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference5Ideal.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x128 : Shape := ⟨2, ![8, 128]⟩
abbrev S_ : Shape := ⟨0, ![]⟩
abbrev S1024x7168 : Shape := ⟨2, ![1024, 7168]⟩
abbrev S1x1x1024 : Shape := ⟨3, ![1, 1, 1024]⟩
abbrev S1x1024 : Shape := ⟨2, ![1, 1024]⟩
abbrev S4096 : Shape := ⟨1, ![4096]⟩
abbrev S4096x1 : Shape := ⟨2, ![4096, 1]⟩
abbrev S7168x1024 : Shape := ⟨2, ![7168, 1024]⟩
abbrev S1024x8x896 : Shape := ⟨3, ![1024, 8, 896]⟩
abbrev S8x1024x896 : Shape := ⟨3, ![8, 1024, 896]⟩
abbrev S1024x1024 : Shape := ⟨2, ![1024, 1024]⟩
abbrev S8x128x1024 : Shape := ⟨3, ![8, 128, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S2x6x1024, .f32⟩
  | .hbm, ⟨3, _⟩ => ⟨S2x16x1024, .f32⟩
  | .hbm, ⟨4, _⟩ => ⟨S8x128, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S_, .f32⟩
  | .hbm, ⟨12, _⟩ => ⟨S1024x7168, .f32⟩
  | .hbm, ⟨13, _⟩ => ⟨S1x1x1024, .f32⟩
  | .hbm, ⟨14, _⟩ => ⟨S1x1024, .f32⟩
  | .hbm, ⟨15, _⟩ => ⟨S1x1x1024, .f32⟩
  | .hbm, ⟨16, _⟩ => ⟨S1x1024, .f32⟩
  | .hbm, ⟨17, _⟩ => ⟨S1x1x1024, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x7168, .f32⟩
  | .hbm, ⟨42, _⟩ => ⟨S4096x7168, .f32⟩
  | .hbm, ⟨43, _⟩ => ⟨S7168x1024, .f32⟩
  | .hbm, ⟨44, _⟩ => ⟨S1024x7168, .f32⟩
  | .hbm, ⟨45, _⟩ => ⟨S1024x8x896, .f32⟩
  | .hbm, ⟨46, _⟩ => ⟨S8x1024x896, .f32⟩
  | .hbm, ⟨47, _⟩ => ⟨S8x1024x896, .bf16⟩
  | .hbm, ⟨48, _⟩ => ⟨S_, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x1024, .f32⟩
  | .hbm, ⟨54, _⟩ => ⟨S1024x1024, .f32⟩
  | .hbm, ⟨55, _⟩ => ⟨S8x128x1024, .f32⟩
  | .hbm, ⟨56, _⟩ => ⟨S8x128x1024, .bf16⟩
  | .hbm, ⟨57, _⟩ => ⟨S_, .f32⟩
  | .hbm, ⟨58, _⟩ => ⟨S1024x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S8x128x1024, .f32⟩
  | .hbm, ⟨65, _⟩ => ⟨S8x128x1024, .bf16⟩
  | .hbm, ⟨66, _⟩ => ⟨S_, .f32⟩
  | .hbm, ⟨67, _⟩ => ⟨S1024x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1024x1024, .f32⟩
  | .hbm, ⟨72, _⟩ => ⟨S1024x1024, .f32⟩
  | .hbm, ⟨73, _⟩ => ⟨S8x128x1024, .f32⟩
  | .hbm, ⟨74, _⟩ => ⟨S8x128x1024, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel6.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S8x1024 : Shape := ⟨2, ![8, 1024]⟩
abbrev S256x7168 : Shape := ⟨2, ![256, 7168]⟩
abbrev S256x1024 : Shape := ⟨2, ![256, 1024]⟩
abbrev S1x6x1024 : Shape := ⟨3, ![1, 6, 1024]⟩
abbrev S1x16x1024 : Shape := ⟨3, ![1, 16, 1024]⟩
abbrev S1024x7168 : Shape := ⟨2, ![1024, 7168]⟩
abbrev S8 : Shape := ⟨1, ![8]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S2x16x1024, .f32⟩
  | .hbm, ⟨5, _⟩ => ⟨S8x1024x896, .bf16⟩
  | .hbm, ⟨6, _⟩ => ⟨S8x128, .f32⟩
  | .hbm, ⟨7, _⟩ => ⟨S4096x1024, .f32⟩
  | .hbm, ⟨8, _⟩ => ⟨S8x1024, .f32⟩
  | .local _ .vmem, ⟨0, _⟩ => ⟨S256x7168, .bf16⟩
  | .local _ .vmem, ⟨1, _⟩ => ⟨S256x7168, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x16x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S1024x7168, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S1024x8x896 : Shape := ⟨3, ![1024, 8, 896]⟩
abbrev S1024x7168 : Shape := ⟨2, ![1024, 7168]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S2x16x1024, .f32⟩
  | .hbm, ⟨5, _⟩ => ⟨S8x1024x896, .bf16⟩
  | .hbm, ⟨6, _⟩ => ⟨S8x128, .f32⟩
  | .hbm, ⟨7, _⟩ => ⟨S1024x8x896, .bf16⟩
  | .hbm, ⟨8, _⟩ => ⟨S1024x7168, .bf16⟩
  | .hbm, ⟨9, _⟩ => ⟨S1024x7168, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x7168, .f32⟩
  | .hbm, ⟨43, _⟩ => ⟨S4096x7168, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S5x1024, .f32⟩
  | .hbm, ⟨80, _⟩ => ⟨S8x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel7.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S4096x7168 : Shape := ⟨2, ![4096, 7168]⟩
abbrev S512x1024 : Shape := ⟨2, ![512, 1024]⟩
abbrev S1x6x1024 : Shape := ⟨3, ![1, 6, 1024]⟩
abbrev S1x16x1024 : Shape := ⟨3, ![1, 16, 1024]⟩
abbrev S512x7168 : Shape := ⟨2, ![512, 7168]⟩
abbrev S1024x7168 : Shape := ⟨2, ![1024, 7168]⟩
abbrev S8 : Shape := ⟨1, ![8]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S2x16x1024, .f32⟩
  | .hbm, ⟨3, _⟩ => ⟨S8x1024x896, .bf16⟩
  | .hbm, ⟨4, _⟩ => ⟨S8x128, .f32⟩
  | .hbm, ⟨5, _⟩ => ⟨S4096x7168, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x16x1024, .f32⟩
  | .local _ .vmem, ⟨4, _⟩ => ⟨S512x7168, .f32⟩
  | .local _ .vmem, ⟨5, _⟩ => ⟨S512x7168, .f32⟩
  | .local _ .vmem, ⟨6, _⟩ => ⟨S512x1024, .bf16⟩
  | .local _ .vmem, ⟨7, _⟩ => ⟨S512x1024, .bf16⟩
  | .local _ .vmem, ⟨8, _⟩ => ⟨S1024x7168, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S1024x8x896 : Shape := ⟨3, ![1024, 8, 896]⟩
abbrev S1024x7168 : Shape := ⟨2, ![1024, 7168]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S2x16x1024, .f32⟩
  | .hbm, ⟨3, _⟩ => ⟨S8x1024x896, .bf16⟩
  | .hbm, ⟨4, _⟩ => ⟨S8x128, .f32⟩
  | .hbm, ⟨5, _⟩ => ⟨S1024x8x896, .bf16⟩
  | .hbm, ⟨6, _⟩ => ⟨S1024x7168, .bf16⟩
  | .hbm, ⟨7, _⟩ => ⟨S1024x7168, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x7168, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel8.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S8x1024 : Shape := ⟨2, ![8, 1024]⟩
abbrev S256x7168 : Shape := ⟨2, ![256, 7168]⟩
abbrev S256x1024 : Shape := ⟨2, ![256, 1024]⟩
abbrev S1x6x1024 : Shape := ⟨3, ![1, 6, 1024]⟩
abbrev S1x16x1024 : Shape := ⟨3, ![1, 16, 1024]⟩
abbrev S1024x7168 : Shape := ⟨2, ![1024, 7168]⟩
abbrev S8 : Shape := ⟨1, ![8]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S2x16x1024, .f32⟩
  | .hbm, ⟨5, _⟩ => ⟨S8x1024x896, .bf16⟩
  | .hbm, ⟨6, _⟩ => ⟨S8x128, .f32⟩
  | .hbm, ⟨7, _⟩ => ⟨S4096x1024, .f32⟩
  | .hbm, ⟨8, _⟩ => ⟨S8x1024, .f32⟩
  | .local _ .vmem, ⟨0, _⟩ => ⟨S256x7168, .bf16⟩
  | .local _ .vmem, ⟨1, _⟩ => ⟨S256x7168, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x16x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S1024x7168, .bf16⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x7168 : Shape := ⟨2, ![4096, 7168]⟩
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S1024x8x896 : Shape := ⟨3, ![1024, 8, 896]⟩
abbrev S1024x7168 : Shape := ⟨2, ![1024, 7168]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S4096x1024, .f32⟩
  | .hbm, ⟨3, _⟩ => ⟨S2x6x1024, .f32⟩
  | .hbm, ⟨4, _⟩ => ⟨S2x16x1024, .f32⟩
  | .hbm, ⟨5, _⟩ => ⟨S8x1024x896, .bf16⟩
  | .hbm, ⟨6, _⟩ => ⟨S8x128, .f32⟩
  | .hbm, ⟨7, _⟩ => ⟨S1024x8x896, .bf16⟩
  | .hbm, ⟨8, _⟩ => ⟨S1024x7168, .bf16⟩
  | .hbm, ⟨9, _⟩ => ⟨S1024x7168, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x7168, .f32⟩
  | .hbm, ⟨43, _⟩ => ⟨S4096x7168, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S5x1024, .f32⟩
  | .hbm, ⟨80, _⟩ => ⟨S8x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel9.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S4096x7168 : Shape := ⟨2, ![4096, 7168]⟩
abbrev S512x1024 : Shape := ⟨2, ![512, 1024]⟩
abbrev S1x6x1024 : Shape := ⟨3, ![1, 6, 1024]⟩
abbrev S1x16x1024 : Shape := ⟨3, ![1, 16, 1024]⟩
abbrev S512x7168 : Shape := ⟨2, ![512, 7168]⟩
abbrev S1024x7168 : Shape := ⟨2, ![1024, 7168]⟩
abbrev S8 : Shape := ⟨1, ![8]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S2x16x1024, .f32⟩
  | .hbm, ⟨3, _⟩ => ⟨S8x1024x896, .bf16⟩
  | .hbm, ⟨4, _⟩ => ⟨S8x128, .f32⟩
  | .hbm, ⟨5, _⟩ => ⟨S4096x7168, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x16x1024, .f32⟩
  | .local _ .vmem, ⟨4, _⟩ => ⟨S512x7168, .f32⟩
  | .local _ .vmem, ⟨5, _⟩ => ⟨S512x7168, .f32⟩
  | .local _ .vmem, ⟨6, _⟩ => ⟨S512x1024, .bf16⟩
  | .local _ .vmem, ⟨7, _⟩ => ⟨S512x1024, .bf16⟩
  | .local _ .vmem, ⟨8, _⟩ => ⟨S1024x7168, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S2x6x1024 : Shape := ⟨3, ![2, 6, 1024]⟩
abbrev S2x16x1024 : Shape := ⟨3, ![2, 16, 1024]⟩
abbrev S8x1024x896 : Shape := ⟨3, ![8, 1024, 896]⟩
abbrev S8x128 : Shape := ⟨2, ![8, 128]⟩
abbrev S1024x8x896 : Shape := ⟨3, ![1024, 8, 896]⟩
abbrev S1024x7168 : Shape := ⟨2, ![1024, 7168]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S2x16x1024, .f32⟩
  | .hbm, ⟨3, _⟩ => ⟨S8x1024x896, .bf16⟩
  | .hbm, ⟨4, _⟩ => ⟨S8x128, .f32⟩
  | .hbm, ⟨5, _⟩ => ⟨S1024x8x896, .bf16⟩
  | .hbm, ⟨6, _⟩ => ⟨S1024x7168, .bf16⟩
  | .hbm, ⟨7, _⟩ => ⟨S1024x7168, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x7168, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.MixLoop.lean ====
module

public import proofs.«01_k».proof.Proof.Gen.KernelIdeal.Loops
public import proofs.«01_k».proof.Proof.Gen.KernelIdeal.Frame
public import Idealize.ShloMosaic.Lib.Ring
public import Idealize.ShloMosaic.Lib.Tactic
public import Idealize.ShloMosaic.Lib.WordCmp

/-! One trip of the reverse scan's loop of the mixer's backward call, and the loop by its invariant: the carried row block and the pieces written so far before each trip. -/

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

variable (m : (ℓ : Loc nD τ sig) → Buf (Elt F) ℓ) (ρ : Dev nD → PrngReg)

abbrev Trip_k0_t1 (c : Dev nD) (arg30 : Memref sig .tc .vmem S8x128x128 .f32) (arg31 : Memref sig .tc .vmem S8x128x128 .f32) (arg32 : Memref sig .tc .vmem S8x128x128 .f32) (X_arg30 : BufTy.Contents (Elt F) arg30.view.ty) (X_arg31 : BufTy.Contents (Elt F) arg31.view.ty) (f_arg32 : BufTy.Contents (Elt F) arg32.view.ty) : sProp 𝕄G :=
  iprop((arg30.view.loc (c : Thread nD τ) ↦[arg30.view.set]{fullShare} X_arg30) ∗ (arg31.view.loc (c : Thread nD τ) ↦[arg31.view.set]{fullShare} X_arg31) ∗ (arg32.view.loc (c : Thread nD τ) ↦[arg32.view.set]{fullShare} f_arg32))

section
variable (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .hbm S8x128 .f32) (harg17 : arg17.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (v448 : FVec F S128x1024 .f32) (v453 : FVec F S128x1024 .f32) (v493 : FVec F S1x128x128 .f32) (X_arg30 : BufTy.Contents (Elt F) arg30.view.ty) (X_arg31 : BufTy.Contents (Elt F) arg31.view.ty)

@[irreducible] def trip_k0_t1 (k : Fin k0_t1_loop.trips) :
    Σ' (R_k0_t1 : ((Vec F S8x1024 .f32) → Vec F S8x1024 .f32)) , { L_arg32 : ((Vec F S8x1024 .f32) → List (View.Piece (Elt F) S8x128x128 .f32)) // ∀ (E : Set ℕ) (acc : Vec F S8x1024 .f32) (f_arg32 : BufTy.Contents (Elt F) arg32.view.ty),
      Trip_k0_t1 (F := F) c arg30 arg31 arg32 X_arg30 X_arg31 f_arg32
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 k acc)
          (fun yld => iprop(⌜yld = R_k0_t1 acc⌝ ∗ Trip_k0_t1 (F := F) c arg30 arg31 arg32 X_arg30 X_arg31 (arg32.view.writes (Elt F) f_arg32 (L_arg32 acc)))) } := by
  have hk : k.val < 2 := Nat.lt_of_lt_of_le k.isLt k0_t1_abs.2.1
  refine ⟨?_, ?_, fun E acc f_arg32 => ?run⟩
  case run =>
    unfold k0_t1_body
    iintro ⟨HR_arg30, HR_arg31, HW_arg32⟩
    sl_exec
    sl_step
    sl_close

abbrev tripR_k0_t1 (k : Fin k0_t1_loop.trips) (acc : Vec F S8x1024 .f32) : Vec F S8x1024 .f32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 k).1 acc

abbrev tripL_k0_t1 (k : Fin k0_t1_loop.trips) (acc : Vec F S8x1024 .f32) : List (View.Piece (Elt F) S8x128x128 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 k).2.1 acc

@[irreducible] def st_k0_t1Step (init : Vec F S8x1024 .f32) (k : ℕ) (prev : (Vec F S8x1024 .f32) × List (View.Piece (Elt F) S8x128x128 .f32)) : (Vec F S8x1024 .f32) × List (View.Piece (Elt F) S8x128x128 .f32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 ⟨k, h⟩ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 ⟨k, h⟩ prev.1) ++ prev.2)
  else prev

def st_k0_t1 (init : Vec F S8x1024 .f32) : ℕ → (Vec F S8x1024 .f32) × List (View.Piece (Elt F) S8x128x128 .f32)
  | 0 => (init, [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k (st_k0_t1 init k)

theorem st_k0_t1_succ (init : Vec F S8x1024 .f32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k.val).1), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k.val).1) ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k.val).2) := by
  rw [st_k0_t1.eq_2]; unfold st_k0_t1Step; exact dif_pos k.isLt

theorem st_k0_t1_zero (init : Vec F S8x1024 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init 0).1 = init := rfl

abbrev inv_k0_t1 (G_arg32 : BufTy.Contents (Elt F) arg32.view.ty) (init : Vec F S8x1024 .f32) (k : ℕ) (acc : Vec F S8x1024 .f32) : sProp 𝕄G :=
  iprop((arg30.view.loc (c : Thread nD τ) ↦[arg30.view.set]{fullShare} X_arg30) ∗ (arg31.view.loc (c : Thread nD τ) ↦[arg31.view.set]{fullShare} X_arg31) ∗ (∃ f, (arg32.view.loc (c : Thread nD τ) ↦[arg32.view.set]{fullShare} f) ∗ ⌜f = arg32.view.writes (Elt F) G_arg32 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k).2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k).1⌝)

end

set_option warn.classDefReducibility false in

@[sl_loop] def loopInv_k0_t1 (𝒱 : Variants) (c : Dev nD) (bd : Option 𝒱.V) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .hbm S8x128 .f32) (harg17 : arg17.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (v448 : FVec F S128x1024 .f32) (v453 : FVec F S128x1024 .f32) (v493 : FVec F S1x128x128 .f32) (X_arg30 : BufTy.Contents (Elt F) arg30.view.ty) (X_arg31 : BufTy.Contents (Elt F) arg31.view.ty) (G_arg32 : BufTy.Contents (Elt F) arg32.view.ty) (init : Vec F S8x1024 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 G_arg32 init
  step k acc := by
    iintro ⟨HR_arg30, HR_arg31, ⟨%f_arg32, HW_arg32, %h_arg32⟩, %h_acc⟩
    subst h_acc
    iapply (wp_wand_r Idealize.ShloMosaic.frame (wpE (defs₀ (F := F)) 𝒱 (c : Thread nD τ) bd) E)
    isplitl [HR_arg30 HR_arg31 HW_arg32]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 k).2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v448 v453 v493 X_arg30 X_arg31 init k).1 f_arg32)
      isplitl [HR_arg30]; · iexact HR_arg30
      isplitl [HR_arg31]; · iexact HR_arg31
      iexact HW_arg32
    · iintro %yld ⟨%h_res, HR_arg30, HR_arg31, HW_arg32⟩
      isplitl [HR_arg30]; · iexact HR_arg30
      isplitl [HR_arg31]; · iexact HR_arg31
      simp only [st_k0_t1_succ]
      isplitl [HW_arg32]
      · iexists _; isplitl [HW_arg32]; · iexact HW_arg32
        ipureintro; rw [h_arg32, ← View.writes_append]
      ipureintro; rw [h_res]

end Cert.KernelIdeal.Mixer

end
-- ==== Proof.MixRuns.lean ====
module

public import proofs.«01_k».proof.Proof.MixLoop
public import proofs.«01_k».proof.Proof.Gen.KernelIdeal.Skeleton
public import proofs.«01_k».proof.Proof.Gen.KernelIdeal.Points
public import Idealize.ShloMosaic.Lib.Pipeline.FrameBody

/-! The staging and scratch memrefs of the mixer's backward call at a grid point, and its one condition (the first point or not). -/

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

variable (m : (ℓ : Loc nD τ sig) → Buf (Elt F) ℓ) (ρ : Dev nD → PrngReg)

set_option maxHeartbeats 1500000 in

theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 5 rfl).trans ((hA c 5).trans (V_main_arg4 m c)),
      (Pipeline.RDat.FramePost.arr_in h c 7 rfl).trans ((hA c 7).trans (V_main_arg5 m c)),
      (Pipeline.RDat.FramePost.arr_in h c 8 rfl).trans ((hA c 8).trans (V_main_arg6 m c)),
      (Pipeline.RDat.FramePost.arr_in h c 9 rfl).trans ((hA c 9).trans (V_main_arg7 m c)),
      (Pipeline.RDat.FramePost.arr_in h c 10 rfl).trans ((hA c 10).trans (V_main_arg8 m c)),
      (Pipeline.RDat.FramePost.arr_in h c 11 rfl).trans ((hA c 11).trans (V_main_arg9 m c)),
      (Pipeline.RDat.FramePost.arr_in h c 12 rfl).trans ((hA c 12).trans (V_main_arg10 m c)),
      (Pipeline.RDat.FramePost.arr_in h c 13 rfl).trans ((hA c 13).trans (V_main_arg11 m c)),
      (Pipeline.RDat.FramePost.arr_in h c 14 rfl).trans ((hA c 14).trans (V_main_arg12 m c)),
      (Pipeline.RDat.FramePost.arr_in h c 15 rfl).trans ((hA c 15).trans (V_main_arg13 m c)),
      ((h c).2 main_arg14 (Pipeline.mem_restRefs_of main_arg14 (by decide) (by decide))).trans (V_main_arg14 m c)⟩) h

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev ms0_0 (t : Fin cfg0.N) : Memref sig .tc .vmem S128x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S128x1024 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S128x1024 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S128x1024 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S128x1024 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S8x1024 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S128x7168 .f32 := win0_6.stage (cfg0.slots t 6)

abbrev hs0_6 (t : Fin cfg0.N) : (ms0_6 t).IsWhole := hstage0_6 ((cfg0.slots t 6).cast nbuf0_6)

abbrev ms0_7 (t : Fin cfg0.N) : Memref sig .tc .vmem S8x7168 .f32 := win0_7.stage (cfg0.slots t 7)

abbrev hs0_7 (t : Fin cfg0.N) : (ms0_7 t).IsWhole := hstage0_7 ((cfg0.slots t 7).cast nbuf0_7)

abbrev ms0_8 (t : Fin cfg0.N) : Memref sig .tc .vmem S1x6x1024 .f32 := win0_8.stage (cfg0.slots t 8)

abbrev hs0_8 (t : Fin cfg0.N) : (ms0_8 t).IsWhole := hstage0_8 ((cfg0.slots t 8).cast nbuf0_8)

abbrev ms0_9 (t : Fin cfg0.N) : Memref sig .tc .vmem S1x16x1024 .f32 := win0_9.stage (cfg0.slots t 9)

abbrev hs0_9 (t : Fin cfg0.N) : (ms0_9 t).IsWhole := hstage0_9 ((cfg0.slots t 9).cast nbuf0_9)

abbrev ms0_10 (t : Fin cfg0.N) : Memref sig .tc .vmem S1x8x1024 .f32 := win0_10.stage (cfg0.slots t 10)

abbrev hs0_10 (t : Fin cfg0.N) : (ms0_10 t).IsWhole := hstage0_10 ((cfg0.slots t 10).cast nbuf0_10)

abbrev ms0_11 (t : Fin cfg0.N) : Memref sig .tc .vmem S1x8x128x128 .bf16 := win0_11.stage (cfg0.slots t 11)

abbrev hs0_11 (t : Fin cfg0.N) : (ms0_11 t).IsWhole := hstage0_11 ((cfg0.slots t 11).cast nbuf0_11)

abbrev ms0_12 (t : Fin cfg0.N) : Memref sig .tc .vmem S1x8x128x128 .bf16 := win0_12.stage (cfg0.slots t 12)

abbrev hs0_12 (t : Fin cfg0.N) : (ms0_12 t).IsWhole := hstage0_12 ((cfg0.slots t 12).cast nbuf0_12)

abbrev ms0_13 (t : Fin cfg0.N) : Memref sig .tc .vmem S1024x1024 .bf16 := win0_13.stage (cfg0.slots t 13)

abbrev hs0_13 (t : Fin cfg0.N) : (ms0_13 t).IsWhole := hstage0_13 ((cfg0.slots t 13).cast nbuf0_13)

abbrev ms0_14 (t : Fin cfg0.N) : Memref sig .tc .vmem S1024x1024 .bf16 := win0_14.stage (cfg0.slots t 14)

abbrev hs0_14 (t : Fin cfg0.N) : (ms0_14 t).IsWhole := hstage0_14 ((cfg0.slots t 14).cast nbuf0_14)

abbrev ms0_15 (t : Fin cfg0.N) : Memref sig .tc .vmem S1024x1024 .bf16 := win0_15.stage (cfg0.slots t 15)

abbrev hs0_15 (t : Fin cfg0.N) : (ms0_15 t).IsWhole := hstage0_15 ((cfg0.slots t 15).cast nbuf0_15)

abbrev ms0_16 (t : Fin cfg0.N) : Memref sig .tc .vmem S128x7168 .bf16 := win0_16.stage (cfg0.slots t 16)

abbrev hs0_16 (t : Fin cfg0.N) : (ms0_16 t).IsWhole := hstage0_16 ((cfg0.slots t 16).cast nbuf0_16)

abbrev ms0_17 (t : Fin cfg0.N) : Memref sig .tc .vmem S128x1024 .bf16 := win0_17.stage (cfg0.slots t 17)

abbrev hs0_17 (t : Fin cfg0.N) : (ms0_17 t).IsWhole := hstage0_17 ((cfg0.slots t 17).cast nbuf0_17)

abbrev ms0_18 (t : Fin cfg0.N) : Memref sig .tc .vmem S128x1024 .bf16 := win0_18.stage (cfg0.slots t 18)

abbrev hs0_18 (t : Fin cfg0.N) : (ms0_18 t).IsWhole := hstage0_18 ((cfg0.slots t 18).cast nbuf0_18)

abbrev ms0_19 (t : Fin cfg0.N) : Memref sig .tc .vmem S128x1024 .bf16 := win0_19.stage (cfg0.slots t 19)

abbrev hs0_19 (t : Fin cfg0.N) : (ms0_19 t).IsWhole := hstage0_19 ((cfg0.slots t 19).cast nbuf0_19)

abbrev ms0_20 (t : Fin cfg0.N) : Memref sig .tc .vmem S128x1024 .bf16 := win0_20.stage (cfg0.slots t 20)

abbrev hs0_20 (t : Fin cfg0.N) : (ms0_20 t).IsWhole := hstage0_20 ((cfg0.slots t 20).cast nbuf0_20)

abbrev ms0_21 (t : Fin cfg0.N) : Memref sig .tc .vmem S128x1024 .bf16 := win0_21.stage (cfg0.slots t 21)

abbrev hs0_21 (t : Fin cfg0.N) : (ms0_21 t).IsWhole := hstage0_21 ((cfg0.slots t 21).cast nbuf0_21)

abbrev ms0_22 (t : Fin cfg0.N) : Memref sig .tc .vmem S128x1024 .bf16 := win0_22.stage (cfg0.slots t 22)

abbrev hs0_22 (t : Fin cfg0.N) : (ms0_22 t).IsWhole := hstage0_22 ((cfg0.slots t 22).cast nbuf0_22)

abbrev ms0_23 (t : Fin cfg0.N) : Memref sig .tc .vmem S16x1024 .f32 := win0_23.stage (cfg0.slots t 23)

abbrev hs0_23 (t : Fin cfg0.N) : (ms0_23 t).IsWhole := hstage0_23 ((cfg0.slots t 23).cast nbuf0_23)

abbrev ms0_24 (t : Fin cfg0.N) : Memref sig .tc .vmem S2x8x128x128 .f32 := win0_24.stage (cfg0.slots t 24)

abbrev hs0_24 (t : Fin cfg0.N) : (ms0_24 t).IsWhole := hstage0_24 ((cfg0.slots t 24).cast nbuf0_24)

abbrev scM0_0 : Memref sig .tc .vmem S8x1024 .f32 := Memref.whole cc0_scratch0

abbrev scM0_1 : Memref sig .tc .vmem S8x1024 .f32 := Memref.whole cc0_scratch1

abbrev scM0_2 : Memref sig .tc .vmem S8x1024 .f32 := Memref.whole cc0_scratch2

abbrev scM0_3 : Memref sig .tc .vmem S8x128x128 .f32 := Memref.whole cc0_scratch3

abbrev scM0_4 : Memref sig .tc .vmem S8x128x128 .f32 := Memref.whole cc0_scratch4

abbrev scM0_5 : Memref sig .tc .vmem S8x128x128 .f32 := Memref.whole cc0_scratch5

abbrev scM0_6 : Memref sig .tc .vmem S8x1024 .f32 := Memref.whole cc0_scratch6

abbrev VS0_0 : View sig .tc .vmem S8x1024 .f32 := scM0_0.view

abbrev VS0_6 : View sig .tc .vmem S8x1024 .f32 := scM0_6.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Mixer

end
-- ==== Proof.MixRunA.lean ====
module

public import proofs.«01_k».proof.Proof.MixRuns

/-! The body of the mixer's backward call at the first grid point. -/

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

variable (m : (ℓ : Loc nD τ sig) → Buf (Elt F) ℓ) (ρ : Dev nD → PrngReg)

set_option maxHeartbeats 1596000 in

noncomputable def kernelRun0_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (hc0 : cond0_0 i)
    (x0 : Vec F S128x1024 .f32) (x1 : Vec F S128x1024 .f32) (x2 : Vec F S128x1024 .f32) (x3 : Vec F S128x1024 .f32) (x4 : Vec F S128x1024 .f32) (x5 : Vec F S8x1024 .f32) (x6 : Vec F S128x7168 .f32) (x7 : Vec F S8x7168 .f32) (x8 : Vec F S1x6x1024 .f32) (x9 : Vec F S1x16x1024 .f32) (x10 : Vec F S1x8x1024 .f32) (x11 : Vec F S1x8x128x128 .bf16) (x12 : Vec F S1x8x128x128 .bf16) (x13 : Vec F S1024x1024 .bf16) (x14 : Vec F S1024x1024 .bf16) (x15 : Vec F S1024x1024 .bf16) :
    Σ' (LS0 : List (View.Piece (Elt F) S8x1024 .f32)), { LS6 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ f, arg33.view.loc (c : Thread nD τ) ↦[arg33.view.set]{fullShare} arg33.view.writes (Elt F) f LS6)) -∗ K ⟨⟩))
          ⊢ wp frame (wpE (defs₀ (F := F)) Variants.none c none) E (cc0_mixer_core_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole main_arg14) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, fun E K => ?run⟩
  case run =>
    simp only [cc0_mixer_core_bwd_eq_skeleton]; unfold cc0_mixer_core_bwd_skel
    simp only [k0_part66_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Mixer

end
-- ==== Proof.MixRunB.lean ====
module

public import proofs.«01_k».proof.Proof.MixRunA

/-! The body of the mixer's backward call at every later grid point. -/

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

variable (m : (ℓ : Loc nD τ sig) → Buf (Elt F) ℓ) (ρ : Dev nD → PrngReg)

set_option maxHeartbeats 1532000 in

noncomputable def kernelRun0_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (hc0 : ¬cond0_0 i)
    (x0 : Vec F S128x1024 .f32) (x1 : Vec F S128x1024 .f32) (x2 : Vec F S128x1024 .f32) (x3 : Vec F S128x1024 .f32) (x4 : Vec F S128x1024 .f32) (x5 : Vec F S8x1024 .f32) (x6 : Vec F S128x7168 .f32) (x7 : Vec F S8x7168 .f32) (x8 : Vec F S1x6x1024 .f32) (x9 : Vec F S1x16x1024 .f32) (x10 : Vec F S1x8x1024 .f32) (x11 : Vec F S1x8x128x128 .bf16) (x12 : Vec F S1x8x128x128 .bf16) (x13 : Vec F S1024x1024 .bf16) (x14 : Vec F S1024x1024 .bf16) (x15 : Vec F S1024x1024 .bf16) (xs0 : Vec F S8x1024 .f32) (xs6 : Vec F S8x1024 .f32) :
    Σ' (LS0 : List (View.Piece (Elt F) S8x1024 .f32)), { LS6 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs0 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ owns (c : Thread nD τ) arg33 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS0) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ f, arg33.view.loc (c : Thread nD τ) ↦[arg33.view.set]{fullShare} arg33.view.writes (Elt F) f LS6)) -∗ K ⟨⟩))
          ⊢ wp frame (wpE (defs₀ (F := F)) Variants.none c none) E (cc0_mixer_core_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole main_arg14) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, fun E K => ?run⟩
  case run =>
    simp only [cc0_mixer_core_bwd_eq_skeleton]; unfold cc0_mixer_core_bwd_skel
    simp only [k0_part66_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg27.eq_unread hfs0; obtain rfl := harg33.eq_unread hfs6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Mixer

end
-- ==== Proof.MixFrame.lean ====
module

public import proofs.«01_k».proof.Proof.MixRunB
public import Idealize.ShloMosaic.Lib.Claim

/-! The mixer's backward call from launch to end: what the two carried scratch arrays hold after each point, the body at a generic point, the run of the whole grid, and the frame. -/

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (hc0 : cond0_0 i)
  (x0 : Vec F S128x1024 .f32) (x1 : Vec F S128x1024 .f32) (x2 : Vec F S128x1024 .f32) (x3 : Vec F S128x1024 .f32) (x4 : Vec F S128x1024 .f32) (x5 : Vec F S8x1024 .f32) (x6 : Vec F S128x7168 .f32) (x7 : Vec F S8x7168 .f32) (x8 : Vec F S1x6x1024 .f32) (x9 : Vec F S1x16x1024 .f32) (x10 : Vec F S1x8x1024 .f32) (x11 : Vec F S1x8x128x128 .bf16) (x12 : Vec F S1x8x128x128 .bf16) (x13 : Vec F S1024x1024 .bf16) (x14 : Vec F S1024x1024 .bf16) (x15 : Vec F S1024x1024 .bf16)

theorem scover0_A_0 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15).1, y ∈ pc.1.set :=
  View.cover_of_tiledL _ S8x1024.size (by sl_kernel_rfl) y

def sout0_A_0 : Vec F S8x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15).1)

theorem scover0_A_6 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15).2.1, y ∈ pc.1.set :=
  View.cover_of_tiledL _ S8x1024.size (by sl_kernel_rfl) y

def sout0_A_6 : Vec F S8x1024 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15).2.1)

end

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1024 .f32) (harg6 : arg6.IsWhole) (arg7 : Memref sig .tc .vmem S128x7168 .f32) (harg7 : arg7.IsWhole) (arg8 : Memref sig .tc .vmem S8x7168 .f32) (harg8 : arg8.IsWhole) (arg9 : Memref sig .tc .vmem S1x6x1024 .f32) (harg9 : arg9.IsWhole) (arg10 : Memref sig .tc .vmem S1x16x1024 .f32) (harg10 : arg10.IsWhole) (arg11 : Memref sig .tc .vmem S1x8x1024 .f32) (harg11 : arg11.IsWhole) (arg12 : Memref sig .tc .vmem S1x8x128x128 .bf16) (harg12 : arg12.IsWhole) (arg13 : Memref sig .tc .vmem S1x8x128x128 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg18 : Memref sig .tc .vmem S128x7168 .bf16) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S128x1024 .bf16) (harg21 : arg21.IsWhole) (arg22 : Memref sig .tc .vmem S128x1024 .bf16) (harg22 : arg22.IsWhole) (arg23 : Memref sig .tc .vmem S128x1024 .bf16) (harg23 : arg23.IsWhole) (arg24 : Memref sig .tc .vmem S128x1024 .bf16) (harg24 : arg24.IsWhole) (arg25 : Memref sig .tc .vmem S16x1024 .f32) (harg25 : arg25.IsWhole) (arg26 : Memref sig .tc .vmem S2x8x128x128 .f32) (harg26 : arg26.IsWhole) (arg27 : Memref sig .tc .vmem S8x1024 .f32) (harg27 : arg27.IsWhole) (arg28 : Memref sig .tc .vmem S8x1024 .f32) (harg28 : arg28.IsWhole) (arg29 : Memref sig .tc .vmem S8x1024 .f32) (harg29 : arg29.IsWhole) (arg30 : Memref sig .tc .vmem S8x128x128 .f32) (harg30 : arg30.IsWhole) (arg31 : Memref sig .tc .vmem S8x128x128 .f32) (harg31 : arg31.IsWhole) (arg32 : Memref sig .tc .vmem S8x128x128 .f32) (harg32 : arg32.IsWhole) (arg33 : Memref sig .tc .vmem S8x1024 .f32) (harg33 : arg33.IsWhole) (hc0 : ¬cond0_0 i)
  (x0 : Vec F S128x1024 .f32) (x1 : Vec F S128x1024 .f32) (x2 : Vec F S128x1024 .f32) (x3 : Vec F S128x1024 .f32) (x4 : Vec F S128x1024 .f32) (x5 : Vec F S8x1024 .f32) (x6 : Vec F S128x7168 .f32) (x7 : Vec F S8x7168 .f32) (x8 : Vec F S1x6x1024 .f32) (x9 : Vec F S1x16x1024 .f32) (x10 : Vec F S1x8x1024 .f32) (x11 : Vec F S1x8x128x128 .bf16) (x12 : Vec F S1x8x128x128 .bf16) (x13 : Vec F S1024x1024 .bf16) (x14 : Vec F S1024x1024 .bf16) (x15 : Vec F S1024x1024 .bf16) (xs0 : Vec F S8x1024 .f32) (xs6 : Vec F S8x1024 .f32)

theorem scover0_B_0 (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15 xs0 xs6).1, y ∈ pc.1.set :=
  View.cover_of_tiledL _ S8x1024.size (by sl_kernel_rfl) y

def sout0_B_0 : Vec F S8x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15 xs0 xs6).1)

theorem scover0_B_6 (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15 xs0 xs6).2.1, y ∈ pc.1.set :=
  View.cover_of_tiledL _ S8x1024.size (by sl_kernel_rfl) y

def sout0_B_6 : Vec F S8x1024 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 x15 xs0 xs6).2.1)

end

/-- The first point: what the carried arrays hold after it. -/
def atA (c : Dev nD) (t : Fin cfg0.N) (h0 : t.val % 32 = 0) : Vec F S8x1024 .f32 × Vec F S8x1024 .f32 :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))
/-- A later point, over what they held before. -/
def atB (c : Dev nD) (t : Fin cfg0.N) (h0 : ¬t.val % 32 = 0) (p : Vec F S8x1024 .f32 × Vec F S8x1024 .f32) : Vec F S8x1024 .f32 × Vec F S8x1024 .f32 :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.1 p.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.1 p.2)

def outsAt0 (c : Dev nD) : (n : ℕ) → n < cfg0.N → Vec F S8x1024 .f32 × Vec F S8x1024 .f32
  | 0, hn => atA m c ⟨0, hn⟩ (Nat.zero_mod _)
  | n + 1, hn =>
    if h0 : (n + 1) % 32 = 0 then atA m c ⟨n + 1, hn⟩ h0
    else atB m c ⟨n + 1, hn⟩ h0 (outsAt0 c n (Nat.lt_of_succ_lt hn))

theorem outsAt0_A (c : Dev nD) (t : Fin cfg0.N) (h0 : t.val % 32 = 0) :
    outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2)) ∗ (∃ r, prngReg c r)) := by
  cases n with
  | zero => exact absurd rfl hz
  | succ n => rfl

def forgets0 : Fin 25 → Bool := fun w => w.val == 16 || w.val == 17 || w.val == 18 || w.val == 19 || w.val == 20 || w.val == 21 || w.val == 22 || w.val == 23 || w.val == 24

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨_ + 25, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

theorem after0_2 (c : Dev nD) (t : Fin cfg0.N) : (dats m 0 c).after 2 t = iblk m c 2 t := by dsimp only [dats]

theorem after0_3 (c : Dev nD) (t : Fin cfg0.N) : (dats m 0 c).after 3 t = iblk m c 3 t := by dsimp only [dats]

theorem after0_4 (c : Dev nD) (t : Fin cfg0.N) : (dats m 0 c).after 4 t = iblk m c 4 t := by dsimp only [dats]

theorem after0_5 (c : Dev nD) (t : Fin cfg0.N) : (dats m 0 c).after 5 t = iblk m c 5 t := by dsimp only [dats]

theorem after0_6 (c : Dev nD) (t : Fin cfg0.N) : (dats m 0 c).after 6 t = iblk m c 6 t := by dsimp only [dats]

theorem after0_7 (c : Dev nD) (t : Fin cfg0.N) : (dats m 0 c).after 7 t = iblk m c 7 t := by dsimp only [dats]

theorem after0_8 (c : Dev nD) (t : Fin cfg0.N) : (dats m 0 c).after 8 t = iblk m c 8 t := by dsimp only [dats]

theorem after0_9 (c : Dev nD) (t : Fin cfg0.N) : (dats m 0 c).after 9 t = iblk m c 9 t := by dsimp only [dats]

theorem after0_10 (c : Dev nD) (t : Fin cfg0.N) : (dats m 0 c).after 10 t = iblk m c 10 t := by dsimp only [dats]

theorem after0_11 (c : Dev nD) (t : Fin cfg0.N) : (dats m 0 c).after 11 t = iblk m c 11 t := by dsimp only [dats]

theorem after0_12 (c : Dev nD) (t : Fin cfg0.N) : (dats m 0 c).after 12 t = iblk m c 12 t := by dsimp only [dats]

theorem after0_13 (c : Dev nD) (t : Fin cfg0.N) : (dats m 0 c).after 13 t = iblk m c 13 t := by dsimp only [dats]

theorem after0_14 (c : Dev nD) (t : Fin cfg0.N) : (dats m 0 c).after 14 t = iblk m c 14 t := by dsimp only [dats]

theorem after0_15 (c : Dev nD) (t : Fin cfg0.N) : (dats m 0 c).after 15 t = iblk m c 15 t := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

theorem before0_9 (c : Dev nD) (t : Fin cfg0.N) (d) : (dats m 0 c).before 9 t d = iblk m c 9 t :=
  before0_9_of m (dats m 0 c) (A_eq m c 9) (after0_9 m c) t d

theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (d) : (dats m 0 c).before 11 t d = iblk m c 11 t :=
  before0_11_of m (dats m 0 c) (A_eq m c 11) (after0_11 m c) t d

theorem before0_12 (c : Dev nD) (t : Fin cfg0.N) (d) : (dats m 0 c).before 12 t d = iblk m c 12 t :=
  before0_12_of m (dats m 0 c) (A_eq m c 12) (after0_12 m c) t d

theorem before0_13 (c : Dev nD) (t : Fin cfg0.N) (d) : (dats m 0 c).before 13 t d = iblk m c 13 t :=
  before0_13_of m (dats m 0 c) (A_eq m c 13) (after0_13 m c) t d

theorem before0_14 (c : Dev nD) (t : Fin cfg0.N) (d) : (dats m 0 c).before 14 t d = iblk m c 14 t :=
  before0_14_of m (dats m 0 c) (A_eq m c 14) (after0_14 m c) t d

theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

set_option maxHeartbeats 25600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold atA sout0_A_0 sout0_A_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2 Set.univ _)
      iframe H0 H1 H2 H3 H4 H5 H6 H7 H8 H9 H10 H11 H12 H13 H14 H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iframe HS0 HS1 HS2 HS3 HS4 HS5 HS6
      iintro ⟨H0, H1, H2, H3, H4, H5, H6, H7, H8, H9, H10, H11, H12, H13, H14, H15, H16, H17, H18, H19, H20, H21, H22, H23, H24, ⟨%es0, HS0⟩, HS1, HS2, HS3, HS4, HS5, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          unfold owns; iexists _; isplitr
          swap; · iexact HS6
          ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      iframe Ho H0 H1 H2 H3 H4 H5 H6 H7 H8 H9 H10 H11 H12 H13 H14 H15 H16 H17 H18 H19 H20 H21 H22 H23 H24
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold atB sout0_B_0 sout0_B_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).2.2 Set.univ _)
      iframe H0 H1 H2 H3 H4 H5 H6 H7 H8 H9 H10 H11 H12 H13 H14 H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      iframe HS0 HS1 HS2 HS3 HS4 HS5 HS6
      iintro ⟨H0, H1, H2, H3, H4, H5, H6, H7, H8, H9, H10, H11, H12, H13, H14, H15, H16, H17, H18, H19, H20, H21, H22, H23, H24, ⟨%es0, HS0⟩, HS1, HS2, HS3, HS4, HS5, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          unfold owns; iexists _; isplitr
          swap; · iexact HS6
          ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      iframe Ho H0 H1 H2 H3 H4 H5 H6 H7 H8 H9 H10 H11 H12 H13 H14 H15 H16 H17 H18 H19 H20 H21 H22 H23 H24

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexists _; iexact HS6
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in

theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of_forget m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Mixer

end
-- ==== Proof.MixSame.lean ====
module

public import proofs.«01_k».proof.Defs
public import proofs.«01_k».proof.Proof.Gen.Kernel
public import proofs.«01_k».proof.Proof.MixFrame
public import Idealize.ShloMosaic.Adequacy

/-! The two printed programs of the mixer call are the same text; here they are shown equal, so one run serves both. -/

@[expose] public section
set_option maxRecDepth 65536
set_option maxHeartbeats 0
noncomputable section
namespace Cert.KernelIdeal.Mixer
open Idealize.ShloMosaic Idealize.ShloMosaic.TcCoe Idealize.SL.Sem Cert.KernelIdeal Cert.KernelIdeal.Facts₀ Cert.KernelIdeal.Facts
attribute [local instance] Cert.Kernel.Gen.facts Cert.KernelIdeal.Gen.facts
variable {F : FTy → Type} [FloatOps F]

set_option backward.isDefEq.respectTransparency.types false
theorem defs0_eq : @Eq (Defs Cert.KernelIdeal.nD Cert.KernelIdeal.τ Cert.KernelIdeal.sig (Elt Bits) Cert.KernelIdeal.Λ₀)
    (Cert.Kernel.defs₀ (F := Bits)) (Cert.KernelIdeal.defs₀ (F := Bits)) := by
  unfold Cert.Kernel.defs₀ Cert.KernelIdeal.defs₀
  refine congrArg Defs.onTc (funext fun l => funext fun a => ?_)
  obtain ⟨l, hl⟩ := l
  obtain _ | l := l
  · obtain ⟨t, s⟩ := a
    rfl
  · omega
theorem defs_eq : @Eq (Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (Cert.Kernel.defs (F := Bits)) (Cert.KernelIdeal.defs (F := Bits)) := by
  unfold Cert.KernelIdeal.defs
  rw [← defs0_eq]
  rfl
end Cert.KernelIdeal.Mixer
-- ==== Proof.MlpSpec.lean ====
module

public import Idealize.ShloMosaic.Lib.Pointwise

/-! The feed-forward half of a layer and its gradients over the extended reals, one row of tokens at a time. -/

@[expose] public section
noncomputable section
namespace Cert.Mlp
open Idealize.ShloMosaic

/-- The width 1024 and the norm's epsilon, as the programs write them. -/
def width : EReal := Ideal.ofBits FTy.f32 1149239296#32
def eps : EReal := Ideal.ofBits FTy.f32 897988541#32
def two : EReal := Ideal.ofBits FTy.f32 1073741824#32
def mhalf : EReal := Ideal.ofBits FTy.f32 3204448256#32

/-- Mean square of a row plus epsilon, and its reciprocal square root. -/
def ms (x : Fin 1024 → EReal) : EReal := Ideal.div (∑ k, x k * x k) width + eps
def rr (x : Fin 1024 → EReal) : EReal := Ideal.rsqrt (ms x)

/-- The modulated norm of a row: `x · r · g · (1 + sc) + sh`. -/
def hRow (x g sc sh : Fin 1024 → EReal) (j : Fin 1024) : EReal := x j * rr x * g j * (1 + sc j) + sh j

/-- The up product's column `f` of a row, its weights stored as 8 blocks of 512 columns. -/
def wcol (U : Fin 8 → Fin 1024 → Fin 512 → EReal) (k : Fin 1024) (f : Fin 4096) : EReal :=
  U ⟨f / 512, by omega⟩ k ⟨f % 512, by omega⟩
def uRow (h : Fin 1024 → EReal) (U : Fin 8 → Fin 1024 → Fin 512 → EReal) (f : Fin 4096) : EReal := ∑ k, h k * wcol U k f
def reluRow (u : Fin 4096 → EReal) (f : Fin 4096) : EReal := max (u f) 0
def yRow (ru : Fin 4096 → EReal) (W : Fin 4096 → Fin 1024 → EReal) (j : Fin 1024) : EReal := ∑ f, ru f * ru f * W f j
def outRow (x y gt go : Fin 1024 → EReal) (j : Fin 1024) : EReal := x j + gt j * (y j * rr y * go j)

/-- The gradient of `x · r(x)` along `dn`, as `r · (dn − x r · mean (dn · x r))`. -/
def normBwd (x dn : Fin 1024 → EReal) (j : Fin 1024) : EReal :=
  rr x * (dn j - x j * rr x * Ideal.div (∑ k, dn k * (x k * rr x)) width)
def dyRow (y d gt go : Fin 1024 → EReal) : Fin 1024 → EReal := normBwd y fun k => d k * gt k * go k
def dupRow (dy : Fin 1024 → EReal) (ru : Fin 4096 → EReal) (W : Fin 4096 → Fin 1024 → EReal) (f : Fin 4096) : EReal :=
  (∑ k, dy k * W f k) * (two * ru f)
def dhRow (dup : Fin 4096 → EReal) (U : Fin 8 → Fin 1024 → Fin 512 → EReal) (j : Fin 1024) : EReal := ∑ f, dup f * wcol U j f
def dxRow (d x dh sc g : Fin 1024 → EReal) (j : Fin 1024) : EReal := d j + normBwd x (fun k => dh k * (1 + sc k) * g k) j

/-- Eight blocks of 512 columns side by side, as one row of 4096. -/
theorem cat8 {α : Type} (g : Fin 8 → Fin 512 → α) (f : Fin 4096) :
    (if h : (f : ℕ) < 512 then g 0 ⟨(f : ℕ), h⟩ else
    if h : (f : ℕ) - 512 < 512 then g 1 ⟨(f : ℕ) - 512, h⟩ else
    if h : (f : ℕ) - 512 - 512 < 512 then g 2 ⟨(f : ℕ) - 512 - 512, h⟩ else
    if h : (f : ℕ) - 512 - 512 - 512 < 512 then g 3 ⟨(f : ℕ) - 512 - 512 - 512, h⟩ else
    if h : (f : ℕ) - 512 - 512 - 512 - 512 < 512 then g 4 ⟨(f : ℕ) - 512 - 512 - 512 - 512, h⟩ else
    if h : (f : ℕ) - 512 - 512 - 512 - 512 - 512 < 512 then g 5 ⟨(f : ℕ) - 512 - 512 - 512 - 512 - 512, h⟩ else
    if h : (f : ℕ) - 512 - 512 - 512 - 512 - 512 - 512 < 512 then g 6 ⟨(f : ℕ) - 512 - 512 - 512 - 512 - 512 - 512, h⟩ else
    g 7 ⟨(f : ℕ) - 512 - 512 - 512 - 512 - 512 - 512 - 512, by omega⟩) = g ⟨f / 512, by omega⟩ ⟨f % 512, by omega⟩ := by
  have key : ∀ (q : Fin 8) (b : ℕ) (hb : b < 512), (f : ℕ) = q * 512 + b → g q ⟨b, hb⟩ = g ⟨f / 512, by omega⟩ ⟨f % 512, by omega⟩ := by
    intro q b hb e
    have h1 : q = ⟨f / 512, by omega⟩ := Fin.ext (by show (q : ℕ) = _ / 512; omega)
    have h2 : (⟨b, hb⟩ : Fin 512) = ⟨f % 512, by omega⟩ := Fin.ext (by show b = _ % 512; omega)
    rw [h2, ← h1]
  split_ifs <;> refine key _ _ _ ?_ <;> simp <;> omega

theorem wcol_at (U : Fin 8 → Fin 1024 → Fin 512 → EReal) (k : Fin 1024) (q : Fin 8) (x : Fin 512) (f : Fin 4096)
    (h : (f : ℕ) = 512 * q + x) : wcol U k f = U q k x := by
  have h1 : (⟨f / 512, by omega⟩ : Fin 8) = q := Fin.ext (by show (f : ℕ) / 512 = q; omega)
  have h2 : (⟨f % 512, by omega⟩ : Fin 512) = x := Fin.ext (by show (f : ℕ) % 512 = x; omega)
  unfold wcol
  rw [h1, h2]

/-- A sum over 4096 columns as eight sums over 512, and over 4096 rows as sixteen sums over 256. -/
theorem sum8 (g : Fin 4096 → EReal) : ∑ f, g f
    = ∑ x : Fin 512, g ⟨x, by omega⟩ + ∑ x : Fin 512, g ⟨512 + x, by omega⟩ + ∑ x : Fin 512, g ⟨1024 + x, by omega⟩
      + ∑ x : Fin 512, g ⟨1536 + x, by omega⟩ + ∑ x : Fin 512, g ⟨2048 + x, by omega⟩ + ∑ x : Fin 512, g ⟨2560 + x, by omega⟩
      + ∑ x : Fin 512, g ⟨3072 + x, by omega⟩ + ∑ x : Fin 512, g ⟨3584 + x, by omega⟩ := by
  have e : ∑ f, g f = ∑ q : Fin 8, ∑ x : Fin 512, g ⟨x + 512 * q, by omega⟩ := by
    rw [← (finProdFinEquiv (m := 8) (n := 512)).sum_comp, Fintype.sum_prod_type]
    rfl
  rw [e]
  simp only [Fin.sum_univ_eight]
  simp [Nat.add_comm]
theorem dhRow_eq (d : Fin 4096 → EReal) (U : Fin 8 → Fin 1024 → Fin 512 → EReal) (j : Fin 1024) : dhRow d U j
    = ∑ x : Fin 512, d ⟨x, by omega⟩ * U 0 j x
      + ∑ x : Fin 512, d ⟨512 + x, by omega⟩ * U 1 j x
      + ∑ x : Fin 512, d ⟨1024 + x, by omega⟩ * U 2 j x
      + ∑ x : Fin 512, d ⟨1536 + x, by omega⟩ * U 3 j x
      + ∑ x : Fin 512, d ⟨2048 + x, by omega⟩ * U 4 j x
      + ∑ x : Fin 512, d ⟨2560 + x, by omega⟩ * U 5 j x
      + ∑ x : Fin 512, d ⟨3072 + x, by omega⟩ * U 6 j x
      + ∑ x : Fin 512, d ⟨3584 + x, by omega⟩ * U 7 j x := by
  have e0 : ∀ x : Fin 512, wcol U j ⟨x, by omega⟩ = U 0 j x := fun x => wcol_at U j 0 x _ (by simp)
  have e1 : ∀ x : Fin 512, wcol U j ⟨512 + x, by omega⟩ = U 1 j x := fun x => wcol_at U j 1 x _ (by simp)
  have e2 : ∀ x : Fin 512, wcol U j ⟨1024 + x, by omega⟩ = U 2 j x := fun x => wcol_at U j 2 x _ (by simp)
  have e3 : ∀ x : Fin 512, wcol U j ⟨1536 + x, by omega⟩ = U 3 j x := fun x => wcol_at U j 3 x _ (by simp)
  have e4 : ∀ x : Fin 512, wcol U j ⟨2048 + x, by omega⟩ = U 4 j x := fun x => wcol_at U j 4 x _ (by simp)
  have e5 : ∀ x : Fin 512, wcol U j ⟨2560 + x, by omega⟩ = U 5 j x := fun x => wcol_at U j 5 x _ (by simp)
  have e6 : ∀ x : Fin 512, wcol U j ⟨3072 + x, by omega⟩ = U 6 j x := fun x => wcol_at U j 6 x _ (by simp)
  have e7 : ∀ x : Fin 512, wcol U j ⟨3584 + x, by omega⟩ = U 7 j x := fun x => wcol_at U j 7 x _ (by simp)
  simp only [dhRow]
  rw [sum8]
  simp only [e0, e1, e2, e3, e4, e5, e6, e7]
theorem sum16 (g : Fin 4096 → EReal) : ∑ f, g f
    = ∑ t ∈ Finset.range 16, if h : t < 16 then ∑ x : Fin 256, g ⟨t * 256 + x, by omega⟩ else 0 := by
  have e : ∑ f, g f = ∑ q : Fin 16, ∑ x : Fin 256, g ⟨x + 256 * q, by omega⟩ := by
    rw [← (finProdFinEquiv (m := 16) (n := 256)).sum_comp, Fintype.sum_prod_type]
    rfl
  rw [e, Finset.sum_range]
  refine Finset.sum_congr rfl fun q _ => ?_
  rw [dif_pos q.isLt]
  refine Finset.sum_congr rfl fun x _ => congrArg g (Fin.ext ?_)
  show (x : ℕ) + 256 * q = q * 256 + x
  omega

/-- Column `x` of column tile `t`. -/
def col (t : ℕ) (ht : t < 8) (x : Fin 512) : Fin 4096 := ⟨t * 512 + x, by omega⟩

/-- The layer half's inputs: the incoming gradient, the branch's input, the modulation rows, the gain rows, the two weights. -/
structure In where
  d : Fin 4096 → Fin 1024 → EReal
  x : Fin 4096 → Fin 1024 → EReal
  mod : Fin 6 → Fin 1024 → EReal
  row : Fin 16 → Fin 1024 → EReal
  up : Fin 8 → Fin 1024 → Fin 512 → EReal
  dn : Fin 4096 → Fin 1024 → EReal
namespace In
variable (I : In)
def H (i : Fin 4096) : Fin 1024 → EReal := hRow (I.x i) (I.row 7) (I.mod 4) (I.mod 3)
def RU (i : Fin 4096) : Fin 4096 → EReal := reluRow (uRow (I.H i) I.up)
def Y (i : Fin 4096) : Fin 1024 → EReal := yRow (I.RU i) I.dn
def X2 (i : Fin 4096) : Fin 1024 → EReal := outRow (I.x i) (I.Y i) (I.mod 5) (I.row 8)
def DY (i : Fin 4096) : Fin 1024 → EReal := dyRow (I.Y i) (I.d i) (I.mod 5) (I.row 8)
def DUP (i : Fin 4096) : Fin 4096 → EReal := dupRow (I.DY i) (I.RU i) I.dn
def DH (i : Fin 4096) : Fin 1024 → EReal := dhRow (I.DUP i) I.up
def DX (i : Fin 4096) : Fin 1024 → EReal := dxRow (I.d i) (I.x i) (I.DH i) (I.mod 4) (I.row 7)
def SMT (q : Fin 8) (i : Fin 4096) (j : Fin 1024) : EReal :=
  ![I.d i j * (I.Y i j * rr (I.Y i) * I.row 8 j), I.d i j * I.mod 5 j * (I.Y i j * rr (I.Y i)),
    I.DH i j * (I.x i j * rr (I.x i) * I.row 7 j), I.DH i j, I.DH i j * (1 + I.mod 4 j) * (I.x i j * rr (I.x i)), 0, 0, 0] q
def SM (q : Fin 8) (j : Fin 1024) : EReal := ∑ i, I.SMT q i j
def GU (q : Fin 8) (r : Fin 1024) (x : Fin 512) : EReal := ∑ s, I.H s r * I.DUP s (col q.val q.isLt x)
def GD (q : Fin 8) (x : Fin 512) (k : Fin 1024) : EReal :=
  ∑ s, I.RU s (col q.val q.isLt x) * I.RU s (col q.val q.isLt x) * I.DY s k
end In

end Cert.Mlp
-- ==== Proof.MlpFwd.lean ====
module

public import proofs.«01_k».proof.Proof.Gen.Kernel2Ideal.Frame
public import proofs.«01_k».proof.Proof.MlpSpec
public import Idealize.ShloMosaic.Lib.Pipeline.Value
public import Idealize.ShloMosaic.Lib.UnfoldOut
public import Idealize.ShloMosaic.Lib.Pipeline.ValueKit

@[expose] public section
set_option maxRecDepth 16384
noncomputable section
namespace Cert.Kernel2Ideal.Mlp
open Idealize.ShloMosaic Idealize.ShloMosaic.TcCoe Idealize.ShloMosaic.Tactic Idealize.ShloMosaic.Pointwise
open Cert.Kernel2Ideal.Gen Cert.Mlp
variable (V : (c : Dev nD) → (b : Ref sig .tc) → Buf (Elt Ideal) ((c : Thread nD τ).loc b))

theorem idx0_0 : ∀ t : Fin cfg0.N, win0_0.index t = ![t.val, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0] := (by decide +kernel : ∀ t : Fin grid0.N, _)
theorem idx0_8 : ∀ t : Fin cfg0.N, win0_8.index t = ![t.val, 0] := (by decide +kernel : ∀ t : Fin grid0.N, _)

theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
/-- Row `r` of token tile `t`: 8 tiles of 512 rows in the forward call, 16 of 256 in the backward call. -/
def tokF (t : ℕ) (ht : t < 8) (r : Fin 512) : Fin 4096 := ⟨t * 512 + r, by omega⟩
def tok (t : ℕ) (ht : t < 16) (r : Fin 256) : Fin 4096 := ⟨t * 256 + r, by omega⟩

theorem blk0_0 (c : Dev nD) (t : Fin cfg0.N) (r : Fin 512) (k : Fin 1024) :
    iblk0 V c 0 t (ix2 r k) = (V c main_arg1) (ix2 (tokF t.val t.isLt r) k) := by
  blk_ext! [iblk0, idx0_0 t, tokF]
theorem blk0_1 (c : Dev nD) (t : Fin cfg0.N) (q : Fin 6) (k : Fin 1024) :
    iblk0 V c 1 t (ix3 0 q k) = (V c main_arg2) (ix3 0 q k) := by
  blk_ext! [iblk0, idx0_1 t]
theorem blk0_2 (c : Dev nD) (t : Fin cfg0.N) (q : Fin 16) (k : Fin 1024) :
    iblk0 V c 2 t (ix3 0 q k) = (V c main_arg3) (ix3 0 q k) := by
  blk_ext! [iblk0, idx0_2 t]
theorem blk0_3 (c : Dev nD) (t : Fin cfg0.N) (q : Fin 8) (k : Fin 1024) (f : Fin 512) :
    iblk0 V c 3 t (ix3 q k f) = (V c main_arg4) (ix3 q k f) := by
  blk_ext! [iblk0, idx0_3 t]
theorem blk0_4 (c : Dev nD) (t : Fin cfg0.N) (f : Fin 4096) (k : Fin 1024) :
    iblk0 V c 4 t (ix2 f k) = (V c main_arg5) (ix2 f k) := by
  blk_ext! [iblk0, idx0_4 t]

/-- The modulated norm at row `i`, from the arrays the region finds. -/
def H (c : Dev nD) (i : Fin 4096) : Fin 1024 → EReal :=
  hRow (fun k => V c main_arg1 (ix2 i k)) (fun k => V c main_arg3 (ix3 0 7 k)) (fun k => V c main_arg2 (ix3 0 4 k))
    (fun k => V c main_arg2 (ix3 0 3 k))

theorem h2_blk (c : Dev nD) (t : Fin cfg0.N) (r : Fin 512) (j : Fin 1024) :
    (outsAt0 V c t).2.2.2 (ix2 r j) = H V c (tokF t.val t.isLt r) j := by
  dsimp only [outsAt0]
  frame_out
  simp only [H, hRow, rr, ms, width, eps]
  pointwise [k0_pay5]
  have h0 := blk0_0 V c t r
  have h1 := blk0_1 V c t
  have h2 := blk0_2 V c t
  generalize iblk0 V c 0 t = x0 at *
  generalize iblk0 V c 1 t = x1 at *
  generalize iblk0 V c 2 t = x2 at *
  rw [h0, h1, h2, h1]
  simp only [h0]

theorem emb0_8 (t : Fin cfg0.N) (r : Fin 512) (j : Fin 1024) :
    ((win0_8.blk t).view.emb (ix2 r j) : S4096x1024.Idx) = ix2 (tokF t.val t.isLt r) j := by
  blk_ext [idx0_8 t, tokF]

theorem h2_arr (c : Dev nD) : (dat0 V c).arrAt 8 cfg0.N = fun i => H V c (i 0) (i 1) := by
  refine (dat0 V c).arrAt_eq_of_covers 8 _ (by decide +kernel) fun t hf y => ?_
  blk_simp
  rw [after0_8]
  obtain ⟨r, j, rfl⟩ : ∃ (r : Fin 512) (j : Fin 1024), y = ix2 r j := ⟨y 0, y 1, by funext a; fin_cases a <;> rfl⟩
  rw [h2_blk, emb0_8]
  rfl

/-- The rectified up product at row `i`. -/
def RU (c : Dev nD) (i : Fin 4096) : Fin 4096 → EReal :=
  reluRow (uRow (H V c i) fun q k f => V c main_arg4 (ix3 q k f))

theorem ru_blk (c : Dev nD) (t : Fin cfg0.N) (r : Fin 512) (f : Fin 4096) :
    (outsAt0 V c t).2.1 (ix2 r f) = RU V c (tokF t.val t.isLt r) f := by
  have hh := h2_blk V c t r
  have h3 := blk0_3 V c t
  dsimp only [outsAt0] at hh ⊢
  frame_out at hh
  frame_out
  simp only [RU, reluRow, uRow, wcol]
  pointwise [k0_pay2, k0_pay1, k0_pay6, k0_pay7, k0_pay8, k0_pay9, k0_pay10, k0_pay11, k0_pay12]
  simp only [hh, h3]
  exact cat8 (fun q b => max (∑ x, H V c (tokF t.val t.isLt r) x * V c main_arg4 (ix3 q x b)) 0) f

/-- The down product and the layer's output at row `i`. -/
def Y (c : Dev nD) (i : Fin 4096) : Fin 1024 → EReal := yRow (RU V c i) fun f k => V c main_arg5 (ix2 f k)
def X2 (c : Dev nD) (i : Fin 4096) : Fin 1024 → EReal :=
  outRow (fun k => V c main_arg1 (ix2 i k)) (Y V c i) (fun k => V c main_arg2 (ix3 0 5 k)) (fun k => V c main_arg3 (ix3 0 8 k))

theorem y2_blk (c : Dev nD) (t : Fin cfg0.N) (r : Fin 512) (j : Fin 1024) :
    (outsAt0 V c t).2.2.1 (ix2 r j) = Y V c (tokF t.val t.isLt r) j := by
  have hh := ru_blk V c t r
  have h4 := blk0_4 V c t
  dsimp only [outsAt0] at hh ⊢
  frame_out at hh
  frame_out
  simp only [Y, yRow]
  pointwise [k0_pay2] at hh
  pointwise [k0_pay3]
  generalize iblk0 V c 4 t = x4 at *
  generalize RU V c (tokF t.val t.isLt r) = h at *
  simp only [hh, h4]

theorem x2_blk (c : Dev nD) (t : Fin cfg0.N) (r : Fin 512) (j : Fin 1024) :
    (outsAt0 V c t).1 (ix2 r j) = X2 V c (tokF t.val t.isLt r) j := by
  have hh := y2_blk V c t r
  have h0 := blk0_0 V c t r
  have h1 := blk0_1 V c t
  have h2 := blk0_2 V c t
  dsimp only [outsAt0] at hh ⊢
  frame_out at hh
  frame_out
  simp only [X2, outRow, rr, ms, width, eps]
  pointwise [k0_pay4]
  generalize Y V c (tokF t.val t.isLt r) = h at *
  simp only [hh, h0]
  generalize iblk0 V c 1 t = x1 at *
  generalize iblk0 V c 2 t = x2 at *
  rw [h1, h2]

theorem emb0_6 (t : Fin cfg0.N) (r : Fin 512) (j : Fin 4096) :
    ((win0_6.blk t).view.emb (ix2 r j) : S4096x4096.Idx) = ix2 (tokF t.val t.isLt r) j := by
  blk_ext [idx0_6 t, tokF]

theorem ru_arr (c : Dev nD) : (dat0 V c).arrAt 6 cfg0.N = fun i => RU V c (i 0) (i 1) := by
  refine (dat0 V c).arrAt_eq_of_covers 6 _ (by decide +kernel) fun t hf y => ?_
  blk_simp
  rw [after0_6]
  obtain ⟨r, j, rfl⟩ : ∃ (r : Fin 512) (j : Fin 4096), y = ix2 r j := ⟨y 0, y 1, by funext a; fin_cases a <;> rfl⟩
  rw [ru_blk, emb0_6]
  rfl

theorem emb0_7 (t : Fin cfg0.N) (r : Fin 512) (j : Fin 1024) :
    ((win0_7.blk t).view.emb (ix2 r j) : S4096x1024.Idx) = ix2 (tokF t.val t.isLt r) j := by
  blk_ext [idx0_7 t, tokF]

theorem y2_arr (c : Dev nD) : (dat0 V c).arrAt 7 cfg0.N = fun i => Y V c (i 0) (i 1) := by
  refine (dat0 V c).arrAt_eq_of_covers 7 _ (by decide +kernel) fun t hf y => ?_
  blk_simp
  rw [after0_7]
  obtain ⟨r, j, rfl⟩ : ∃ (r : Fin 512) (j : Fin 1024), y = ix2 r j := ⟨y 0, y 1, by funext a; fin_cases a <;> rfl⟩
  rw [y2_blk, emb0_7]
  rfl

theorem emb0_5 (t : Fin cfg0.N) (r : Fin 512) (j : Fin 1024) :
    ((win0_5.blk t).view.emb (ix2 r j) : S4096x1024.Idx) = ix2 (tokF t.val t.isLt r) j := by
  blk_ext [idx0_5 t, tokF]

theorem x2_arr (c : Dev nD) : (dat0 V c).arrAt 5 cfg0.N = fun i => X2 V c (i 0) (i 1) := by
  refine (dat0 V c).arrAt_eq_of_covers 5 _ (by decide +kernel) fun t hf y => ?_
  blk_simp
  rw [after0_5]
  obtain ⟨r, j, rfl⟩ : ∃ (r : Fin 512) (j : Fin 1024), y = ix2 r j := ⟨y 0, y 1, by funext a; fin_cases a <;> rfl⟩
  rw [x2_blk, emb0_5]
  rfl

end Cert.Kernel2Ideal.Mlp
-- ==== Proof.MlpBwd.lean ====
module

public import proofs.«01_k».proof.Proof.Gen.Kernel2Ideal.Frame
public import proofs.«01_k».proof.Proof.MlpFwd
public import Idealize.ShloMosaic.Lib.Pipeline.Value
public import Idealize.ShloMosaic.Lib.UnfoldOut
public import Idealize.ShloMosaic.Lib.Pipeline.ValueKit
public import Idealize.ShloMosaic.Lib.Pipeline.ReadBack
public import Idealize.ShloMosaic.Lib.WritesUnit

@[expose] public section
set_option maxRecDepth 16384
noncomputable section
namespace Cert.Kernel2Ideal.Mlp
open Idealize.ShloMosaic Idealize.ShloMosaic.TcCoe Idealize.ShloMosaic.Tactic Idealize.ShloMosaic.Pointwise
open Cert.Kernel2Ideal.Gen Cert.Mlp
variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)

theorem idx1_1 : ∀ t : Fin cfg1.N, win1_1.index t = ![t.val, 0] := (by decide +kernel : ∀ t : Fin grid1.N, _)

theorem idx1_2 : ∀ t : Fin cfg1.N, win1_2.index t = ![t.val, 0] := (by decide +kernel : ∀ t : Fin grid1.N, _)

theorem idx1_3 : ∀ t : Fin cfg1.N, win1_3.index t = ![t.val, 0] := (by decide +kernel : ∀ t : Fin grid1.N, _)

theorem idx1_4 : ∀ t : Fin cfg1.N, win1_4.index t = ![0, 0, 0] := (by decide +kernel : ∀ t : Fin grid1.N, _)

theorem idx1_5 : ∀ t : Fin cfg1.N, win1_5.index t = ![0, 0, 0] := (by decide +kernel : ∀ t : Fin grid1.N, _)

theorem idx1_6 : ∀ t : Fin cfg1.N, win1_6.index t = ![0, 0, 0] := (by decide +kernel : ∀ t : Fin grid1.N, _)

theorem idx1_7 : ∀ t : Fin cfg1.N, win1_7.index t = ![0, 0] := (by decide +kernel : ∀ t : Fin grid1.N, _)

theorem idx1_8 : ∀ t : Fin cfg1.N, win1_8.index t = ![t.val, 0] := (by decide +kernel : ∀ t : Fin grid1.N, _)

theorem idx1_9 : ∀ t : Fin cfg1.N, win1_9.index t = ![t.val, 0] := (by decide +kernel : ∀ t : Fin grid1.N, _)

theorem idx1_10 : ∀ t : Fin cfg1.N, win1_10.index t = ![t.val, 0] := (by decide +kernel : ∀ t : Fin grid1.N, _)

theorem idx1_11 : ∀ t : Fin cfg1.N, win1_11.index t = ![t.val, 0] := (by decide +kernel : ∀ t : Fin grid1.N, _)

theorem blk1_0 (c : Dev nD) (t : Fin cfg1.N) (r : Fin 256) (k : Fin 1024) :
    iblk1 V c 0 t (ix2 r k) = (V c main_arg0) (ix2 (tok t.val t.isLt r) k) := by
  blk_ext! [iblk1, idx1_0 t, tok]

theorem blk1_1 (c : Dev nD) (t : Fin cfg1.N) (r : Fin 256) (k : Fin 1024) :
    iblk1 V c 1 t (ix2 r k) = (V c main_arg1) (ix2 (tok t.val t.isLt r) k) := by
  blk_ext! [iblk1, idx1_1 t, tok]

theorem blk1_2 (c : Dev nD) (t : Fin cfg1.N) (r : Fin 256) (k : Fin 1024) :
    iblk1 V c 2 t (ix2 r k) = (V c main_v0_2) (ix2 (tok t.val t.isLt r) k) := by
  blk_ext! [iblk1, idx1_2 t, tok]

theorem blk1_3 (c : Dev nD) (t : Fin cfg1.N) (r : Fin 256) (k : Fin 4096) :
    iblk1 V c 3 t (ix2 r k) = (V c main_v0_1) (ix2 (tok t.val t.isLt r) k) := by
  blk_ext! [iblk1, idx1_3 t, tok]

theorem blk1_4 (c : Dev nD) (t : Fin cfg1.N) (q : Fin 6) (k : Fin 1024) :
    iblk1 V c 4 t (ix3 0 q k) = (V c main_arg2) (ix3 0 q k) := by
  blk_ext! [iblk1, idx1_4 t]

theorem blk1_5 (c : Dev nD) (t : Fin cfg1.N) (q : Fin 16) (k : Fin 1024) :
    iblk1 V c 5 t (ix3 0 q k) = (V c main_arg3) (ix3 0 q k) := by
  blk_ext! [iblk1, idx1_5 t]

theorem blk1_6 (c : Dev nD) (t : Fin cfg1.N) (q : Fin 8) (k : Fin 1024) (f : Fin 512) :
    iblk1 V c 6 t (ix3 q k f) = (V c main_arg4) (ix3 q k f) := by
  blk_ext! [iblk1, idx1_6 t]
theorem blk1_7 (c : Dev nD) (t : Fin cfg1.N) (f : Fin 4096) (k : Fin 1024) :
    iblk1 V c 7 t (ix2 f k) = (V c main_arg5) (ix2 f k) := by
  blk_ext! [iblk1, idx1_7 t]

/-- Row `i` of: the incoming gradient, the branch's input, its down product and rectified up product as the region finds them. -/
def dR (c : Dev nD) (i : Fin 4096) (k : Fin 1024) : EReal := V c main_arg0 (ix2 i k)
def xR (c : Dev nD) (i : Fin 4096) (k : Fin 1024) : EReal := V c main_arg1 (ix2 i k)
def yR (c : Dev nD) (i : Fin 4096) (k : Fin 1024) : EReal := V c main_v0_2 (ix2 i k)
def ruR (c : Dev nD) (i : Fin 4096) (k : Fin 4096) : EReal := V c main_v0_1 (ix2 i k)
def modR (c : Dev nD) (q : Fin 6) (k : Fin 1024) : EReal := V c main_arg2 (ix3 0 q k)
def rowR (c : Dev nD) (q : Fin 16) (k : Fin 1024) : EReal := V c main_arg3 (ix3 0 q k)
def upR (c : Dev nD) (q : Fin 8) (k : Fin 1024) (f : Fin 512) : EReal := V c main_arg4 (ix3 q k f)
def dnR (c : Dev nD) (f : Fin 4096) (k : Fin 1024) : EReal := V c main_arg5 (ix2 f k)

/-- The gradients at row `i`: of the down product, of the up product, of the norm's output, of the branch's input. -/
def DY (c : Dev nD) (i : Fin 4096) : Fin 1024 → EReal := dyRow (yR V c i) (dR V c i) (modR V c 5) (rowR V c 8)
def DUP (c : Dev nD) (i : Fin 4096) : Fin 4096 → EReal := dupRow (DY V c i) (ruR V c i) (dnR V c)
def DH (c : Dev nD) (i : Fin 4096) : Fin 1024 → EReal := dhRow (DUP V c i) (upR V c)
def DX (c : Dev nD) (i : Fin 4096) : Fin 1024 → EReal := dxRow (dR V c i) (xR V c i) (DH V c i) (modR V c 4) (rowR V c 7)
def ACT (c : Dev nD) (i : Fin 4096) (f : Fin 4096) : EReal := ruR V c i f * ruR V c i f

/-- The payloads at an index. -/
theorem dy_pay (x0 x2 : FVec Ideal S256x1024 .f32) (g o : FVec Ideal S1x1x1024 .f32) (r : Fin 256) (j : Fin 1024) :
    k1_pay15 (F := Ideal) (k1_pay8 x2) (k1_pay13 x0 g o) (k1_pay14 x0 x2 g o) (ix2 r j)
      = dyRow (fun k => x2 (ix2 r k)) (fun k => x0 (ix2 r k)) (fun k => o (ix3 0 0 k)) (fun k => g (ix3 0 0 k)) j := by
  simp only [dyRow, normBwd, rr, ms, width, eps]
  pointwise [k1_pay15, k1_pay8, k1_pay13, k1_pay14, k1_pay11, k1_pay9, k1_pay7, k1_pay6]

theorem dup_pay (A : FVec Ideal S256x1 .f32) (B C : FVec Ideal S256x1024 .f32) (x3 : FVec Ideal S256x4096 .bf16) (x7 : FVec Ideal S4096x1024 .bf16)
    (r : Fin 256) (f : Fin 4096) :
    k1_pay18 (F := Ideal) A B C x3 x7 (ix2 r f)
      = dupRow (fun k => k1_pay15 (F := Ideal) A B C (ix2 r k)) (fun f => x3 (ix2 r f)) (fun f k => x7 (ix2 f k)) f := by
  simp only [dupRow, two]
  pointwise [k1_pay18, k1_pay16]
theorem act_pay (x3 : FVec Ideal S256x4096 .bf16) (r : Fin 256) (f : Fin 4096) :
    k1_pay17 (F := Ideal) x3 (ix2 r f) = x3 (ix2 r f) * x3 (ix2 r f) := by
  pointwise [k1_pay17, k1_pay16]
theorem dh_pay (A : FVec Ideal S256x1 .f32) (B C : FVec Ideal S256x1024 .f32) (x3 : FVec Ideal S256x4096 .bf16) (x7 : FVec Ideal S4096x1024 .bf16)
    (w0 w1 w2 w3 w4 w5 w6 w7 : FVec Ideal S1x1024x512 .bf16) (U : Fin 8 → Fin 1024 → Fin 512 → EReal)
    (h0 : ∀ k f, w0 (ix3 0 k f) = U 0 k f) (h1 : ∀ k f, w1 (ix3 0 k f) = U 1 k f) (h2 : ∀ k f, w2 (ix3 0 k f) = U 2 k f)
    (h3 : ∀ k f, w3 (ix3 0 k f) = U 3 k f) (h4 : ∀ k f, w4 (ix3 0 k f) = U 4 k f) (h5 : ∀ k f, w5 (ix3 0 k f) = U 5 k f)
    (h6 : ∀ k f, w6 (ix3 0 k f) = U 6 k f) (h7 : ∀ k f, w7 (ix3 0 k f) = U 7 k f) (r : Fin 256) (j : Fin 1024) :
    k1_pay21 (F := Ideal) (k1_pay18 (F := Ideal) A B C x3 x7) (k1_pay19 (F := Ideal) A B C x3 x7 w0 w1 w2)
        (k1_pay20 (F := Ideal) A B C x3 x7) w3 w4 w5 w6 w7 (ix2 r j)
      = dhRow (fun f => k1_pay18 (F := Ideal) A B C x3 x7 (ix2 r f)) U j := by
  rw [dhRow_eq]
  pointwise [k1_pay21, k1_pay19, k1_pay20]
  generalize k1_pay18 (F := Ideal) A B C x3 x7 = p
  simp only [h0, h1, h2, h3, h4, h5, h6, h7]
theorem ms_pay (x1 : FVec Ideal S256x1024 .f32) (r : Fin 256) :
    k1_pay24 (F := Ideal) x1 (ix1 r) = ∑ k, x1 (ix2 r k) * x1 (ix2 r k) := by
  pointwise [k1_pay24]
theorem dx_pay (x0 dh x1 : FVec Ideal S256x1024 .f32) (g sc : FVec Ideal S1x1x1024 .f32) (r : Fin 256) (j : Fin 1024) :
    k1_pay31 (F := Ideal) x0 dh x1 (k1_pay22 (F := Ideal) g) (k1_pay23 (F := Ideal) sc) (k1_pay24 (F := Ideal) x1) (ix2 r j)
      = dxRow (fun k => x0 (ix2 r k)) (fun k => x1 (ix2 r k)) (fun k => dh (ix2 r k)) (fun k => sc (ix3 0 0 k)) (fun k => g (ix3 0 0 k)) j := by
  simp only [dxRow, normBwd, rr, ms, width, eps]
  pointwise [k1_pay31, k1_pay22, k1_pay23, k1_pay24, k1_pay25, k1_pay26, k1_pay29]
theorem dgt_pay (x0 x2 : FVec Ideal S256x1024 .f32) (g : FVec Ideal S1x1x1024 .f32) (j : Fin 1024) :
    k1_pay10 (F := Ideal) x0 x2 g (ix2 0 j)
      = ∑ r, x0 (ix2 r j) * (x2 (ix2 r j) * rr (fun k => x2 (ix2 r k)) * g (ix3 0 0 j)) := by
  simp only [rr, ms, width, eps]
  pointwise [k1_pay10, k1_pay9, k1_pay8, k1_pay7, k1_pay6]
theorem dgpost_pay (x0 x2 : FVec Ideal S256x1024 .f32) (g : FVec Ideal S1x1x1024 .f32) (j : Fin 1024) :
    k1_pay12 (F := Ideal) x0 x2 g (ix2 0 j)
      = ∑ r, x0 (ix2 r j) * g (ix3 0 0 j) * (x2 (ix2 r j) * rr (fun k => x2 (ix2 r k))) := by
  simp only [rr, ms, width, eps]
  pointwise [k1_pay12, k1_pay11, k1_pay9, k1_pay8, k1_pay6]
theorem dsc_pay (dh x1 : FVec Ideal S256x1024 .f32) (g : FVec Ideal S1x1x1024 .f32) (j : Fin 1024) :
    k1_pay27 (F := Ideal) dh x1 (k1_pay22 (F := Ideal) g) (k1_pay24 (F := Ideal) x1) (ix2 0 j)
      = ∑ r, dh (ix2 r j) * (x1 (ix2 r j) * rr (fun k => x1 (ix2 r k)) * g (ix3 0 0 j)) := by
  simp only [rr, ms, width, eps]
  pointwise [k1_pay27, k1_pay26, k1_pay25, k1_pay24, k1_pay22]
theorem dsh_pay (dh : FVec Ideal S256x1024 .f32) (j : Fin 1024) :
    k1_pay28 (F := Ideal) dh (ix2 0 j) = ∑ r, dh (ix2 r j) := by
  pointwise [k1_pay28]
theorem dgpre_pay (dh x1 : FVec Ideal S256x1024 .f32) (sc : FVec Ideal S1x1x1024 .f32) (j : Fin 1024) :
    k1_pay30 (F := Ideal) dh x1 (k1_pay23 (F := Ideal) sc) (k1_pay24 (F := Ideal) x1) (ix2 0 j)
      = ∑ r, dh (ix2 r j) * (1 + sc (ix3 0 0 j)) * (x1 (ix2 r j) * rr (fun k => x1 (ix2 r k))) := by
  simp only [rr, ms, width, eps]
  pointwise [k1_pay30, k1_pay29, k1_pay26, k1_pay25, k1_pay24, k1_pay23]

/-! ### The blocks and rows as the arrays' rows -/

theorem row1_0 (c : Dev nD) (t : Fin cfg1.N) (r : Fin 256) (k : Fin 1024) :
    iblk1 V c 0 t (ix2 r k) = dR V c (tok t.val t.isLt r) k := blk1_0 V c t r k
theorem row1_1 (c : Dev nD) (t : Fin cfg1.N) (r : Fin 256) (k : Fin 1024) :
    iblk1 V c 1 t (ix2 r k) = xR V c (tok t.val t.isLt r) k := blk1_1 V c t r k
theorem row1_2 (c : Dev nD) (t : Fin cfg1.N) (r : Fin 256) (k : Fin 1024) :
    iblk1 V c 2 t (ix2 r k) = yR V c (tok t.val t.isLt r) k := blk1_2 V c t r k
theorem row1_3 (c : Dev nD) (t : Fin cfg1.N) (r : Fin 256) (k : Fin 4096) :
    iblk1 V c 3 t (ix2 r k) = ruR V c (tok t.val t.isLt r) k := blk1_3 V c t r k
theorem ld_go (c : Dev nD) (t : Fin cfg1.N) (k : Fin 1024) :
    View.ld (iblk1 V c 5 t) (Rect.unit ![0, 8, 0] ![1, 1, 1024] inb_S1x16x1024_S1x1x1024_0_8_0) (ix3 0 0 k) = rowR V c 8 k := by
  have h := blk1_5 V c t 8 k
  generalize iblk1 V c 5 t = x at *
  pointwise []
  exact h
theorem ld_gt (c : Dev nD) (t : Fin cfg1.N) (k : Fin 1024) :
    View.ld (iblk1 V c 4 t) (Rect.unit ![0, 5, 0] ![1, 1, 1024] inb_S1x6x1024_S1x1x1024_0_5_0) (ix3 0 0 k) = modR V c 5 k := by
  have h := blk1_4 V c t 5 k
  generalize iblk1 V c 4 t = x at *
  pointwise []
  exact h
theorem ld_sc (c : Dev nD) (t : Fin cfg1.N) (k : Fin 1024) :
    View.ld (iblk1 V c 4 t) (Rect.unit ![0, 4, 0] ![1, 1, 1024] inb_S1x6x1024_S1x1x1024_0_4_0) (ix3 0 0 k) = modR V c 4 k := by
  have h := blk1_4 V c t 4 k
  generalize iblk1 V c 4 t = x at *
  pointwise []
  exact h
theorem ld_gp (c : Dev nD) (t : Fin cfg1.N) (k : Fin 1024) :
    View.ld (iblk1 V c 5 t) (Rect.unit ![0, 7, 0] ![1, 1, 1024] inb_S1x16x1024_S1x1x1024_0_7_0) (ix3 0 0 k) = rowR V c 7 k := by
  have h := blk1_5 V c t 7 k
  generalize iblk1 V c 5 t = x at *
  pointwise []
  exact h
theorem ld_w0 (c : Dev nD) (t : Fin cfg1.N) (k : Fin 1024) (f : Fin 512) :
    View.ld (iblk1 V c 6 t) (Rect.unit ![0, 0, 0] ![1, 1024, 512] inb_S8x1024x512_S1x1024x512_0_0_0) (ix3 0 k f) = upR V c 0 k f := by
  have h := blk1_6 V c t 0 k f
  generalize iblk1 V c 6 t = x at *
  pointwise []
  exact h
theorem ld_w1 (c : Dev nD) (t : Fin cfg1.N) (k : Fin 1024) (f : Fin 512) :
    View.ld (iblk1 V c 6 t) (Rect.unit ![1, 0, 0] ![1, 1024, 512] inb_S8x1024x512_S1x1024x512_1_0_0) (ix3 0 k f) = upR V c 1 k f := by
  have h := blk1_6 V c t 1 k f
  generalize iblk1 V c 6 t = x at *
  pointwise []
  exact h
theorem ld_w2 (c : Dev nD) (t : Fin cfg1.N) (k : Fin 1024) (f : Fin 512) :
    View.ld (iblk1 V c 6 t) (Rect.unit ![2, 0, 0] ![1, 1024, 512] inb_S8x1024x512_S1x1024x512_2_0_0) (ix3 0 k f) = upR V c 2 k f := by
  have h := blk1_6 V c t 2 k f
  generalize iblk1 V c 6 t = x at *
  pointwise []
  exact h
theorem ld_w3 (c : Dev nD) (t : Fin cfg1.N) (k : Fin 1024) (f : Fin 512) :
    View.ld (iblk1 V c 6 t) (Rect.unit ![3, 0, 0] ![1, 1024, 512] inb_S8x1024x512_S1x1024x512_3_0_0) (ix3 0 k f) = upR V c 3 k f := by
  have h := blk1_6 V c t 3 k f
  generalize iblk1 V c 6 t = x at *
  pointwise []
  exact h
theorem ld_w4 (c : Dev nD) (t : Fin cfg1.N) (k : Fin 1024) (f : Fin 512) :
    View.ld (iblk1 V c 6 t) (Rect.unit ![4, 0, 0] ![1, 1024, 512] inb_S8x1024x512_S1x1024x512_4_0_0) (ix3 0 k f) = upR V c 4 k f := by
  have h := blk1_6 V c t 4 k f
  generalize iblk1 V c 6 t = x at *
  pointwise []
  exact h
theorem ld_w5 (c : Dev nD) (t : Fin cfg1.N) (k : Fin 1024) (f : Fin 512) :
    View.ld (iblk1 V c 6 t) (Rect.unit ![5, 0, 0] ![1, 1024, 512] inb_S8x1024x512_S1x1024x512_5_0_0) (ix3 0 k f) = upR V c 5 k f := by
  have h := blk1_6 V c t 5 k f
  generalize iblk1 V c 6 t = x at *
  pointwise []
  exact h
theorem ld_w6 (c : Dev nD) (t : Fin cfg1.N) (k : Fin 1024) (f : Fin 512) :
    View.ld (iblk1 V c 6 t) (Rect.unit ![6, 0, 0] ![1, 1024, 512] inb_S8x1024x512_S1x1024x512_6_0_0) (ix3 0 k f) = upR V c 6 k f := by
  have h := blk1_6 V c t 6 k f
  generalize iblk1 V c 6 t = x at *
  pointwise []
  exact h
theorem ld_w7 (c : Dev nD) (t : Fin cfg1.N) (k : Fin 1024) (f : Fin 512) :
    View.ld (iblk1 V c 6 t) (Rect.unit ![7, 0, 0] ![1, 1024, 512] inb_S8x1024x512_S1x1024x512_7_0_0) (ix3 0 k f) = upR V c 7 k f := by
  have h := blk1_6 V c t 7 k f
  generalize iblk1 V c 6 t = x at *
  pointwise []
  exact h

theorem dy_at (c : Dev nD) (t : Fin cfg1.N) (r : Fin 256) (j : Fin 1024) :
    k1_pay15 (F := Ideal) (k1_pay8 (iblk1 V c 2 t)) (k1_pay13 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay14 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (ix2 r j)
      = DY V c (tok t.val t.isLt r) j := by
  rw [dy_pay]
  simp only [row1_0, row1_2, ld_go, ld_gt]
  rfl
theorem dup_at (c : Dev nD) (t : Fin cfg1.N) (r : Fin 256) (f : Fin 4096) :
    k1_pay18 (k1_pay8 (iblk1 V c 2 t)) (k1_pay13 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay14 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t) (ix2 r f)
      = DUP V c (tok t.val t.isLt r) f := by
  rw [dup_pay]
  simp only [dy_at, row1_3, blk1_7]
  rfl
theorem dh_at (c : Dev nD) (t : Fin cfg1.N) (r : Fin 256) (j : Fin 1024) :
    k1_pay21 (k1_pay18 (k1_pay8 (iblk1 V c 2 t)) (k1_pay13 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay14 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t))
    (k1_pay19 (k1_pay8 (iblk1 V c 2 t)) (k1_pay13 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay14 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t)
      (View.ld (iblk1 V c 6 t) (Rect.unit ![0, 0, 0] ![1, 1024, 512] inb_S8x1024x512_S1x1024x512_0_0_0))
      (View.ld (iblk1 V c 6 t) (Rect.unit ![1, 0, 0] ![1, 1024, 512] inb_S8x1024x512_S1x1024x512_1_0_0))
      (View.ld (iblk1 V c 6 t) (Rect.unit ![2, 0, 0] ![1, 1024, 512] inb_S8x1024x512_S1x1024x512_2_0_0)))
    (k1_pay20 (k1_pay8 (iblk1 V c 2 t)) (k1_pay13 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay14 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t))
    (View.ld (iblk1 V c 6 t) (Rect.unit ![3, 0, 0] ![1, 1024, 512] inb_S8x1024x512_S1x1024x512_3_0_0))
    (View.ld (iblk1 V c 6 t) (Rect.unit ![4, 0, 0] ![1, 1024, 512] inb_S8x1024x512_S1x1024x512_4_0_0))
    (View.ld (iblk1 V c 6 t) (Rect.unit ![5, 0, 0] ![1, 1024, 512] inb_S8x1024x512_S1x1024x512_5_0_0))
    (View.ld (iblk1 V c 6 t) (Rect.unit ![6, 0, 0] ![1, 1024, 512] inb_S8x1024x512_S1x1024x512_6_0_0))
    (View.ld (iblk1 V c 6 t) (Rect.unit ![7, 0, 0] ![1, 1024, 512] inb_S8x1024x512_S1x1024x512_7_0_0)) (ix2 r j)
      = DH V c (tok t.val t.isLt r) j := by
  rw [dh_pay _ _ _ _ _ _ _ _ _ _ _ _ _ (upR V c) (ld_w0 V c t) (ld_w1 V c t) (ld_w2 V c t) (ld_w3 V c t) (ld_w4 V c t) (ld_w5 V c t)
    (ld_w6 V c t) (ld_w7 V c t)]
  simp only [dup_at]
  rfl

theorem dy_blk (c : Dev nD) (t : Fin cfg1.N) (r : Fin 256) (j : Fin 1024) :
    (outsAt1 V c t.val t.isLt).2.1 (ix2 r j) = DY V c (tok t.val t.isLt r) j := by
  by_cases h : t.val % 16 = 0
  · rw [outsAt1_A V c t h]
    frame_out
    exact dy_at V c t r j
  · rw [outsAt1_B V c t h]
    frame_out
    exact dy_at V c t r j

theorem dup_blk (c : Dev nD) (t : Fin cfg1.N) (r : Fin 256) (j : Fin 4096) :
    (outsAt1 V c t.val t.isLt).2.2.1 (ix2 r j) = DUP V c (tok t.val t.isLt r) j := by
  by_cases h : t.val % 16 = 0
  · rw [outsAt1_A V c t h]
    frame_out
    exact dup_at V c t r j
  · rw [outsAt1_B V c t h]
    frame_out
    exact dup_at V c t r j

theorem act_blk (c : Dev nD) (t : Fin cfg1.N) (r : Fin 256) (j : Fin 4096) :
    (outsAt1 V c t.val t.isLt).2.2.2.1 (ix2 r j) = ACT V c (tok t.val t.isLt r) j := by
  by_cases h : t.val % 16 = 0
  · rw [outsAt1_A V c t h]
    frame_out
    rw [act_pay, row1_3]
    rfl
  · rw [outsAt1_B V c t h]
    frame_out
    rw [act_pay, row1_3]
    rfl

theorem dx_of (c : Dev nD) (t : Fin cfg1.N) (dh : FVec Ideal S256x1024 .f32)
    (hd : ∀ (r : Fin 256) (j : Fin 1024), dh (ix2 r j) = DH V c (tok t.val t.isLt r) j) (r : Fin 256) (j : Fin 1024) :
    k1_pay31 (F := Ideal) (iblk1 V c 0 t) dh (iblk1 V c 1 t) (k1_pay22 (View.ld (iblk1 V c 5 t) (Rect.unit ![0, 7, 0] ![1, 1, 1024] inb_S1x16x1024_S1x1x1024_0_7_0)))
      (k1_pay23 (View.ld (iblk1 V c 4 t) (Rect.unit ![0, 4, 0] ![1, 1, 1024] inb_S1x6x1024_S1x1x1024_0_4_0))) (k1_pay24 (iblk1 V c 1 t)) (ix2 r j) = DX V c (tok t.val t.isLt r) j := by
  rw [dx_pay]
  simp only [hd, row1_0, row1_1, ld_sc, ld_gp]
  rfl
theorem dx_blk (c : Dev nD) (t : Fin cfg1.N) (r : Fin 256) (j : Fin 1024) :
    (outsAt1 V c t.val t.isLt).1 (ix2 r j) = DX V c (tok t.val t.isLt r) j := by
  by_cases h : t.val % 16 = 0
  · rw [outsAt1_A V c t h]
    frame_out
    exact dx_of V c t _ (dh_at V c t) r j
  · rw [outsAt1_B V c t h]
    frame_out
    exact dx_of V c t _ (dh_at V c t) r j

theorem emb1_9 (t : Fin cfg1.N) (r : Fin 256) (j : Fin 1024) :
    ((win1_9.blk t).view.emb (ix2 r j) : S4096x1024.Idx) = ix2 (tok t.val t.isLt r) j := by
  blk_ext [idx1_9 t, tok]
theorem dy_arr (c : Dev nD) : (dat1 V c).arrAt 9 cfg1.N = fun i => DY V c (i 0) (i 1) := by
  refine (dat1 V c).arrAt_eq_of_covers 9 _ (by decide +kernel) fun t hf y => ?_
  blk_simp
  rw [after1_9]
  obtain ⟨r, j, rfl⟩ : ∃ (r : Fin 256) (j : Fin 1024), y = ix2 r j := ⟨y 0, y 1, by funext a; fin_cases a <;> rfl⟩
  rw [dy_blk, emb1_9]
  rfl

theorem emb1_10 (t : Fin cfg1.N) (r : Fin 256) (j : Fin 4096) :
    ((win1_10.blk t).view.emb (ix2 r j) : S4096x4096.Idx) = ix2 (tok t.val t.isLt r) j := by
  blk_ext [idx1_10 t, tok]
theorem dup_arr (c : Dev nD) : (dat1 V c).arrAt 10 cfg1.N = fun i => DUP V c (i 0) (i 1) := by
  refine (dat1 V c).arrAt_eq_of_covers 10 _ (by decide +kernel) fun t hf y => ?_
  blk_simp
  rw [after1_10]
  obtain ⟨r, j, rfl⟩ : ∃ (r : Fin 256) (j : Fin 4096), y = ix2 r j := ⟨y 0, y 1, by funext a; fin_cases a <;> rfl⟩
  rw [dup_blk, emb1_10]
  rfl

theorem emb1_11 (t : Fin cfg1.N) (r : Fin 256) (j : Fin 4096) :
    ((win1_11.blk t).view.emb (ix2 r j) : S4096x4096.Idx) = ix2 (tok t.val t.isLt r) j := by
  blk_ext [idx1_11 t, tok]
theorem act_arr (c : Dev nD) : (dat1 V c).arrAt 11 cfg1.N = fun i => ACT V c (i 0) (i 1) := by
  refine (dat1 V c).arrAt_eq_of_covers 11 _ (by decide +kernel) fun t hf y => ?_
  blk_simp
  rw [after1_11]
  obtain ⟨r, j, rfl⟩ : ∃ (r : Fin 256) (j : Fin 4096), y = ix2 r j := ⟨y 0, y 1, by funext a; fin_cases a <;> rfl⟩
  rw [act_blk, emb1_11]
  rfl

theorem emb1_8 (t : Fin cfg1.N) (r : Fin 256) (j : Fin 1024) :
    ((win1_8.blk t).view.emb (ix2 r j) : S4096x1024.Idx) = ix2 (tok t.val t.isLt r) j := by
  blk_ext [idx1_8 t, tok]
theorem dx_arr (c : Dev nD) : (dat1 V c).arrAt 8 cfg1.N = fun i => DX V c (i 0) (i 1) := by
  refine (dat1 V c).arrAt_eq_of_covers 8 _ (by decide +kernel) fun t hf y => ?_
  blk_simp
  rw [after1_8]
  obtain ⟨r, j, rfl⟩ : ∃ (r : Fin 256) (j : Fin 1024), y = ix2 r j := ⟨y 0, y 1, by funext a; fin_cases a <;> rfl⟩
  rw [dx_blk, emb1_8]
  rfl

/-! ### The row sums, gathered over the tiles -/

theorem canon_row_hit (o : ℕ) (ho : o < 8) (inb) (w : S1x1024.Idx → Elt Ideal .f32) (L) (j : Fin 1024) :
    View.canon (Val := Elt Ideal) (s := S8x1024) (e := .f32) (⟨Rect.unit (s := S8x1024) ![o, 0] ![1, 1024] inb, w⟩ :: L)
      (ix2 (⟨o, ho⟩ : Fin 8) j) = w (ix2 0 j) := by
  have e : (ix2 (⟨o, ho⟩ : Fin 8) j : S8x1024.Idx) = (Rect.unit (s := S8x1024) ![o, 0] ![1, 1024] inb).emb (ix2 0 j) := by
    funext a
    fin_cases a
    · exact Fin.ext (show o = o + 1 * 0 by omega)
    · exact Fin.ext (show (j : ℕ) = 0 + 1 * (j : ℕ) by omega)
  rw [e]
  exact View.canon_cons_emb (Rect.unit (s := S8x1024) ![o, 0] ![1, 1024] inb) w L _
theorem canon_row_miss (o : ℕ) (inb) (w : S1x1024.Idx → Elt Ideal .f32) (L) (q : Fin 8) (hq : (q : ℕ) ≠ o) (j : Fin 1024) :
    View.canon (Val := Elt Ideal) (s := S8x1024) (e := .f32) (⟨Rect.unit (s := S8x1024) ![o, 0] ![1, 1024] inb, w⟩ :: L)
      (ix2 q j) = View.canon L (ix2 q j) := by
  refine View.canon_cons_of_not_mem _ _ fun h => hq ?_
  have h0 := (Rect.mem_set_unit (inb := inb).mp h) (0 : Fin 2)
  have h1 : o ≤ (q : ℕ) := h0.1
  have h2 : (q : ℕ) < o + 1 := h0.2
  omega
theorem pay5_zero (q : Fin 8) (j : Fin 1024) : k1_pay5 (F := Ideal) (ix2 q j) = 0 := by
  pointwise [k1_pay5]
theorem canon_all (inb) (w : S8x1024.Idx → Elt Ideal .f32) (q : Fin 8) (j : Fin 1024) :
    View.canon (Val := Elt Ideal) (s := S8x1024) (e := .f32) [⟨Rect.unit (s := S8x1024) ![0, 0] ![8, 1024] inb, w⟩]
      (ix2 q j) = w (ix2 q j) := by
  have e : (ix2 q j : S8x1024.Idx) = (Rect.unit (s := S8x1024) ![0, 0] ![8, 1024] inb).emb (ix2 q j) := by
    funext a
    fin_cases a
    · exact Fin.ext (show (q : ℕ) = 0 + 1 * (q : ℕ) by omega)
    · exact Fin.ext (show (j : ℕ) = 0 + 1 * (j : ℕ) by omega)
  exact (congrArg (View.canon (Val := Elt Ideal) (s := S8x1024) (e := .f32) [⟨Rect.unit (s := S8x1024) ![0, 0] ![8, 1024] inb, w⟩]) e).trans
    (View.canon_cons_emb (Rect.unit (s := S8x1024) ![0, 0] ![8, 1024] inb) w [] (ix2 q j))
theorem read_row_hit (v : View sig .tc .vmem S8x1024 .f32) (f) (o : ℕ) (ho : o < 8) (inb) (w : S1x1024.Idx → Elt Ideal .f32) (L) (j : Fin 1024) :
    v.read (Elt Ideal) (v.writes (Elt Ideal) f (⟨Rect.unit (s := S8x1024) ![o, 0] ![1, 1024] inb, w⟩ :: L))
      (ix2 (⟨o, ho⟩ : Fin 8) j) = w (ix2 0 j) :=
  View.read_writes_cons_rows_of_mem v f inb w L (ix2 (⟨o, ho⟩ : Fin 8) j) (ix2 0 j) rfl rfl rfl
theorem read_row_miss (v : View sig .tc .vmem S8x1024 .f32) (f) (o : ℕ) (inb) (w : S1x1024.Idx → Elt Ideal .f32) (L) (q : Fin 8) (hq : (q : ℕ) ≠ o) (j : Fin 1024) :
    v.read (Elt Ideal) (v.writes (Elt Ideal) f (⟨Rect.unit (s := S8x1024) ![o, 0] ![1, 1024] inb, w⟩ :: L)) (ix2 q j)
      = v.read (Elt Ideal) (v.writes (Elt Ideal) f L) (ix2 q j) :=
  View.read_writes_cons_rows_of_not_mem (W := 1) v f inb w L (ix2 q j) rfl rfl (by show (q : ℕ) < o ∨ o + 1 ≤ (q : ℕ); omega)
theorem ld_row (X : Vec Ideal S8x1024 .f32) (o : ℕ) (ho : o < 8) (inb) (j : Fin 1024) :
    View.ld X (Rect.unit (s := S8x1024) ![o, 0] ![1, 1024] inb) (ix2 0 j) = X (ix2 (⟨o, ho⟩ : Fin 8) j) := by
  pointwise []

theorem add_pay1 (a b : FVec Ideal S1x1024 .f32) (j : Fin 1024) : k1_pay1 (F := Ideal) a (k1_pay33 (F := Ideal) b) (ix2 0 j) = b (ix2 0 j) + a (ix2 0 j) := by
  pointwise [k1_pay1, k1_pay33]
theorem add_pay2 (a b : FVec Ideal S1x1024 .f32) (j : Fin 1024) : k1_pay2 (F := Ideal) a b (ix2 0 j) = b (ix2 0 j) + a (ix2 0 j) := by
  pointwise [k1_pay2]
theorem add_pay3 (a b : FVec Ideal S1x1024 .f32) (j : Fin 1024) : k1_pay3 (F := Ideal) a b (ix2 0 j) = b (ix2 0 j) + a (ix2 0 j) := by
  pointwise [k1_pay3]
theorem add_pay4 (a b : FVec Ideal S1x1024 .f32) (j : Fin 1024) : k1_pay4 (F := Ideal) a b (ix2 0 j) = b (ix2 0 j) + a (ix2 0 j) := by
  pointwise [k1_pay4]
theorem add_pay32 (a b : FVec Ideal S1x1024 .f32) (j : Fin 1024) : k1_pay32 (F := Ideal) a b (ix2 0 j) = b (ix2 0 j) + a (ix2 0 j) := by
  pointwise [k1_pay32]

/-- What token `i` adds to row `q` of the sums. -/
def SMT (c : Dev nD) (q : Fin 8) (i : Fin 4096) (j : Fin 1024) : EReal :=
  ![dR V c i j * (yR V c i j * rr (yR V c i) * rowR V c 8 j), dR V c i j * modR V c 5 j * (yR V c i j * rr (yR V c i)),
    DH V c i j * (xR V c i j * rr (xR V c i) * rowR V c 7 j), DH V c i j, DH V c i j * (1 + modR V c 4 j) * (xR V c i j * rr (xR V c i)),
    0, 0, 0] q
/-- What tile `t` adds to it. -/
def SMB (c : Dev nD) (q : Fin 8) (t : ℕ) (j : Fin 1024) : EReal :=
  if h : t < 16 then ∑ x : Fin 256, SMT V c q ⟨t * 256 + x, by omega⟩ j else 0
theorem smb_of (c : Dev nD) (q : Fin 8) (t : Fin cfg1.N) (j : Fin 1024) (g : Fin 256 → EReal)
    (h : ∀ r, g r = SMT V c q (tok t.val t.isLt r) j) : ∑ r, g r = SMB V c q t.val j := by
  rw [SMB, dif_pos (show t.val < 16 from t.isLt)]
  exact Finset.sum_congr rfl fun r _ => h r

theorem dgt_of (c : Dev nD) (t : Fin cfg1.N) (j : Fin 1024) :
    k1_pay10 (F := Ideal) (iblk1 V c 0 t) (iblk1 V c 2 t) (View.ld (iblk1 V c 5 t) (Rect.unit ![0, 8, 0] ![1, 1, 1024] inb_S1x16x1024_S1x1x1024_0_8_0)) (ix2 0 j)
      = SMB V c 0 t.val j := by
  rw [dgt_pay]
  refine smb_of V c 0 t j _ fun r => ?_
  simp only [row1_0, row1_2, ld_go]
  rfl
theorem dgpost_of (c : Dev nD) (t : Fin cfg1.N) (j : Fin 1024) :
    k1_pay12 (F := Ideal) (iblk1 V c 0 t) (iblk1 V c 2 t) (View.ld (iblk1 V c 4 t) (Rect.unit ![0, 5, 0] ![1, 1, 1024] inb_S1x6x1024_S1x1x1024_0_5_0)) (ix2 0 j)
      = SMB V c 1 t.val j := by
  rw [dgpost_pay]
  refine smb_of V c 1 t j _ fun r => ?_
  simp only [row1_0, row1_2, ld_gt]
  rfl
theorem dsc_of (c : Dev nD) (t : Fin cfg1.N) (dh : FVec Ideal S256x1024 .f32)
    (hd : ∀ (r : Fin 256) (j : Fin 1024), dh (ix2 r j) = DH V c (tok t.val t.isLt r) j) (j : Fin 1024) :
    k1_pay27 (F := Ideal) dh (iblk1 V c 1 t) (k1_pay22 (View.ld (iblk1 V c 5 t) (Rect.unit ![0, 7, 0] ![1, 1, 1024] inb_S1x16x1024_S1x1x1024_0_7_0))) (k1_pay24 (iblk1 V c 1 t)) (ix2 0 j)
      = SMB V c 2 t.val j := by
  rw [dsc_pay]
  refine smb_of V c 2 t j _ fun r => ?_
  simp only [hd, row1_1, ld_gp]
  rfl
theorem dsh_of (c : Dev nD) (t : Fin cfg1.N) (dh : FVec Ideal S256x1024 .f32)
    (hd : ∀ (r : Fin 256) (j : Fin 1024), dh (ix2 r j) = DH V c (tok t.val t.isLt r) j) (j : Fin 1024) :
    k1_pay28 (F := Ideal) dh (ix2 0 j)
      = SMB V c 3 t.val j := by
  rw [dsh_pay]
  refine smb_of V c 3 t j _ fun r => ?_
  simp only [hd]
  rfl
theorem dgpre_of (c : Dev nD) (t : Fin cfg1.N) (dh : FVec Ideal S256x1024 .f32)
    (hd : ∀ (r : Fin 256) (j : Fin 1024), dh (ix2 r j) = DH V c (tok t.val t.isLt r) j) (j : Fin 1024) :
    k1_pay30 (F := Ideal) dh (iblk1 V c 1 t) (k1_pay23 (View.ld (iblk1 V c 4 t) (Rect.unit ![0, 4, 0] ![1, 1, 1024] inb_S1x6x1024_S1x1x1024_0_4_0))) (k1_pay24 (iblk1 V c 1 t)) (ix2 0 j)
      = SMB V c 4 t.val j := by
  rw [dgpre_pay]
  refine smb_of V c 4 t j _ fun r => ?_
  simp only [hd, row1_1, ld_sc]
  rfl
theorem smb_rest (c : Dev nD) (q : Fin 8) (h4 : q ≠ 4) (h3 : q ≠ 3) (h2 : q ≠ 2) (h1 : q ≠ 1) (h0 : q ≠ 0) (t : Fin cfg1.N) (j : Fin 1024) :
    SMB V c q t.val j = 0 := by
  have n : ∀ o : Fin 8, q ≠ o → q.val ≠ o.val := fun o h e => h (Fin.ext e)
  have hq : q.val = 5 ∨ q.val = 6 ∨ q.val = 7 := by
    have := n 4 h4; have := n 3 h3; have := n 2 h2; have := n 1 h1; have := n 0 h0; have := q.isLt; omega
  obtain e | e | e := hq
  · obtain rfl : q = 5 := Fin.ext e
    rw [← smb_of V c 5 t j (fun _ => 0) (fun r => rfl)]; simp
  · obtain rfl : q = 6 := Fin.ext e
    rw [← smb_of V c 6 t j (fun _ => 0) (fun r => rfl)]; simp
  · obtain rfl : q = 7 := Fin.ext e
    rw [← smb_of V c 7 t j (fun _ => 0) (fun r => rfl)]; simp
theorem sm_A (c : Dev nD) (q : Fin 8) (t : Fin cfg1.N) (h : t.val % 16 = 0) (j : Fin 1024) :
    (outsAt1 V c t.val t.isLt).2.2.2.2 (ix2 q j) = 0 + SMB V c q t.val j := by
  rw [outsAt1_A V c t h]
  frame_open
  simp (disch := decide) only [↓ View.readCov_skip, ↓ View.readCov_cons_toLoadRect, ↓ View.readCov_fill]
  frame_out
  by_cases h4 : q = 4
  · subst h4
    refine (canon_row_hit 4 (by decide) _ _ _ j).trans ?_
    refine (add_pay4 _ _ j).trans (congrArg₂ (· + ·) ?_ (dgpre_of V c t _ (dh_at V c t) j))
    exact (ld_row _ 4 (by decide) _ j).trans (pay5_zero 4 j)
  rw [canon_row_miss 4 _ _ _ q fun e => h4 (Fin.ext e)]
  by_cases h3 : q = 3
  · subst h3
    refine (canon_row_hit 3 (by decide) _ _ _ j).trans ?_
    refine (add_pay3 _ _ j).trans (congrArg₂ (· + ·) ?_ (dsh_of V c t _ (dh_at V c t) j))
    exact (ld_row _ 3 (by decide) _ j).trans (pay5_zero 3 j)
  rw [canon_row_miss 3 _ _ _ q fun e => h3 (Fin.ext e)]
  by_cases h2 : q = 2
  · subst h2
    refine (canon_row_hit 2 (by decide) _ _ _ j).trans ?_
    refine (add_pay2 _ _ j).trans (congrArg₂ (· + ·) ?_ (dsc_of V c t _ (dh_at V c t) j))
    exact (ld_row _ 2 (by decide) _ j).trans (pay5_zero 2 j)
  rw [canon_row_miss 2 _ _ _ q fun e => h2 (Fin.ext e)]
  by_cases h1 : q = 1
  · subst h1
    refine (canon_row_hit 1 (by decide) _ _ _ j).trans ?_
    refine (add_pay1 _ _ j).trans (congrArg₂ (· + ·) ?_ (dgpost_of V c t j))
    exact (ld_row _ 1 (by decide) _ j).trans (pay5_zero 1 j)
  rw [canon_row_miss 1 _ _ _ q fun e => h1 (Fin.ext e)]
  by_cases h0 : q = 0
  · subst h0
    refine (canon_row_hit 0 (by decide) _ _ _ j).trans ?_
    refine (add_pay32 _ _ j).trans (congrArg₂ (· + ·) ?_ (dgt_of V c t j))
    exact (ld_row _ 0 (by decide) _ j).trans (pay5_zero 0 j)
  rw [canon_row_miss 0 _ _ _ q fun e => h0 (Fin.ext e)]
  rw [smb_rest V c q h4 h3 h2 h1 h0 t j, add_zero]
  exact (canon_all _ _ _ _).trans (pay5_zero _ _)
theorem sm_B (c : Dev nD) (q : Fin 8) (t : Fin cfg1.N) (h : ¬t.val % 16 = 0) (j : Fin 1024) :
    (outsAt1 V c t.val t.isLt).2.2.2.2 (ix2 q j)
      = (outsAt1 V c (t.val - 1) (Nat.lt_of_le_of_lt (Nat.sub_le _ _) t.isLt)).2.2.2.2 (ix2 q j) + SMB V c q t.val j := by
  rw [outsAt1_B V c t h]
  frame_out
  by_cases h4 : q = 4
  · subst h4
    refine (read_row_hit _ _ 4 (by decide) _ _ _ j).trans ?_
    exact (add_pay4 _ _ j).trans (congrArg₂ (· + ·) (ld_row _ 4 (by decide) _ j) (dgpre_of V c t _ (dh_at V c t) j))
  rw [read_row_miss _ _ 4 _ _ _ q fun e => h4 (Fin.ext e)]
  by_cases h3 : q = 3
  · subst h3
    refine (read_row_hit _ _ 3 (by decide) _ _ _ j).trans ?_
    exact (add_pay3 _ _ j).trans (congrArg₂ (· + ·) (ld_row _ 3 (by decide) _ j) (dsh_of V c t _ (dh_at V c t) j))
  rw [read_row_miss _ _ 3 _ _ _ q fun e => h3 (Fin.ext e)]
  by_cases h2 : q = 2
  · subst h2
    refine (read_row_hit _ _ 2 (by decide) _ _ _ j).trans ?_
    exact (add_pay2 _ _ j).trans (congrArg₂ (· + ·) (ld_row _ 2 (by decide) _ j) (dsc_of V c t _ (dh_at V c t) j))
  rw [read_row_miss _ _ 2 _ _ _ q fun e => h2 (Fin.ext e)]
  by_cases h1 : q = 1
  · subst h1
    refine (read_row_hit _ _ 1 (by decide) _ _ _ j).trans ?_
    exact (add_pay1 _ _ j).trans (congrArg₂ (· + ·) (ld_row _ 1 (by decide) _ j) (dgpost_of V c t j))
  rw [read_row_miss _ _ 1 _ _ _ q fun e => h1 (Fin.ext e)]
  by_cases h0 : q = 0
  · subst h0
    refine (read_row_hit _ _ 0 (by decide) _ _ _ j).trans ?_
    exact (add_pay32 _ _ j).trans (congrArg₂ (· + ·) (ld_row _ 0 (by decide) _ j) (dgt_of V c t j))
  rw [read_row_miss _ _ 0 _ _ _ q fun e => h0 (Fin.ext e)]
  rw [smb_rest V c q h4 h3 h2 h1 h0 t j, add_zero]
  exact congrFun (Memref.IsWhole.read_unread _ _) _
theorem sm_last (c : Dev nD) (q : Fin 8) (t : Fin cfg1.N) (ht : t.val % 16 = 15) (j : Fin 1024) :
    (outsAt1 V c t.val t.isLt).2.2.2.2 (ix2 q j) = ∑ k, SMT V c q k j := by
  have h := Pipeline.eq_sum_of_reset_step_apply_of_mod (fun n hn j => (outsAt1 V c n hn).2.2.2.2 (ix2 q j)) 16 (fun _ => 0)
    (fun n j => SMB V c q n j) (fun t h j => sm_A V c q t h j) (fun t h j => sm_B V c q t h j) t ht j
  refine h.trans ?_
  have h16 : t.val / 16 = 0 := Nat.div_eq_of_lt t.isLt
  rw [sum16 fun k => SMT V c q k j, h16, zero_add]
  exact Finset.sum_congr rfl fun k _ => by rw [Nat.mul_zero, Nat.zero_add]; rfl
theorem flush12 : ∀ t : Fin cfg1.N, (cfg1.win 12).flush t = true → t.val % 16 = 15 := by decide +kernel
theorem idx1_12 : ∀ t : Fin cfg1.N, win1_12.index t = ![0, 0] := (by decide +kernel : ∀ t : Fin grid1.N, _)
theorem emb1_12 (t : Fin cfg1.N) (r : Fin 8) (j : Fin 1024) : ((win1_12.blk t).view.emb (ix2 r j) : S8x1024.Idx) = ix2 r j := by
  blk_ext [idx1_12 t]
theorem sm_arr (c : Dev nD) : (dat1 V c).arrAt 12 cfg1.N = fun i => ∑ k, SMT V c (i 0) k (i 1) := by
  refine (dat1 V c).arrAt_eq_of_covers 12 _ (by decide +kernel) fun t hf y => ?_
  blk_simp
  rw [after1_12]
  obtain ⟨r, j, rfl⟩ : ∃ (r : Fin 8) (j : Fin 1024), y = ix2 r j := ⟨y 0, y 1, by funext a; fin_cases a <;> rfl⟩
  rw [sm_last V c r t (flush12 t hf) j, emb1_12]
  rfl

end Cert.Kernel2Ideal.Mlp
-- ==== Proof.MlpGrad.lean ====
module

public import proofs.«01_k».proof.Proof.Gen.Kernel2Ideal.Frame
public import proofs.«01_k».proof.Proof.MlpBwd
public import Idealize.ShloMosaic.Lib.Pipeline.Value
public import Idealize.ShloMosaic.Lib.UnfoldOut
public import Idealize.ShloMosaic.Lib.Pipeline.ValueKit

@[expose] public section
set_option maxRecDepth 16384
noncomputable section
namespace Cert.Kernel2Ideal.Mlp
open Idealize.ShloMosaic Idealize.ShloMosaic.TcCoe Idealize.ShloMosaic.Tactic Idealize.ShloMosaic.Pointwise
open Cert.Kernel2Ideal.Gen Cert.Mlp
variable (V : (c : Dev nD) → (b : Ref sig .tc) → Buf (Elt Ideal) ((c : Thread nD τ).loc b))

theorem idx2_0 : ∀ t : Fin cfg2.N, win2_0.index t = ![0, 0] := (by decide +kernel : ∀ t : Fin grid2.N, _)

theorem idx2_1 : ∀ t : Fin cfg2.N, win2_1.index t = ![0, t.val] := (by decide +kernel : ∀ t : Fin grid2.N, _)

theorem idx2_2 : ∀ t : Fin cfg2.N, win2_2.index t = ![t.val, 0, 0] := (by decide +kernel : ∀ t : Fin grid2.N, _)

theorem idx3_0 : ∀ t : Fin cfg3.N, win3_0.index t = ![0, t.val] := (by decide +kernel : ∀ t : Fin grid3.N, _)

theorem idx3_1 : ∀ t : Fin cfg3.N, win3_1.index t = ![0, 0] := (by decide +kernel : ∀ t : Fin grid3.N, _)

theorem idx3_2 : ∀ t : Fin cfg3.N, win3_2.index t = ![t.val, 0, 0] := (by decide +kernel : ∀ t : Fin grid3.N, _)

theorem blk2_0 (c : Dev nD) (t : Fin cfg2.N) (s : Fin 4096) (k : Fin 1024) :
    iblk2 V c 0 t (ix2 s k) = (V c main_v0_3) (ix2 s k) := by
  blk_ext! [iblk2, idx2_0 t]
theorem blk2_1 (c : Dev nD) (t : Fin cfg2.N) (s : Fin 4096) (x : Fin 512) :
    iblk2 V c 1 t (ix2 s x) = (V c main_v1_2) (ix2 s (col t.val t.isLt x)) := by
  blk_ext! [iblk2, idx2_1 t, col]
theorem blk3_0 (c : Dev nD) (t : Fin cfg3.N) (s : Fin 4096) (x : Fin 512) :
    iblk3 V c 0 t (ix2 s x) = (V c main_v1_3) (ix2 s (col t.val t.isLt x)) := by
  blk_ext! [iblk3, idx3_0 t, col]
theorem blk3_1 (c : Dev nD) (t : Fin cfg3.N) (s : Fin 4096) (k : Fin 1024) :
    iblk3 V c 1 t (ix2 s k) = (V c main_v1_1) (ix2 s k) := by
  blk_ext! [iblk3, idx3_1 t]
theorem up_pay1 (a b : FVec Ideal S4096x512 .bf16) (r x : Fin 512) :
    k2_pay1 (F := Ideal) a b (ix3 0 r x) = ∑ s, a (ix2 s r) * b (ix2 s x) := by
  pointwise [k2_pay1]
theorem up_pay2 (a b : FVec Ideal S4096x512 .bf16) (r x : Fin 512) :
    k2_pay2 (F := Ideal) a b (ix3 0 r x) = ∑ s, a (ix2 s r) * b (ix2 s x) := by
  pointwise [k2_pay2]
theorem dn_pay1 (a : FVec Ideal S4096x512 .bf16) (b : FVec Ideal S4096x1024 .bf16) (x : Fin 512) (k : Fin 1024) :
    k3_pay1 (F := Ideal) a b (ix3 0 x k) = ∑ s, a (ix2 s x) * b (ix2 s k) := by
  pointwise [k3_pay1]
theorem ld_h0 (x : Vec Ideal S4096x1024 .bf16) (s : Fin 4096) (r : Fin 512) (inb) :
    View.ld x (Rect.unit (s := S4096x1024) ![0, 0] ![4096, 512] inb) (ix2 s r) = x (ix2 s ⟨r, by omega⟩) := by
  pointwise []
theorem ld_h1 (x : Vec Ideal S4096x1024 .bf16) (s : Fin 4096) (r : Fin 512) (inb) :
    View.ld x (Rect.unit (s := S4096x1024) ![0, 512] ![4096, 512] inb) (ix2 s r) = x (ix2 s ⟨512 + r, by omega⟩) := by
  pointwise []

def hR (c : Dev nD) (i : Fin 4096) (k : Fin 1024) : EReal := V c main_v0_3 (ix2 i k)
def dupR (c : Dev nD) (i : Fin 4096) (k : Fin 4096) : EReal := V c main_v1_2 (ix2 i k)
def actR (c : Dev nD) (i : Fin 4096) (k : Fin 4096) : EReal := V c main_v1_3 (ix2 i k)
def dyR (c : Dev nD) (i : Fin 4096) (k : Fin 1024) : EReal := V c main_v1_1 (ix2 i k)
/-- The gradients of the up and down products: column tile `q`, at row `r` and column `x` of it. -/
def GU (c : Dev nD) (q : Fin 8) (r : Fin 1024) (x : Fin 512) : EReal :=
  ∑ s, hR V c s r * dupR V c s (col q.val q.isLt x)
def GD (c : Dev nD) (q : Fin 8) (x : Fin 512) (k : Fin 1024) : EReal :=
  ∑ s, actR V c s (col q.val q.isLt x) * dyR V c s k

theorem gu_lo (c : Dev nD) (t : Fin cfg2.N) (r x : Fin 512) (inb) :
    k2_pay1 (F := Ideal) (View.ld (iblk2 V c 0 t) (Rect.unit (s := S4096x1024) ![0, 0] ![4096, 512] inb)) (iblk2 V c 1 t) (ix3 0 r x)
      = GU V c ⟨t.val, t.isLt⟩ ⟨r, by omega⟩ x := by
  rw [up_pay1]
  exact Finset.sum_congr rfl fun s _ => congrArg₂ (· * ·) ((ld_h0 _ s r _).trans (blk2_0 V c t s _)) (blk2_1 V c t s x)
theorem gu_hi (c : Dev nD) (t : Fin cfg2.N) (r x : Fin 512) (inb) :
    k2_pay2 (F := Ideal) (View.ld (iblk2 V c 0 t) (Rect.unit (s := S4096x1024) ![0, 512] ![4096, 512] inb)) (iblk2 V c 1 t) (ix3 0 r x)
      = GU V c ⟨t.val, t.isLt⟩ ⟨512 + r, by omega⟩ x := by
  rw [up_pay2]
  exact Finset.sum_congr rfl fun s _ => congrArg₂ (· * ·) ((ld_h1 _ s r _).trans (blk2_0 V c t s _)) (blk2_1 V c t s x)
theorem gu_blk (c : Dev nD) (t : Fin cfg2.N) (r : Fin 1024) (x : Fin 512) :
    (outsAt2 V c t) (ix3 0 r x) = GU V c ⟨t.val, t.isLt⟩ r x := by
  dsimp only [outsAt2]
  frame_out
  by_cases hr : (r : ℕ) < 512
  · have e : (ix3 0 r x : S1x1024x512.Idx) = (Rect.unit (s := S1x1024x512) ![0, 0, 0] ![1, 512, 512] inb_S1x1024x512_S1x512x512_0_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 512 ≤ (r : ℕ) := (Rect.mem_set_unit (inb := inb_S1x1024x512_S1x512x512_0_512_0).mp h (1 : Fin 3)).1
      omega
    · rw [e]
      exact (View.canon_cons_emb (Rect.unit (s := S1x1024x512) ![0, 0, 0] ![1, 512, 512] inb_S1x1024x512_S1x512x512_0_0_0) _ _ _).trans (gu_lo V c t ⟨r, hr⟩ x _)
  · have e : (ix3 0 r x : S1x1024x512.Idx) = (Rect.unit (s := S1x1024x512) ![0, 512, 0] ![1, 512, 512] inb_S1x1024x512_S1x512x512_0_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    rw [e]
    refine (View.canon_cons_emb (Rect.unit (s := S1x1024x512) ![0, 512, 0] ![1, 512, 512] inb_S1x1024x512_S1x512x512_0_512_0) _ _ _).trans ((gu_hi V c t ⟨r - 512, by omega⟩ x _).trans ?_)
    exact congrArg (fun r => GU V c ⟨t.val, t.isLt⟩ r x) (Fin.ext (show 512 + ((r : ℕ) - 512) = r by omega))
theorem gd_blk (c : Dev nD) (t : Fin cfg3.N) (x : Fin 512) (k : Fin 1024) :
    (outsAt3 V c t) (ix3 0 x k) = GD V c ⟨t.val, t.isLt⟩ x k := by
  dsimp only [outsAt3]
  frame_out
  rw [dn_pay1]
  simp only [blk3_0, blk3_1]
  rfl
theorem emb2_2 (t : Fin cfg2.N) (r : Fin 1024) (x : Fin 512) :
    ((win2_2.blk t).view.emb (ix3 0 r x) : S8x1024x512.Idx) = ix3 (⟨t.val, t.isLt⟩ : Fin 8) r x := by
  blk_ext [idx2_2 t]
theorem emb3_2 (t : Fin cfg3.N) (x : Fin 512) (k : Fin 1024) :
    ((win3_2.blk t).view.emb (ix3 0 x k) : S8x512x1024.Idx) = ix3 (⟨t.val, t.isLt⟩ : Fin 8) x k := by
  blk_ext [idx3_2 t]
theorem gu_arr (c : Dev nD) : (dat2 V c).arrAt 2 cfg2.N = fun i => GU V c (i 0) (i 1) (i 2) := by
  refine (dat2 V c).arrAt_eq_of_covers 2 _ (by decide +kernel) fun t hf y => ?_
  blk_simp
  rw [after2_2]
  obtain ⟨r, x, rfl⟩ : ∃ (r : Fin 1024) (x : Fin 512), y = ix3 0 r x := ⟨y 1, y 2, by funext a; fin_cases a; exact Subsingleton.elim (α := Fin 1) _ _; all_goals rfl⟩
  rw [gu_blk, emb2_2]
  rfl
theorem gd_arr (c : Dev nD) : (dat3 V c).arrAt 2 cfg3.N = fun i => GD V c (i 0) (i 1) (i 2) := by
  refine (dat3 V c).arrAt_eq_of_covers 2 _ (by decide +kernel) fun t hf y => ?_
  blk_simp
  rw [after3_2]
  obtain ⟨r, x, rfl⟩ : ∃ (r : Fin 512) (x : Fin 1024), y = ix3 0 r x := ⟨y 1, y 2, by funext a; fin_cases a; exact Subsingleton.elim (α := Fin 1) _ _; all_goals rfl⟩
  rw [gd_blk, emb3_2]
  rfl

end Cert.Kernel2Ideal.Mlp
-- ==== Proof.MlpRun.lean ====
module

public import proofs.«01_k».proof.Proof.Gen.Kernel2Ideal.Frame
public import proofs.«01_k».proof.Proof.MlpGrad
public import Idealize.ShloMosaic.Lib.Pipeline.Value
public import Idealize.ShloMosaic.Lib.UnfoldOut
public import Idealize.ShloMosaic.Lib.Pipeline.ValueKit

@[expose] public section
set_option maxRecDepth 16384
noncomputable section
namespace Cert.Kernel2Ideal.Mlp
open Idealize.ShloMosaic Idealize.ShloMosaic.TcCoe Idealize.ShloMosaic.Tactic Idealize.ShloMosaic.Pointwise
open Cert.Kernel2Ideal.Gen Cert.Mlp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The layer half's inputs as core `c` holds them at launch. -/
def inOf (c : Dev nD) : In where
  d i k := m ((c : Thread nD τ).loc main_arg0) (ix2 i k)
  x i k := m ((c : Thread nD τ).loc main_arg1) (ix2 i k)
  mod q k := m ((c : Thread nD τ).loc main_arg2) (ix3 0 q k)
  row q k := m ((c : Thread nD τ).loc main_arg3) (ix3 0 q k)
  up q k f := m ((c : Thread nD τ).loc main_arg4) (ix3 q k f)
  dn f k := m ((c : Thread nD τ).loc main_arg5) (ix2 f k)

/-! ### What each region finds -/

theorem dR_1 (c : Dev nD) : dR (V1 m ρ) c = (inOf m c).d := by
  funext i k
  exact congrFun (W1_args m ρ c main_arg0 (by decide)) (ix2 i k)
theorem xR_1 (c : Dev nD) : xR (V1 m ρ) c = (inOf m c).x := by
  funext i k
  exact congrFun (W1_args m ρ c main_arg1 (by decide)) (ix2 i k)
theorem modR_1 (c : Dev nD) : modR (V1 m ρ) c = (inOf m c).mod := by
  funext i k
  exact congrFun (W1_args m ρ c main_arg2 (by decide)) (ix3 0 i k)
theorem rowR_1 (c : Dev nD) : rowR (V1 m ρ) c = (inOf m c).row := by
  funext i k
  exact congrFun (W1_args m ρ c main_arg3 (by decide)) (ix3 0 i k)
theorem dnR_1 (c : Dev nD) : dnR (V1 m ρ) c = (inOf m c).dn := by
  funext i k
  exact congrFun (W1_args m ρ c main_arg5 (by decide)) (ix2 i k)
theorem upR_1 (c : Dev nD) : upR (V1 m ρ) c = (inOf m c).up := by
  funext i k f
  exact congrFun (W1_args m ρ c main_arg4 (by decide)) (ix3 i k f)
theorem yR_1 (c : Dev nD) : yR (V1 m ρ) c = (inOf m c).Y := by
  funext i k
  exact congrFun ((W1_arr m ρ c 7).trans (y2_arr (V0 m ρ) c)) (ix2 i k)
theorem ruR_1 (c : Dev nD) : ruR (V1 m ρ) c = (inOf m c).RU := by
  funext i k
  exact congrFun ((W1_arr m ρ c 6).trans (ru_arr (V0 m ρ) c)) (ix2 i k)
theorem DY_1 (c : Dev nD) : DY (V1 m ρ) c = (inOf m c).DY := by
  funext i
  unfold DY
  rw [yR_1, dR_1, modR_1, rowR_1]
  rfl
theorem DUP_1 (c : Dev nD) : DUP (V1 m ρ) c = (inOf m c).DUP := by
  funext i
  unfold DUP
  rw [DY_1, ruR_1, dnR_1]
  rfl
theorem DH_1 (c : Dev nD) : DH (V1 m ρ) c = (inOf m c).DH := by
  funext i
  unfold DH
  rw [DUP_1, upR_1]
  rfl
theorem DX_1 (c : Dev nD) : DX (V1 m ρ) c = (inOf m c).DX := by
  funext i
  unfold DX
  rw [dR_1, xR_1, DH_1, modR_1, rowR_1]
  rfl
theorem SMT_1 (c : Dev nD) : SMT (V1 m ρ) c = (inOf m c).SMT := by
  funext q i j
  unfold SMT
  rw [dR_1, xR_1, yR_1, DH_1, modR_1, rowR_1]
  rfl
theorem hR_2 (c : Dev nD) : hR (V2 m ρ) c = (inOf m c).H := by
  funext i k
  exact congrFun ((W2_of m ρ c main_v0_3 (by decide +kernel)).trans ((W1_arr m ρ c 8).trans (h2_arr (V0 m ρ) c))) (ix2 i k)
theorem dupR_2 (c : Dev nD) : dupR (V2 m ρ) c = (inOf m c).DUP := by
  rw [← DUP_1 m ρ c]
  funext i k
  exact congrFun ((W2_arr m ρ c 10).trans (dup_arr (V1 m ρ) c)) (ix2 i k)
theorem actR_3 (c : Dev nD) : actR (V3 m ρ) c = fun i f => (inOf m c).RU i f * (inOf m c).RU i f := by
  rw [← ruR_1 m ρ c]
  funext i k
  exact congrFun ((W3_of m ρ c main_v1_3 (by decide +kernel)).trans ((W2_arr m ρ c 11).trans (act_arr (V1 m ρ) c))) (ix2 i k)
theorem dyR_3 (c : Dev nD) : dyR (V3 m ρ) c = (inOf m c).DY := by
  rw [← DY_1 m ρ c]
  funext i k
  exact congrFun ((W3_of m ρ c main_v1_1 (by decide +kernel)).trans ((W2_arr m ρ c 9).trans (dy_arr (V1 m ρ) c))) (ix2 i k)

/-! ### The results at the end -/

theorem x2_end (c : Dev nD) : W4 m ρ c (Proc.devRef .tc main_v0_0) = fun i => (inOf m c).X2 (i 0) (i 1) :=
  (W4_of m ρ c main_v0_0 (by decide +kernel)).trans ((W3_of m ρ c main_v0_0 (by decide +kernel)).trans
    ((W2_of m ρ c main_v0_0 (by decide +kernel)).trans ((W1_arr m ρ c 5).trans (x2_arr (V0 m ρ) c))))
theorem dx1_end (c : Dev nD) : W4 m ρ c (Proc.devRef .tc main_v1_0) = fun i => (inOf m c).DX (i 0) (i 1) := by
  rw [← DX_1 m ρ c]
  exact (W4_of m ρ c main_v1_0 (by decide +kernel)).trans ((W3_of m ρ c main_v1_0 (by decide +kernel)).trans
    ((W2_arr m ρ c 8).trans (dx_arr (V1 m ρ) c)))
theorem sm_end (c : Dev nD) : W4 m ρ c (Proc.devRef .tc main_v1_4) = fun i => (inOf m c).SM (i 0) (i 1) := by
  unfold In.SM
  rw [← SMT_1 m ρ c]
  exact (W4_of m ρ c main_v1_4 (by decide +kernel)).trans ((W3_of m ρ c main_v1_4 (by decide +kernel)).trans
    ((W2_arr m ρ c 12).trans (sm_arr (V1 m ρ) c)))
theorem gup_end (c : Dev nD) : W4 m ρ c (Proc.devRef .tc main_v2) = fun i => (inOf m c).GU (i 0) (i 1) (i 2) := by
  refine (W4_of m ρ c main_v2 (by decide +kernel)).trans ((W3_arr m ρ c 2).trans ((gu_arr (V2 m ρ) c).trans ?_))
  unfold GU In.GU
  rw [hR_2, dupR_2]
theorem gdn_end (c : Dev nD) : W4 m ρ c (Proc.devRef .tc main_v3) = fun i => (inOf m c).GD (i 0) (i 1) (i 2) := by
  refine (W4_arr m ρ c 2).trans ((gd_arr (V3 m ρ) c).trans ?_)
  unfold GD In.GD
  rw [actR_3, dyR_3]

set_option backward.isDefEq.respectTransparency.types false in
/-- Every run of the kernel ends with the layer half's five results, its arguments as launched. -/
theorem run_value : θ_run defs (onTc (τ := τ) (main (F := Ideal))) ⟨m, fun _ => 0, ρ⟩ (fun r => ∀ c : Dev nD,
      r.2.mem ((c.tc : Thread nD τ).loc main_v0_0) = (fun i => (inOf m c).X2 (i 0) (i 1))
      ∧ r.2.mem ((c.tc : Thread nD τ).loc main_v1_0) = (fun i => (inOf m c).DX (i 0) (i 1))
      ∧ r.2.mem ((c.tc : Thread nD τ).loc main_v1_4) = (fun i => (inOf m c).SM (i 0) (i 1))
      ∧ r.2.mem ((c.tc : Thread nD τ).loc main_v2) = (fun i => (inOf m c).GU (i 0) (i 1) (i 2))
      ∧ r.2.mem ((c.tc : Thread nD τ).loc main_v3) = (fun i => (inOf m c).GD (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v0_0 (by decide))).trans (x2_end m ρ c),
       (h c _ (mem_uc main_v1_0 (by decide))).trans (dx1_end m ρ c),
       (h c _ (mem_uc main_v1_4 (by decide))).trans (sm_end m ρ c),
       (h c _ (mem_uc main_v2 (by decide))).trans (gup_end m ρ c),
       (h c _ (mem_uc main_v3 (by decide))).trans (gdn_end m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Kernel2Ideal.Mlp
-- ==== Proof.MlpAlg.lean ====
module

public import proofs.«01_k».proof.Proof.MlpSpec
public import Idealize.ShloMosaic.PureOps.Ideal

/-! The two forms of a norm's gradient agree over the extended reals, at every value of the rows. -/

@[expose] public section
noncomputable section
namespace Cert.Mlp
open Idealize.ShloMosaic

theorem width_eq : width = ((1024 : ℝ) : EReal) := by
  simp [width, Ideal.ofBits, Ideal.ieee, -EReal.coe_mul]; norm_num
theorem two_eq : two = ((2 : ℝ) : EReal) := by
  simp [two, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_pos : ∃ e : ℝ, 0 < e ∧ eps = (e : EReal) := by
  refine ⟨8796093 / 8796093022208, by norm_num, ?_⟩
  simp [eps, Ideal.ofBits, Ideal.ieee, -EReal.coe_mul]; norm_num

theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

theorem div_width (a : EReal) : Ideal.div a width = a * ((1 / 1024 : ℝ) : EReal) := by
  rw [width_eq, Ideal.div_coe (by norm_num)]

/-- The reciprocal root of a row's mean square plus epsilon is a nonnegative real, and over that sum it is its cube. -/
theorem rr_real (x : Fin 1024 → EReal) :
    ∃ r : ℝ, 0 ≤ r ∧ rr x = (r : EReal) ∧ Ideal.div (rr x) (ms x) = ((r * r * r : ℝ) : EReal) := by
  obtain ⟨e, he, hE⟩ := eps_pos
  have h0 : 0 ≤ Ideal.div (∑ k, x k * x k) width := by
    rw [div_width]
    exact mul_nonneg (Finset.sum_nonneg fun k _ => sq_nonneg' (x k)) (by exact_mod_cast (by norm_num : (0 : ℝ) ≤ 1 / 1024))
  have hm : ms x = Ideal.div (∑ k, x k * x k) width + (e : EReal) := by rw [ms, hE]
  generalize Ideal.div (∑ k, x k * x k) width = s at h0 hm
  unfold rr
  rw [hm]
  induction s with
  | bot => simp at h0
  | top =>
    refine ⟨0, le_refl _, ?_, ?_⟩
    · rw [EReal.top_add_coe, Ideal.rsqrt_top]; rfl
    · rw [EReal.top_add_coe, Ideal.rsqrt_top]
      simp [Ideal.div]
  | coe a =>
    have ha : 0 ≤ a := by exact_mod_cast h0
    have hp : 0 < a + e := by linarith
    have hr : Ideal.rsqrt ((a : EReal) + (e : EReal)) = (((Real.sqrt (a + e))⁻¹ : ℝ) : EReal) := by
      rw [← EReal.coe_add, Ideal.rsqrt_coe, if_neg (by linarith), if_neg (by linarith)]
    refine ⟨(Real.sqrt (a + e))⁻¹, by positivity, hr, ?_⟩
    rw [hr, ← EReal.coe_add, Ideal.div_coe hp.ne', ← EReal.coe_mul]
    congr 1
    have hs : Real.sqrt (a + e) * Real.sqrt (a + e) = a + e := Real.mul_self_sqrt hp.le
    rw [mul_assoc, ← mul_inv, hs, one_div]

theorem sum_mul_real (n : ℕ) (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih]
      exact (EReal.right_distrib_of_nonneg_of_ne_top (by exact_mod_cast hr) (EReal.coe_ne_top r) _ _).symm
  exact h _

theorem neg_add_self (a : EReal) : -a + -a = -(a + a) := by
  induction a with
  | bot => rfl
  | top => rfl
  | coe a => rw [← EReal.coe_add, ← EReal.coe_neg, ← EReal.coe_neg, ← EReal.coe_add]; congr 1; ring

/-- The gradient of `x · r(x)` along `dn` as differentiation writes it: through the root and through its argument. -/
def vjpBwd (x dn : Fin 1024 → EReal) (q : EReal) (j : Fin 1024) : EReal := dn j * rr x + x j * q + q * x j
def vjpQ (x dn : Fin 1024 → EReal) : EReal :=
  Ideal.div ((∑ k, x k * dn k) * (mhalf * Ideal.div (rr x) (ms x))) width

theorem vjp_eq (x dn : Fin 1024 → EReal) (j : Fin 1024) : vjpBwd x dn (vjpQ x dn) j = normBwd x dn j := by
  obtain ⟨r, h0, hr, hd⟩ := rr_real x
  have hT : ∑ k, dn k * (x k * (r : EReal)) = (∑ k, x k * dn k) * (r : EReal) := by
    rw [← sum_mul_real _ _ r h0]
    exact Finset.sum_congr rfl fun k _ => by rw [← mul_assoc, mul_comm (dn k)]
  unfold vjpBwd vjpQ normBwd
  rw [hd, div_width, div_width, hr, hT, mhalf_eq]
  generalize (∑ k, x k * dn k) = S
  generalize x j = X
  generalize dn j = D
  have hc : (0 : ℝ) ≤ r * r * r / 2048 := by positivity
  have e1 : X * (S * (((-(1 / 2) : ℝ) : EReal) * ((r * r * r : ℝ) : EReal)) * ((1 / 1024 : ℝ) : EReal))
      = -(X * S * ((r * r * r / 2048 : ℝ) : EReal)) := by
    rw [← EReal.coe_mul, mul_assoc S, ← EReal.coe_mul, ← mul_assoc, ← mul_neg, ← EReal.coe_neg]
    congr 2
    ring
  have e2 : (r : EReal) * (X * (r : EReal) * (S * (r : EReal) * ((1 / 1024 : ℝ) : EReal)))
      = X * S * ((r * r * r / 2048 : ℝ) : EReal) + X * S * ((r * r * r / 2048 : ℝ) : EReal) := by
    rw [← EReal.left_distrib_of_nonneg (by exact_mod_cast hc) (by exact_mod_cast hc), ← EReal.coe_add]
    have : (r : EReal) * (X * (r : EReal) * (S * (r : EReal) * ((1 / 1024 : ℝ) : EReal)))
        = X * S * ((r : EReal) * (r : EReal) * (r : EReal) * ((1 / 1024 : ℝ) : EReal)) := by ac_rfl
    rw [this, ← EReal.coe_mul, ← EReal.coe_mul, ← EReal.coe_mul]
    congr 2
    ring
  rw [mul_comm _ X, e1, add_assoc, neg_add_self, ← e2, sub_eq_add_neg,
    EReal.left_distrib_of_nonneg_of_ne_top (by exact_mod_cast h0) (EReal.coe_ne_top r), mul_neg, mul_comm D]

theorem relu_vjp (u g : EReal) : (if 0 < u then g * (two * max u 0) else 0) = g * (two * max u 0) := by
  split_ifs with h
  · rfl
  · rw [max_eq_right (not_lt.mp h), mul_zero, mul_zero]

end Cert.Mlp
-- ==== Proof.MlpRef.lean ====
module

public import proofs.«01_k».proof.Proof.Gen.Reference2Ideal.Run
public import proofs.«01_k».proof.Proof.MlpAlg
public import Idealize.ShloMosaic.Lib.Pointwise

/-! The reference's results over the extended reals, one row at a time. -/

@[expose] public section
set_option maxRecDepth 16384
noncomputable section
namespace Cert.Reference2Ideal.Mlp
open Idealize.ShloMosaic Idealize.ShloMosaic.TcCoe Idealize.ShloMosaic.Tactic Idealize.ShloMosaic.Pointwise
open Idealize.SL.Sem Cert.Reference2Ideal Cert.Reference2Ideal.Gen Cert.Reference2Ideal.Value Cert.Mlp Idealize.ShloMosaic.StableHlo
variable (V : Valuation τ sig (Elt Ideal))

theorem mul2 {a b c d : EReal} (h : a = b) (h' : c = d) : a * c = b * d := by rw [h, h']
theorem add2 {a b c d : EReal} (h : a = b) (h' : c = d) : a + c = b + d := by rw [h, h']
theorem sumE {n : ℕ} {f g : Fin n → EReal} (h : ∀ x, f x = g x) : ∑ x, f x = ∑ x, g x := Finset.sum_congr rfl fun x _ => h x
theorem relu2 {u u' s s' w w' : EReal} [Decidable (0 < u)] (hu : u = u') (hs : s = s') (hw : w = w') :
    (if 0 < u then s * (two * w) else 0) = if 0 < u' then s' * (two * w') else 0 := by
  subst hu hs hw
  congr

/-- The arguments as rows. -/
def inR : In where
  d i k := V (Proc.devRef .tc main_arg0) (ix2 i k)
  x i k := V (Proc.devRef .tc main_arg1) (ix2 i k)
  mod q k := V (Proc.devRef .tc main_arg2) (ix3 0 q k)
  row q k := V (Proc.devRef .tc main_arg3) (ix3 0 q k)
  up q k f := V (Proc.devRef .tc main_arg4) (ix3 q k f)
  dn f k := V (Proc.devRef .tc main_arg5) (ix2 f k)

theorem r2 (k : Fin 1024) (f : Fin 4096) : @Eq EReal (res_main_v2 V (ix2 k f)) (wcol (inR V).up k f) := by
  pointwise [res_main_v2]
  rfl

theorem r3 (k : Fin 1024) (f : Fin 4096) : @Eq EReal (res_main_v3 V (ix2 f k)) ((inR V).dn f k) := by
  pointwise [res_main_v3]
  rfl

theorem r9 (k : Fin 1024) : @Eq EReal (res_main_v9 V (ix2 0 k)) ((inR V).mod 5 k) := by
  pointwise [res_main_v9]
  rfl

theorem r11 (k : Fin 1024) : @Eq EReal (res_main_v11 V (ix2 0 k)) ((inR V).row 7 k) := by
  pointwise [res_main_v11]
  rfl

theorem r13 (k : Fin 1024) : @Eq EReal (res_main_v13 V (ix2 0 k)) ((inR V).row 8 k) := by
  pointwise [res_main_v13]
  rfl

theorem r30 (k : Fin 1024) : @Eq EReal (res_main_v30 V (ix2 0 k)) (1 + (inR V).mod 4 k) := by
  pointwise [res_main_v30]
  rfl

theorem r20 (i : Fin 4096) : @Eq EReal (res_main_v20 V (ix2 i 0)) (ms ((inR V).x i)) := by
  pointwise [res_main_v20]
  rfl

theorem r21 (i : Fin 4096) : @Eq EReal (res_main_v21 V (ix2 i 0)) (rr ((inR V).x i)) := by
  pointwise [res_main_v21]
  exact congrArg Ideal.rsqrt (r20 V i)

theorem r26 (i : Fin 4096) (k : Fin 1024) : @Eq EReal (res_main_v26 V (ix2 i k)) ((inR V).x i k * rr ((inR V).x i)) := by
  pointwise [res_main_v26]
  exact mul2 (rfl) (r21 V i)

theorem r28 (i : Fin 4096) (k : Fin 1024) : @Eq EReal (res_main_v28 V (ix2 i k)) ((inR V).x i k * rr ((inR V).x i) * (inR V).row 7 k) := by
  pointwise [res_main_v28]
  exact mul2 (r26 V i k) (r11 V k)

theorem r34 (i : Fin 4096) (k : Fin 1024) : @Eq EReal (res_main_v34 V (ix2 i k)) ((inR V).H i k) := by
  pointwise [res_main_v34]
  exact add2 (mul2 (r28 V i k) (r30 V k)) (rfl)

theorem r35 (i : Fin 4096) (k : Fin 4096) : @Eq EReal (res_main_v35 V (ix2 i k)) (uRow ((inR V).H i) (inR V).up k) := by
  pointwise [res_main_v35]
  exact sumE fun x => mul2 (r34 V i x) (r2 V x k)

theorem r36 (i : Fin 4096) (k : Fin 4096) : @Eq EReal (res_main_v36 V (ix2 i k)) ((inR V).RU i k) := by
  pointwise [res_main_v36]
  exact congrArg (fun u : EReal => max u 0) (r35 V i k)

theorem r40 (i : Fin 4096) (k : Fin 4096) : @Eq EReal (res_main_v40 V (ix2 i k)) ((inR V).RU i k * (inR V).RU i k) := by
  pointwise [res_main_v40]
  exact mul2 (r36 V i k) (r36 V i k)

theorem r43 (i : Fin 4096) (k : Fin 1024) : @Eq EReal (res_main_v43 V (ix2 i k)) ((inR V).Y i k) := by
  pointwise [res_main_v43]
  exact sumE fun x => mul2 (r40 V i x) (r3 V k x)

theorem r50 (i : Fin 4096) : @Eq EReal (res_main_v50 V (ix2 i 0)) (ms ((inR V).Y i)) := by
  pointwise [res_main_v50]
  exact congrArg (fun s : EReal => Ideal.div s width + eps) (sumE fun x => mul2 (r43 V i x) (r43 V i x))

theorem r51 (i : Fin 4096) : @Eq EReal (res_main_v51 V (ix2 i 0)) (rr ((inR V).Y i)) := by
  pointwise [res_main_v51]
  exact congrArg Ideal.rsqrt (r50 V i)

theorem r56 (i : Fin 4096) (k : Fin 1024) : @Eq EReal (res_main_v56 V (ix2 i k)) ((inR V).Y i k * rr ((inR V).Y i)) := by
  pointwise [res_main_v56]
  exact mul2 (r43 V i k) (r51 V i)

theorem r58 (i : Fin 4096) (k : Fin 1024) : @Eq EReal (res_main_v58 V (ix2 i k)) ((inR V).Y i k * rr ((inR V).Y i) * (inR V).row 8 k) := by
  pointwise [res_main_v58]
  exact mul2 (r56 V i k) (r13 V k)

theorem r62 (i : Fin 4096) (k : Fin 1024) : @Eq EReal (res_main_v62 V (ix2 i k)) ((inR V).d i k) := by
  pointwise [res_main_v62]
  rfl

theorem r64 (i : Fin 4096) (k : Fin 1024) : @Eq EReal (res_main_v64 V (ix2 i k)) ((inR V).mod 5 k * (inR V).d i k) := by
  pointwise [res_main_v64]
  exact mul2 (r9 V k) (r62 V i k)

theorem r72 (i : Fin 4096) (k : Fin 1024) : @Eq EReal (res_main_v72 V (ix2 i k)) ((inR V).mod 5 k * (inR V).d i k * (inR V).row 8 k) := by
  pointwise [res_main_v72]
  exact mul2 (r64 V i k) (r13 V k)

theorem r82 (i : Fin 4096) (k : Fin 1024) : @Eq EReal (res_main_v82 V (ix2 i k)) (vjpQ ((inR V).Y i) (fun k => (inR V).mod 5 k * (inR V).d i k * (inR V).row 8 k)) := by
  pointwise [res_main_v82]
  refine (Fin.sum_univ_one (M := EReal) _).trans (congrArg₂ (fun s t : EReal => Ideal.div (s * (mhalf * t)) width) ?_ ?_)
  · exact sumE fun x => mul2 (r43 V i x) (r72 V i x)
  · exact congrArg₂ Ideal.div (r51 V i) (r50 V i)

theorem r86 (i : Fin 4096) (k : Fin 1024) : @Eq EReal (res_main_v86 V (ix2 i k)) ((inR V).DY i k) := by
  pointwise [res_main_v86]
  refine (add2 (add2 (mul2 (r72 V i k) (r51 V i)) (mul2 (r43 V i k) (r82 V i k)))
    (mul2 (r82 V i k) (r43 V i k))).trans ?_
  refine (vjp_eq ((inR V).Y i) (fun k => (inR V).mod 5 k * (inR V).d i k * (inR V).row 8 k) k).trans ?_
  exact congrArg (fun f => normBwd ((inR V).Y i) f k) (funext fun k => mul2 (mul_comm _ _) rfl)

theorem r92 (i : Fin 4096) (k : Fin 4096) : @Eq EReal (res_main_v92 V (ix2 i k)) ((inR V).DUP i k) := by
  pointwise [res_main_v92]
  exact (relu2 (r35 V i k) (sumE fun x => mul2 (r86 V i x) (r3 V x k)) (r36 V i k)).trans (relu_vjp _ _)

theorem r95 (i : Fin 4096) (k : Fin 1024) : @Eq EReal (res_main_v95 V (ix2 i k)) ((inR V).DH i k) := by
  pointwise [res_main_v95]
  exact sumE fun x => mul2 (r92 V i x) (r2 V k x)

theorem r102 (i : Fin 4096) (k : Fin 1024) : @Eq EReal (res_main_v102 V (ix2 i k)) ((inR V).DH i k * (1 + (inR V).mod 4 k)) := by
  pointwise [res_main_v102]
  exact mul2 (r95 V i k) (r30 V k)

theorem r107 (i : Fin 4096) (k : Fin 1024) : @Eq EReal (res_main_v107 V (ix2 i k)) ((inR V).DH i k * (1 + (inR V).mod 4 k) * (inR V).row 7 k) := by
  pointwise [res_main_v107]
  exact mul2 (r102 V i k) (r11 V k)

theorem r118 (i : Fin 4096) (k : Fin 1024) : @Eq EReal (res_main_v118 V (ix2 i k)) (vjpQ ((inR V).x i) (fun k => (inR V).DH i k * (1 + (inR V).mod 4 k) * (inR V).row 7 k)) := by
  pointwise [res_main_v118]
  refine (Fin.sum_univ_one (M := EReal) _).trans (congrArg₂ (fun s t : EReal => Ideal.div (s * (mhalf * t)) width) ?_ ?_)
  · exact sumE fun x => mul2 (rfl) (r107 V i x)
  · exact congrArg₂ Ideal.div (r21 V i) (r20 V i)

theorem out0 : (addf (V (Proc.devRef .tc main_arg1)) (mulf (broadcastInDim S4096x1024 ![0, 1] bcast_S1x1024_S4096x1024_0_1 (res_main_v9 V)) (res_main_v58 V)) : (⟨S4096x1024, .f32⟩ : BufTy).Contents (Elt Ideal)) = (fun i => (inR V).X2 (i 0) (i 1)) := by
  funext i
  obtain ⟨i, k, rfl⟩ : ∃ a b, i = ix2 a b := ⟨i 0, i 1, eq_ix2 i⟩
  pointwise []
  exact add2 rfl (mul2 (r9 V k) (r58 V i k))

theorem out1 : (addf (addf (addf (V (Proc.devRef .tc main_arg0)) (mulf (res_main_v107 V) (broadcastInDim S4096x1024 ![0, 1] bcast_S4096x1_S4096x1024_0_1 (res_main_v21 V)))) (mulf (V (Proc.devRef .tc main_arg1)) (res_main_v118 V))) (mulf (res_main_v118 V) (V (Proc.devRef .tc main_arg1))) : (⟨S4096x1024, .f32⟩ : BufTy).Contents (Elt Ideal)) = (fun i => (inR V).DX (i 0) (i 1)) := by
  funext i
  obtain ⟨i, k, rfl⟩ : ∃ a b, i = ix2 a b := ⟨i 0, i 1, eq_ix2 i⟩
  pointwise []
  refine (add2 (add2 (add2 rfl (mul2 (r107 V i k) (r21 V i)))
    (mul2 rfl (r118 V i k))) (mul2 (r118 V i k) rfl)).trans ?_
  refine ((add2 (add_assoc (G := EReal) _ _ _) rfl).trans (add_assoc (G := EReal) _ _ _)).trans (add2 rfl ?_)
  exact vjp_eq ((inR V).x i) (fun k => (inR V).DH i k * (1 + (inR V).mod 4 k) * (inR V).row 7 k) k

theorem out2 : ((concatenate S8x1024 0 [⟨S1x1024, ((shapeCast _ (Host.reduceAdd (mulf (res_main_v62 V) (res_main_v58 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v56 V) (res_main_v64 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v28 V) (res_main_v95 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (res_main_v95 V) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v26 V) (res_main_v102 V)) (constant (F := Ideal) S_ .f32 0x00000000#32) reducesTo_S4096x1024_S1024_d0 h_S_) shapeCasts_S1024_S1x1024) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩] concatenates_S1x1024_S1x1024_S1x1024_S1x1024_S1x1024_S3x1024_S8x1024_d0 : (⟨S8x1024, .f32⟩ : BufTy).Contents (Elt Ideal)) : (⟨S8x1024, .f32⟩ : BufTy).Contents (Elt Ideal)) = (fun i => (inR V).SM (i 0) (i 1)) := by
  funext i
  obtain ⟨q, k, rfl⟩ : ∃ a b, i = ix2 a b := ⟨i 0, i 1, eq_ix2 i⟩
  pointwise []
  fin_cases q
  · exact sumE fun s => mul2 (r62 V s k) (r58 V s k)
  · exact sumE fun s => (mul2 (r56 V s k) (r64 V s k)).trans ((mul_comm _ _).trans (mul2 (mul_comm _ _) rfl))
  · exact sumE fun s => (mul2 (r28 V s k) (r95 V s k)).trans (mul_comm _ _)
  · exact sumE fun s => r95 V s k
  · exact sumE fun s => (mul2 (r26 V s k) (r102 V s k)).trans (mul_comm _ _)
  all_goals exact (Finset.sum_const_zero (M := EReal)).symm

theorem out3 : (truncf .bf16 (transpose S8x1024x512 [1, 0, 2] (shapeCast _ (transpose S1024x4096 [1, 0] (Host.dotGeneral (φ₂ := .f32) dot_S4096x4096_S4096x1024_S4096x1024_0_0_1_1_n_n none (res_main_v92 V) (res_main_v34 V)) transposes_S4096x1024_S1024x4096_1_0) shapeCasts_S1024x4096_S1024x8x512) transposes_S1024x8x512_S8x1024x512_1_0_2) bitsLt_bf16_f32 : (⟨S8x1024x512, .bf16⟩ : BufTy).Contents (Elt Ideal)) = (fun i => (inR V).GU (i 0) (i 1) (i 2)) := by
  funext i
  obtain ⟨q, r, x, rfl⟩ : ∃ a b c, i = ix3 a b c := ⟨i 0, i 1, i 2, eq_ix3 i⟩
  pointwise []
  exact sumE fun s => (mul2 (r92 V s _) (r34 V s r)).trans (mul_comm _ _)

theorem out4 : (truncf .bf16 (shapeCast _ (transpose S4096x1024 [1, 0] (Host.dotGeneral (φ₂ := .f32) dot_S4096x1024_S4096x4096_S1024x4096_0_0_1_1_n_n none (res_main_v86 V) (res_main_v40 V)) transposes_S1024x4096_S4096x1024_1_0) shapeCasts_S4096x1024_S8x512x1024) bitsLt_bf16_f32 : (⟨S8x512x1024, .bf16⟩ : BufTy).Contents (Elt Ideal)) = (fun i => (inR V).GD (i 0) (i 1) (i 2)) := by
  funext i
  obtain ⟨q, x, k, rfl⟩ : ∃ a b c, i = ix3 a b c := ⟨i 0, i 1, i 2, eq_ix3 i⟩
  pointwise []
  exact sumE fun s => (mul2 (r86 V s k) (r40 V s _)).trans (mul_comm _ _)

variable (m : (ℓ : Loc nD τ sig) → Buf (Elt Ideal) ℓ) (ρ : Dev nD → PrngReg)

/-- Every terminating run of the reference leaves its five results and its arguments unchanged. -/
theorem run_value : θ_run defs (onTc (τ := τ) (main (F := Ideal))) ⟨m, fun _ => 0, ρ⟩ (fun r => ∀ c : Dev nD,
      r.2.mem ((c.tc : Thread nD τ).loc main_v61) = (fun i => (inR (launchContents m c)).X2 (i 0) (i 1))
      ∧ r.2.mem ((c.tc : Thread nD τ).loc main_v122) = (fun i => (inR (launchContents m c)).DX (i 0) (i 1))
      ∧ r.2.mem ((c.tc : Thread nD τ).loc main_v124) = (fun i => (inR (launchContents m c)).SM (i 0) (i 1))
      ∧ r.2.mem ((c.tc : Thread nD τ).loc main_v127) = (fun i => (inR (launchContents m c)).GU (i 0) (i 1) (i 2))
      ∧ r.2.mem ((c.tc : Thread nD τ).loc main_v129) = (fun i => (inR (launchContents m c)).GD (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h0, h1, h2, h3, h4, ha⟩ := h c
    exact ⟨h0.trans (out0 _), h1.trans (out1 _), h2.trans (out2 _), h3.trans (out3 _), h4.trans (out4 _), ha⟩) (run m ρ)

end Cert.Reference2Ideal.Mlp
-- ==== Proof.InSpec.lean ====
module

public import proofs.«01_k».proof.Proof.MlpSpec

/-! The in-projection's and the three square projections' weight gradients over the extended reals. -/

@[expose] public section
noncomputable section
namespace Cert.InProj
open Idealize.ShloMosaic Cert.Mlp

/-- Column `x` of column tile `q` of the in-projection, and row `r` of row tile `q` of a square projection. -/
def wide (q : Fin 8) (x : Fin 896) : Fin 7168 := ⟨q * 896 + x, by omega⟩
def tall (q : Fin 8) (r : Fin 128) : Fin 1024 := ⟨q * 128 + r, by omega⟩
def half (q : Fin 2) (r : Fin 512) : Fin 1024 := ⟨q * 512 + r, by omega⟩

theorem mul2 {a b c d : EReal} (h : a = b) (h' : c = d) : a * c = b * d := by rw [h, h']
theorem sumE {n : ℕ} {f g : Fin n → EReal} (h : ∀ x, f x = g x) : ∑ x, f x = ∑ x, g x := Finset.sum_congr rfl fun x _ => h x

/-- The inputs: the in-projection's output gradient, the layer's input, its shift, scale and gain rows, and each
    square projection's left operand with its output gradient. -/
structure In where
  dp : Fin 4096 → Fin 7168 → EReal
  x : Fin 4096 → Fin 1024 → EReal
  sh : Fin 1024 → EReal
  sc : Fin 1024 → EReal
  g : Fin 1024 → EReal
  a : Fin 3 → Fin 4096 → Fin 1024 → EReal
  d : Fin 3 → Fin 4096 → Fin 1024 → EReal
namespace In
variable (I : In)
def H (i : Fin 4096) : Fin 1024 → EReal := hRow (I.x i) I.g I.sc I.sh
def GIN (q : Fin 8) (r : Fin 1024) (x : Fin 896) : EReal := ∑ s, I.H s r * I.dp s (wide q x)
def GSQ (p : Fin 3) (q : Fin 8) (r : Fin 128) (k : Fin 1024) : EReal := ∑ s, I.a p s (tall q r) * I.d p s k
end In

end Cert.InProj
-- ==== Proof.InAGrad.lean ====
module

public import proofs.«01_k».proof.Proof.Gen.Kernel3Ideal.Frame
public import proofs.«01_k».proof.Proof.InSpec
public import Idealize.ShloMosaic.Lib.Pipeline.Value
public import Idealize.ShloMosaic.Lib.UnfoldOut
public import Idealize.ShloMosaic.Lib.Pipeline.ValueKit
public import Idealize.ShloMosaic.Lib.Pointwise

@[expose] public section
set_option maxRecDepth 16384
noncomputable section
namespace Cert.Kernel3Ideal.InProj
open Idealize.ShloMosaic Idealize.ShloMosaic.TcCoe Idealize.ShloMosaic.Tactic Idealize.ShloMosaic.Pointwise
open Cert.Kernel3Ideal.Gen Cert.Mlp Cert.InProj
variable (V : (c : Dev nD) → (b : Ref sig .tc) → Buf (Elt Ideal) ((c : Thread nD τ).loc b))

/-! ### The three square projections: two row tiles of 512 each -/

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0, 0] := (by decide +kernel : ∀ t : Fin grid0.N, _)
theorem blk0_0 (c : Dev nD) (t : Fin cfg0.N) (s : Fin 4096) (r : Fin 512) :
    iblk0 V c 0 t (ix2 s r) = (V c main_arg5) (ix2 s (half ⟨t.val, t.isLt⟩ r)) := by
  blk_ext! [iblk0, idx0_0 t, half]
theorem blk0_1 (c : Dev nD) (t : Fin cfg0.N) (s : Fin 4096) (k : Fin 1024) :
    iblk0 V c 1 t (ix2 s k) = (V c main_arg6) (ix2 s k) := by
  blk_ext! [iblk0, idx0_1 t]
theorem pay0 (a : FVec Ideal S4096x512 .bf16) (b : FVec Ideal S4096x1024 .bf16) (r : Fin 512) (k : Fin 1024) :
    k0_pay1 (F := Ideal) a b (ix3 0 r k) = ∑ s, a (ix2 s r) * b (ix2 s k) := by
  pointwise [k0_pay1]
def L0 (c : Dev nD) (s : Fin 4096) (r : Fin 1024) : EReal := V c main_arg5 (ix2 s r)
def R0 (c : Dev nD) (s : Fin 4096) (k : Fin 1024) : EReal := V c main_arg6 (ix2 s k)
def G0 (c : Dev nD) (q : Fin 2) (r : Fin 512) (k : Fin 1024) : EReal := ∑ s, L0 V c s (half q r) * R0 V c s k
theorem out0 (c : Dev nD) (t : Fin cfg0.N) (r : Fin 512) (k : Fin 1024) :
    (outsAt0 V c t) (ix3 0 r k) = G0 V c ⟨t.val, t.isLt⟩ r k := by
  dsimp only [outsAt0]
  frame_out
  rw [pay0]
  simp only [blk0_0, blk0_1]
  rfl
theorem emb0_2 (t : Fin cfg0.N) (r : Fin 512) (k : Fin 1024) :
    ((win0_2.blk t).view.emb (ix3 0 r k) : S2x512x1024.Idx) = ix3 (⟨t.val, t.isLt⟩ : Fin 2) r k := by
  blk_ext [idx0_2 t]
theorem arr0 (c : Dev nD) : (dat0 V c).arrAt 2 cfg0.N = fun i => G0 V c (i 0) (i 1) (i 2) := by
  refine (dat0 V c).arrAt_eq_of_covers 2 _ (by decide +kernel) fun t hf y => ?_
  blk_simp
  rw [after0_2]
  obtain ⟨r, k, rfl⟩ : ∃ (r : Fin 512) (k : Fin 1024), y = ix3 0 r k := ⟨y 1, y 2, by funext a; fin_cases a; exact Subsingleton.elim (α := Fin 1) _ _; all_goals rfl⟩
  rw [out0, emb0_2]
  rfl

theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0, 0] := (by decide +kernel : ∀ t : Fin grid1.N, _)
theorem blk1_0 (c : Dev nD) (t : Fin cfg1.N) (s : Fin 4096) (r : Fin 512) :
    iblk1 V c 0 t (ix2 s r) = (V c main_arg7) (ix2 s (half ⟨t.val, t.isLt⟩ r)) := by
  blk_ext! [iblk1, idx1_0 t, half]
theorem blk1_1 (c : Dev nD) (t : Fin cfg1.N) (s : Fin 4096) (k : Fin 1024) :
    iblk1 V c 1 t (ix2 s k) = (V c main_arg8) (ix2 s k) := by
  blk_ext! [iblk1, idx1_1 t]
theorem pay1 (a : FVec Ideal S4096x512 .bf16) (b : FVec Ideal S4096x1024 .bf16) (r : Fin 512) (k : Fin 1024) :
    k1_pay1 (F := Ideal) a b (ix3 0 r k) = ∑ s, a (ix2 s r) * b (ix2 s k) := by
  pointwise [k1_pay1]
def L1 (c : Dev nD) (s : Fin 4096) (r : Fin 1024) : EReal := V c main_arg7 (ix2 s r)
def R1 (c : Dev nD) (s : Fin 4096) (k : Fin 1024) : EReal := V c main_arg8 (ix2 s k)
def G1 (c : Dev nD) (q : Fin 2) (r : Fin 512) (k : Fin 1024) : EReal := ∑ s, L1 V c s (half q r) * R1 V c s k
theorem out1 (c : Dev nD) (t : Fin cfg1.N) (r : Fin 512) (k : Fin 1024) :
    (outsAt1 V c t) (ix3 0 r k) = G1 V c ⟨t.val, t.isLt⟩ r k := by
  dsimp only [outsAt1]
  frame_out
  rw [pay1]
  simp only [blk1_0, blk1_1]
  rfl
theorem emb1_2 (t : Fin cfg1.N) (r : Fin 512) (k : Fin 1024) :
    ((win1_2.blk t).view.emb (ix3 0 r k) : S2x512x1024.Idx) = ix3 (⟨t.val, t.isLt⟩ : Fin 2) r k := by
  blk_ext [idx1_2 t]
theorem arr1 (c : Dev nD) : (dat1 V c).arrAt 2 cfg1.N = fun i => G1 V c (i 0) (i 1) (i 2) := by
  refine (dat1 V c).arrAt_eq_of_covers 2 _ (by decide +kernel) fun t hf y => ?_
  blk_simp
  rw [after1_2]
  obtain ⟨r, k, rfl⟩ : ∃ (r : Fin 512) (k : Fin 1024), y = ix3 0 r k := ⟨y 1, y 2, by funext a; fin_cases a; exact Subsingleton.elim (α := Fin 1) _ _; all_goals rfl⟩
  rw [out1, emb1_2]
  rfl

theorem idx2_0 : ∀ t : Fin cfg2.N, win2_0.index t = ![0, t.val] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val, 0, 0] := (by decide +kernel : ∀ t : Fin grid2.N, _)
theorem blk2_0 (c : Dev nD) (t : Fin cfg2.N) (s : Fin 4096) (r : Fin 512) :
    iblk2 V c 0 t (ix2 s r) = (V c main_arg9) (ix2 s (half ⟨t.val, t.isLt⟩ r)) := by
  blk_ext! [iblk2, idx2_0 t, half]
theorem blk2_1 (c : Dev nD) (t : Fin cfg2.N) (s : Fin 4096) (k : Fin 1024) :
    iblk2 V c 1 t (ix2 s k) = (V c main_arg10) (ix2 s k) := by
  blk_ext! [iblk2, idx2_1 t]
theorem pay2 (a : FVec Ideal S4096x512 .bf16) (b : FVec Ideal S4096x1024 .bf16) (r : Fin 512) (k : Fin 1024) :
    k2_pay1 (F := Ideal) a b (ix3 0 r k) = ∑ s, a (ix2 s r) * b (ix2 s k) := by
  pointwise [k2_pay1]
def L2 (c : Dev nD) (s : Fin 4096) (r : Fin 1024) : EReal := V c main_arg9 (ix2 s r)
def R2 (c : Dev nD) (s : Fin 4096) (k : Fin 1024) : EReal := V c main_arg10 (ix2 s k)
def G2 (c : Dev nD) (q : Fin 2) (r : Fin 512) (k : Fin 1024) : EReal := ∑ s, L2 V c s (half q r) * R2 V c s k
theorem out2 (c : Dev nD) (t : Fin cfg2.N) (r : Fin 512) (k : Fin 1024) :
    (outsAt2 V c t) (ix3 0 r k) = G2 V c ⟨t.val, t.isLt⟩ r k := by
  dsimp only [outsAt2]
  frame_out
  rw [pay2]
  simp only [blk2_0, blk2_1]
  rfl
theorem emb2_2 (t : Fin cfg2.N) (r : Fin 512) (k : Fin 1024) :
    ((win2_2.blk t).view.emb (ix3 0 r k) : S2x512x1024.Idx) = ix3 (⟨t.val, t.isLt⟩ : Fin 2) r k := by
  blk_ext [idx2_2 t]
theorem arr2 (c : Dev nD) : (dat2 V c).arrAt 2 cfg2.N = fun i => G2 V c (i 0) (i 1) (i 2) := by
  refine (dat2 V c).arrAt_eq_of_covers 2 _ (by decide +kernel) fun t hf y => ?_
  blk_simp
  rw [after2_2]
  obtain ⟨r, k, rfl⟩ : ∃ (r : Fin 512) (k : Fin 1024), y = ix3 0 r k := ⟨y 1, y 2, by funext a; fin_cases a; exact Subsingleton.elim (α := Fin 1) _ _; all_goals rfl⟩
  rw [out2, emb2_2]
  rfl

/-! ### The in-projection: four tiles, each two column tiles of 896 stored in two halves of 512 rows -/

theorem idx3_0 : ∀ t : Fin cfg3.N, win3_0.index t = ![0, 0] := (by decide +kernel : ∀ t : Fin grid3.N, _)
theorem idx3_1 : ∀ t : Fin cfg3.N, win3_1.index t = ![0, t.val] := (by decide +kernel : ∀ t : Fin grid3.N, _)
theorem idx3_2 : ∀ t : Fin cfg3.N, win3_2.index t = ![t.val, 0, 0] := (by decide +kernel : ∀ t : Fin grid3.N, _)
theorem blk3_0 (c : Dev nD) (t : Fin cfg3.N) (s : Fin 4096) (k : Fin 1024) :
    iblk3 V c 0 t (ix2 s k) = (V c main_v24) (ix2 s k) := by
  blk_ext! [iblk3, idx3_0 t]
theorem lt3 (t : Fin cfg3.N) : t.val < 4 := t.isLt
theorem blk3_1 (c : Dev nD) (t : Fin cfg3.N) (s : Fin 4096) (x : Fin 1792) :
    iblk3 V c 1 t (ix2 s x) = (V c main_arg0) (ix2 s ⟨t.val * 1792 + x, by have := lt3 t; omega⟩) := by
  blk_ext! [iblk3, idx3_1 t]
theorem pay3_2 (a : FVec Ideal S4096x512 .bf16) (b : FVec Ideal S4096x1792 .bf16) (r : Fin 512) (x : Fin 896) :
    k3_pay2 (F := Ideal) a b (ix3 0 r x) = ∑ s, a (ix2 s r) * b (ix2 s ⟨x, by omega⟩) := by
  pointwise [k3_pay2, k3_pay1]
theorem pay3_3 (a : FVec Ideal S4096x512 .bf16) (b : FVec Ideal S4096x1792 .bf16) (r : Fin 512) (x : Fin 896) :
    k3_pay3 (F := Ideal) a b (ix3 0 r x) = ∑ s, a (ix2 s r) * b (ix2 s ⟨896 + x, by omega⟩) := by
  pointwise [k3_pay3, k3_pay1]
theorem pay3_5 (a : FVec Ideal S4096x512 .bf16) (b : FVec Ideal S4096x1792 .bf16) (r : Fin 512) (x : Fin 896) :
    k3_pay5 (F := Ideal) a b (ix3 0 r x) = ∑ s, a (ix2 s r) * b (ix2 s ⟨x, by omega⟩) := by
  pointwise [k3_pay5, k3_pay4]
theorem pay3_6 (a : FVec Ideal S4096x512 .bf16) (b : FVec Ideal S4096x1792 .bf16) (r : Fin 512) (x : Fin 896) :
    k3_pay6 (F := Ideal) a b (ix3 0 r x) = ∑ s, a (ix2 s r) * b (ix2 s ⟨896 + x, by omega⟩) := by
  pointwise [k3_pay6, k3_pay4]
theorem ld_h0 (x : Vec Ideal S4096x1024 .bf16) (s : Fin 4096) (r : Fin 512) (inb) :
    View.ld x (Rect.unit (s := S4096x1024) ![0, 0] ![4096, 512] inb) (ix2 s r) = x (ix2 s ⟨r, by omega⟩) := by
  pointwise []
theorem ld_h1 (x : Vec Ideal S4096x1024 .bf16) (s : Fin 4096) (r : Fin 512) (inb) :
    View.ld x (Rect.unit (s := S4096x1024) ![0, 512] ![4096, 512] inb) (ix2 s r) = x (ix2 s ⟨512 + r, by omega⟩) := by
  pointwise []
def hR (c : Dev nD) (s : Fin 4096) (k : Fin 1024) : EReal := V c main_v24 (ix2 s k)
def dpR (c : Dev nD) (s : Fin 4096) (k : Fin 7168) : EReal := V c main_arg0 (ix2 s k)
def GI (c : Dev nD) (q : Fin 8) (r : Fin 1024) (x : Fin 896) : EReal := ∑ s, hR V c s r * dpR V c s (wide q x)
def pair (t : Fin cfg3.N) (b : Fin 2) : Fin 8 := ⟨t.val * 2 + b, by have := lt3 t; omega⟩
theorem dp_at (c : Dev nD) (t : Fin cfg3.N) (s : Fin 4096) (b : Fin 2) (x : Fin 896) (y : Fin 1792) (h : (y : ℕ) = b * 896 + x) :
    iblk3 V c 1 t (ix2 s y) = dpR V c s (wide (pair t b) x) := by
  rw [blk3_1]
  refine congrArg (fun k => V c main_arg0 (ix2 s k)) (Fin.ext ?_)
  show t.val * 1792 + (y : ℕ) = (t.val * 2 + b) * 896 + x
  omega
theorem gi_0 (c : Dev nD) (t : Fin cfg3.N) (r : Fin 512) (x : Fin 896) (inb) :
    k3_pay2 (F := Ideal) (View.ld (iblk3 V c 0 t) (Rect.unit (s := S4096x1024) ![0, 0] ![4096, 512] inb)) (iblk3 V c 1 t) (ix3 0 r x)
      = GI V c (pair t 0) ⟨r, by omega⟩ x := by
  rw [pay3_2]
  exact Finset.sum_congr rfl fun s _ => congrArg₂ (· * ·) ((ld_h0 _ s r _).trans (blk3_0 V c t s _)) (dp_at V c t s 0 x _ (by simp))
theorem gi_1 (c : Dev nD) (t : Fin cfg3.N) (r : Fin 512) (x : Fin 896) (inb) :
    k3_pay3 (F := Ideal) (View.ld (iblk3 V c 0 t) (Rect.unit (s := S4096x1024) ![0, 0] ![4096, 512] inb)) (iblk3 V c 1 t) (ix3 0 r x)
      = GI V c (pair t 1) ⟨r, by omega⟩ x := by
  rw [pay3_3]
  exact Finset.sum_congr rfl fun s _ => congrArg₂ (· * ·) ((ld_h0 _ s r _).trans (blk3_0 V c t s _)) (dp_at V c t s 1 x _ (by simp))
theorem gi_2 (c : Dev nD) (t : Fin cfg3.N) (r : Fin 512) (x : Fin 896) (inb) :
    k3_pay5 (F := Ideal) (View.ld (iblk3 V c 0 t) (Rect.unit (s := S4096x1024) ![0, 512] ![4096, 512] inb)) (iblk3 V c 1 t) (ix3 0 r x)
      = GI V c (pair t 0) ⟨512 + r, by omega⟩ x := by
  rw [pay3_5]
  exact Finset.sum_congr rfl fun s _ => congrArg₂ (· * ·) ((ld_h1 _ s r _).trans (blk3_0 V c t s _)) (dp_at V c t s 0 x _ (by simp))
theorem gi_3 (c : Dev nD) (t : Fin cfg3.N) (r : Fin 512) (x : Fin 896) (inb) :
    k3_pay6 (F := Ideal) (View.ld (iblk3 V c 0 t) (Rect.unit (s := S4096x1024) ![0, 512] ![4096, 512] inb)) (iblk3 V c 1 t) (ix3 0 r x)
      = GI V c (pair t 1) ⟨512 + r, by omega⟩ x := by
  rw [pay3_6]
  exact Finset.sum_congr rfl fun s _ => congrArg₂ (· * ·) ((ld_h1 _ s r _).trans (blk3_0 V c t s _)) (dp_at V c t s 1 x _ (by simp))
theorem gi_blk0 (c : Dev nD) (t : Fin cfg3.N) (r : Fin 1024) (x : Fin 896) :
    (outsAt3 V c t) (ix3 0 r x) = GI V c (pair t 0) r x := by
  dsimp only [outsAt3]
  frame_out
  by_cases hr : (r : ℕ) < 512
  · have e : (ix3 0 r x : S2x1024x896.Idx) = (Rect.unit (s := S2x1024x896) ![0, 0, 0] ![1, 512, 896] inb_S2x1024x896_S1x512x896_0_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 1 ≤ 0 := (Rect.mem_set_unit (inb := inb_S2x1024x896_S1x512x896_1_512_0).mp h (0 : Fin 3)).1
      omega
    refine (View.canon_cons_of_not_mem _ _ fun h => ?_).trans ?_
    · have h1 : 512 ≤ (r : ℕ) := (Rect.mem_set_unit (inb := inb_S2x1024x896_S1x512x896_0_512_0).mp h (1 : Fin 3)).1
      omega
    refine (View.canon_cons_of_not_mem _ _ fun h => ?_).trans ?_
    · have h1 : 1 ≤ 0 := (Rect.mem_set_unit (inb := inb_S2x1024x896_S1x512x896_1_0_0).mp h (0 : Fin 3)).1
      omega
    rw [e]
    exact (View.canon_cons_emb (Rect.unit (s := S2x1024x896) ![0, 0, 0] ![1, 512, 896] inb_S2x1024x896_S1x512x896_0_0_0) _ _ _).trans (gi_0 V c t ⟨r, hr⟩ x _)
  · have e : (ix3 0 r x : S2x1024x896.Idx) = (Rect.unit (s := S2x1024x896) ![0, 512, 0] ![1, 512, 896] inb_S2x1024x896_S1x512x896_0_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    refine (View.canon_cons_of_not_mem _ _ fun h => ?_).trans ?_
    · have h1 : 1 ≤ 0 := (Rect.mem_set_unit (inb := inb_S2x1024x896_S1x512x896_1_512_0).mp h (0 : Fin 3)).1
      omega
    rw [e]
    refine (View.canon_cons_emb (Rect.unit (s := S2x1024x896) ![0, 512, 0] ![1, 512, 896] inb_S2x1024x896_S1x512x896_0_512_0) _ _ _).trans ((gi_2 V c t ⟨r - 512, by omega⟩ x _).trans ?_)
    exact congrArg (fun r => GI V c (pair t 0) r x) (Fin.ext (show 512 + ((r : ℕ) - 512) = r by omega))
theorem gi_blk1 (c : Dev nD) (t : Fin cfg3.N) (r : Fin 1024) (x : Fin 896) :
    (outsAt3 V c t) (ix3 1 r x) = GI V c (pair t 1) r x := by
  dsimp only [outsAt3]
  frame_out
  by_cases hr : (r : ℕ) < 512
  · have e : (ix3 1 r x : S2x1024x896.Idx) = (Rect.unit (s := S2x1024x896) ![1, 0, 0] ![1, 512, 896] inb_S2x1024x896_S1x512x896_1_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 512 ≤ (r : ℕ) := (Rect.mem_set_unit (inb := inb_S2x1024x896_S1x512x896_1_512_0).mp h (1 : Fin 3)).1
      omega
    refine (View.canon_cons_of_not_mem _ _ fun h => ?_).trans ?_
    · have h1 : 1 < 0 + 1 := (Rect.mem_set_unit (inb := inb_S2x1024x896_S1x512x896_0_512_0).mp h (0 : Fin 3)).2
      omega
    rw [e]
    exact (View.canon_cons_emb (Rect.unit (s := S2x1024x896) ![1, 0, 0] ![1, 512, 896] inb_S2x1024x896_S1x512x896_1_0_0) _ _ _).trans (gi_1 V c t ⟨r, hr⟩ x _)
  · have e : (ix3 1 r x : S2x1024x896.Idx) = (Rect.unit (s := S2x1024x896) ![1, 512, 0] ![1, 512, 896] inb_S2x1024x896_S1x512x896_1_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    rw [e]
    refine (View.canon_cons_emb (Rect.unit (s := S2x1024x896) ![1, 512, 0] ![1, 512, 896] inb_S2x1024x896_S1x512x896_1_512_0) _ _ _).trans ((gi_3 V c t ⟨r - 512, by omega⟩ x _).trans ?_)
    exact congrArg (fun r => GI V c (pair t 1) r x) (Fin.ext (show 512 + ((r : ℕ) - 512) = r by omega))
theorem gi_blk (c : Dev nD) (t : Fin cfg3.N) (b : Fin 2) (r : Fin 1024) (x : Fin 896) :
    (outsAt3 V c t) (ix3 b r x) = GI V c (pair t b) r x := by
  fin_cases b
  · exact gi_blk0 V c t r x
  · exact gi_blk1 V c t r x
theorem emb3_2 (t : Fin cfg3.N) (b : Fin 2) (r : Fin 1024) (x : Fin 896) :
    ((win3_2.blk t).view.emb (ix3 b r x) : S8x1024x896.Idx) = ix3 (pair t b) r x := by
  blk_ext [idx3_2 t, pair]
theorem arr3 (c : Dev nD) : (dat3 V c).arrAt 2 cfg3.N = fun i => GI V c (i 0) (i 1) (i 2) := by
  refine (dat3 V c).arrAt_eq_of_covers 2 _ (by decide +kernel) fun t hf y => ?_
  blk_simp
  rw [after3_2]
  obtain ⟨b, r, x, rfl⟩ : ∃ (b : Fin 2) (r : Fin 1024) (x : Fin 896), y = ix3 b r x := ⟨y 0, y 1, y 2, eq_ix3 y⟩
  rw [gi_blk, emb3_2]
  rfl

end Cert.Kernel3Ideal.InProj
-- ==== Proof.InARun.lean ====
module

public import proofs.«01_k».proof.Proof.Gen.Kernel3Ideal.Frame
public import proofs.«01_k».proof.Proof.InAGrad
public import Idealize.ShloMosaic.Lib.Pipeline.Value
public import Idealize.ShloMosaic.Lib.Pipeline.ValueKit

@[expose] public section
set_option maxRecDepth 16384
noncomputable section
namespace Cert.Kernel3Ideal.InProj
open Idealize.ShloMosaic Idealize.ShloMosaic.TcCoe Idealize.ShloMosaic.Tactic Idealize.ShloMosaic.Pointwise
open Cert.Kernel3Ideal.Gen Cert.InProj
open Cert.Mlp hiding In
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The inputs as core `c` holds them at launch. -/
def inOf (c : Dev nD) : In where
  dp i k := m ((c : Thread nD τ).loc main_arg0) (ix2 i k)
  x i k := m ((c : Thread nD τ).loc main_arg1) (ix2 i k)
  sh k := m ((c : Thread nD τ).loc main_arg2) (ix3 0 0 k)
  sc k := m ((c : Thread nD τ).loc main_arg2) (ix3 0 1 k)
  g k := m ((c : Thread nD τ).loc main_arg3) (ix3 0 0 k)
  a := ![fun i k => m ((c : Thread nD τ).loc main_arg5) (ix2 i k), fun i k => m ((c : Thread nD τ).loc main_arg7) (ix2 i k),
    fun i k => m ((c : Thread nD τ).loc main_arg9) (ix2 i k)]
  d := ![fun i k => m ((c : Thread nD τ).loc main_arg6) (ix2 i k), fun i k => m ((c : Thread nD τ).loc main_arg8) (ix2 i k),
    fun i k => m ((c : Thread nD τ).loc main_arg10) (ix2 i k)]

theorem L0_eq (c : Dev nD) : L0 (V1 m ρ) c = (inOf m c).a 0 := by
  funext i k
  exact congrFun (W1_args m ρ c main_arg5 (by decide)) (ix2 i k)
theorem R0_eq (c : Dev nD) : R0 (V1 m ρ) c = (inOf m c).d 0 := by
  funext i k
  exact congrFun (W1_args m ρ c main_arg6 (by decide)) (ix2 i k)
theorem half0 (c : Dev nD) : W2 m ρ c (Proc.devRef .tc main_v25)
    = fun i => ∑ s, (inOf m c).a 0 s (half (i 0) (i 1)) * (inOf m c).d 0 s (i 2) := by
  refine (W2_arr m ρ c 2).trans ((arr0 (V1 m ρ) c).trans ?_)
  unfold G0
  rw [L0_eq, R0_eq]
theorem cast0 (c : Dev nD) : W3 m ρ c (Proc.devRef .tc main_v26)
    = fun i => (inOf m c).GSQ 0 (i 0) (i 1) (i 2) := by
  funext i
  obtain ⟨q, r, k, rfl⟩ : ∃ a b c, i = ix3 a b c := ⟨i 0, i 1, i 2, eq_ix3 i⟩
  have e : W3 m ρ c (Proc.devRef .tc main_v26) = shapeCast S8x128x1024 (W2 m ρ c (Proc.devRef .tc main_v25)) shapeCasts_S2x512x1024_S8x128x1024 := rfl
  rw [e, half0]
  pointwise []
  refine sumE fun s => congrArg (fun j => (inOf m c).a 0 s j * (inOf m c).d 0 s k) (Fin.ext ?_)
  simp only [half, tall]
  omega

theorem L1_eq (c : Dev nD) : L1 (V3 m ρ) c = (inOf m c).a 1 := by
  funext i k
  exact congrFun (W3_args m ρ c main_arg7 (by decide)) (ix2 i k)
theorem R1_eq (c : Dev nD) : R1 (V3 m ρ) c = (inOf m c).d 1 := by
  funext i k
  exact congrFun (W3_args m ρ c main_arg8 (by decide)) (ix2 i k)
theorem half1 (c : Dev nD) : W4 m ρ c (Proc.devRef .tc main_v27)
    = fun i => ∑ s, (inOf m c).a 1 s (half (i 0) (i 1)) * (inOf m c).d 1 s (i 2) := by
  refine (W4_arr m ρ c 2).trans ((arr1 (V3 m ρ) c).trans ?_)
  unfold G1
  rw [L1_eq, R1_eq]
theorem cast1 (c : Dev nD) : W5 m ρ c (Proc.devRef .tc main_v28)
    = fun i => (inOf m c).GSQ 1 (i 0) (i 1) (i 2) := by
  funext i
  obtain ⟨q, r, k, rfl⟩ : ∃ a b c, i = ix3 a b c := ⟨i 0, i 1, i 2, eq_ix3 i⟩
  have e : W5 m ρ c (Proc.devRef .tc main_v28) = shapeCast S8x128x1024 (W4 m ρ c (Proc.devRef .tc main_v27)) shapeCasts_S2x512x1024_S8x128x1024 := rfl
  rw [e, half1]
  pointwise []
  refine sumE fun s => congrArg (fun j => (inOf m c).a 1 s j * (inOf m c).d 1 s k) (Fin.ext ?_)
  simp only [half, tall]
  omega

theorem L2_eq (c : Dev nD) : L2 (V5 m ρ) c = (inOf m c).a 2 := by
  funext i k
  exact congrFun (W5_args m ρ c main_arg9 (by decide)) (ix2 i k)
theorem R2_eq (c : Dev nD) : R2 (V5 m ρ) c = (inOf m c).d 2 := by
  funext i k
  exact congrFun (W5_args m ρ c main_arg10 (by decide)) (ix2 i k)
theorem half2 (c : Dev nD) : W6 m ρ c (Proc.devRef .tc main_v29)
    = fun i => ∑ s, (inOf m c).a 2 s (half (i 0) (i 1)) * (inOf m c).d 2 s (i 2) := by
  refine (W6_arr m ρ c 2).trans ((arr2 (V5 m ρ) c).trans ?_)
  unfold G2
  rw [L2_eq, R2_eq]
theorem cast2 (c : Dev nD) : W7 m ρ c (Proc.devRef .tc main_v30)
    = fun i => (inOf m c).GSQ 2 (i 0) (i 1) (i 2) := by
  funext i
  obtain ⟨q, r, k, rfl⟩ : ∃ a b c, i = ix3 a b c := ⟨i 0, i 1, i 2, eq_ix3 i⟩
  have e : W7 m ρ c (Proc.devRef .tc main_v30) = shapeCast S8x128x1024 (W6 m ρ c (Proc.devRef .tc main_v29)) shapeCasts_S2x512x1024_S8x128x1024 := rfl
  rw [e, half2]
  pointwise []
  refine sumE fun s => congrArg (fun j => (inOf m c).a 2 s j * (inOf m c).d 2 s k) (Fin.ext ?_)
  simp only [half, tall]
  omega

/-- The host's modulated norm of the layer's input. -/
theorem h_at (c : Dev nD) (i : Fin 4096) (k : Fin 1024) : W1 m ρ c (Proc.devRef .tc main_v24) (ix2 i k) = (inOf m c).H i k := by
  unfold_abbrev_sides
  after_results
  pointwise []
  rfl
theorem hR_eq (c : Dev nD) : hR (V7 m ρ) c = (inOf m c).H := by
  funext i k
  refine (congrFun ?_ (ix2 i k)).trans (h_at m ρ c i k)
  exact (W7_of m ρ c main_v24 (by decide +kernel)).trans ((W6_of m ρ c main_v24 (by decide +kernel)).trans ((W5_of m ρ c main_v24 (by decide +kernel)).trans
    ((W4_of m ρ c main_v24 (by decide +kernel)).trans ((W3_of m ρ c main_v24 (by decide +kernel)).trans (W2_of m ρ c main_v24 (by decide +kernel))))))
theorem dpR_eq (c : Dev nD) : dpR (V7 m ρ) c = (inOf m c).dp := by
  funext i k
  exact congrFun (W7_args m ρ c main_arg0 (by decide)) (ix2 i k)

/-! ### The results at the end -/

theorem gin_end (c : Dev nD) : W8 m ρ c (Proc.devRef .tc main_v31) = fun i => (inOf m c).GIN (i 0) (i 1) (i 2) := by
  refine (W8_arr m ρ c 2).trans ((arr3 (V7 m ρ) c).trans ?_)
  unfold GI In.GIN
  rw [hR_eq, dpR_eq]
theorem gsq0_end (c : Dev nD) : W8 m ρ c (Proc.devRef .tc main_v26) = fun i => (inOf m c).GSQ 0 (i 0) (i 1) (i 2) :=
  ((W8_of m ρ c main_v26 (by decide +kernel)).trans ((W7_of m ρ c main_v26 (by decide +kernel)).trans ((W6_of m ρ c main_v26 (by decide +kernel)).trans ((W5_of m ρ c main_v26 (by decide +kernel)).trans ((W4_of m ρ c main_v26 (by decide +kernel)).trans (cast0 m ρ c))))))
theorem gsq1_end (c : Dev nD) : W8 m ρ c (Proc.devRef .tc main_v28) = fun i => (inOf m c).GSQ 1 (i 0) (i 1) (i 2) :=
  ((W8_of m ρ c main_v28 (by decide +kernel)).trans ((W7_of m ρ c main_v28 (by decide +kernel)).trans ((W6_of m ρ c main_v28 (by decide +kernel)).trans (cast1 m ρ c))))
theorem gsq2_end (c : Dev nD) : W8 m ρ c (Proc.devRef .tc main_v30) = fun i => (inOf m c).GSQ 2 (i 0) (i 1) (i 2) :=
  ((W8_of m ρ c main_v30 (by decide +kernel)).trans (cast2 m ρ c))

set_option backward.isDefEq.respectTransparency.types false in
/-- Every run of the kernel ends with the four gradients, its arguments as launched. -/
theorem run_value : θ_run defs (onTc (τ := τ) (main (F := Ideal))) ⟨m, fun _ => 0, ρ⟩ (fun r => ∀ c : Dev nD,
      r.2.mem ((c.tc : Thread nD τ).loc main_v31) = (fun i => (inOf m c).GIN (i 0) (i 1) (i 2))
      ∧ r.2.mem ((c.tc : Thread nD τ).loc main_v26) = (fun i => (inOf m c).GSQ 0 (i 0) (i 1) (i 2))
      ∧ r.2.mem ((c.tc : Thread nD τ).loc main_v28) = (fun i => (inOf m c).GSQ 1 (i 0) (i 1) (i 2))
      ∧ r.2.mem ((c.tc : Thread nD τ).loc main_v30) = (fun i => (inOf m c).GSQ 2 (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v31 (by decide))).trans (gin_end m ρ c),
       (h c _ (mem_uc main_v26 (by decide))).trans (gsq0_end m ρ c),
       (h c _ (mem_uc main_v28 (by decide))).trans (gsq1_end m ρ c),
       (h c _ (mem_uc main_v30 (by decide))).trans (gsq2_end m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Kernel3Ideal.InProj
-- ==== Proof.InARef.lean ====
module

public import proofs.«01_k».proof.Proof.Gen.Reference3Ideal.Run
public import proofs.«01_k».proof.Proof.InSpec
public import Idealize.ShloMosaic.Lib.Pointwise

@[expose] public section
set_option maxRecDepth 16384
noncomputable section
namespace Cert.Reference3Ideal.InProj
open Idealize.ShloMosaic Idealize.ShloMosaic.TcCoe Idealize.ShloMosaic.Tactic Idealize.ShloMosaic.Pointwise
open Idealize.SL.Sem Cert.Reference3Ideal Cert.Reference3Ideal.Gen Cert.Reference3Ideal.Value Cert.InProj Idealize.ShloMosaic.StableHlo
open Cert.Mlp hiding In
variable (m : (ℓ : Loc nD τ sig) → Buf (Elt Ideal) ℓ) (ρ : Dev nD → PrngReg)

/-- The inputs as core `c` holds them at launch. -/
def inR (c : Dev nD) : In where
  dp i k := m ((c : Thread nD τ).loc main_arg0) (ix2 i k)
  x i k := m ((c : Thread nD τ).loc main_arg1) (ix2 i k)
  sh k := m ((c : Thread nD τ).loc main_arg2) (ix3 0 0 k)
  sc k := m ((c : Thread nD τ).loc main_arg2) (ix3 0 1 k)
  g k := m ((c : Thread nD τ).loc main_arg3) (ix3 0 0 k)
  a := ![fun i k => m ((c : Thread nD τ).loc main_arg5) (ix2 i k), fun i k => m ((c : Thread nD τ).loc main_arg7) (ix2 i k),
    fun i k => m ((c : Thread nD τ).loc main_arg9) (ix2 i k)]
  d := ![fun i k => m ((c : Thread nD τ).loc main_arg6) (ix2 i k), fun i k => m ((c : Thread nD τ).loc main_arg8) (ix2 i k),
    fun i k => m ((c : Thread nD τ).loc main_arg10) (ix2 i k)]

theorem out0 (c : Dev nD) : (truncf (F := Ideal) .bf16 (transpose S8x1024x896 [1, 0, 2] (shapeCast _ (transpose S1024x7168 [1, 0] (Host.dotGeneral (φ₂ := .f32) dot_S4096x7168_S4096x1024_S7168x1024_0_0_1_1_n_n none (extf (F := Ideal) .f32 (m ((c.tc : Thread nD τ).loc main_arg0)) bitsLt_bf16_f32) (addf (mulf (mulf (mulf (m ((c.tc : Thread nD τ).loc main_arg1)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg1)) (m ((c.tc : Thread nD τ).loc main_arg1))) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (shapeCast _ (extractStridedSlice S1x1x1024 ![0, 0, 0] (m ((c.tc : Thread nD τ).loc main_arg3)) slices_S2x16x1024_S1x1x1024_0_0_0) shapeCasts_S1x1x1024_S1x1024))) (broadcastInDim S4096x1024 ![0, 1] bcast_S1x1024_S4096x1024_0_1 (addf (broadcastInDim S1x1024 ![] bcast_S_S1x1024 (constant (F := Ideal) S_ .f32 0x3F800000#32)) (shapeCast _ (extractStridedSlice S1x1x1024 ![0, 1, 0] (m ((c.tc : Thread nD τ).loc main_arg2)) slices_S2x6x1024_S1x1x1024_0_1_0) shapeCasts_S1x1x1024_S1x1024)))) (broadcastInDim S4096x1024 ![0, 1] bcast_S1x1024_S4096x1024_0_1 (shapeCast _ (extractStridedSlice S1x1x1024 ![0, 0, 0] (m ((c.tc : Thread nD τ).loc main_arg2)) slices_S2x6x1024_S1x1x1024_0_0_0) shapeCasts_S1x1x1024_S1x1024)))) transposes_S7168x1024_S1024x7168_1_0) shapeCasts_S1024x7168_S1024x8x896) transposes_S1024x8x896_S8x1024x896_1_0_2) bitsLt_bf16_f32 : (⟨S8x1024x896, .bf16⟩ : BufTy).Contents (Elt Ideal)) = (fun i => (inR m c).GIN (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out1 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg6)) bitsLt_bf16_f32) (extf (F := Ideal) .f32 (m ((c.tc : Thread nD τ).loc main_arg5)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 0 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out2 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg8)) bitsLt_bf16_f32) (extf (F := Ideal) .f32 (m ((c.tc : Thread nD τ).loc main_arg7)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 1 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out3 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg10)) bitsLt_bf16_f32) (extf (F := Ideal) .f32 (m ((c.tc : Thread nD τ).loc main_arg9)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 2 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

/-- Every terminating run of the reference leaves its four gradients and its arguments unchanged. -/
theorem run_value : θ_run defs (onTc (τ := τ) (main (F := Ideal))) ⟨m, fun _ => 0, ρ⟩ (fun r => ∀ c : Dev nD,
      r.2.mem ((c.tc : Thread nD τ).loc main_v31) = (fun i => (inR m c).GIN (i 0) (i 1) (i 2))
      ∧ r.2.mem ((c.tc : Thread nD τ).loc main_v39) = (fun i => (inR m c).GSQ 0 (i 0) (i 1) (i 2))
      ∧ r.2.mem ((c.tc : Thread nD τ).loc main_v47) = (fun i => (inR m c).GSQ 1 (i 0) (i 1) (i 2))
      ∧ r.2.mem ((c.tc : Thread nD τ).loc main_v55) = (fun i => (inR m c).GSQ 2 (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨h0, h1, h2, h3, ha⟩ := h c
    exact ⟨h0.trans (out0 _ _), h1.trans (out1 _ _), h2.trans (out2 _ _), h3.trans (out3 _ _), ha⟩) (run m ρ)

end Cert.Reference3Ideal.InProj
-- ==== Proof.Mlp1Spec.lean ====
module

public import proofs.«01_k».proof.Proof.MlpAlg

/-! The loss head on top of a layer's feed-forward half, over the extended reals. -/

@[expose] public section
noncomputable section
namespace Cert.Mlp
open Idealize.ShloMosaic

/-- One half and one over the width, as the programs write them. -/
def half : EReal := Ideal.ofBits FTy.f32 1056964608#32
def invW : EReal := Ideal.ofBits FTy.f32 981467136#32

theorem half_eq : half = ((1 / 2 : ℝ) : EReal) := by
  simp [half, Ideal.ofBits, Ideal.ieee, -EReal.coe_mul]; norm_num
theorem invW_eq : invW = ((1 / 1024 : ℝ) : EReal) := by
  simp [invW, Ideal.ofBits, Ideal.ieee, -EReal.coe_mul]; norm_num

/-- The mean square error of one token, and the gradient of half of it along the output. -/
def mse (y t : Fin 1024 → EReal) : EReal := Ideal.div (∑ k, (y k - t k) * (y k - t k)) width
def dLoss (y t : Fin 1024 → EReal) (j : Fin 1024) : EReal := (y j - t j) * invW

/-- Half of a sum of errors is the sum of the halves. -/
theorem half_sum {n : ℕ} (f : Fin n → EReal) : half * ∑ k, f k = ∑ k, f k * half := by
  rw [half_eq, sum_mul_real n f (1 / 2) (by norm_num), mul_comm]

/-- The gradient as differentiation writes it. -/
theorem dLoss_vjp (a : EReal) : Ideal.div half width * (two * a) = a * invW := by
  rw [half_eq, div_width, two_eq, invW_eq, ← mul_assoc, mul_comm a]
  congr 1
  rw [← EReal.coe_mul, ← EReal.coe_mul]
  congr 1
  norm_num

/-- A sum over 4096 rows as eight sums over 512. -/
theorem sum8t (g : Fin 4096 → EReal) : ∑ f, g f
    = ∑ t ∈ Finset.range 8, if h : t < 8 then ∑ x : Fin 512, g ⟨t * 512 + x, by omega⟩ else 0 := by
  have e : ∑ f, g f = ∑ q : Fin 8, ∑ x : Fin 512, g ⟨x + 512 * q, by omega⟩ := by
    rw [← (finProdFinEquiv (m := 8) (n := 512)).sum_comp, Fintype.sum_prod_type]
    rfl
  rw [e, Finset.sum_range]
  refine Finset.sum_congr rfl fun q _ => ?_
  rw [dif_pos q.isLt]
  refine Finset.sum_congr rfl fun x _ => congrArg g (Fin.ext ?_)
  show (x : ℕ) + 512 * q = q * 512 + x
  omega

/-- The layer half's inputs with the loss's gradient as the incoming one. -/
def lossIn (x T : Fin 4096 → Fin 1024 → EReal) (mod : Fin 6 → Fin 1024 → EReal) (row : Fin 16 → Fin 1024 → EReal)
    (up : Fin 8 → Fin 1024 → Fin 512 → EReal) (dn : Fin 4096 → Fin 1024 → EReal) : In where
  d i := dLoss (In.X2 ⟨fun _ _ => 0, x, mod, row, up, dn⟩ i) (T i)
  x := x
  mod := mod
  row := row
  up := up
  dn := dn
/-- The loss of outputs `X` against targets `T`. -/
def loss (X T : Fin 4096 → Fin 1024 → EReal) : EReal := ∑ i, mse (X i) (T i) * half

end Cert.Mlp
-- ==== Proof.Mlp1Fwd.lean ====
module

public import proofs.«01_k».proof.Proof.Gen.Kernel4Ideal.Frame
public import proofs.«01_k».proof.Proof.Mlp1Spec
public import Idealize.ShloMosaic.Lib.Pipeline.Value
public import Idealize.ShloMosaic.Lib.UnfoldOut
public import Idealize.ShloMosaic.Lib.Pipeline.ValueKit
public import Idealize.ShloMosaic.Lib.Pipeline.ReadBack
public import Idealize.ShloMosaic.Lib.WritesUnit

@[expose] public section
set_option maxRecDepth 16384
noncomputable section
namespace Cert.Kernel4Ideal.Mlp
open Idealize.ShloMosaic Idealize.ShloMosaic.TcCoe Idealize.ShloMosaic.Tactic Idealize.ShloMosaic.Pointwise
open Cert.Kernel4Ideal.Gen Cert.Mlp
variable (V : (c : Dev nD) → (b : Ref sig .tc) → Buf (Elt Ideal) ((c : Thread nD τ).loc b))

theorem idx0_0 : ∀ t : Fin cfg0.N, win0_0.index t = ![t.val, 0] := (by decide +kernel : ∀ t : Fin grid0.N, _)
theorem idx0_1 : ∀ t : Fin cfg0.N, win0_1.index t = ![1, 0, 0] := (by decide +kernel : ∀ t : Fin grid0.N, _)
theorem idx0_2 : ∀ t : Fin cfg0.N, win0_2.index t = ![1, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![t.val, 0] := (by decide +kernel : ∀ t : Fin grid0.N, _)
theorem idx0_10 : ∀ t : Fin cfg0.N, win0_10.index t = ![t.val, 0] := (by decide +kernel : ∀ t : Fin grid0.N, _)
theorem idx0_11 : ∀ t : Fin cfg0.N, win0_11.index t = ![0, 0] := (by decide +kernel : ∀ t : Fin grid0.N, _)
/-- Row `r` of token tile `t`: 8 tiles of 512 rows in the forward call, 16 of 256 in the backward call. -/
def tokF (t : ℕ) (ht : t < 8) (r : Fin 512) : Fin 4096 := ⟨t * 512 + r, by omega⟩
def tok (t : ℕ) (ht : t < 16) (r : Fin 256) : Fin 4096 := ⟨t * 256 + r, by omega⟩

theorem blk0_0 (c : Dev nD) (t : Fin cfg0.N) (r : Fin 512) (k : Fin 1024) :
    iblk0 V c 0 t (ix2 r k) = (V c main_arg0) (ix2 (tokF t.val t.isLt r) k) := by
  blk_ext! [iblk0, idx0_0 t, tokF]
theorem blk0_1 (c : Dev nD) (t : Fin cfg0.N) (q : Fin 6) (k : Fin 1024) :
    iblk0 V c 1 t (ix3 0 q k) = (V c main_arg2) (ix3 1 q k) := by
  blk_ext! [iblk0, idx0_1 t]
theorem blk0_2 (c : Dev nD) (t : Fin cfg0.N) (q : Fin 16) (k : Fin 1024) :
    iblk0 V c 2 t (ix3 0 q k) = (V c main_arg3) (ix3 1 q k) := by
  blk_ext! [iblk0, idx0_2 t]
theorem blk0_3 (c : Dev nD) (t : Fin cfg0.N) (q : Fin 8) (k : Fin 1024) (f : Fin 512) :
    iblk0 V c 3 t (ix3 q k f) = (V c main_arg4) (ix3 q k f) := by
  blk_ext! [iblk0, idx0_3 t]
theorem blk0_4 (c : Dev nD) (t : Fin cfg0.N) (f : Fin 4096) (k : Fin 1024) :
    iblk0 V c 4 t (ix2 f k) = (V c main_arg5) (ix2 f k) := by
  blk_ext! [iblk0, idx0_4 t]
theorem blk0_5 (c : Dev nD) (t : Fin cfg0.N) (r : Fin 512) (k : Fin 1024) :
    iblk0 V c 5 t (ix2 r k) = (V c main_arg1) (ix2 (tokF t.val t.isLt r) k) := by
  blk_ext! [iblk0, idx0_5 t, tokF]

/-- The modulated norm at row `i`, from the arrays the region finds. -/
def H (c : Dev nD) (i : Fin 4096) : Fin 1024 → EReal :=
  hRow (fun k => V c main_arg0 (ix2 i k)) (fun k => V c main_arg3 (ix3 1 7 k)) (fun k => V c main_arg2 (ix3 1 4 k))
    (fun k => V c main_arg2 (ix3 1 3 k))
/-- The rectified up product at row `i`. -/
def RU (c : Dev nD) (i : Fin 4096) : Fin 4096 → EReal :=
  reluRow (uRow (H V c i) fun q k f => V c main_arg4 (ix3 q k f))
/-- The down product and the layer's output at row `i`. -/
def Y (c : Dev nD) (i : Fin 4096) : Fin 1024 → EReal := yRow (RU V c i) fun f k => V c main_arg5 (ix2 f k)
def X2 (c : Dev nD) (i : Fin 4096) : Fin 1024 → EReal :=
  outRow (fun k => V c main_arg0 (ix2 i k)) (Y V c i) (fun k => V c main_arg2 (ix3 1 5 k)) (fun k => V c main_arg3 (ix3 1 8 k))
/-- The target at row `i`. -/
def TG (c : Dev nD) (i : Fin 4096) (k : Fin 1024) : EReal := V c main_arg1 (ix2 i k)

theorem h2_blk (c : Dev nD) (t : Fin cfg0.N) (r : Fin 512) (j : Fin 1024) :
    (outsAt0 V c t.val t.isLt).2.2.2.1 (ix2 r j) = H V c (tokF t.val t.isLt r) j := by
  have h0 := blk0_0 V c t r
  have h1 := blk0_1 V c t
  have h2 := blk0_2 V c t
  by_cases h : t.val % 8 = 0
  · rw [outsAt0_A V c t h]
    frame_out
    simp only [H, hRow, rr, ms, width, eps]
    pointwise [k0_pay5]
    generalize iblk0 V c 0 t = x0 at *
    generalize iblk0 V c 1 t = x1 at *
    generalize iblk0 V c 2 t = x2 at *
    rw [h0, h1, h2, h1]
    simp only [h0]
  · rw [outsAt0_B V c t h]
    frame_out
    simp only [H, hRow, rr, ms, width, eps]
    pointwise [k0_pay5]
    generalize iblk0 V c 0 t = x0 at *
    generalize iblk0 V c 1 t = x1 at *
    generalize iblk0 V c 2 t = x2 at *
    rw [h0, h1, h2, h1]
    simp only [h0]

theorem ru_blk (c : Dev nD) (t : Fin cfg0.N) (r : Fin 512) (j : Fin 4096) :
    (outsAt0 V c t.val t.isLt).2.1 (ix2 r j) = RU V c (tokF t.val t.isLt r) j := by
  have hh := h2_blk V c t r
  have h3 := blk0_3 V c t
  by_cases h : t.val % 8 = 0
  · rw [outsAt0_A V c t h] at hh ⊢
    frame_out at hh
    frame_out
    simp only [RU, reluRow, uRow, wcol]
    pointwise [k0_pay14, k0_pay13, k0_pay6, k0_pay7, k0_pay8, k0_pay9, k0_pay10, k0_pay11, k0_pay12]
    simp only [hh, h3]
    exact cat8 (fun q b => max (∑ x, H V c (tokF t.val t.isLt r) x * V c main_arg4 (ix3 q x b)) 0) j
  · rw [outsAt0_B V c t h] at hh ⊢
    frame_out at hh
    frame_out
    simp only [RU, reluRow, uRow, wcol]
    pointwise [k0_pay14, k0_pay13, k0_pay6, k0_pay7, k0_pay8, k0_pay9, k0_pay10, k0_pay11, k0_pay12]
    simp only [hh, h3]
    exact cat8 (fun q b => max (∑ x, H V c (tokF t.val t.isLt r) x * V c main_arg4 (ix3 q x b)) 0) j

theorem y2_blk (c : Dev nD) (t : Fin cfg0.N) (r : Fin 512) (j : Fin 1024) :
    (outsAt0 V c t.val t.isLt).2.2.1 (ix2 r j) = Y V c (tokF t.val t.isLt r) j := by
  have hh := ru_blk V c t r
  have h4 := blk0_4 V c t
  by_cases h : t.val % 8 = 0
  · rw [outsAt0_A V c t h] at hh ⊢
    frame_out at hh
    frame_out
    simp only [Y, yRow]
    pointwise [k0_pay14] at hh
    pointwise [k0_pay15]
    generalize iblk0 V c 4 t = x4 at *
    generalize RU V c (tokF t.val t.isLt r) = g at *
    simp only [hh, h4]
  · rw [outsAt0_B V c t h] at hh ⊢
    frame_out at hh
    frame_out
    simp only [Y, yRow]
    pointwise [k0_pay14] at hh
    pointwise [k0_pay15]
    generalize iblk0 V c 4 t = x4 at *
    generalize RU V c (tokF t.val t.isLt r) = g at *
    simp only [hh, h4]

theorem x2_blk (c : Dev nD) (t : Fin cfg0.N) (r : Fin 512) (j : Fin 1024) :
    (outsAt0 V c t.val t.isLt).1 (ix2 r j) = X2 V c (tokF t.val t.isLt r) j := by
  have hh := y2_blk V c t r
  have h0 := blk0_0 V c t r
  have h1 := blk0_1 V c t
  have h2 := blk0_2 V c t
  by_cases h : t.val % 8 = 0
  · rw [outsAt0_A V c t h] at hh ⊢
    frame_out at hh
    frame_out
    simp only [X2, outRow, rr, ms, width, eps]
    pointwise [k0_pay16]
    generalize Y V c (tokF t.val t.isLt r) = g at *
    simp only [hh, h0]
    generalize iblk0 V c 1 t = x1 at *
    generalize iblk0 V c 2 t = x2 at *
    rw [h1, h2]
  · rw [outsAt0_B V c t h] at hh ⊢
    frame_out at hh
    frame_out
    simp only [X2, outRow, rr, ms, width, eps]
    pointwise [k0_pay16]
    generalize Y V c (tokF t.val t.isLt r) = g at *
    simp only [hh, h0]
    generalize iblk0 V c 1 t = x1 at *
    generalize iblk0 V c 2 t = x2 at *
    rw [h1, h2]

/-- The loss's gradient along the output at row `i`. -/
def DL (c : Dev nD) (i : Fin 4096) : Fin 1024 → EReal := dLoss (X2 V c i) (TG V c i)

theorem dl_pay (v93 v98 : FVec Ideal S512x1024 .f32) (r : Fin 512) (j : Fin 1024) :
    k0_pay3 (F := Ideal) v93 v98 (ix2 r j) = dLoss (fun k => v93 (ix2 r k)) (fun k => v98 (ix2 r k)) j := by
  simp only [dLoss, invW]
  pointwise [k0_pay3, k0_pay2]
theorem loss_pay (v93 v98 : FVec Ideal S512x1024 .f32) (v103 : FVec Ideal S8x128 .f32) (a : Fin 8) (b : Fin 128) :
    k0_pay4 (F := Ideal) v93 v98 v103 (ix2 a b)
      = v103 (ix2 a b) + half * ∑ r, mse (fun k => v93 (ix2 r k)) (fun k => v98 (ix2 r k)) := by
  simp only [mse, half, width]
  pointwise [k0_pay4, k0_pay2]
theorem zero_pay (a : Fin 8) (b : Fin 128) : k0_pay1 (F := Ideal) (ix2 a b) = 0 := by
  pointwise [k0_pay1]
theorem dl_blk (c : Dev nD) (t : Fin cfg0.N) (r : Fin 512) (j : Fin 1024) :
    (outsAt0 V c t.val t.isLt).2.2.2.2.1 (ix2 r j) = DL V c (tokF t.val t.isLt r) j := by
  have hh := x2_blk V c t r
  have h5 := blk0_5 V c t
  by_cases h : t.val % 8 = 0
  · rw [outsAt0_A V c t h] at hh ⊢
    frame_out at hh
    frame_out
    rw [dl_pay]
    simp only [hh, h5]
    rfl
  · rw [outsAt0_B V c t h] at hh ⊢
    frame_out at hh
    frame_out
    rw [dl_pay]
    simp only [hh, h5]
    rfl

/-- What tile `t` adds to the loss. -/
def LB (c : Dev nD) (t : ℕ) : EReal :=
  if h : t < 8 then ∑ x : Fin 512, mse (X2 V c ⟨t * 512 + x, by omega⟩) (TG V c ⟨t * 512 + x, by omega⟩) * half else 0
theorem lb_of (c : Dev nD) (t : Fin cfg0.N) (g : Fin 512 → EReal)
    (h : ∀ r, g r = mse (X2 V c (tokF t.val t.isLt r)) (TG V c (tokF t.val t.isLt r))) : half * ∑ r, g r = LB V c t.val := by
  rw [LB, dif_pos (show t.val < 8 from t.isLt), half_sum]
  exact Finset.sum_congr rfl fun r _ => by rw [h r]; rfl
theorem loss_A (c : Dev nD) (t : Fin cfg0.N) (h : t.val % 8 = 0) (a : Fin 8) (b : Fin 128) :
    (outsAt0 V c t.val t.isLt).2.2.2.2.2 (ix2 a b) = 0 + LB V c t.val := by
  have hh := x2_blk V c t
  have h5 := blk0_5 V c t
  rw [outsAt0_A V c t h] at hh ⊢
  frame_out at hh
  frame_out
  rw [loss_pay, lb_of V c t _ fun r => by simp only [hh, h5]; rfl, zero_pay]
theorem loss_B (c : Dev nD) (t : Fin cfg0.N) (h : ¬t.val % 8 = 0) (a : Fin 8) (b : Fin 128) :
    (outsAt0 V c t.val t.isLt).2.2.2.2.2 (ix2 a b)
      = (outsAt0 V c (t.val - 1) (Nat.lt_of_le_of_lt (Nat.sub_le _ _) t.isLt)).2.2.2.2.2 (ix2 a b) + LB V c t.val := by
  have hh := x2_blk V c t
  have h5 := blk0_5 V c t
  rw [outsAt0_B V c t h] at hh ⊢
  frame_out at hh
  frame_out
  rw [loss_pay, lb_of V c t _ fun r => by simp only [hh, h5]; rfl]
theorem loss_last (c : Dev nD) (t : Fin cfg0.N) (ht : t.val % 8 = 7) (a : Fin 8) (b : Fin 128) :
    (outsAt0 V c t.val t.isLt).2.2.2.2.2 (ix2 a b) = loss (X2 V c) (TG V c) := by
  have h := Pipeline.eq_sum_of_reset_step_apply_of_mod (fun n hn (_ : Fin 1) => (outsAt0 V c n hn).2.2.2.2.2 (ix2 a b)) 8 (fun _ => 0)
    (fun n _ => LB V c n) (fun t h _ => loss_A V c t h a b) (fun t h _ => loss_B V c t h a b) t ht 0
  refine h.trans ?_
  have h8 : t.val / 8 = 0 := Nat.div_eq_of_lt t.isLt
  rw [loss, sum8t fun i => mse (X2 V c i) (TG V c i) * half, h8, zero_add]
  exact Finset.sum_congr rfl fun k _ => by rw [Nat.mul_zero, Nat.zero_add]; rfl
theorem flush11 : ∀ t : Fin cfg0.N, (cfg0.win 11).flush t = true → t.val % 8 = 7 := by decide +kernel
theorem emb0_11 (t : Fin cfg0.N) (r : Fin 8) (j : Fin 128) : ((win0_11.blk t).view.emb (ix2 r j) : S8x128.Idx) = ix2 r j := by
  blk_ext [idx0_11 t]
theorem loss_arr (c : Dev nD) : (dat0 V c).arrAt 11 cfg0.N = fun i => loss (X2 V c) (TG V c) := by
  refine (dat0 V c).arrAt_eq_of_covers 11 _ (by decide +kernel) fun t hf y => ?_
  blk_simp
  rw [after0_11]
  obtain ⟨r, j, rfl⟩ : ∃ (r : Fin 8) (j : Fin 128), y = ix2 r j := ⟨y 0, y 1, by funext a; fin_cases a <;> rfl⟩
  rw [loss_last V c t (flush11 t hf) r j]

theorem emb0_9 (t : Fin cfg0.N) (r : Fin 512) (j : Fin 1024) :
    ((win0_9.blk t).view.emb (ix2 r j) : S4096x1024.Idx) = ix2 (tokF t.val t.isLt r) j := by
  blk_ext [idx0_9 t, tokF]
theorem h2_arr (c : Dev nD) : (dat0 V c).arrAt 9 cfg0.N = fun i => H V c (i 0) (i 1) := by
  refine (dat0 V c).arrAt_eq_of_covers 9 _ (by decide +kernel) fun t hf y => ?_
  blk_simp
  rw [after0_9]
  obtain ⟨r, j, rfl⟩ : ∃ (r : Fin 512) (j : Fin 1024), y = ix2 r j := ⟨y 0, y 1, by funext a; fin_cases a <;> rfl⟩
  rw [h2_blk, emb0_9]
  rfl

theorem emb0_7 (t : Fin cfg0.N) (r : Fin 512) (j : Fin 4096) :
    ((win0_7.blk t).view.emb (ix2 r j) : S4096x4096.Idx) = ix2 (tokF t.val t.isLt r) j := by
  blk_ext [idx0_7 t, tokF]
theorem ru_arr (c : Dev nD) : (dat0 V c).arrAt 7 cfg0.N = fun i => RU V c (i 0) (i 1) := by
  refine (dat0 V c).arrAt_eq_of_covers 7 _ (by decide +kernel) fun t hf y => ?_
  blk_simp
  rw [after0_7]
  obtain ⟨r, j, rfl⟩ : ∃ (r : Fin 512) (j : Fin 4096), y = ix2 r j := ⟨y 0, y 1, by funext a; fin_cases a <;> rfl⟩
  rw [ru_blk, emb0_7]
  rfl

theorem emb0_8 (t : Fin cfg0.N) (r : Fin 512) (j : Fin 1024) :
    ((win0_8.blk t).view.emb (ix2 r j) : S4096x1024.Idx) = ix2 (tokF t.val t.isLt r) j := by
  blk_ext [idx0_8 t, tokF]
theorem y2_arr (c : Dev nD) : (dat0 V c).arrAt 8 cfg0.N = fun i => Y V c (i 0) (i 1) := by
  refine (dat0 V c).arrAt_eq_of_covers 8 _ (by decide +kernel) fun t hf y => ?_
  blk_simp
  rw [after0_8]
  obtain ⟨r, j, rfl⟩ : ∃ (r : Fin 512) (j : Fin 1024), y = ix2 r j := ⟨y 0, y 1, by funext a; fin_cases a <;> rfl⟩
  rw [y2_blk, emb0_8]
  rfl

theorem emb0_10 (t : Fin cfg0.N) (r : Fin 512) (j : Fin 1024) :
    ((win0_10.blk t).view.emb (ix2 r j) : S4096x1024.Idx) = ix2 (tokF t.val t.isLt r) j := by
  blk_ext [idx0_10 t, tokF]
theorem dl_arr (c : Dev nD) : (dat0 V c).arrAt 10 cfg0.N = fun i => DL V c (i 0) (i 1) := by
  refine (dat0 V c).arrAt_eq_of_covers 10 _ (by decide +kernel) fun t hf y => ?_
  blk_simp
  rw [after0_10]
  obtain ⟨r, j, rfl⟩ : ∃ (r : Fin 512) (j : Fin 1024), y = ix2 r j := ⟨y 0, y 1, by funext a; fin_cases a <;> rfl⟩
  rw [dl_blk, emb0_10]
  rfl

end Cert.Kernel4Ideal.Mlp
-- ==== Proof.Mlp1Bwd.lean ====
module

public import proofs.«01_k».proof.Proof.Gen.Kernel4Ideal.Frame
public import proofs.«01_k».proof.Proof.Mlp1Fwd
public import Idealize.ShloMosaic.Lib.Pipeline.Value
public import Idealize.ShloMosaic.Lib.UnfoldOut
public import Idealize.ShloMosaic.Lib.Pipeline.ValueKit
public import Idealize.ShloMosaic.Lib.Pipeline.ReadBack
public import Idealize.ShloMosaic.Lib.WritesUnit

@[expose] public section
set_option maxRecDepth 16384
noncomputable section
namespace Cert.Kernel4Ideal.Mlp
open Idealize.ShloMosaic Idealize.ShloMosaic.TcCoe Idealize.ShloMosaic.Tactic Idealize.ShloMosaic.Pointwise
open Cert.Kernel4Ideal.Gen Cert.Mlp
variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)

theorem idx1_1 : ∀ t : Fin cfg1.N, win1_1.index t = ![t.val, 0] := (by decide +kernel : ∀ t : Fin grid1.N, _)

theorem idx1_2 : ∀ t : Fin cfg1.N, win1_2.index t = ![t.val, 0] := (by decide +kernel : ∀ t : Fin grid1.N, _)

theorem idx1_3 : ∀ t : Fin cfg1.N, win1_3.index t = ![t.val, 0] := (by decide +kernel : ∀ t : Fin grid1.N, _)

theorem idx1_4 : ∀ t : Fin cfg1.N, win1_4.index t = ![1, 0, 0] := (by decide +kernel : ∀ t : Fin grid1.N, _)

theorem idx1_5 : ∀ t : Fin cfg1.N, win1_5.index t = ![1, 0, 0] := (by decide +kernel : ∀ t : Fin grid1.N, _)

theorem idx1_6 : ∀ t : Fin cfg1.N, win1_6.index t = ![0, 0, 0] := (by decide +kernel : ∀ t : Fin grid1.N, _)

theorem idx1_7 : ∀ t : Fin cfg1.N, win1_7.index t = ![0, 0] := (by decide +kernel : ∀ t : Fin grid1.N, _)

theorem idx1_8 : ∀ t : Fin cfg1.N, win1_8.index t = ![t.val, 0] := (by decide +kernel : ∀ t : Fin grid1.N, _)

theorem idx1_9 : ∀ t : Fin cfg1.N, win1_9.index t = ![t.val, 0] := (by decide +kernel : ∀ t : Fin grid1.N, _)

theorem idx1_10 : ∀ t : Fin cfg1.N, win1_10.index t = ![t.val, 0] := (by decide +kernel : ∀ t : Fin grid1.N, _)

theorem idx1_11 : ∀ t : Fin cfg1.N, win1_11.index t = ![t.val, 0] := (by decide +kernel : ∀ t : Fin grid1.N, _)

theorem blk1_0 (c : Dev nD) (t : Fin cfg1.N) (r : Fin 256) (k : Fin 1024) :
    iblk1 V c 0 t (ix2 r k) = (V c main_v0_4) (ix2 (tok t.val t.isLt r) k) := by
  blk_ext! [iblk1, idx1_0 t, tok]

theorem blk1_1 (c : Dev nD) (t : Fin cfg1.N) (r : Fin 256) (k : Fin 1024) :
    iblk1 V c 1 t (ix2 r k) = (V c main_arg0) (ix2 (tok t.val t.isLt r) k) := by
  blk_ext! [iblk1, idx1_1 t, tok]

theorem blk1_2 (c : Dev nD) (t : Fin cfg1.N) (r : Fin 256) (k : Fin 1024) :
    iblk1 V c 2 t (ix2 r k) = (V c main_v0_2) (ix2 (tok t.val t.isLt r) k) := by
  blk_ext! [iblk1, idx1_2 t, tok]

theorem blk1_3 (c : Dev nD) (t : Fin cfg1.N) (r : Fin 256) (k : Fin 4096) :
    iblk1 V c 3 t (ix2 r k) = (V c main_v0_1) (ix2 (tok t.val t.isLt r) k) := by
  blk_ext! [iblk1, idx1_3 t, tok]

theorem blk1_4 (c : Dev nD) (t : Fin cfg1.N) (q : Fin 6) (k : Fin 1024) :
    iblk1 V c 4 t (ix3 0 q k) = (V c main_arg2) (ix3 1 q k) := by
  blk_ext! [iblk1, idx1_4 t]

theorem blk1_5 (c : Dev nD) (t : Fin cfg1.N) (q : Fin 16) (k : Fin 1024) :
    iblk1 V c 5 t (ix3 0 q k) = (V c main_arg3) (ix3 1 q k) := by
  blk_ext! [iblk1, idx1_5 t]

theorem blk1_6 (c : Dev nD) (t : Fin cfg1.N) (q : Fin 8) (k : Fin 1024) (f : Fin 512) :
    iblk1 V c 6 t (ix3 q k f) = (V c main_arg4) (ix3 q k f) := by
  blk_ext! [iblk1, idx1_6 t]
theorem blk1_7 (c : Dev nD) (t : Fin cfg1.N) (f : Fin 4096) (k : Fin 1024) :
    iblk1 V c 7 t (ix2 f k) = (V c main_arg5) (ix2 f k) := by
  blk_ext! [iblk1, idx1_7 t]

/-- Row `i` of: the incoming gradient, the branch's input, its down product and rectified up product as the region finds them. -/
def dR (c : Dev nD) (i : Fin 4096) (k : Fin 1024) : EReal := V c main_v0_4 (ix2 i k)
def xR (c : Dev nD) (i : Fin 4096) (k : Fin 1024) : EReal := V c main_arg0 (ix2 i k)
def yR (c : Dev nD) (i : Fin 4096) (k : Fin 1024) : EReal := V c main_v0_2 (ix2 i k)
def ruR (c : Dev nD) (i : Fin 4096) (k : Fin 4096) : EReal := V c main_v0_1 (ix2 i k)
def modR (c : Dev nD) (q : Fin 6) (k : Fin 1024) : EReal := V c main_arg2 (ix3 1 q k)
def rowR (c : Dev nD) (q : Fin 16) (k : Fin 1024) : EReal := V c main_arg3 (ix3 1 q k)
def upR (c : Dev nD) (q : Fin 8) (k : Fin 1024) (f : Fin 512) : EReal := V c main_arg4 (ix3 q k f)
def dnR (c : Dev nD) (f : Fin 4096) (k : Fin 1024) : EReal := V c main_arg5 (ix2 f k)

/-- The gradients at row `i`: of the down product, of the up product, of the norm's output, of the branch's input. -/
def DY (c : Dev nD) (i : Fin 4096) : Fin 1024 → EReal := dyRow (yR V c i) (dR V c i) (modR V c 5) (rowR V c 8)
def DUP (c : Dev nD) (i : Fin 4096) : Fin 4096 → EReal := dupRow (DY V c i) (ruR V c i) (dnR V c)
def DH (c : Dev nD) (i : Fin 4096) : Fin 1024 → EReal := dhRow (DUP V c i) (upR V c)
def DX (c : Dev nD) (i : Fin 4096) : Fin 1024 → EReal := dxRow (dR V c i) (xR V c i) (DH V c i) (modR V c 4) (rowR V c 7)
def ACT (c : Dev nD) (i : Fin 4096) (f : Fin 4096) : EReal := ruR V c i f * ruR V c i f

/-- The payloads at an index. -/
theorem dy_pay (x0 x2 : FVec Ideal S256x1024 .f32) (g o : FVec Ideal S1x1x1024 .f32) (r : Fin 256) (j : Fin 1024) :
    k1_pay16 (F := Ideal) (k1_pay9 x2) (k1_pay10 x2) (k1_pay14 x0 g o) (k1_pay15 x0 x2 g o) (ix2 r j)
      = dyRow (fun k => x2 (ix2 r k)) (fun k => x0 (ix2 r k)) (fun k => o (ix3 0 0 k)) (fun k => g (ix3 0 0 k)) j := by
  simp only [dyRow, normBwd, rr, ms, width, eps]
  pointwise [k1_pay16, k1_pay9, k1_pay14, k1_pay15, k1_pay12, k1_pay10, k1_pay8, k1_pay7, k1_pay6]

theorem dup_pay (A : FVec Ideal S256x1 .f32) (E B C : FVec Ideal S256x1024 .f32) (x3 : FVec Ideal S256x4096 .bf16) (x7 : FVec Ideal S4096x1024 .bf16)
    (r : Fin 256) (f : Fin 4096) :
    k1_pay19 (F := Ideal) A E B C x3 x7 (ix2 r f)
      = dupRow (fun k => k1_pay16 (F := Ideal) A E B C (ix2 r k)) (fun f => x3 (ix2 r f)) (fun f k => x7 (ix2 f k)) f := by
  simp only [dupRow, two]
  pointwise [k1_pay19, k1_pay17]
theorem act_pay (x3 : FVec Ideal S256x4096 .bf16) (r : Fin 256) (f : Fin 4096) :
    k1_pay18 (F := Ideal) x3 (ix2 r f) = x3 (ix2 r f) * x3 (ix2 r f) := by
  pointwise [k1_pay18, k1_pay17]
theorem dh_pay (A : FVec Ideal S256x1 .f32) (E B C : FVec Ideal S256x1024 .f32) (x3 : FVec Ideal S256x4096 .bf16) (x7 : FVec Ideal S4096x1024 .bf16)
    (w0 w1 w2 w3 w4 w5 w6 w7 : FVec Ideal S1x1024x512 .bf16) (U : Fin 8 → Fin 1024 → Fin 512 → EReal)
    (h0 : ∀ k f, w0 (ix3 0 k f) = U 0 k f) (h1 : ∀ k f, w1 (ix3 0 k f) = U 1 k f) (h2 : ∀ k f, w2 (ix3 0 k f) = U 2 k f)
    (h3 : ∀ k f, w3 (ix3 0 k f) = U 3 k f) (h4 : ∀ k f, w4 (ix3 0 k f) = U 4 k f) (h5 : ∀ k f, w5 (ix3 0 k f) = U 5 k f)
    (h6 : ∀ k f, w6 (ix3 0 k f) = U 6 k f) (h7 : ∀ k f, w7 (ix3 0 k f) = U 7 k f) (r : Fin 256) (j : Fin 1024) :
    k1_pay21 (F := Ideal) (k1_pay19 (F := Ideal) A E B C x3 x7) (k1_pay20 (F := Ideal) A E B C x3 x7 w0 w1 w2) w3 w4 w5 w6 w7 (ix2 r j)
      = dhRow (fun f => k1_pay19 (F := Ideal) A E B C x3 x7 (ix2 r f)) U j := by
  rw [dhRow_eq]
  pointwise [k1_pay21, k1_pay20]
  generalize k1_pay19 (F := Ideal) A E B C x3 x7 = p
  simp only [h0, h1, h2, h3, h4, h5, h6, h7]
theorem dx_pay (x0 dh x1 : FVec Ideal S256x1024 .f32) (g sc : FVec Ideal S1x1x1024 .f32) (r : Fin 256) (j : Fin 1024) :
    k1_pay31 (F := Ideal) (k1_pay6 x0) dh x1 (k1_pay22 (F := Ideal) g) (k1_pay23 (F := Ideal) sc) (k1_pay24 (F := Ideal) x1) (ix2 r j)
      = dxRow (fun k => x0 (ix2 r k)) (fun k => x1 (ix2 r k)) (fun k => dh (ix2 r k)) (fun k => sc (ix3 0 0 k)) (fun k => g (ix3 0 0 k)) j := by
  simp only [dxRow, normBwd, rr, ms, width, eps]
  pointwise [k1_pay6, k1_pay31, k1_pay22, k1_pay23, k1_pay24, k1_pay25, k1_pay26, k1_pay29]
theorem dgt_pay (x0 x2 : FVec Ideal S256x1024 .f32) (g : FVec Ideal S1x1x1024 .f32) (j : Fin 1024) :
    k1_pay11 (F := Ideal) x0 x2 g (ix2 0 j)
      = ∑ r, x0 (ix2 r j) * (x2 (ix2 r j) * rr (fun k => x2 (ix2 r k)) * g (ix3 0 0 j)) := by
  simp only [rr, ms, width, eps]
  pointwise [k1_pay11, k1_pay10, k1_pay9, k1_pay8, k1_pay7, k1_pay6]
theorem dgpost_pay (x0 x2 : FVec Ideal S256x1024 .f32) (g : FVec Ideal S1x1x1024 .f32) (j : Fin 1024) :
    k1_pay13 (F := Ideal) x0 x2 g (ix2 0 j)
      = ∑ r, x0 (ix2 r j) * g (ix3 0 0 j) * (x2 (ix2 r j) * rr (fun k => x2 (ix2 r k))) := by
  simp only [rr, ms, width, eps]
  pointwise [k1_pay13, k1_pay12, k1_pay10, k1_pay9, k1_pay7, k1_pay6]
theorem dsc_pay (dh x1 : FVec Ideal S256x1024 .f32) (g : FVec Ideal S1x1x1024 .f32) (j : Fin 1024) :
    k1_pay27 (F := Ideal) dh x1 (k1_pay22 (F := Ideal) g) (k1_pay24 (F := Ideal) x1) (ix2 0 j)
      = ∑ r, dh (ix2 r j) * (x1 (ix2 r j) * rr (fun k => x1 (ix2 r k)) * g (ix3 0 0 j)) := by
  simp only [rr, ms, width, eps]
  pointwise [k1_pay27, k1_pay26, k1_pay25, k1_pay24, k1_pay22]
theorem dsh_pay (dh : FVec Ideal S256x1024 .f32) (j : Fin 1024) :
    k1_pay28 (F := Ideal) dh (ix2 0 j) = ∑ r, dh (ix2 r j) := by
  pointwise [k1_pay28]
theorem dgpre_pay (dh x1 : FVec Ideal S256x1024 .f32) (sc : FVec Ideal S1x1x1024 .f32) (j : Fin 1024) :
    k1_pay30 (F := Ideal) dh x1 (k1_pay23 (F := Ideal) sc) (k1_pay24 (F := Ideal) x1) (ix2 0 j)
      = ∑ r, dh (ix2 r j) * (1 + sc (ix3 0 0 j)) * (x1 (ix2 r j) * rr (fun k => x1 (ix2 r k))) := by
  simp only [rr, ms, width, eps]
  pointwise [k1_pay30, k1_pay29, k1_pay26, k1_pay25, k1_pay24, k1_pay23]

/-! ### The blocks and rows as the arrays' rows -/

theorem row1_0 (c : Dev nD) (t : Fin cfg1.N) (r : Fin 256) (k : Fin 1024) :
    iblk1 V c 0 t (ix2 r k) = dR V c (tok t.val t.isLt r) k := blk1_0 V c t r k
theorem row1_1 (c : Dev nD) (t : Fin cfg1.N) (r : Fin 256) (k : Fin 1024) :
    iblk1 V c 1 t (ix2 r k) = xR V c (tok t.val t.isLt r) k := blk1_1 V c t r k
theorem row1_2 (c : Dev nD) (t : Fin cfg1.N) (r : Fin 256) (k : Fin 1024) :
    iblk1 V c 2 t (ix2 r k) = yR V c (tok t.val t.isLt r) k := blk1_2 V c t r k
theorem row1_3 (c : Dev nD) (t : Fin cfg1.N) (r : Fin 256) (k : Fin 4096) :
    iblk1 V c 3 t (ix2 r k) = ruR V c (tok t.val t.isLt r) k := blk1_3 V c t r k
theorem ld_go (c : Dev nD) (t : Fin cfg1.N) (k : Fin 1024) :
    View.ld (iblk1 V c 5 t) (Rect.unit ![0, 8, 0] ![1, 1, 1024] inb_S1x16x1024_S1x1x1024_0_8_0) (ix3 0 0 k) = rowR V c 8 k := by
  have h := blk1_5 V c t 8 k
  generalize iblk1 V c 5 t = x at *
  pointwise []
  exact h
theorem ld_gt (c : Dev nD) (t : Fin cfg1.N) (k : Fin 1024) :
    View.ld (iblk1 V c 4 t) (Rect.unit ![0, 5, 0] ![1, 1, 1024] inb_S1x6x1024_S1x1x1024_0_5_0) (ix3 0 0 k) = modR V c 5 k := by
  have h := blk1_4 V c t 5 k
  generalize iblk1 V c 4 t = x at *
  pointwise []
  exact h
theorem ld_sc (c : Dev nD) (t : Fin cfg1.N) (k : Fin 1024) :
    View.ld (iblk1 V c 4 t) (Rect.unit ![0, 4, 0] ![1, 1, 1024] inb_S1x6x1024_S1x1x1024_0_4_0) (ix3 0 0 k) = modR V c 4 k := by
  have h := blk1_4 V c t 4 k
  generalize iblk1 V c 4 t = x at *
  pointwise []
  exact h
theorem ld_gp (c : Dev nD) (t : Fin cfg1.N) (k : Fin 1024) :
    View.ld (iblk1 V c 5 t) (Rect.unit ![0, 7, 0] ![1, 1, 1024] inb_S1x16x1024_S1x1x1024_0_7_0) (ix3 0 0 k) = rowR V c 7 k := by
  have h := blk1_5 V c t 7 k
  generalize iblk1 V c 5 t = x at *
  pointwise []
  exact h
theorem ld_w0 (c : Dev nD) (t : Fin cfg1.N) (k : Fin 1024) (f : Fin 512) :
    View.ld (iblk1 V c 6 t) (Rect.unit ![0, 0, 0] ![1, 1024, 512] inb_S8x1024x512_S1x1024x512_0_0_0) (ix3 0 k f) = upR V c 0 k f := by
  have h := blk1_6 V c t 0 k f
  generalize iblk1 V c 6 t = x at *
  pointwise []
  exact h
theorem ld_w1 (c : Dev nD) (t : Fin cfg1.N) (k : Fin 1024) (f : Fin 512) :
    View.ld (iblk1 V c 6 t) (Rect.unit ![1, 0, 0] ![1, 1024, 512] inb_S8x1024x512_S1x1024x512_1_0_0) (ix3 0 k f) = upR V c 1 k f := by
  have h := blk1_6 V c t 1 k f
  generalize iblk1 V c 6 t = x at *
  pointwise []
  exact h
theorem ld_w2 (c : Dev nD) (t : Fin cfg1.N) (k : Fin 1024) (f : Fin 512) :
    View.ld (iblk1 V c 6 t) (Rect.unit ![2, 0, 0] ![1, 1024, 512] inb_S8x1024x512_S1x1024x512_2_0_0) (ix3 0 k f) = upR V c 2 k f := by
  have h := blk1_6 V c t 2 k f
  generalize iblk1 V c 6 t = x at *
  pointwise []
  exact h
theorem ld_w3 (c : Dev nD) (t : Fin cfg1.N) (k : Fin 1024) (f : Fin 512) :
    View.ld (iblk1 V c 6 t) (Rect.unit ![3, 0, 0] ![1, 1024, 512] inb_S8x1024x512_S1x1024x512_3_0_0) (ix3 0 k f) = upR V c 3 k f := by
  have h := blk1_6 V c t 3 k f
  generalize iblk1 V c 6 t = x at *
  pointwise []
  exact h
theorem ld_w4 (c : Dev nD) (t : Fin cfg1.N) (k : Fin 1024) (f : Fin 512) :
    View.ld (iblk1 V c 6 t) (Rect.unit ![4, 0, 0] ![1, 1024, 512] inb_S8x1024x512_S1x1024x512_4_0_0) (ix3 0 k f) = upR V c 4 k f := by
  have h := blk1_6 V c t 4 k f
  generalize iblk1 V c 6 t = x at *
  pointwise []
  exact h
theorem ld_w5 (c : Dev nD) (t : Fin cfg1.N) (k : Fin 1024) (f : Fin 512) :
    View.ld (iblk1 V c 6 t) (Rect.unit ![5, 0, 0] ![1, 1024, 512] inb_S8x1024x512_S1x1024x512_5_0_0) (ix3 0 k f) = upR V c 5 k f := by
  have h := blk1_6 V c t 5 k f
  generalize iblk1 V c 6 t = x at *
  pointwise []
  exact h
theorem ld_w6 (c : Dev nD) (t : Fin cfg1.N) (k : Fin 1024) (f : Fin 512) :
    View.ld (iblk1 V c 6 t) (Rect.unit ![6, 0, 0] ![1, 1024, 512] inb_S8x1024x512_S1x1024x512_6_0_0) (ix3 0 k f) = upR V c 6 k f := by
  have h := blk1_6 V c t 6 k f
  generalize iblk1 V c 6 t = x at *
  pointwise []
  exact h
theorem ld_w7 (c : Dev nD) (t : Fin cfg1.N) (k : Fin 1024) (f : Fin 512) :
    View.ld (iblk1 V c 6 t) (Rect.unit ![7, 0, 0] ![1, 1024, 512] inb_S8x1024x512_S1x1024x512_7_0_0) (ix3 0 k f) = upR V c 7 k f := by
  have h := blk1_6 V c t 7 k f
  generalize iblk1 V c 6 t = x at *
  pointwise []
  exact h

theorem dy_at (c : Dev nD) (t : Fin cfg1.N) (r : Fin 256) (j : Fin 1024) :
    k1_pay16 (F := Ideal) (k1_pay9 (iblk1 V c 2 t)) (k1_pay10 (iblk1 V c 2 t)) (k1_pay14 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay15 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (ix2 r j)
      = DY V c (tok t.val t.isLt r) j := by
  rw [dy_pay]
  simp only [row1_0, row1_2, ld_go, ld_gt]
  rfl
theorem dup_at (c : Dev nD) (t : Fin cfg1.N) (r : Fin 256) (f : Fin 4096) :
    k1_pay19 (k1_pay9 (iblk1 V c 2 t)) (k1_pay10 (iblk1 V c 2 t)) (k1_pay14 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay15 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t) (ix2 r f)
      = DUP V c (tok t.val t.isLt r) f := by
  rw [dup_pay]
  simp only [dy_at, row1_3, blk1_7]
  rfl
theorem dh_at (c : Dev nD) (t : Fin cfg1.N) (r : Fin 256) (j : Fin 1024) :
    k1_pay21 (k1_pay19 (k1_pay9 (iblk1 V c 2 t)) (k1_pay10 (iblk1 V c 2 t)) (k1_pay14 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay15 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t))
    (k1_pay20 (k1_pay9 (iblk1 V c 2 t)) (k1_pay10 (iblk1 V c 2 t)) (k1_pay14 (iblk1 V c 0 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0)))
      (k1_pay15 (iblk1 V c 0 t) (iblk1 V c 2 t) (View.ld (iblk1 V c 5 t) (Rect.unit ![0, 8, 0] ![1, 1, 1024] inb_S1x16x1024_S1x1x1024_0_8_0)) (View.ld (iblk1 V c 4 t) (Rect.unit ![0, 5, 0] ![1, 1, 1024] inb_S1x6x1024_S1x1x1024_0_5_0))) (iblk1 V c 3 t) (iblk1 V c 7 t)
      (View.ld (iblk1 V c 6 t) (Rect.unit ![0, 0, 0] ![1, 1024, 512] inb_S8x1024x512_S1x1024x512_0_0_0))
      (View.ld (iblk1 V c 6 t) (Rect.unit ![1, 0, 0] ![1, 1024, 512] inb_S8x1024x512_S1x1024x512_1_0_0))
      (View.ld (iblk1 V c 6 t) (Rect.unit ![2, 0, 0] ![1, 1024, 512] inb_S8x1024x512_S1x1024x512_2_0_0)))
    (View.ld (iblk1 V c 6 t) (Rect.unit ![3, 0, 0] ![1, 1024, 512] inb_S8x1024x512_S1x1024x512_3_0_0))
    (View.ld (iblk1 V c 6 t) (Rect.unit ![4, 0, 0] ![1, 1024, 512] inb_S8x1024x512_S1x1024x512_4_0_0))
    (View.ld (iblk1 V c 6 t) (Rect.unit ![5, 0, 0] ![1, 1024, 512] inb_S8x1024x512_S1x1024x512_5_0_0))
    (View.ld (iblk1 V c 6 t) (Rect.unit ![6, 0, 0] ![1, 1024, 512] inb_S8x1024x512_S1x1024x512_6_0_0))
    (View.ld (iblk1 V c 6 t) (Rect.unit ![7, 0, 0] ![1, 1024, 512] inb_S8x1024x512_S1x1024x512_7_0_0)) (ix2 r j)
      = DH V c (tok t.val t.isLt r) j := by
  rw [dh_pay _ _ _ _ _ _ _ _ _ _ _ _ _ _ (upR V c) (ld_w0 V c t) (ld_w1 V c t) (ld_w2 V c t) (ld_w3 V c t) (ld_w4 V c t) (ld_w5 V c t)
    (ld_w6 V c t) (ld_w7 V c t)]
  simp only [dup_at]
  rfl

theorem dy_blk (c : Dev nD) (t : Fin cfg1.N) (r : Fin 256) (j : Fin 1024) :
    (outsAt1 V c t.val t.isLt).2.1 (ix2 r j) = DY V c (tok t.val t.isLt r) j := by
  by_cases h : t.val % 16 = 0
  · rw [outsAt1_A V c t h]
    frame_out
    exact dy_at V c t r j
  · rw [outsAt1_B V c t h]
    frame_out
    exact dy_at V c t r j

theorem dup_blk (c : Dev nD) (t : Fin cfg1.N) (r : Fin 256) (j : Fin 4096) :
    (outsAt1 V c t.val t.isLt).2.2.1 (ix2 r j) = DUP V c (tok t.val t.isLt r) j := by
  by_cases h : t.val % 16 = 0
  · rw [outsAt1_A V c t h]
    frame_out
    exact dup_at V c t r j
  · rw [outsAt1_B V c t h]
    frame_out
    exact dup_at V c t r j

theorem act_blk (c : Dev nD) (t : Fin cfg1.N) (r : Fin 256) (j : Fin 4096) :
    (outsAt1 V c t.val t.isLt).2.2.2.1 (ix2 r j) = ACT V c (tok t.val t.isLt r) j := by
  by_cases h : t.val % 16 = 0
  · rw [outsAt1_A V c t h]
    frame_out
    rw [act_pay, row1_3]
    rfl
  · rw [outsAt1_B V c t h]
    frame_out
    rw [act_pay, row1_3]
    rfl

theorem dx_of (c : Dev nD) (t : Fin cfg1.N) (dh : FVec Ideal S256x1024 .f32)
    (hd : ∀ (r : Fin 256) (j : Fin 1024), dh (ix2 r j) = DH V c (tok t.val t.isLt r) j) (r : Fin 256) (j : Fin 1024) :
    k1_pay31 (F := Ideal) (k1_pay6 (iblk1 V c 0 t)) dh (iblk1 V c 1 t) (k1_pay22 (View.ld (iblk1 V c 5 t) (Rect.unit ![0, 7, 0] ![1, 1, 1024] inb_S1x16x1024_S1x1x1024_0_7_0)))
      (k1_pay23 (View.ld (iblk1 V c 4 t) (Rect.unit ![0, 4, 0] ![1, 1, 1024] inb_S1x6x1024_S1x1x1024_0_4_0))) (k1_pay24 (iblk1 V c 1 t)) (ix2 r j) = DX V c (tok t.val t.isLt r) j := by
  rw [dx_pay]
  simp only [hd, row1_0, row1_1, ld_sc, ld_gp]
  rfl
theorem dx_blk (c : Dev nD) (t : Fin cfg1.N) (r : Fin 256) (j : Fin 1024) :
    (outsAt1 V c t.val t.isLt).1 (ix2 r j) = DX V c (tok t.val t.isLt r) j := by
  by_cases h : t.val % 16 = 0
  · rw [outsAt1_A V c t h]
    frame_out
    exact dx_of V c t _ (dh_at V c t) r j
  · rw [outsAt1_B V c t h]
    frame_out
    exact dx_of V c t _ (dh_at V c t) r j

theorem emb1_9 (t : Fin cfg1.N) (r : Fin 256) (j : Fin 1024) :
    ((win1_9.blk t).view.emb (ix2 r j) : S4096x1024.Idx) = ix2 (tok t.val t.isLt r) j := by
  blk_ext [idx1_9 t, tok]
theorem dy_arr (c : Dev nD) : (dat1 V c).arrAt 9 cfg1.N = fun i => DY V c (i 0) (i 1) := by
  refine (dat1 V c).arrAt_eq_of_covers 9 _ (by decide +kernel) fun t hf y => ?_
  blk_simp
  rw [after1_9]
  obtain ⟨r, j, rfl⟩ : ∃ (r : Fin 256) (j : Fin 1024), y = ix2 r j := ⟨y 0, y 1, by funext a; fin_cases a <;> rfl⟩
  rw [dy_blk, emb1_9]
  rfl

theorem emb1_10 (t : Fin cfg1.N) (r : Fin 256) (j : Fin 4096) :
    ((win1_10.blk t).view.emb (ix2 r j) : S4096x4096.Idx) = ix2 (tok t.val t.isLt r) j := by
  blk_ext [idx1_10 t, tok]
theorem dup_arr (c : Dev nD) : (dat1 V c).arrAt 10 cfg1.N = fun i => DUP V c (i 0) (i 1) := by
  refine (dat1 V c).arrAt_eq_of_covers 10 _ (by decide +kernel) fun t hf y => ?_
  blk_simp
  rw [after1_10]
  obtain ⟨r, j, rfl⟩ : ∃ (r : Fin 256) (j : Fin 4096), y = ix2 r j := ⟨y 0, y 1, by funext a; fin_cases a <;> rfl⟩
  rw [dup_blk, emb1_10]
  rfl

theorem emb1_11 (t : Fin cfg1.N) (r : Fin 256) (j : Fin 4096) :
    ((win1_11.blk t).view.emb (ix2 r j) : S4096x4096.Idx) = ix2 (tok t.val t.isLt r) j := by
  blk_ext [idx1_11 t, tok]
theorem act_arr (c : Dev nD) : (dat1 V c).arrAt 11 cfg1.N = fun i => ACT V c (i 0) (i 1) := by
  refine (dat1 V c).arrAt_eq_of_covers 11 _ (by decide +kernel) fun t hf y => ?_
  blk_simp
  rw [after1_11]
  obtain ⟨r, j, rfl⟩ : ∃ (r : Fin 256) (j : Fin 4096), y = ix2 r j := ⟨y 0, y 1, by funext a; fin_cases a <;> rfl⟩
  rw [act_blk, emb1_11]
  rfl

theorem emb1_8 (t : Fin cfg1.N) (r : Fin 256) (j : Fin 1024) :
    ((win1_8.blk t).view.emb (ix2 r j) : S4096x1024.Idx) = ix2 (tok t.val t.isLt r) j := by
  blk_ext [idx1_8 t, tok]
theorem dx_arr (c : Dev nD) : (dat1 V c).arrAt 8 cfg1.N = fun i => DX V c (i 0) (i 1) := by
  refine (dat1 V c).arrAt_eq_of_covers 8 _ (by decide +kernel) fun t hf y => ?_
  blk_simp
  rw [after1_8]
  obtain ⟨r, j, rfl⟩ : ∃ (r : Fin 256) (j : Fin 1024), y = ix2 r j := ⟨y 0, y 1, by funext a; fin_cases a <;> rfl⟩
  rw [dx_blk, emb1_8]
  rfl

/-! ### The row sums, gathered over the tiles -/

theorem canon_row_hit (o : ℕ) (ho : o < 8) (inb) (w : S1x1024.Idx → Elt Ideal .f32) (L) (j : Fin 1024) :
    View.canon (Val := Elt Ideal) (s := S8x1024) (e := .f32) (⟨Rect.unit (s := S8x1024) ![o, 0] ![1, 1024] inb, w⟩ :: L)
      (ix2 (⟨o, ho⟩ : Fin 8) j) = w (ix2 0 j) := by
  have e : (ix2 (⟨o, ho⟩ : Fin 8) j : S8x1024.Idx) = (Rect.unit (s := S8x1024) ![o, 0] ![1, 1024] inb).emb (ix2 0 j) := by
    funext a
    fin_cases a
    · exact Fin.ext (show o = o + 1 * 0 by omega)
    · exact Fin.ext (show (j : ℕ) = 0 + 1 * (j : ℕ) by omega)
  rw [e]
  exact View.canon_cons_emb (Rect.unit (s := S8x1024) ![o, 0] ![1, 1024] inb) w L _
theorem canon_row_miss (o : ℕ) (inb) (w : S1x1024.Idx → Elt Ideal .f32) (L) (q : Fin 8) (hq : (q : ℕ) ≠ o) (j : Fin 1024) :
    View.canon (Val := Elt Ideal) (s := S8x1024) (e := .f32) (⟨Rect.unit (s := S8x1024) ![o, 0] ![1, 1024] inb, w⟩ :: L)
      (ix2 q j) = View.canon L (ix2 q j) := by
  refine View.canon_cons_of_not_mem _ _ fun h => hq ?_
  have h0 := (Rect.mem_set_unit (inb := inb).mp h) (0 : Fin 2)
  have h1 : o ≤ (q : ℕ) := h0.1
  have h2 : (q : ℕ) < o + 1 := h0.2
  omega
theorem pay5_zero (q : Fin 8) (j : Fin 1024) : k1_pay5 (F := Ideal) (ix2 q j) = 0 := by
  pointwise [k1_pay5]
theorem canon_all (inb) (w : S8x1024.Idx → Elt Ideal .f32) (q : Fin 8) (j : Fin 1024) :
    View.canon (Val := Elt Ideal) (s := S8x1024) (e := .f32) [⟨Rect.unit (s := S8x1024) ![0, 0] ![8, 1024] inb, w⟩]
      (ix2 q j) = w (ix2 q j) := by
  have e : (ix2 q j : S8x1024.Idx) = (Rect.unit (s := S8x1024) ![0, 0] ![8, 1024] inb).emb (ix2 q j) := by
    funext a
    fin_cases a
    · exact Fin.ext (show (q : ℕ) = 0 + 1 * (q : ℕ) by omega)
    · exact Fin.ext (show (j : ℕ) = 0 + 1 * (j : ℕ) by omega)
  exact (congrArg (View.canon (Val := Elt Ideal) (s := S8x1024) (e := .f32) [⟨Rect.unit (s := S8x1024) ![0, 0] ![8, 1024] inb, w⟩]) e).trans
    (View.canon_cons_emb (Rect.unit (s := S8x1024) ![0, 0] ![8, 1024] inb) w [] (ix2 q j))
theorem read_row_hit (v : View sig .tc .vmem S8x1024 .f32) (f) (o : ℕ) (ho : o < 8) (inb) (w : S1x1024.Idx → Elt Ideal .f32) (L) (j : Fin 1024) :
    v.read (Elt Ideal) (v.writes (Elt Ideal) f (⟨Rect.unit (s := S8x1024) ![o, 0] ![1, 1024] inb, w⟩ :: L))
      (ix2 (⟨o, ho⟩ : Fin 8) j) = w (ix2 0 j) :=
  View.read_writes_cons_rows_of_mem v f inb w L (ix2 (⟨o, ho⟩ : Fin 8) j) (ix2 0 j) rfl rfl rfl
theorem read_row_miss (v : View sig .tc .vmem S8x1024 .f32) (f) (o : ℕ) (inb) (w : S1x1024.Idx → Elt Ideal .f32) (L) (q : Fin 8) (hq : (q : ℕ) ≠ o) (j : Fin 1024) :
    v.read (Elt Ideal) (v.writes (Elt Ideal) f (⟨Rect.unit (s := S8x1024) ![o, 0] ![1, 1024] inb, w⟩ :: L)) (ix2 q j)
      = v.read (Elt Ideal) (v.writes (Elt Ideal) f L) (ix2 q j) :=
  View.read_writes_cons_rows_of_not_mem (W := 1) v f inb w L (ix2 q j) rfl rfl (by show (q : ℕ) < o ∨ o + 1 ≤ (q : ℕ); omega)
theorem ld_row (X : Vec Ideal S8x1024 .f32) (o : ℕ) (ho : o < 8) (inb) (j : Fin 1024) :
    View.ld X (Rect.unit (s := S8x1024) ![o, 0] ![1, 1024] inb) (ix2 0 j) = X (ix2 (⟨o, ho⟩ : Fin 8) j) := by
  pointwise []

theorem add_pay1 (a b : FVec Ideal S1x1024 .f32) (j : Fin 1024) : k1_pay1 (F := Ideal) a b (ix2 0 j) = b (ix2 0 j) + a (ix2 0 j) := by
  pointwise [k1_pay1]
theorem add_pay2 (a b : FVec Ideal S1x1024 .f32) (j : Fin 1024) : k1_pay2 (F := Ideal) a b (ix2 0 j) = b (ix2 0 j) + a (ix2 0 j) := by
  pointwise [k1_pay2]
theorem add_pay3 (a b : FVec Ideal S1x1024 .f32) (j : Fin 1024) : k1_pay3 (F := Ideal) a b (ix2 0 j) = b (ix2 0 j) + a (ix2 0 j) := by
  pointwise [k1_pay3]
theorem add_pay4 (a b : FVec Ideal S1x1024 .f32) (j : Fin 1024) : k1_pay4 (F := Ideal) a b (ix2 0 j) = b (ix2 0 j) + a (ix2 0 j) := by
  pointwise [k1_pay4]
theorem add_pay32 (a b : FVec Ideal S1x1024 .f32) (j : Fin 1024) : k1_pay32 (F := Ideal) a b (ix2 0 j) = b (ix2 0 j) + a (ix2 0 j) := by
  pointwise [k1_pay32]

/-- What token `i` adds to row `q` of the sums. -/
def SMT (c : Dev nD) (q : Fin 8) (i : Fin 4096) (j : Fin 1024) : EReal :=
  ![dR V c i j * (yR V c i j * rr (yR V c i) * rowR V c 8 j), dR V c i j * modR V c 5 j * (yR V c i j * rr (yR V c i)),
    DH V c i j * (xR V c i j * rr (xR V c i) * rowR V c 7 j), DH V c i j, DH V c i j * (1 + modR V c 4 j) * (xR V c i j * rr (xR V c i)),
    0, 0, 0] q
/-- What tile `t` adds to it. -/
def SMB (c : Dev nD) (q : Fin 8) (t : ℕ) (j : Fin 1024) : EReal :=
  if h : t < 16 then ∑ x : Fin 256, SMT V c q ⟨t * 256 + x, by omega⟩ j else 0
theorem smb_of (c : Dev nD) (q : Fin 8) (t : Fin cfg1.N) (j : Fin 1024) (g : Fin 256 → EReal)
    (h : ∀ r, g r = SMT V c q (tok t.val t.isLt r) j) : ∑ r, g r = SMB V c q t.val j := by
  rw [SMB, dif_pos (show t.val < 16 from t.isLt)]
  exact Finset.sum_congr rfl fun r _ => h r

theorem dgt_of (c : Dev nD) (t : Fin cfg1.N) (j : Fin 1024) :
    k1_pay11 (F := Ideal) (iblk1 V c 0 t) (iblk1 V c 2 t) (View.ld (iblk1 V c 5 t) (Rect.unit ![0, 8, 0] ![1, 1, 1024] inb_S1x16x1024_S1x1x1024_0_8_0)) (ix2 0 j)
      = SMB V c 0 t.val j := by
  rw [dgt_pay]
  refine smb_of V c 0 t j _ fun r => ?_
  simp only [row1_0, row1_2, ld_go]
  rfl
theorem dgpost_of (c : Dev nD) (t : Fin cfg1.N) (j : Fin 1024) :
    k1_pay13 (F := Ideal) (iblk1 V c 0 t) (iblk1 V c 2 t) (View.ld (iblk1 V c 4 t) (Rect.unit ![0, 5, 0] ![1, 1, 1024] inb_S1x6x1024_S1x1x1024_0_5_0)) (ix2 0 j)
      = SMB V c 1 t.val j := by
  rw [dgpost_pay]
  refine smb_of V c 1 t j _ fun r => ?_
  simp only [row1_0, row1_2, ld_gt]
  rfl
theorem dsc_of (c : Dev nD) (t : Fin cfg1.N) (dh : FVec Ideal S256x1024 .f32)
    (hd : ∀ (r : Fin 256) (j : Fin 1024), dh (ix2 r j) = DH V c (tok t.val t.isLt r) j) (j : Fin 1024) :
    k1_pay27 (F := Ideal) dh (iblk1 V c 1 t) (k1_pay22 (View.ld (iblk1 V c 5 t) (Rect.unit ![0, 7, 0] ![1, 1, 1024] inb_S1x16x1024_S1x1x1024_0_7_0))) (k1_pay24 (iblk1 V c 1 t)) (ix2 0 j)
      = SMB V c 2 t.val j := by
  rw [dsc_pay]
  refine smb_of V c 2 t j _ fun r => ?_
  simp only [hd, row1_1, ld_gp]
  rfl
theorem dsh_of (c : Dev nD) (t : Fin cfg1.N) (dh : FVec Ideal S256x1024 .f32)
    (hd : ∀ (r : Fin 256) (j : Fin 1024), dh (ix2 r j) = DH V c (tok t.val t.isLt r) j) (j : Fin 1024) :
    k1_pay28 (F := Ideal) dh (ix2 0 j)
      = SMB V c 3 t.val j := by
  rw [dsh_pay]
  refine smb_of V c 3 t j _ fun r => ?_
  simp only [hd]
  rfl
theorem dgpre_of (c : Dev nD) (t : Fin cfg1.N) (dh : FVec Ideal S256x1024 .f32)
    (hd : ∀ (r : Fin 256) (j : Fin 1024), dh (ix2 r j) = DH V c (tok t.val t.isLt r) j) (j : Fin 1024) :
    k1_pay30 (F := Ideal) dh (iblk1 V c 1 t) (k1_pay23 (View.ld (iblk1 V c 4 t) (Rect.unit ![0, 4, 0] ![1, 1, 1024] inb_S1x6x1024_S1x1x1024_0_4_0))) (k1_pay24 (iblk1 V c 1 t)) (ix2 0 j)
      = SMB V c 4 t.val j := by
  rw [dgpre_pay]
  refine smb_of V c 4 t j _ fun r => ?_
  simp only [hd, row1_1, ld_sc]
  rfl
theorem smb_rest (c : Dev nD) (q : Fin 8) (h4 : q ≠ 4) (h3 : q ≠ 3) (h2 : q ≠ 2) (h1 : q ≠ 1) (h0 : q ≠ 0) (t : Fin cfg1.N) (j : Fin 1024) :
    SMB V c q t.val j = 0 := by
  have n : ∀ o : Fin 8, q ≠ o → q.val ≠ o.val := fun o h e => h (Fin.ext e)
  have hq : q.val = 5 ∨ q.val = 6 ∨ q.val = 7 := by
    have := n 4 h4; have := n 3 h3; have := n 2 h2; have := n 1 h1; have := n 0 h0; have := q.isLt; omega
  obtain e | e | e := hq
  · obtain rfl : q = 5 := Fin.ext e
    rw [← smb_of V c 5 t j (fun _ => 0) (fun r => rfl)]; simp
  · obtain rfl : q = 6 := Fin.ext e
    rw [← smb_of V c 6 t j (fun _ => 0) (fun r => rfl)]; simp
  · obtain rfl : q = 7 := Fin.ext e
    rw [← smb_of V c 7 t j (fun _ => 0) (fun r => rfl)]; simp
theorem sm_A (c : Dev nD) (q : Fin 8) (t : Fin cfg1.N) (h : t.val % 16 = 0) (j : Fin 1024) :
    (outsAt1 V c t.val t.isLt).2.2.2.2 (ix2 q j) = 0 + SMB V c q t.val j := by
  rw [outsAt1_A V c t h]
  frame_open
  simp (disch := decide) only [↓ View.readCov_skip, ↓ View.readCov_cons_toLoadRect, ↓ View.readCov_fill]
  frame_out
  by_cases h4 : q = 4
  · subst h4
    refine (canon_row_hit 4 (by decide) _ _ _ j).trans ?_
    refine (add_pay4 _ _ j).trans (congrArg₂ (· + ·) ?_ (dgpre_of V c t _ (dh_at V c t) j))
    exact (ld_row _ 4 (by decide) _ j).trans (pay5_zero 4 j)
  rw [canon_row_miss 4 _ _ _ q fun e => h4 (Fin.ext e)]
  by_cases h3 : q = 3
  · subst h3
    refine (canon_row_hit 3 (by decide) _ _ _ j).trans ?_
    refine (add_pay3 _ _ j).trans (congrArg₂ (· + ·) ?_ (dsh_of V c t _ (dh_at V c t) j))
    exact (ld_row _ 3 (by decide) _ j).trans (pay5_zero 3 j)
  rw [canon_row_miss 3 _ _ _ q fun e => h3 (Fin.ext e)]
  by_cases h2 : q = 2
  · subst h2
    refine (canon_row_hit 2 (by decide) _ _ _ j).trans ?_
    refine (add_pay2 _ _ j).trans (congrArg₂ (· + ·) ?_ (dsc_of V c t _ (dh_at V c t) j))
    exact (ld_row _ 2 (by decide) _ j).trans (pay5_zero 2 j)
  rw [canon_row_miss 2 _ _ _ q fun e => h2 (Fin.ext e)]
  by_cases h1 : q = 1
  · subst h1
    refine (canon_row_hit 1 (by decide) _ _ _ j).trans ?_
    refine (add_pay1 _ _ j).trans (congrArg₂ (· + ·) ?_ (dgpost_of V c t j))
    exact (ld_row _ 1 (by decide) _ j).trans (pay5_zero 1 j)
  rw [canon_row_miss 1 _ _ _ q fun e => h1 (Fin.ext e)]
  by_cases h0 : q = 0
  · subst h0
    refine (canon_row_hit 0 (by decide) _ _ _ j).trans ?_
    refine (add_pay32 _ _ j).trans (congrArg₂ (· + ·) ?_ (dgt_of V c t j))
    exact (ld_row _ 0 (by decide) _ j).trans (pay5_zero 0 j)
  rw [canon_row_miss 0 _ _ _ q fun e => h0 (Fin.ext e)]
  rw [smb_rest V c q h4 h3 h2 h1 h0 t j, add_zero]
  exact (canon_all _ _ _ _).trans (pay5_zero _ _)
theorem sm_B (c : Dev nD) (q : Fin 8) (t : Fin cfg1.N) (h : ¬t.val % 16 = 0) (j : Fin 1024) :
    (outsAt1 V c t.val t.isLt).2.2.2.2 (ix2 q j)
      = (outsAt1 V c (t.val - 1) (Nat.lt_of_le_of_lt (Nat.sub_le _ _) t.isLt)).2.2.2.2 (ix2 q j) + SMB V c q t.val j := by
  rw [outsAt1_B V c t h]
  frame_out
  by_cases h4 : q = 4
  · subst h4
    refine (read_row_hit _ _ 4 (by decide) _ _ _ j).trans ?_
    exact (add_pay4 _ _ j).trans (congrArg₂ (· + ·) (ld_row _ 4 (by decide) _ j) (dgpre_of V c t _ (dh_at V c t) j))
  rw [read_row_miss _ _ 4 _ _ _ q fun e => h4 (Fin.ext e)]
  by_cases h3 : q = 3
  · subst h3
    refine (read_row_hit _ _ 3 (by decide) _ _ _ j).trans ?_
    exact (add_pay3 _ _ j).trans (congrArg₂ (· + ·) (ld_row _ 3 (by decide) _ j) (dsh_of V c t _ (dh_at V c t) j))
  rw [read_row_miss _ _ 3 _ _ _ q fun e => h3 (Fin.ext e)]
  by_cases h2 : q = 2
  · subst h2
    refine (read_row_hit _ _ 2 (by decide) _ _ _ j).trans ?_
    exact (add_pay2 _ _ j).trans (congrArg₂ (· + ·) (ld_row _ 2 (by decide) _ j) (dsc_of V c t _ (dh_at V c t) j))
  rw [read_row_miss _ _ 2 _ _ _ q fun e => h2 (Fin.ext e)]
  by_cases h1 : q = 1
  · subst h1
    refine (read_row_hit _ _ 1 (by decide) _ _ _ j).trans ?_
    exact (add_pay1 _ _ j).trans (congrArg₂ (· + ·) (ld_row _ 1 (by decide) _ j) (dgpost_of V c t j))
  rw [read_row_miss _ _ 1 _ _ _ q fun e => h1 (Fin.ext e)]
  by_cases h0 : q = 0
  · subst h0
    refine (read_row_hit _ _ 0 (by decide) _ _ _ j).trans ?_
    exact (add_pay32 _ _ j).trans (congrArg₂ (· + ·) (ld_row _ 0 (by decide) _ j) (dgt_of V c t j))
  rw [read_row_miss _ _ 0 _ _ _ q fun e => h0 (Fin.ext e)]
  rw [smb_rest V c q h4 h3 h2 h1 h0 t j, add_zero]
  exact congrFun (Memref.IsWhole.read_unread _ _) _
theorem sm_last (c : Dev nD) (q : Fin 8) (t : Fin cfg1.N) (ht : t.val % 16 = 15) (j : Fin 1024) :
    (outsAt1 V c t.val t.isLt).2.2.2.2 (ix2 q j) = ∑ k, SMT V c q k j := by
  have h := Pipeline.eq_sum_of_reset_step_apply_of_mod (fun n hn j => (outsAt1 V c n hn).2.2.2.2 (ix2 q j)) 16 (fun _ => 0)
    (fun n j => SMB V c q n j) (fun t h j => sm_A V c q t h j) (fun t h j => sm_B V c q t h j) t ht j
  refine h.trans ?_
  have h16 : t.val / 16 = 0 := Nat.div_eq_of_lt t.isLt
  rw [sum16 fun k => SMT V c q k j, h16, zero_add]
  exact Finset.sum_congr rfl fun k _ => by rw [Nat.mul_zero, Nat.zero_add]; rfl
theorem flush12 : ∀ t : Fin cfg1.N, (cfg1.win 12).flush t = true → t.val % 16 = 15 := by decide +kernel
theorem idx1_12 : ∀ t : Fin cfg1.N, win1_12.index t = ![0, 0] := (by decide +kernel : ∀ t : Fin grid1.N, _)
theorem emb1_12 (t : Fin cfg1.N) (r : Fin 8) (j : Fin 1024) : ((win1_12.blk t).view.emb (ix2 r j) : S8x1024.Idx) = ix2 r j := by
  blk_ext [idx1_12 t]
theorem sm_arr (c : Dev nD) : (dat1 V c).arrAt 12 cfg1.N = fun i => ∑ k, SMT V c (i 0) k (i 1) := by
  refine (dat1 V c).arrAt_eq_of_covers 12 _ (by decide +kernel) fun t hf y => ?_
  blk_simp
  rw [after1_12]
  obtain ⟨r, j, rfl⟩ : ∃ (r : Fin 8) (j : Fin 1024), y = ix2 r j := ⟨y 0, y 1, by funext a; fin_cases a <;> rfl⟩
  rw [sm_last V c r t (flush12 t hf) j, emb1_12]
  rfl

end Cert.Kernel4Ideal.Mlp
-- ==== Proof.Mlp1Grad.lean ====
module

public import proofs.«01_k».proof.Proof.Gen.Kernel4Ideal.Frame
public import proofs.«01_k».proof.Proof.Mlp1Bwd
public import Idealize.ShloMosaic.Lib.Pipeline.Value
public import Idealize.ShloMosaic.Lib.UnfoldOut
public import Idealize.ShloMosaic.Lib.Pipeline.ValueKit

@[expose] public section
set_option maxRecDepth 16384
noncomputable section
namespace Cert.Kernel4Ideal.Mlp
open Idealize.ShloMosaic Idealize.ShloMosaic.TcCoe Idealize.ShloMosaic.Tactic Idealize.ShloMosaic.Pointwise
open Cert.Kernel4Ideal.Gen Cert.Mlp
variable (V : (c : Dev nD) → (b : Ref sig .tc) → Buf (Elt Ideal) ((c : Thread nD τ).loc b))

theorem idx2_0 : ∀ t : Fin cfg2.N, win2_0.index t = ![0, 0] := (by decide +kernel : ∀ t : Fin grid2.N, _)

theorem idx2_1 : ∀ t : Fin cfg2.N, win2_1.index t = ![0, t.val] := (by decide +kernel : ∀ t : Fin grid2.N, _)

theorem idx2_2 : ∀ t : Fin cfg2.N, win2_2.index t = ![t.val, 0, 0] := (by decide +kernel : ∀ t : Fin grid2.N, _)

theorem idx3_0 : ∀ t : Fin cfg3.N, win3_0.index t = ![0, t.val] := (by decide +kernel : ∀ t : Fin grid3.N, _)

theorem idx3_1 : ∀ t : Fin cfg3.N, win3_1.index t = ![0, 0] := (by decide +kernel : ∀ t : Fin grid3.N, _)

theorem idx3_2 : ∀ t : Fin cfg3.N, win3_2.index t = ![t.val, 0, 0] := (by decide +kernel : ∀ t : Fin grid3.N, _)

theorem blk2_0 (c : Dev nD) (t : Fin cfg2.N) (s : Fin 4096) (k : Fin 1024) :
    iblk2 V c 0 t (ix2 s k) = (V c main_v0_3) (ix2 s k) := by
  blk_ext! [iblk2, idx2_0 t]
theorem blk2_1 (c : Dev nD) (t : Fin cfg2.N) (s : Fin 4096) (x : Fin 512) :
    iblk2 V c 1 t (ix2 s x) = (V c main_v1_2) (ix2 s (col t.val t.isLt x)) := by
  blk_ext! [iblk2, idx2_1 t, col]
theorem blk3_0 (c : Dev nD) (t : Fin cfg3.N) (s : Fin 4096) (x : Fin 512) :
    iblk3 V c 0 t (ix2 s x) = (V c main_v1_3) (ix2 s (col t.val t.isLt x)) := by
  blk_ext! [iblk3, idx3_0 t, col]
theorem blk3_1 (c : Dev nD) (t : Fin cfg3.N) (s : Fin 4096) (k : Fin 1024) :
    iblk3 V c 1 t (ix2 s k) = (V c main_v1_1) (ix2 s k) := by
  blk_ext! [iblk3, idx3_1 t]
theorem up_pay1 (a b : FVec Ideal S4096x512 .bf16) (r x : Fin 512) :
    k2_pay1 (F := Ideal) a b (ix3 0 r x) = ∑ s, a (ix2 s r) * b (ix2 s x) := by
  pointwise [k2_pay1]
theorem up_pay2 (a b : FVec Ideal S4096x512 .bf16) (r x : Fin 512) :
    k2_pay2 (F := Ideal) a b (ix3 0 r x) = ∑ s, a (ix2 s r) * b (ix2 s x) := by
  pointwise [k2_pay2]
theorem dn_pay1 (a : FVec Ideal S4096x512 .bf16) (b : FVec Ideal S4096x1024 .bf16) (x : Fin 512) (k : Fin 1024) :
    k3_pay1 (F := Ideal) a b (ix3 0 x k) = ∑ s, a (ix2 s x) * b (ix2 s k) := by
  pointwise [k3_pay1]
theorem ld_h0 (x : Vec Ideal S4096x1024 .bf16) (s : Fin 4096) (r : Fin 512) (inb) :
    View.ld x (Rect.unit (s := S4096x1024) ![0, 0] ![4096, 512] inb) (ix2 s r) = x (ix2 s ⟨r, by omega⟩) := by
  pointwise []
theorem ld_h1 (x : Vec Ideal S4096x1024 .bf16) (s : Fin 4096) (r : Fin 512) (inb) :
    View.ld x (Rect.unit (s := S4096x1024) ![0, 512] ![4096, 512] inb) (ix2 s r) = x (ix2 s ⟨512 + r, by omega⟩) := by
  pointwise []

def hR (c : Dev nD) (i : Fin 4096) (k : Fin 1024) : EReal := V c main_v0_3 (ix2 i k)
def dupR (c : Dev nD) (i : Fin 4096) (k : Fin 4096) : EReal := V c main_v1_2 (ix2 i k)
def actR (c : Dev nD) (i : Fin 4096) (k : Fin 4096) : EReal := V c main_v1_3 (ix2 i k)
def dyR (c : Dev nD) (i : Fin 4096) (k : Fin 1024) : EReal := V c main_v1_1 (ix2 i k)
/-- The gradients of the up and down products: column tile `q`, at row `r` and column `x` of it. -/
def GU (c : Dev nD) (q : Fin 8) (r : Fin 1024) (x : Fin 512) : EReal :=
  ∑ s, hR V c s r * dupR V c s (col q.val q.isLt x)
def GD (c : Dev nD) (q : Fin 8) (x : Fin 512) (k : Fin 1024) : EReal :=
  ∑ s, actR V c s (col q.val q.isLt x) * dyR V c s k

theorem gu_lo (c : Dev nD) (t : Fin cfg2.N) (r x : Fin 512) (inb) :
    k2_pay1 (F := Ideal) (View.ld (iblk2 V c 0 t) (Rect.unit (s := S4096x1024) ![0, 0] ![4096, 512] inb)) (iblk2 V c 1 t) (ix3 0 r x)
      = GU V c ⟨t.val, t.isLt⟩ ⟨r, by omega⟩ x := by
  rw [up_pay1]
  exact Finset.sum_congr rfl fun s _ => congrArg₂ (· * ·) ((ld_h0 _ s r _).trans (blk2_0 V c t s _)) (blk2_1 V c t s x)
theorem gu_hi (c : Dev nD) (t : Fin cfg2.N) (r x : Fin 512) (inb) :
    k2_pay2 (F := Ideal) (View.ld (iblk2 V c 0 t) (Rect.unit (s := S4096x1024) ![0, 512] ![4096, 512] inb)) (iblk2 V c 1 t) (ix3 0 r x)
      = GU V c ⟨t.val, t.isLt⟩ ⟨512 + r, by omega⟩ x := by
  rw [up_pay2]
  exact Finset.sum_congr rfl fun s _ => congrArg₂ (· * ·) ((ld_h1 _ s r _).trans (blk2_0 V c t s _)) (blk2_1 V c t s x)
theorem gu_blk (c : Dev nD) (t : Fin cfg2.N) (r : Fin 1024) (x : Fin 512) :
    (outsAt2 V c t) (ix3 0 r x) = GU V c ⟨t.val, t.isLt⟩ r x := by
  dsimp only [outsAt2]
  frame_out
  by_cases hr : (r : ℕ) < 512
  · have e : (ix3 0 r x : S1x1024x512.Idx) = (Rect.unit (s := S1x1024x512) ![0, 0, 0] ![1, 512, 512] inb_S1x1024x512_S1x512x512_0_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 512 ≤ (r : ℕ) := (Rect.mem_set_unit (inb := inb_S1x1024x512_S1x512x512_0_512_0).mp h (1 : Fin 3)).1
      omega
    · rw [e]
      exact (View.canon_cons_emb (Rect.unit (s := S1x1024x512) ![0, 0, 0] ![1, 512, 512] inb_S1x1024x512_S1x512x512_0_0_0) _ _ _).trans (gu_lo V c t ⟨r, hr⟩ x _)
  · have e : (ix3 0 r x : S1x1024x512.Idx) = (Rect.unit (s := S1x1024x512) ![0, 512, 0] ![1, 512, 512] inb_S1x1024x512_S1x512x512_0_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    rw [e]
    refine (View.canon_cons_emb (Rect.unit (s := S1x1024x512) ![0, 512, 0] ![1, 512, 512] inb_S1x1024x512_S1x512x512_0_512_0) _ _ _).trans ((gu_hi V c t ⟨r - 512, by omega⟩ x _).trans ?_)
    exact congrArg (fun r => GU V c ⟨t.val, t.isLt⟩ r x) (Fin.ext (show 512 + ((r : ℕ) - 512) = r by omega))
theorem gd_blk (c : Dev nD) (t : Fin cfg3.N) (x : Fin 512) (k : Fin 1024) :
    (outsAt3 V c t) (ix3 0 x k) = GD V c ⟨t.val, t.isLt⟩ x k := by
  dsimp only [outsAt3]
  frame_out
  rw [dn_pay1]
  simp only [blk3_0, blk3_1]
  rfl
theorem emb2_2 (t : Fin cfg2.N) (r : Fin 1024) (x : Fin 512) :
    ((win2_2.blk t).view.emb (ix3 0 r x) : S8x1024x512.Idx) = ix3 (⟨t.val, t.isLt⟩ : Fin 8) r x := by
  blk_ext [idx2_2 t]
theorem emb3_2 (t : Fin cfg3.N) (x : Fin 512) (k : Fin 1024) :
    ((win3_2.blk t).view.emb (ix3 0 x k) : S8x512x1024.Idx) = ix3 (⟨t.val, t.isLt⟩ : Fin 8) x k := by
  blk_ext [idx3_2 t]
theorem gu_arr (c : Dev nD) : (dat2 V c).arrAt 2 cfg2.N = fun i => GU V c (i 0) (i 1) (i 2) := by
  refine (dat2 V c).arrAt_eq_of_covers 2 _ (by decide +kernel) fun t hf y => ?_
  blk_simp
  rw [after2_2]
  obtain ⟨r, x, rfl⟩ : ∃ (r : Fin 1024) (x : Fin 512), y = ix3 0 r x := ⟨y 1, y 2, by funext a; fin_cases a; exact Subsingleton.elim (α := Fin 1) _ _; all_goals rfl⟩
  rw [gu_blk, emb2_2]
  rfl
theorem gd_arr (c : Dev nD) : (dat3 V c).arrAt 2 cfg3.N = fun i => GD V c (i 0) (i 1) (i 2) := by
  refine (dat3 V c).arrAt_eq_of_covers 2 _ (by decide +kernel) fun t hf y => ?_
  blk_simp
  rw [after3_2]
  obtain ⟨r, x, rfl⟩ : ∃ (r : Fin 512) (x : Fin 1024), y = ix3 0 r x := ⟨y 1, y 2, by funext a; fin_cases a; exact Subsingleton.elim (α := Fin 1) _ _; all_goals rfl⟩
  rw [gd_blk, emb3_2]
  rfl

end Cert.Kernel4Ideal.Mlp
-- ==== Proof.Mlp1Run.lean ====
module

public import proofs.«01_k».proof.Proof.Gen.Kernel4Ideal.Frame
public import proofs.«01_k».proof.Proof.Mlp1Grad
public import Idealize.ShloMosaic.Lib.Pipeline.Value
public import Idealize.ShloMosaic.Lib.UnfoldOut
public import Idealize.ShloMosaic.Lib.Pipeline.ValueKit

@[expose] public section
set_option maxRecDepth 16384
noncomputable section
namespace Cert.Kernel4Ideal.Mlp
open Idealize.ShloMosaic Idealize.ShloMosaic.TcCoe Idealize.ShloMosaic.Tactic Idealize.ShloMosaic.Pointwise
open Cert.Kernel4Ideal.Gen Cert.Mlp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The layer half's inputs as core `c` holds them at launch, and the targets. -/
def tgt (c : Dev nD) (i : Fin 4096) (k : Fin 1024) : EReal := m ((c : Thread nD τ).loc main_arg1) (ix2 i k)
def inOf (c : Dev nD) : In := lossIn
  (fun i k => m ((c : Thread nD τ).loc main_arg0) (ix2 i k)) (tgt m c)
  (fun q k => m ((c : Thread nD τ).loc main_arg2) (ix3 1 q k))
  (fun q k => m ((c : Thread nD τ).loc main_arg3) (ix3 1 q k))
  (fun q k f => m ((c : Thread nD τ).loc main_arg4) (ix3 q k f))
  (fun f k => m ((c : Thread nD τ).loc main_arg5) (ix2 f k))

/-! ### What each region finds -/

theorem dR_1 (c : Dev nD) : dR (V1 m ρ) c = (inOf m c).d := by
  funext i k
  exact congrFun ((W1_arr m ρ c 10).trans (dl_arr (V0 m ρ) c)) (ix2 i k)
theorem xR_1 (c : Dev nD) : xR (V1 m ρ) c = (inOf m c).x := by
  funext i k
  exact congrFun (W1_args m ρ c main_arg0 (by decide)) (ix2 i k)
theorem modR_1 (c : Dev nD) : modR (V1 m ρ) c = (inOf m c).mod := by
  funext i k
  exact congrFun (W1_args m ρ c main_arg2 (by decide)) (ix3 1 i k)
theorem rowR_1 (c : Dev nD) : rowR (V1 m ρ) c = (inOf m c).row := by
  funext i k
  exact congrFun (W1_args m ρ c main_arg3 (by decide)) (ix3 1 i k)
theorem dnR_1 (c : Dev nD) : dnR (V1 m ρ) c = (inOf m c).dn := by
  funext i k
  exact congrFun (W1_args m ρ c main_arg5 (by decide)) (ix2 i k)
theorem upR_1 (c : Dev nD) : upR (V1 m ρ) c = (inOf m c).up := by
  funext i k f
  exact congrFun (W1_args m ρ c main_arg4 (by decide)) (ix3 i k f)
theorem yR_1 (c : Dev nD) : yR (V1 m ρ) c = (inOf m c).Y := by
  funext i k
  exact congrFun ((W1_arr m ρ c 8).trans (y2_arr (V0 m ρ) c)) (ix2 i k)
theorem ruR_1 (c : Dev nD) : ruR (V1 m ρ) c = (inOf m c).RU := by
  funext i k
  exact congrFun ((W1_arr m ρ c 7).trans (ru_arr (V0 m ρ) c)) (ix2 i k)
theorem DY_1 (c : Dev nD) : DY (V1 m ρ) c = (inOf m c).DY := by
  funext i
  unfold DY
  rw [yR_1, dR_1, modR_1, rowR_1]
  rfl
theorem DUP_1 (c : Dev nD) : DUP (V1 m ρ) c = (inOf m c).DUP := by
  funext i
  unfold DUP
  rw [DY_1, ruR_1, dnR_1]
  rfl
theorem DH_1 (c : Dev nD) : DH (V1 m ρ) c = (inOf m c).DH := by
  funext i
  unfold DH
  rw [DUP_1, upR_1]
  rfl
theorem DX_1 (c : Dev nD) : DX (V1 m ρ) c = (inOf m c).DX := by
  funext i
  unfold DX
  rw [dR_1, xR_1, DH_1, modR_1, rowR_1]
  rfl
theorem SMT_1 (c : Dev nD) : SMT (V1 m ρ) c = (inOf m c).SMT := by
  funext q i j
  unfold SMT
  rw [dR_1, xR_1, yR_1, DH_1, modR_1, rowR_1]
  rfl
theorem hR_2 (c : Dev nD) : hR (V2 m ρ) c = (inOf m c).H := by
  funext i k
  exact congrFun ((W2_of m ρ c main_v0_3 (by decide +kernel)).trans ((W1_arr m ρ c 9).trans (h2_arr (V0 m ρ) c))) (ix2 i k)
theorem dupR_2 (c : Dev nD) : dupR (V2 m ρ) c = (inOf m c).DUP := by
  rw [← DUP_1 m ρ c]
  funext i k
  exact congrFun ((W2_arr m ρ c 10).trans (dup_arr (V1 m ρ) c)) (ix2 i k)
theorem actR_3 (c : Dev nD) : actR (V3 m ρ) c = fun i f => (inOf m c).RU i f * (inOf m c).RU i f := by
  rw [← ruR_1 m ρ c]
  funext i k
  exact congrFun ((W3_of m ρ c main_v1_3 (by decide +kernel)).trans ((W2_arr m ρ c 11).trans (act_arr (V1 m ρ) c))) (ix2 i k)
theorem dyR_3 (c : Dev nD) : dyR (V3 m ρ) c = (inOf m c).DY := by
  rw [← DY_1 m ρ c]
  funext i k
  exact congrFun ((W3_of m ρ c main_v1_1 (by decide +kernel)).trans ((W2_arr m ρ c 9).trans (dy_arr (V1 m ρ) c))) (ix2 i k)

/-! ### The results at the end -/

theorem loss_end (c : Dev nD) : W5 m ρ c (Proc.devRef .tc main_v5) = fun _ => loss (inOf m c).X2 (tgt m c) := by
  have h : W4 m ρ c (Proc.devRef .tc main_v0_5) = fun _ => loss (inOf m c).X2 (tgt m c) :=
    (W4_of m ρ c main_v0_5 (by decide +kernel)).trans ((W3_of m ρ c main_v0_5 (by decide +kernel)).trans
      ((W2_of m ρ c main_v0_5 (by decide +kernel)).trans ((W1_arr m ρ c 11).trans (loss_arr (V0 m ρ) c))))
  have e : W5 m ρ c (Proc.devRef .tc main_v5)
      = shapeCast S_ (extractStridedSlice S1x1 ![0, 0] (W4 m ρ c (Proc.devRef .tc main_v0_5)) slices_S8x128_S1x1_0_0) shapeCasts_S1x1_S_ := by
    unfold_abbrev_sides
    after_results
    rfl
  rw [e, h]
  funext i
  pointwise []
theorem dx1_end (c : Dev nD) : W5 m ρ c (Proc.devRef .tc main_v1_0) = fun i => (inOf m c).DX (i 0) (i 1) := by
  rw [← DX_1 m ρ c]
  exact (W5_of m ρ c main_v1_0 (by decide +kernel)).trans <| (W4_of m ρ c main_v1_0 (by decide +kernel)).trans ((W3_of m ρ c main_v1_0 (by decide +kernel)).trans
    ((W2_arr m ρ c 8).trans (dx_arr (V1 m ρ) c)))
theorem sm_end (c : Dev nD) : W5 m ρ c (Proc.devRef .tc main_v1_4) = fun i => (inOf m c).SM (i 0) (i 1) := by
  unfold In.SM
  rw [← SMT_1 m ρ c]
  exact (W5_of m ρ c main_v1_4 (by decide +kernel)).trans <| (W4_of m ρ c main_v1_4 (by decide +kernel)).trans ((W3_of m ρ c main_v1_4 (by decide +kernel)).trans
    ((W2_arr m ρ c 12).trans (sm_arr (V1 m ρ) c)))
theorem gup_end (c : Dev nD) : W5 m ρ c (Proc.devRef .tc main_v2) = fun i => (inOf m c).GU (i 0) (i 1) (i 2) := by
  refine (W5_of m ρ c main_v2 (by decide +kernel)).trans <| (W4_of m ρ c main_v2 (by decide +kernel)).trans ((W3_arr m ρ c 2).trans ((gu_arr (V2 m ρ) c).trans ?_))
  unfold GU In.GU
  rw [hR_2, dupR_2]
theorem gdn_end (c : Dev nD) : W5 m ρ c (Proc.devRef .tc main_v3) = fun i => (inOf m c).GD (i 0) (i 1) (i 2) := by
  refine (W5_of m ρ c main_v3 (by decide +kernel)).trans <| (W4_arr m ρ c 2).trans ((gd_arr (V3 m ρ) c).trans ?_)
  unfold GD In.GD
  rw [actR_3, dyR_3]

set_option backward.isDefEq.respectTransparency.types false in
/-- Every run of the kernel ends with the loss and the layer half's four gradients, its arguments as launched. -/
theorem run_value : θ_run defs (onTc (τ := τ) (main (F := Ideal))) ⟨m, fun _ => 0, ρ⟩ (fun r => ∀ c : Dev nD,
      r.2.mem ((c.tc : Thread nD τ).loc main_v5) = (fun _ => loss (inOf m c).X2 (tgt m c))
      ∧ r.2.mem ((c.tc : Thread nD τ).loc main_v1_0) = (fun i => (inOf m c).DX (i 0) (i 1))
      ∧ r.2.mem ((c.tc : Thread nD τ).loc main_v1_4) = (fun i => (inOf m c).SM (i 0) (i 1))
      ∧ r.2.mem ((c.tc : Thread nD τ).loc main_v2) = (fun i => (inOf m c).GU (i 0) (i 1) (i 2))
      ∧ r.2.mem ((c.tc : Thread nD τ).loc main_v3) = (fun i => (inOf m c).GD (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v5 (by decide))).trans (loss_end m ρ c),
       (h c _ (mem_uc main_v1_0 (by decide))).trans (dx1_end m ρ c),
       (h c _ (mem_uc main_v1_4 (by decide))).trans (sm_end m ρ c),
       (h c _ (mem_uc main_v2 (by decide))).trans (gup_end m ρ c),
       (h c _ (mem_uc main_v3 (by decide))).trans (gdn_end m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Kernel4Ideal.Mlp
-- ==== Proof.Mlp1Ref.lean ====
module

public import proofs.«01_k».proof.Proof.Gen.Reference4Ideal.Run
public import proofs.«01_k».proof.Proof.Mlp1Spec
public import Idealize.ShloMosaic.Lib.Pointwise

/-! The reference's results over the extended reals, one row at a time. -/

@[expose] public section
set_option maxRecDepth 16384
noncomputable section
namespace Cert.Reference4Ideal.Mlp
open Idealize.ShloMosaic Idealize.ShloMosaic.TcCoe Idealize.ShloMosaic.Tactic Idealize.ShloMosaic.Pointwise
open Idealize.SL.Sem Cert.Reference4Ideal Cert.Reference4Ideal.Gen Cert.Reference4Ideal.Value Cert.Mlp Idealize.ShloMosaic.StableHlo
variable (V : Valuation τ sig (Elt Ideal))

theorem mul2 {a b c d : EReal} (h : a = b) (h' : c = d) : a * c = b * d := by rw [h, h']
theorem add2 {a b c d : EReal} (h : a = b) (h' : c = d) : a + c = b + d := by rw [h, h']
theorem sumE {n : ℕ} {f g : Fin n → EReal} (h : ∀ x, f x = g x) : ∑ x, f x = ∑ x, g x := Finset.sum_congr rfl fun x _ => h x
theorem relu2 {u u' s s' w w' : EReal} [Decidable (0 < u)] (hu : u = u') (hs : s = s') (hw : w = w') :
    (if 0 < u then s * (two * w) else 0) = if 0 < u' then s' * (two * w') else 0 := by
  subst hu hs hw
  congr

/-- The arguments as rows. -/
def tgt (i : Fin 4096) (k : Fin 1024) : EReal := V (Proc.devRef .tc main_arg1) (ix2 i k)
def inR : In := lossIn
  (fun i k => V (Proc.devRef .tc main_arg0) (ix2 i k)) (tgt V)
  (fun q k => V (Proc.devRef .tc main_arg2) (ix3 1 q k))
  (fun q k => V (Proc.devRef .tc main_arg3) (ix3 1 q k))
  (fun q k f => V (Proc.devRef .tc main_arg4) (ix3 q k f))
  (fun f k => V (Proc.devRef .tc main_arg5) (ix2 f k))

theorem r2 (k : Fin 1024) (f : Fin 4096) : @Eq EReal (res_main_v2 V (ix2 k f)) (wcol (inR V).up k f) := by
  pointwise [res_main_v2]
  rfl

theorem r3 (k : Fin 1024) (f : Fin 4096) : @Eq EReal (res_main_v3 V (ix2 f k)) ((inR V).dn f k) := by
  pointwise [res_main_v3]
  rfl

theorem r9 (k : Fin 1024) : @Eq EReal (res_main_v9 V (ix2 0 k)) ((inR V).mod 5 k) := by
  pointwise [res_main_v9]
  rfl

theorem r11 (k : Fin 1024) : @Eq EReal (res_main_v11 V (ix2 0 k)) ((inR V).row 7 k) := by
  pointwise [res_main_v11]
  rfl

theorem r13 (k : Fin 1024) : @Eq EReal (res_main_v13 V (ix2 0 k)) ((inR V).row 8 k) := by
  pointwise [res_main_v13]
  rfl

theorem r30 (k : Fin 1024) : @Eq EReal (res_main_v30 V (ix2 0 k)) (1 + (inR V).mod 4 k) := by
  pointwise [res_main_v30]
  rfl

theorem r20 (i : Fin 4096) : @Eq EReal (res_main_v20 V (ix2 i 0)) (ms ((inR V).x i)) := by
  pointwise [res_main_v20]
  rfl

theorem r21 (i : Fin 4096) : @Eq EReal (res_main_v21 V (ix2 i 0)) (rr ((inR V).x i)) := by
  pointwise [res_main_v21]
  exact congrArg Ideal.rsqrt (r20 V i)

theorem r26 (i : Fin 4096) (k : Fin 1024) : @Eq EReal (res_main_v26 V (ix2 i k)) ((inR V).x i k * rr ((inR V).x i)) := by
  pointwise [res_main_v26]
  exact mul2 (rfl) (r21 V i)

theorem r28 (i : Fin 4096) (k : Fin 1024) : @Eq EReal (res_main_v28 V (ix2 i k)) ((inR V).x i k * rr ((inR V).x i) * (inR V).row 7 k) := by
  pointwise [res_main_v28]
  exact mul2 (r26 V i k) (r11 V k)

theorem r34 (i : Fin 4096) (k : Fin 1024) : @Eq EReal (res_main_v34 V (ix2 i k)) ((inR V).H i k) := by
  pointwise [res_main_v34]
  exact add2 (mul2 (r28 V i k) (r30 V k)) (rfl)

theorem r35 (i : Fin 4096) (k : Fin 4096) : @Eq EReal (res_main_v35 V (ix2 i k)) (uRow ((inR V).H i) (inR V).up k) := by
  pointwise [res_main_v35]
  exact sumE fun x => mul2 (r34 V i x) (r2 V x k)

theorem r36 (i : Fin 4096) (k : Fin 4096) : @Eq EReal (res_main_v36 V (ix2 i k)) ((inR V).RU i k) := by
  pointwise [res_main_v36]
  exact congrArg (fun u : EReal => max u 0) (r35 V i k)

theorem r40 (i : Fin 4096) (k : Fin 4096) : @Eq EReal (res_main_v40 V (ix2 i k)) ((inR V).RU i k * (inR V).RU i k) := by
  pointwise [res_main_v40]
  exact mul2 (r36 V i k) (r36 V i k)

theorem r43 (i : Fin 4096) (k : Fin 1024) : @Eq EReal (res_main_v43 V (ix2 i k)) ((inR V).Y i k) := by
  pointwise [res_main_v43]
  exact sumE fun x => mul2 (r40 V i x) (r3 V k x)

theorem r50 (i : Fin 4096) : @Eq EReal (res_main_v50 V (ix2 i 0)) (ms ((inR V).Y i)) := by
  pointwise [res_main_v50]
  exact congrArg (fun s : EReal => Ideal.div s width + eps) (sumE fun x => mul2 (r43 V i x) (r43 V i x))

theorem r51 (i : Fin 4096) : @Eq EReal (res_main_v51 V (ix2 i 0)) (rr ((inR V).Y i)) := by
  pointwise [res_main_v51]
  exact congrArg Ideal.rsqrt (r50 V i)

theorem r56 (i : Fin 4096) (k : Fin 1024) : @Eq EReal (res_main_v56 V (ix2 i k)) ((inR V).Y i k * rr ((inR V).Y i)) := by
  pointwise [res_main_v56]
  exact mul2 (r43 V i k) (r51 V i)

theorem r58 (i : Fin 4096) (k : Fin 1024) : @Eq EReal (res_main_v58 V (ix2 i k)) ((inR V).Y i k * rr ((inR V).Y i) * (inR V).row 8 k) := by
  pointwise [res_main_v58]
  exact mul2 (r56 V i k) (r13 V k)

theorem r62 (i : Fin 4096) (k : Fin 1024) : @Eq EReal (res_main_v62 V (ix2 i k)) ((inR V).X2 i k - tgt V i k) := by
  pointwise [res_main_v62]
  exact congrArg (fun x : EReal => x - tgt V i k) (add2 rfl (mul2 (r9 V k) (r58 V i k)))

theorem r76 (i : Fin 4096) (k : Fin 1024) : @Eq EReal (res_main_v76 V (ix2 i k)) ((inR V).d i k) := by
  pointwise [res_main_v76]
  exact (mul2 rfl (mul2 rfl (r62 V i k))).trans (dLoss_vjp _)

theorem r78 (i : Fin 4096) (k : Fin 1024) : @Eq EReal (res_main_v78 V (ix2 i k)) ((inR V).mod 5 k * (inR V).d i k) := by
  pointwise [res_main_v78]
  exact mul2 (r9 V k) (r76 V i k)

theorem r86 (i : Fin 4096) (k : Fin 1024) : @Eq EReal (res_main_v86 V (ix2 i k)) ((inR V).mod 5 k * (inR V).d i k * (inR V).row 8 k) := by
  pointwise [res_main_v86]
  exact mul2 (r78 V i k) (r13 V k)

theorem r96 (i : Fin 4096) (k : Fin 1024) : @Eq EReal (res_main_v96 V (ix2 i k)) (vjpQ ((inR V).Y i) (fun k => (inR V).mod 5 k * (inR V).d i k * (inR V).row 8 k)) := by
  pointwise [res_main_v96]
  refine (Fin.sum_univ_one (M := EReal) _).trans (congrArg₂ (fun s t : EReal => Ideal.div (s * (mhalf * t)) width) ?_ ?_)
  · exact sumE fun x => mul2 (r43 V i x) (r86 V i x)
  · exact congrArg₂ Ideal.div (r51 V i) (r50 V i)

theorem r100 (i : Fin 4096) (k : Fin 1024) : @Eq EReal (res_main_v100 V (ix2 i k)) ((inR V).DY i k) := by
  pointwise [res_main_v100]
  refine (add2 (add2 (mul2 (r86 V i k) (r51 V i)) (mul2 (r43 V i k) (r96 V i k)))
    (mul2 (r96 V i k) (r43 V i k))).trans ?_
  refine (vjp_eq ((inR V).Y i) (fun k => (inR V).mod 5 k * (inR V).d i k * (inR V).row 8 k) k).trans ?_
  exact congrArg (fun f => normBwd ((inR V).Y i) f k) (funext fun k => mul2 (mul_comm _ _) rfl)

theorem r106 (i : Fin 4096) (k : Fin 4096) : @Eq EReal (res_main_v106 V (ix2 i k)) ((inR V).DUP i k) := by
  pointwise [res_main_v106]
  exact (relu2 (r35 V i k) (sumE fun x => mul2 (r100 V i x) (r3 V x k)) (r36 V i k)).trans (relu_vjp _ _)

theorem r109 (i : Fin 4096) (k : Fin 1024) : @Eq EReal (res_main_v109 V (ix2 i k)) ((inR V).DH i k) := by
  pointwise [res_main_v109]
  exact sumE fun x => mul2 (r106 V i x) (r2 V k x)

theorem r116 (i : Fin 4096) (k : Fin 1024) : @Eq EReal (res_main_v116 V (ix2 i k)) ((inR V).DH i k * (1 + (inR V).mod 4 k)) := by
  pointwise [res_main_v116]
  exact mul2 (r109 V i k) (r30 V k)

theorem r121 (i : Fin 4096) (k : Fin 1024) : @Eq EReal (res_main_v121 V (ix2 i k)) ((inR V).DH i k * (1 + (inR V).mod 4 k) * (inR V).row 7 k) := by
  pointwise [res_main_v121]
  exact mul2 (r116 V i k) (r11 V k)

theorem r132 (i : Fin 4096) (k : Fin 1024) : @Eq EReal (res_main_v132 V (ix2 i k)) (vjpQ ((inR V).x i) (fun k => (inR V).DH i k * (1 + (inR V).mod 4 k) * (inR V).row 7 k)) := by
  pointwise [res_main_v132]
  refine (Fin.sum_univ_one (M := EReal) _).trans (congrArg₂ (fun s t : EReal => Ideal.div (s * (mhalf * t)) width) ?_ ?_)
  · exact sumE fun x => mul2 (rfl) (r121 V i x)
  · exact congrArg₂ Ideal.div (r21 V i) (r20 V i)

theorem out0 : (mulf (constant (F := Ideal) S_ .f32 0x3F000000#32) (Host.reduceAdd (Host.divf (Host.reduceAdd (mulf (res_main_v62 V) (res_main_v62 V)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_) : (⟨S_, .f32⟩ : BufTy).Contents (Elt Ideal)) = (fun _ => loss (inR V).X2 (tgt V)) := by
  funext i
  pointwise []
  exact (congrArg (fun s : EReal => half * s) (sumE fun x => congrArg (fun s : EReal => Ideal.div s width)
    (sumE fun y => mul2 (r62 V x y) (r62 V x y)))).trans (half_sum _)

theorem out1 : (addf (addf (addf (res_main_v76 V) (mulf (res_main_v121 V) (broadcastInDim S4096x1024 ![0, 1] bcast_S4096x1_S4096x1024_0_1 (res_main_v21 V)))) (mulf (V (Proc.devRef .tc main_arg0)) (res_main_v132 V))) (mulf (res_main_v132 V) (V (Proc.devRef .tc main_arg0))) : (⟨S4096x1024, .f32⟩ : BufTy).Contents (Elt Ideal)) = (fun i => (inR V).DX (i 0) (i 1)) := by
  funext i
  obtain ⟨i, k, rfl⟩ : ∃ a b, i = ix2 a b := ⟨i 0, i 1, eq_ix2 i⟩
  pointwise []
  refine (add2 (add2 (add2 (r76 V i k) (mul2 (r121 V i k) (r21 V i)))
    (mul2 rfl (r132 V i k))) (mul2 (r132 V i k) rfl)).trans ?_
  refine ((add2 (add_assoc (G := EReal) _ _ _) rfl).trans (add_assoc (G := EReal) _ _ _)).trans (add2 rfl ?_)
  exact vjp_eq ((inR V).x i) (fun k => (inR V).DH i k * (1 + (inR V).mod 4 k) * (inR V).row 7 k) k

theorem out2 : ((concatenate S8x1024 0 [⟨S1x1024, ((shapeCast _ (Host.reduceAdd (mulf (res_main_v76 V) (res_main_v58 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v56 V) (res_main_v78 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v28 V) (res_main_v109 V)) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (res_main_v109 V) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf (res_main_v26 V) (res_main_v116 V)) (constant (F := Ideal) S_ .f32 0x00000000#32) reducesTo_S4096x1024_S1024_d0 h_S_) shapeCasts_S1024_S1x1024) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩] concatenates_S1x1024_S1x1024_S1x1024_S1x1024_S1x1024_S3x1024_S8x1024_d0 : (⟨S8x1024, .f32⟩ : BufTy).Contents (Elt Ideal)) : (⟨S8x1024, .f32⟩ : BufTy).Contents (Elt Ideal)) = (fun i => (inR V).SM (i 0) (i 1)) := by
  funext i
  obtain ⟨q, k, rfl⟩ : ∃ a b, i = ix2 a b := ⟨i 0, i 1, eq_ix2 i⟩
  pointwise []
  fin_cases q
  · exact sumE fun s => mul2 (r76 V s k) (r58 V s k)
  · exact sumE fun s => (mul2 (r56 V s k) (r78 V s k)).trans ((mul_comm _ _).trans (mul2 (mul_comm _ _) rfl))
  · exact sumE fun s => (mul2 (r28 V s k) (r109 V s k)).trans (mul_comm _ _)
  · exact sumE fun s => r109 V s k
  · exact sumE fun s => (mul2 (r26 V s k) (r116 V s k)).trans (mul_comm _ _)
  all_goals exact (Finset.sum_const_zero (M := EReal)).symm

theorem out3 : (truncf .bf16 (transpose S8x1024x512 [1, 0, 2] (shapeCast _ (transpose S1024x4096 [1, 0] (Host.dotGeneral (φ₂ := .f32) dot_S4096x4096_S4096x1024_S4096x1024_0_0_1_1_n_n none (res_main_v106 V) (res_main_v34 V)) transposes_S4096x1024_S1024x4096_1_0) shapeCasts_S1024x4096_S1024x8x512) transposes_S1024x8x512_S8x1024x512_1_0_2) bitsLt_bf16_f32 : (⟨S8x1024x512, .bf16⟩ : BufTy).Contents (Elt Ideal)) = (fun i => (inR V).GU (i 0) (i 1) (i 2)) := by
  funext i
  obtain ⟨q, r, x, rfl⟩ : ∃ a b c, i = ix3 a b c := ⟨i 0, i 1, i 2, eq_ix3 i⟩
  pointwise []
  exact sumE fun s => (mul2 (r106 V s _) (r34 V s r)).trans (mul_comm _ _)

theorem out4 : (truncf .bf16 (shapeCast _ (transpose S4096x1024 [1, 0] (Host.dotGeneral (φ₂ := .f32) dot_S4096x1024_S4096x4096_S1024x4096_0_0_1_1_n_n none (res_main_v100 V) (res_main_v40 V)) transposes_S1024x4096_S4096x1024_1_0) shapeCasts_S4096x1024_S8x512x1024) bitsLt_bf16_f32 : (⟨S8x512x1024, .bf16⟩ : BufTy).Contents (Elt Ideal)) = (fun i => (inR V).GD (i 0) (i 1) (i 2)) := by
  funext i
  obtain ⟨q, x, k, rfl⟩ : ∃ a b c, i = ix3 a b c := ⟨i 0, i 1, i 2, eq_ix3 i⟩
  pointwise []
  exact sumE fun s => (mul2 (r100 V s k) (r40 V s _)).trans (mul_comm _ _)

variable (m : (ℓ : Loc nD τ sig) → Buf (Elt Ideal) ℓ) (ρ : Dev nD → PrngReg)

/-- Every terminating run of the reference leaves the loss and its four gradients and its arguments unchanged. -/
theorem run_value : θ_run defs (onTc (τ := τ) (main (F := Ideal))) ⟨m, fun _ => 0, ρ⟩ (fun r => ∀ c : Dev nD,
      r.2.mem ((c.tc : Thread nD τ).loc main_v70) = (fun _ => loss (inR (launchContents m c)).X2 (tgt (launchContents m c)))
      ∧ r.2.mem ((c.tc : Thread nD τ).loc main_v136) = (fun i => (inR (launchContents m c)).DX (i 0) (i 1))
      ∧ r.2.mem ((c.tc : Thread nD τ).loc main_v138) = (fun i => (inR (launchContents m c)).SM (i 0) (i 1))
      ∧ r.2.mem ((c.tc : Thread nD τ).loc main_v141) = (fun i => (inR (launchContents m c)).GU (i 0) (i 1) (i 2))
      ∧ r.2.mem ((c.tc : Thread nD τ).loc main_v143) = (fun i => (inR (launchContents m c)).GD (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h0, h1, h2, h3, h4, ha⟩ := h c
    exact ⟨h0.trans (out0 _), h1.trans (out1 _), h2.trans (out2 _), h3.trans (out3 _), h4.trans (out4 _), ha⟩) (run m ρ)

end Cert.Reference4Ideal.Mlp
-- ==== Proof.InBGrad.lean ====
module

public import proofs.«01_k».proof.Proof.Gen.Kernel5Ideal.Frame
public import proofs.«01_k».proof.Proof.InSpec
public import Idealize.ShloMosaic.Lib.Pipeline.Value
public import Idealize.ShloMosaic.Lib.UnfoldOut
public import Idealize.ShloMosaic.Lib.Pipeline.ValueKit
public import Idealize.ShloMosaic.Lib.Pointwise

@[expose] public section
set_option maxRecDepth 16384
noncomputable section
namespace Cert.Kernel5Ideal.InProj
open Idealize.ShloMosaic Idealize.ShloMosaic.TcCoe Idealize.ShloMosaic.Tactic Idealize.ShloMosaic.Pointwise
open Cert.Kernel5Ideal.Gen Cert.Mlp Cert.InProj
variable (V : (c : Dev nD) → (b : Ref sig .tc) → Buf (Elt Ideal) ((c : Thread nD τ).loc b))

/-! ### The three square projections: two row tiles of 512 each -/

theorem idx0_0 : ∀ t : Fin cfg0.N, win0_0.index t = ![0, t.val] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0, 0] := (by decide +kernel : ∀ t : Fin grid0.N, _)
theorem blk0_0 (c : Dev nD) (t : Fin cfg0.N) (s : Fin 4096) (r : Fin 512) :
    iblk0 V c 0 t (ix2 s r) = (V c main_arg5) (ix2 s (half ⟨t.val, t.isLt⟩ r)) := by
  blk_ext! [iblk0, idx0_0 t, half]
theorem blk0_1 (c : Dev nD) (t : Fin cfg0.N) (s : Fin 4096) (k : Fin 1024) :
    iblk0 V c 1 t (ix2 s k) = (V c main_arg6) (ix2 s k) := by
  blk_ext! [iblk0, idx0_1 t]
theorem pay0 (a : FVec Ideal S4096x512 .bf16) (b : FVec Ideal S4096x1024 .bf16) (r : Fin 512) (k : Fin 1024) :
    k0_pay1 (F := Ideal) a b (ix3 0 r k) = ∑ s, a (ix2 s r) * b (ix2 s k) := by
  pointwise [k0_pay1]
def L0 (c : Dev nD) (s : Fin 4096) (r : Fin 1024) : EReal := V c main_arg5 (ix2 s r)
def R0 (c : Dev nD) (s : Fin 4096) (k : Fin 1024) : EReal := V c main_arg6 (ix2 s k)
def G0 (c : Dev nD) (q : Fin 2) (r : Fin 512) (k : Fin 1024) : EReal := ∑ s, L0 V c s (half q r) * R0 V c s k
theorem out0 (c : Dev nD) (t : Fin cfg0.N) (r : Fin 512) (k : Fin 1024) :
    (outsAt0 V c t) (ix3 0 r k) = G0 V c ⟨t.val, t.isLt⟩ r k := by
  dsimp only [outsAt0]
  frame_out
  rw [pay0]
  simp only [blk0_0, blk0_1]
  rfl
theorem emb0_2 (t : Fin cfg0.N) (r : Fin 512) (k : Fin 1024) :
    ((win0_2.blk t).view.emb (ix3 0 r k) : S2x512x1024.Idx) = ix3 (⟨t.val, t.isLt⟩ : Fin 2) r k := by
  blk_ext [idx0_2 t]
theorem arr0 (c : Dev nD) : (dat0 V c).arrAt 2 cfg0.N = fun i => G0 V c (i 0) (i 1) (i 2) := by
  refine (dat0 V c).arrAt_eq_of_covers 2 _ (by decide +kernel) fun t hf y => ?_
  blk_simp
  rw [after0_2]
  obtain ⟨r, k, rfl⟩ : ∃ (r : Fin 512) (k : Fin 1024), y = ix3 0 r k := ⟨y 1, y 2, by funext a; fin_cases a; exact Subsingleton.elim (α := Fin 1) _ _; all_goals rfl⟩
  rw [out0, emb0_2]
  rfl

theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0, 0] := (by decide +kernel : ∀ t : Fin grid1.N, _)
theorem blk1_0 (c : Dev nD) (t : Fin cfg1.N) (s : Fin 4096) (r : Fin 512) :
    iblk1 V c 0 t (ix2 s r) = (V c main_arg7) (ix2 s (half ⟨t.val, t.isLt⟩ r)) := by
  blk_ext! [iblk1, idx1_0 t, half]
theorem blk1_1 (c : Dev nD) (t : Fin cfg1.N) (s : Fin 4096) (k : Fin 1024) :
    iblk1 V c 1 t (ix2 s k) = (V c main_arg8) (ix2 s k) := by
  blk_ext! [iblk1, idx1_1 t]
theorem pay1 (a : FVec Ideal S4096x512 .bf16) (b : FVec Ideal S4096x1024 .bf16) (r : Fin 512) (k : Fin 1024) :
    k1_pay1 (F := Ideal) a b (ix3 0 r k) = ∑ s, a (ix2 s r) * b (ix2 s k) := by
  pointwise [k1_pay1]
def L1 (c : Dev nD) (s : Fin 4096) (r : Fin 1024) : EReal := V c main_arg7 (ix2 s r)
def R1 (c : Dev nD) (s : Fin 4096) (k : Fin 1024) : EReal := V c main_arg8 (ix2 s k)
def G1 (c : Dev nD) (q : Fin 2) (r : Fin 512) (k : Fin 1024) : EReal := ∑ s, L1 V c s (half q r) * R1 V c s k
theorem out1 (c : Dev nD) (t : Fin cfg1.N) (r : Fin 512) (k : Fin 1024) :
    (outsAt1 V c t) (ix3 0 r k) = G1 V c ⟨t.val, t.isLt⟩ r k := by
  dsimp only [outsAt1]
  frame_out
  rw [pay1]
  simp only [blk1_0, blk1_1]
  rfl
theorem emb1_2 (t : Fin cfg1.N) (r : Fin 512) (k : Fin 1024) :
    ((win1_2.blk t).view.emb (ix3 0 r k) : S2x512x1024.Idx) = ix3 (⟨t.val, t.isLt⟩ : Fin 2) r k := by
  blk_ext [idx1_2 t]
theorem arr1 (c : Dev nD) : (dat1 V c).arrAt 2 cfg1.N = fun i => G1 V c (i 0) (i 1) (i 2) := by
  refine (dat1 V c).arrAt_eq_of_covers 2 _ (by decide +kernel) fun t hf y => ?_
  blk_simp
  rw [after1_2]
  obtain ⟨r, k, rfl⟩ : ∃ (r : Fin 512) (k : Fin 1024), y = ix3 0 r k := ⟨y 1, y 2, by funext a; fin_cases a; exact Subsingleton.elim (α := Fin 1) _ _; all_goals rfl⟩
  rw [out1, emb1_2]
  rfl

theorem idx2_0 : ∀ t : Fin cfg2.N, win2_0.index t = ![0, t.val] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val, 0, 0] := (by decide +kernel : ∀ t : Fin grid2.N, _)
theorem blk2_0 (c : Dev nD) (t : Fin cfg2.N) (s : Fin 4096) (r : Fin 512) :
    iblk2 V c 0 t (ix2 s r) = (V c main_arg9) (ix2 s (half ⟨t.val, t.isLt⟩ r)) := by
  blk_ext! [iblk2, idx2_0 t, half]
theorem blk2_1 (c : Dev nD) (t : Fin cfg2.N) (s : Fin 4096) (k : Fin 1024) :
    iblk2 V c 1 t (ix2 s k) = (V c main_arg10) (ix2 s k) := by
  blk_ext! [iblk2, idx2_1 t]
theorem pay2 (a : FVec Ideal S4096x512 .bf16) (b : FVec Ideal S4096x1024 .bf16) (r : Fin 512) (k : Fin 1024) :
    k2_pay1 (F := Ideal) a b (ix3 0 r k) = ∑ s, a (ix2 s r) * b (ix2 s k) := by
  pointwise [k2_pay1]
def L2 (c : Dev nD) (s : Fin 4096) (r : Fin 1024) : EReal := V c main_arg9 (ix2 s r)
def R2 (c : Dev nD) (s : Fin 4096) (k : Fin 1024) : EReal := V c main_arg10 (ix2 s k)
def G2 (c : Dev nD) (q : Fin 2) (r : Fin 512) (k : Fin 1024) : EReal := ∑ s, L2 V c s (half q r) * R2 V c s k
theorem out2 (c : Dev nD) (t : Fin cfg2.N) (r : Fin 512) (k : Fin 1024) :
    (outsAt2 V c t) (ix3 0 r k) = G2 V c ⟨t.val, t.isLt⟩ r k := by
  dsimp only [outsAt2]
  frame_out
  rw [pay2]
  simp only [blk2_0, blk2_1]
  rfl
theorem emb2_2 (t : Fin cfg2.N) (r : Fin 512) (k : Fin 1024) :
    ((win2_2.blk t).view.emb (ix3 0 r k) : S2x512x1024.Idx) = ix3 (⟨t.val, t.isLt⟩ : Fin 2) r k := by
  blk_ext [idx2_2 t]
theorem arr2 (c : Dev nD) : (dat2 V c).arrAt 2 cfg2.N = fun i => G2 V c (i 0) (i 1) (i 2) := by
  refine (dat2 V c).arrAt_eq_of_covers 2 _ (by decide +kernel) fun t hf y => ?_
  blk_simp
  rw [after2_2]
  obtain ⟨r, k, rfl⟩ : ∃ (r : Fin 512) (k : Fin 1024), y = ix3 0 r k := ⟨y 1, y 2, by funext a; fin_cases a; exact Subsingleton.elim (α := Fin 1) _ _; all_goals rfl⟩
  rw [out2, emb2_2]
  rfl

/-! ### The in-projection: four tiles, each two column tiles of 896 stored in two halves of 512 rows -/

theorem idx3_0 : ∀ t : Fin cfg3.N, win3_0.index t = ![0, 0] := (by decide +kernel : ∀ t : Fin grid3.N, _)
theorem idx3_1 : ∀ t : Fin cfg3.N, win3_1.index t = ![0, t.val] := (by decide +kernel : ∀ t : Fin grid3.N, _)
theorem idx3_2 : ∀ t : Fin cfg3.N, win3_2.index t = ![t.val, 0, 0] := (by decide +kernel : ∀ t : Fin grid3.N, _)
theorem blk3_0 (c : Dev nD) (t : Fin cfg3.N) (s : Fin 4096) (k : Fin 1024) :
    iblk3 V c 0 t (ix2 s k) = (V c main_v24) (ix2 s k) := by
  blk_ext! [iblk3, idx3_0 t]
theorem lt3 (t : Fin cfg3.N) : t.val < 4 := t.isLt
theorem blk3_1 (c : Dev nD) (t : Fin cfg3.N) (s : Fin 4096) (x : Fin 1792) :
    iblk3 V c 1 t (ix2 s x) = (V c main_arg0) (ix2 s ⟨t.val * 1792 + x, by have := lt3 t; omega⟩) := by
  blk_ext! [iblk3, idx3_1 t]
theorem pay3_2 (a : FVec Ideal S4096x512 .bf16) (b : FVec Ideal S4096x1792 .bf16) (r : Fin 512) (x : Fin 896) :
    k3_pay2 (F := Ideal) a b (ix3 0 r x) = ∑ s, a (ix2 s r) * b (ix2 s ⟨x, by omega⟩) := by
  pointwise [k3_pay2, k3_pay1]
theorem pay3_3 (a : FVec Ideal S4096x512 .bf16) (b : FVec Ideal S4096x1792 .bf16) (r : Fin 512) (x : Fin 896) :
    k3_pay3 (F := Ideal) a b (ix3 0 r x) = ∑ s, a (ix2 s r) * b (ix2 s ⟨896 + x, by omega⟩) := by
  pointwise [k3_pay3, k3_pay1]
theorem pay3_5 (a : FVec Ideal S4096x512 .bf16) (b : FVec Ideal S4096x1792 .bf16) (r : Fin 512) (x : Fin 896) :
    k3_pay5 (F := Ideal) a b (ix3 0 r x) = ∑ s, a (ix2 s r) * b (ix2 s ⟨x, by omega⟩) := by
  pointwise [k3_pay5, k3_pay4]
theorem pay3_6 (a : FVec Ideal S4096x512 .bf16) (b : FVec Ideal S4096x1792 .bf16) (r : Fin 512) (x : Fin 896) :
    k3_pay6 (F := Ideal) a b (ix3 0 r x) = ∑ s, a (ix2 s r) * b (ix2 s ⟨896 + x, by omega⟩) := by
  pointwise [k3_pay6, k3_pay4]
theorem ld_h0 (x : Vec Ideal S4096x1024 .bf16) (s : Fin 4096) (r : Fin 512) (inb) :
    View.ld x (Rect.unit (s := S4096x1024) ![0, 0] ![4096, 512] inb) (ix2 s r) = x (ix2 s ⟨r, by omega⟩) := by
  pointwise []
theorem ld_h1 (x : Vec Ideal S4096x1024 .bf16) (s : Fin 4096) (r : Fin 512) (inb) :
    View.ld x (Rect.unit (s := S4096x1024) ![0, 512] ![4096, 512] inb) (ix2 s r) = x (ix2 s ⟨512 + r, by omega⟩) := by
  pointwise []
def hR (c : Dev nD) (s : Fin 4096) (k : Fin 1024) : EReal := V c main_v24 (ix2 s k)
def dpR (c : Dev nD) (s : Fin 4096) (k : Fin 7168) : EReal := V c main_arg0 (ix2 s k)
def GI (c : Dev nD) (q : Fin 8) (r : Fin 1024) (x : Fin 896) : EReal := ∑ s, hR V c s r * dpR V c s (wide q x)
def pair (t : Fin cfg3.N) (b : Fin 2) : Fin 8 := ⟨t.val * 2 + b, by have := lt3 t; omega⟩
theorem dp_at (c : Dev nD) (t : Fin cfg3.N) (s : Fin 4096) (b : Fin 2) (x : Fin 896) (y : Fin 1792) (h : (y : ℕ) = b * 896 + x) :
    iblk3 V c 1 t (ix2 s y) = dpR V c s (wide (pair t b) x) := by
  rw [blk3_1]
  refine congrArg (fun k => V c main_arg0 (ix2 s k)) (Fin.ext ?_)
  show t.val * 1792 + (y : ℕ) = (t.val * 2 + b) * 896 + x
  omega
theorem gi_0 (c : Dev nD) (t : Fin cfg3.N) (r : Fin 512) (x : Fin 896) (inb) :
    k3_pay2 (F := Ideal) (View.ld (iblk3 V c 0 t) (Rect.unit (s := S4096x1024) ![0, 0] ![4096, 512] inb)) (iblk3 V c 1 t) (ix3 0 r x)
      = GI V c (pair t 0) ⟨r, by omega⟩ x := by
  rw [pay3_2]
  exact Finset.sum_congr rfl fun s _ => congrArg₂ (· * ·) ((ld_h0 _ s r _).trans (blk3_0 V c t s _)) (dp_at V c t s 0 x _ (by simp))
theorem gi_1 (c : Dev nD) (t : Fin cfg3.N) (r : Fin 512) (x : Fin 896) (inb) :
    k3_pay3 (F := Ideal) (View.ld (iblk3 V c 0 t) (Rect.unit (s := S4096x1024) ![0, 0] ![4096, 512] inb)) (iblk3 V c 1 t) (ix3 0 r x)
      = GI V c (pair t 1) ⟨r, by omega⟩ x := by
  rw [pay3_3]
  exact Finset.sum_congr rfl fun s _ => congrArg₂ (· * ·) ((ld_h0 _ s r _).trans (blk3_0 V c t s _)) (dp_at V c t s 1 x _ (by simp))
theorem gi_2 (c : Dev nD) (t : Fin cfg3.N) (r : Fin 512) (x : Fin 896) (inb) :
    k3_pay5 (F := Ideal) (View.ld (iblk3 V c 0 t) (Rect.unit (s := S4096x1024) ![0, 512] ![4096, 512] inb)) (iblk3 V c 1 t) (ix3 0 r x)
      = GI V c (pair t 0) ⟨512 + r, by omega⟩ x := by
  rw [pay3_5]
  exact Finset.sum_congr rfl fun s _ => congrArg₂ (· * ·) ((ld_h1 _ s r _).trans (blk3_0 V c t s _)) (dp_at V c t s 0 x _ (by simp))
theorem gi_3 (c : Dev nD) (t : Fin cfg3.N) (r : Fin 512) (x : Fin 896) (inb) :
    k3_pay6 (F := Ideal) (View.ld (iblk3 V c 0 t) (Rect.unit (s := S4096x1024) ![0, 512] ![4096, 512] inb)) (iblk3 V c 1 t) (ix3 0 r x)
      = GI V c (pair t 1) ⟨512 + r, by omega⟩ x := by
  rw [pay3_6]
  exact Finset.sum_congr rfl fun s _ => congrArg₂ (· * ·) ((ld_h1 _ s r _).trans (blk3_0 V c t s _)) (dp_at V c t s 1 x _ (by simp))
theorem gi_blk0 (c : Dev nD) (t : Fin cfg3.N) (r : Fin 1024) (x : Fin 896) :
    (outsAt3 V c t) (ix3 0 r x) = GI V c (pair t 0) r x := by
  dsimp only [outsAt3]
  frame_out
  by_cases hr : (r : ℕ) < 512
  · have e : (ix3 0 r x : S2x1024x896.Idx) = (Rect.unit (s := S2x1024x896) ![0, 0, 0] ![1, 512, 896] inb_S2x1024x896_S1x512x896_0_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 1 ≤ 0 := (Rect.mem_set_unit (inb := inb_S2x1024x896_S1x512x896_1_512_0).mp h (0 : Fin 3)).1
      omega
    refine (View.canon_cons_of_not_mem _ _ fun h => ?_).trans ?_
    · have h1 : 512 ≤ (r : ℕ) := (Rect.mem_set_unit (inb := inb_S2x1024x896_S1x512x896_0_512_0).mp h (1 : Fin 3)).1
      omega
    refine (View.canon_cons_of_not_mem _ _ fun h => ?_).trans ?_
    · have h1 : 1 ≤ 0 := (Rect.mem_set_unit (inb := inb_S2x1024x896_S1x512x896_1_0_0).mp h (0 : Fin 3)).1
      omega
    rw [e]
    exact (View.canon_cons_emb (Rect.unit (s := S2x1024x896) ![0, 0, 0] ![1, 512, 896] inb_S2x1024x896_S1x512x896_0_0_0) _ _ _).trans (gi_0 V c t ⟨r, hr⟩ x _)
  · have e : (ix3 0 r x : S2x1024x896.Idx) = (Rect.unit (s := S2x1024x896) ![0, 512, 0] ![1, 512, 896] inb_S2x1024x896_S1x512x896_0_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    refine (View.canon_cons_of_not_mem _ _ fun h => ?_).trans ?_
    · have h1 : 1 ≤ 0 := (Rect.mem_set_unit (inb := inb_S2x1024x896_S1x512x896_1_512_0).mp h (0 : Fin 3)).1
      omega
    rw [e]
    refine (View.canon_cons_emb (Rect.unit (s := S2x1024x896) ![0, 512, 0] ![1, 512, 896] inb_S2x1024x896_S1x512x896_0_512_0) _ _ _).trans ((gi_2 V c t ⟨r - 512, by omega⟩ x _).trans ?_)
    exact congrArg (fun r => GI V c (pair t 0) r x) (Fin.ext (show 512 + ((r : ℕ) - 512) = r by omega))
theorem gi_blk1 (c : Dev nD) (t : Fin cfg3.N) (r : Fin 1024) (x : Fin 896) :
    (outsAt3 V c t) (ix3 1 r x) = GI V c (pair t 1) r x := by
  dsimp only [outsAt3]
  frame_out
  by_cases hr : (r : ℕ) < 512
  · have e : (ix3 1 r x : S2x1024x896.Idx) = (Rect.unit (s := S2x1024x896) ![1, 0, 0] ![1, 512, 896] inb_S2x1024x896_S1x512x896_1_0_0).emb (ix3 0 ⟨r, hr⟩ x) := by
      funext a
      fin_cases a
      · rfl
      · exact Fin.ext (show (r : ℕ) = 0 + 1 * (r : ℕ) by omega)
      · exact Fin.ext (show (x : ℕ) = 0 + 1 * (x : ℕ) by omega)
    refine (View.canon_cons_of_not_mem _ _ fun h => ?_).trans ?_
    · have h1 : 512 ≤ (r : ℕ) := (Rect.mem_set_unit (inb := inb_S2x1024x896_S1x512x896_1_512_0).mp h (1 : Fin 3)).1
      omega
    refine (View.canon_cons_of_not_mem _ _ fun h => ?_).trans ?_
    · have h1 : 1 < 0 + 1 := (Rect.mem_set_unit (inb := inb_S2x1024x896_S1x512x896_0_512_0).mp h (0 : Fin 3)).2
      omega
    rw [e]
    exact (View.canon_cons_emb (Rect.unit (s := S2x1024x896) ![1, 0, 0] ![1, 512, 896] inb_S2x1024x896_S1x512x896_1_0_0) _ _ _).trans (gi_1 V c t ⟨r, hr⟩ x _)
  · have e : (ix3 1 r x : S2x1024x896.Idx) = (Rect.unit (s := S2x1024x896) ![1, 512, 0] ![1, 512, 896] inb_S2x1024x896_S1x512x896_1_512_0).emb (ix3 0 ⟨r - 512, by omega⟩ x) := by
      funext a
      fin_cases a
      · rfl
      · exact Fin.ext (show (r : ℕ) = 512 + 1 * ((r : ℕ) - 512) by omega)
      · exact Fin.ext (show (x : ℕ) = 0 + 1 * (x : ℕ) by omega)
    rw [e]
    refine (View.canon_cons_emb (Rect.unit (s := S2x1024x896) ![1, 512, 0] ![1, 512, 896] inb_S2x1024x896_S1x512x896_1_512_0) _ _ _).trans ((gi_3 V c t ⟨r - 512, by omega⟩ x _).trans ?_)
    exact congrArg (fun r => GI V c (pair t 1) r x) (Fin.ext (show 512 + ((r : ℕ) - 512) = r by omega))
theorem gi_blk (c : Dev nD) (t : Fin cfg3.N) (b : Fin 2) (r : Fin 1024) (x : Fin 896) :
    (outsAt3 V c t) (ix3 b r x) = GI V c (pair t b) r x := by
  fin_cases b
  · exact gi_blk0 V c t r x
  · exact gi_blk1 V c t r x
theorem emb3_2 (t : Fin cfg3.N) (b : Fin 2) (r : Fin 1024) (x : Fin 896) :
    ((win3_2.blk t).view.emb (ix3 b r x) : S8x1024x896.Idx) = ix3 (pair t b) r x := by
  blk_ext [idx3_2 t, pair]
theorem arr3 (c : Dev nD) : (dat3 V c).arrAt 2 cfg3.N = fun i => GI V c (i 0) (i 1) (i 2) := by
  refine (dat3 V c).arrAt_eq_of_covers 2 _ (by decide +kernel) fun t hf y => ?_
  blk_simp
  rw [after3_2]
  obtain ⟨b, r, x, rfl⟩ : ∃ (b : Fin 2) (r : Fin 1024) (x : Fin 896), y = ix3 b r x := ⟨y 0, y 1, y 2, eq_ix3 y⟩
  rw [gi_blk, emb3_2]
  rfl

end Cert.Kernel5Ideal.InProj
-- ==== Proof.InBRun.lean ====
module

public import proofs.«01_k».proof.Proof.Gen.Kernel5Ideal.Frame
public import proofs.«01_k».proof.Proof.InBGrad
public import Idealize.ShloMosaic.Lib.Pipeline.Value
public import Idealize.ShloMosaic.Lib.Pipeline.ValueKit

@[expose] public section
set_option maxRecDepth 16384
noncomputable section
namespace Cert.Kernel5Ideal.InProj
open Idealize.ShloMosaic Idealize.ShloMosaic.TcCoe Idealize.ShloMosaic.Tactic Idealize.ShloMosaic.Pointwise
open Cert.Kernel5Ideal.Gen Cert.InProj
open Cert.Mlp hiding In
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The inputs as core `c` holds them at launch. -/
def inOf (c : Dev nD) : In where
  dp i k := m ((c : Thread nD τ).loc main_arg0) (ix2 i k)
  x i k := m ((c : Thread nD τ).loc main_arg1) (ix2 i k)
  sh k := m ((c : Thread nD τ).loc main_arg2) (ix3 1 0 k)
  sc k := m ((c : Thread nD τ).loc main_arg2) (ix3 1 1 k)
  g k := m ((c : Thread nD τ).loc main_arg3) (ix3 1 0 k)
  a := ![fun i k => m ((c : Thread nD τ).loc main_arg5) (ix2 i k), fun i k => m ((c : Thread nD τ).loc main_arg7) (ix2 i k),
    fun i k => m ((c : Thread nD τ).loc main_arg9) (ix2 i k)]
  d := ![fun i k => m ((c : Thread nD τ).loc main_arg6) (ix2 i k), fun i k => m ((c : Thread nD τ).loc main_arg8) (ix2 i k),
    fun i k => m ((c : Thread nD τ).loc main_arg10) (ix2 i k)]

theorem L0_eq (c : Dev nD) : L0 (V1 m ρ) c = (inOf m c).a 0 := by
  funext i k
  exact congrFun (W1_args m ρ c main_arg5 (by decide)) (ix2 i k)
theorem R0_eq (c : Dev nD) : R0 (V1 m ρ) c = (inOf m c).d 0 := by
  funext i k
  exact congrFun (W1_args m ρ c main_arg6 (by decide)) (ix2 i k)
theorem half0 (c : Dev nD) : W2 m ρ c (Proc.devRef .tc main_v25)
    = fun i => ∑ s, (inOf m c).a 0 s (half (i 0) (i 1)) * (inOf m c).d 0 s (i 2) := by
  refine (W2_arr m ρ c 2).trans ((arr0 (V1 m ρ) c).trans ?_)
  unfold G0
  rw [L0_eq, R0_eq]
theorem cast0 (c : Dev nD) : W3 m ρ c (Proc.devRef .tc main_v26)
    = fun i => (inOf m c).GSQ 0 (i 0) (i 1) (i 2) := by
  funext i
  obtain ⟨q, r, k, rfl⟩ : ∃ a b c, i = ix3 a b c := ⟨i 0, i 1, i 2, eq_ix3 i⟩
  have e : W3 m ρ c (Proc.devRef .tc main_v26) = shapeCast S8x128x1024 (W2 m ρ c (Proc.devRef .tc main_v25)) shapeCasts_S2x512x1024_S8x128x1024 := rfl
  rw [e, half0]
  pointwise []
  refine sumE fun s => congrArg (fun j => (inOf m c).a 0 s j * (inOf m c).d 0 s k) (Fin.ext ?_)
  simp only [half, tall]
  omega

theorem L1_eq (c : Dev nD) : L1 (V3 m ρ) c = (inOf m c).a 1 := by
  funext i k
  exact congrFun (W3_args m ρ c main_arg7 (by decide)) (ix2 i k)
theorem R1_eq (c : Dev nD) : R1 (V3 m ρ) c = (inOf m c).d 1 := by
  funext i k
  exact congrFun (W3_args m ρ c main_arg8 (by decide)) (ix2 i k)
theorem half1 (c : Dev nD) : W4 m ρ c (Proc.devRef .tc main_v27)
    = fun i => ∑ s, (inOf m c).a 1 s (half (i 0) (i 1)) * (inOf m c).d 1 s (i 2) := by
  refine (W4_arr m ρ c 2).trans ((arr1 (V3 m ρ) c).trans ?_)
  unfold G1
  rw [L1_eq, R1_eq]
theorem cast1 (c : Dev nD) : W5 m ρ c (Proc.devRef .tc main_v28)
    = fun i => (inOf m c).GSQ 1 (i 0) (i 1) (i 2) := by
  funext i
  obtain ⟨q, r, k, rfl⟩ : ∃ a b c, i = ix3 a b c := ⟨i 0, i 1, i 2, eq_ix3 i⟩
  have e : W5 m ρ c (Proc.devRef .tc main_v28) = shapeCast S8x128x1024 (W4 m ρ c (Proc.devRef .tc main_v27)) shapeCasts_S2x512x1024_S8x128x1024 := rfl
  rw [e, half1]
  pointwise []
  refine sumE fun s => congrArg (fun j => (inOf m c).a 1 s j * (inOf m c).d 1 s k) (Fin.ext ?_)
  simp only [half, tall]
  omega

theorem L2_eq (c : Dev nD) : L2 (V5 m ρ) c = (inOf m c).a 2 := by
  funext i k
  exact congrFun (W5_args m ρ c main_arg9 (by decide)) (ix2 i k)
theorem R2_eq (c : Dev nD) : R2 (V5 m ρ) c = (inOf m c).d 2 := by
  funext i k
  exact congrFun (W5_args m ρ c main_arg10 (by decide)) (ix2 i k)
theorem half2 (c : Dev nD) : W6 m ρ c (Proc.devRef .tc main_v29)
    = fun i => ∑ s, (inOf m c).a 2 s (half (i 0) (i 1)) * (inOf m c).d 2 s (i 2) := by
  refine (W6_arr m ρ c 2).trans ((arr2 (V5 m ρ) c).trans ?_)
  unfold G2
  rw [L2_eq, R2_eq]
theorem cast2 (c : Dev nD) : W7 m ρ c (Proc.devRef .tc main_v30)
    = fun i => (inOf m c).GSQ 2 (i 0) (i 1) (i 2) := by
  funext i
  obtain ⟨q, r, k, rfl⟩ : ∃ a b c, i = ix3 a b c := ⟨i 0, i 1, i 2, eq_ix3 i⟩
  have e : W7 m ρ c (Proc.devRef .tc main_v30) = shapeCast S8x128x1024 (W6 m ρ c (Proc.devRef .tc main_v29)) shapeCasts_S2x512x1024_S8x128x1024 := rfl
  rw [e, half2]
  pointwise []
  refine sumE fun s => congrArg (fun j => (inOf m c).a 2 s j * (inOf m c).d 2 s k) (Fin.ext ?_)
  simp only [half, tall]
  omega

/-- The host's modulated norm of the layer's input. -/
theorem h_at (c : Dev nD) (i : Fin 4096) (k : Fin 1024) : W1 m ρ c (Proc.devRef .tc main_v24) (ix2 i k) = (inOf m c).H i k := by
  unfold_abbrev_sides
  after_results
  pointwise []
  rfl
theorem hR_eq (c : Dev nD) : hR (V7 m ρ) c = (inOf m c).H := by
  funext i k
  refine (congrFun ?_ (ix2 i k)).trans (h_at m ρ c i k)
  exact (W7_of m ρ c main_v24 (by decide +kernel)).trans ((W6_of m ρ c main_v24 (by decide +kernel)).trans ((W5_of m ρ c main_v24 (by decide +kernel)).trans
    ((W4_of m ρ c main_v24 (by decide +kernel)).trans ((W3_of m ρ c main_v24 (by decide +kernel)).trans (W2_of m ρ c main_v24 (by decide +kernel))))))
theorem dpR_eq (c : Dev nD) : dpR (V7 m ρ) c = (inOf m c).dp := by
  funext i k
  exact congrFun (W7_args m ρ c main_arg0 (by decide)) (ix2 i k)

/-! ### The results at the end -/

theorem gin_end (c : Dev nD) : W8 m ρ c (Proc.devRef .tc main_v31) = fun i => (inOf m c).GIN (i 0) (i 1) (i 2) := by
  refine (W8_arr m ρ c 2).trans ((arr3 (V7 m ρ) c).trans ?_)
  unfold GI In.GIN
  rw [hR_eq, dpR_eq]
theorem gsq0_end (c : Dev nD) : W8 m ρ c (Proc.devRef .tc main_v26) = fun i => (inOf m c).GSQ 0 (i 0) (i 1) (i 2) :=
  ((W8_of m ρ c main_v26 (by decide +kernel)).trans ((W7_of m ρ c main_v26 (by decide +kernel)).trans ((W6_of m ρ c main_v26 (by decide +kernel)).trans ((W5_of m ρ c main_v26 (by decide +kernel)).trans ((W4_of m ρ c main_v26 (by decide +kernel)).trans (cast0 m ρ c))))))
theorem gsq1_end (c : Dev nD) : W8 m ρ c (Proc.devRef .tc main_v28) = fun i => (inOf m c).GSQ 1 (i 0) (i 1) (i 2) :=
  ((W8_of m ρ c main_v28 (by decide +kernel)).trans ((W7_of m ρ c main_v28 (by decide +kernel)).trans ((W6_of m ρ c main_v28 (by decide +kernel)).trans (cast1 m ρ c))))
theorem gsq2_end (c : Dev nD) : W8 m ρ c (Proc.devRef .tc main_v30) = fun i => (inOf m c).GSQ 2 (i 0) (i 1) (i 2) :=
  ((W8_of m ρ c main_v30 (by decide +kernel)).trans (cast2 m ρ c))

set_option backward.isDefEq.respectTransparency.types false in
/-- Every run of the kernel ends with the four gradients, its arguments as launched. -/
theorem run_value : θ_run defs (onTc (τ := τ) (main (F := Ideal))) ⟨m, fun _ => 0, ρ⟩ (fun r => ∀ c : Dev nD,
      r.2.mem ((c.tc : Thread nD τ).loc main_v31) = (fun i => (inOf m c).GIN (i 0) (i 1) (i 2))
      ∧ r.2.mem ((c.tc : Thread nD τ).loc main_v26) = (fun i => (inOf m c).GSQ 0 (i 0) (i 1) (i 2))
      ∧ r.2.mem ((c.tc : Thread nD τ).loc main_v28) = (fun i => (inOf m c).GSQ 1 (i 0) (i 1) (i 2))
      ∧ r.2.mem ((c.tc : Thread nD τ).loc main_v30) = (fun i => (inOf m c).GSQ 2 (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v31 (by decide))).trans (gin_end m ρ c),
       (h c _ (mem_uc main_v26 (by decide))).trans (gsq0_end m ρ c),
       (h c _ (mem_uc main_v28 (by decide))).trans (gsq1_end m ρ c),
       (h c _ (mem_uc main_v30 (by decide))).trans (gsq2_end m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Kernel5Ideal.InProj
-- ==== Proof.InBRef.lean ====
module

public import proofs.«01_k».proof.Proof.Gen.Reference5Ideal.Run
public import proofs.«01_k».proof.Proof.InSpec
public import Idealize.ShloMosaic.Lib.Pointwise

@[expose] public section
set_option maxRecDepth 16384
noncomputable section
namespace Cert.Reference5Ideal.InProj
open Idealize.ShloMosaic Idealize.ShloMosaic.TcCoe Idealize.ShloMosaic.Tactic Idealize.ShloMosaic.Pointwise
open Idealize.SL.Sem Cert.Reference5Ideal Cert.Reference5Ideal.Gen Cert.Reference5Ideal.Value Cert.InProj Idealize.ShloMosaic.StableHlo
open Cert.Mlp hiding In
variable (m : (ℓ : Loc nD τ sig) → Buf (Elt Ideal) ℓ) (ρ : Dev nD → PrngReg)

/-- The inputs as core `c` holds them at launch. -/
def inR (c : Dev nD) : In where
  dp i k := m ((c : Thread nD τ).loc main_arg0) (ix2 i k)
  x i k := m ((c : Thread nD τ).loc main_arg1) (ix2 i k)
  sh k := m ((c : Thread nD τ).loc main_arg2) (ix3 1 0 k)
  sc k := m ((c : Thread nD τ).loc main_arg2) (ix3 1 1 k)
  g k := m ((c : Thread nD τ).loc main_arg3) (ix3 1 0 k)
  a := ![fun i k => m ((c : Thread nD τ).loc main_arg5) (ix2 i k), fun i k => m ((c : Thread nD τ).loc main_arg7) (ix2 i k),
    fun i k => m ((c : Thread nD τ).loc main_arg9) (ix2 i k)]
  d := ![fun i k => m ((c : Thread nD τ).loc main_arg6) (ix2 i k), fun i k => m ((c : Thread nD τ).loc main_arg8) (ix2 i k),
    fun i k => m ((c : Thread nD τ).loc main_arg10) (ix2 i k)]

theorem out0 (c : Dev nD) : (truncf (F := Ideal) .bf16 (transpose S8x1024x896 [1, 0, 2] (shapeCast _ (transpose S1024x7168 [1, 0] (Host.dotGeneral (φ₂ := .f32) dot_S4096x7168_S4096x1024_S7168x1024_0_0_1_1_n_n none (extf (F := Ideal) .f32 (m ((c.tc : Thread nD τ).loc main_arg0)) bitsLt_bf16_f32) (addf (mulf (mulf (mulf (m ((c.tc : Thread nD τ).loc main_arg1)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg1)) (m ((c.tc : Thread nD τ).loc main_arg1))) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (shapeCast _ (extractStridedSlice S1x1x1024 ![1, 0, 0] (m ((c.tc : Thread nD τ).loc main_arg3)) slices_S2x16x1024_S1x1x1024_1_0_0) shapeCasts_S1x1x1024_S1x1024))) (broadcastInDim S4096x1024 ![0, 1] bcast_S1x1024_S4096x1024_0_1 (addf (broadcastInDim S1x1024 ![] bcast_S_S1x1024 (constant (F := Ideal) S_ .f32 0x3F800000#32)) (shapeCast _ (extractStridedSlice S1x1x1024 ![1, 1, 0] (m ((c.tc : Thread nD τ).loc main_arg2)) slices_S2x6x1024_S1x1x1024_1_1_0) shapeCasts_S1x1x1024_S1x1024)))) (broadcastInDim S4096x1024 ![0, 1] bcast_S1x1024_S4096x1024_0_1 (shapeCast _ (extractStridedSlice S1x1x1024 ![1, 0, 0] (m ((c.tc : Thread nD τ).loc main_arg2)) slices_S2x6x1024_S1x1x1024_1_0_0) shapeCasts_S1x1x1024_S1x1024)))) transposes_S7168x1024_S1024x7168_1_0) shapeCasts_S1024x7168_S1024x8x896) transposes_S1024x8x896_S8x1024x896_1_0_2) bitsLt_bf16_f32 : (⟨S8x1024x896, .bf16⟩ : BufTy).Contents (Elt Ideal)) = (fun i => (inR m c).GIN (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out1 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg6)) bitsLt_bf16_f32) (extf (F := Ideal) .f32 (m ((c.tc : Thread nD τ).loc main_arg5)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 0 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out2 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg8)) bitsLt_bf16_f32) (extf (F := Ideal) .f32 (m ((c.tc : Thread nD τ).loc main_arg7)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 1 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

theorem out3 (c : Dev nD) : (truncf (F := Ideal) .bf16 (shapeCast _ (transpose S1024x1024 [1, 0] (Host.dotGeneral (φ₂ := .f32) dot_S4096x1024_S4096x1024_S1024x1024_0_0_1_1_n_n none (extf (F := Ideal) .f32 (m ((c.tc : Thread nD τ).loc main_arg10)) bitsLt_bf16_f32) (extf (F := Ideal) .f32 (m ((c.tc : Thread nD τ).loc main_arg9)) bitsLt_bf16_f32)) transposes_S1024x1024_S1024x1024_1_0) shapeCasts_S1024x1024_S8x128x1024) bitsLt_bf16_f32 : (⟨S8x128x1024, .bf16⟩ : BufTy).Contents (Elt Ideal)) = (fun i => (inR m c).GSQ 2 (i 0) (i 1) (i 2)) := by
  funext i
  obtain ⟨q, x, k, rfl⟩ : ∃ a b c, i = ix3 a b c := ⟨i 0, i 1, i 2, eq_ix3 i⟩
  pointwise []
  exact sumE fun s => (mul_comm _ _).trans (mul2 rfl rfl)

/-- Every terminating run of the reference leaves its four gradients and its arguments unchanged. -/
theorem run_value : θ_run defs (onTc (τ := τ) (main (F := Ideal))) ⟨m, fun _ => 0, ρ⟩ (fun r => ∀ c : Dev nD,
      r.2.mem ((c.tc : Thread nD τ).loc main_v31) = (fun i => (inR m c).GIN (i 0) (i 1) (i 2))
      ∧ r.2.mem ((c.tc : Thread nD τ).loc main_v39) = (fun i => (inR m c).GSQ 0 (i 0) (i 1) (i 2))
      ∧ r.2.mem ((c.tc : Thread nD τ).loc main_v47) = (fun i => (inR m c).GSQ 1 (i 0) (i 1) (i 2))
      ∧ r.2.mem ((c.tc : Thread nD τ).loc main_v55) = (fun i => (inR m c).GSQ 2 (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨h0, h1, h2, h3, ha⟩ := h c
    exact ⟨h0.trans (out0 _ _), h1.trans (out1 _ _), h2.trans (out2 _ _), h3.trans (out3 _ _), ha⟩) (run m ρ)

end Cert.Reference5Ideal.InProj
-- ==== Proof.InF6.lean ====
module

public import proofs.«01_k».proof.Proof.Gen.Kernel6Ideal.Frame.Runs
public import Idealize.ShloMosaic.Lib.Claim

/-! The run of the input projection's backward call, layer 0. The first grid point copies the eight blocks of the weights side by
    side into scratch: each copy lends its own window of the scratch, so all eight are under way together. The scratch
    then holds the whole matrix at every later point. -/

@[expose] public section
set_option maxRecDepth 16384
noncomputable section
namespace Cert.Kernel6Ideal.InProj
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S256x7168 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x6x1024 .f32) (harg4 : arg4.IsWhole) (arg5 : Memref sig .tc .vmem S1x16x1024 .f32) (harg5 : arg5.IsWhole) (arg8 : Memref sig .tc .vmem S256x1024 .f32) (harg8 : arg8.IsWhole) (arg9 : Memref sig .tc .vmem S8x1024 .f32) (harg9 : arg9.IsWhole) (arg10 : Memref sig .tc .vmem S1024x7168 .bf16) (harg10 : arg10.IsWhole) (hc0 : cond0_0 i) (x0 : Vec F S256x7168 .bf16) (x1 : Vec F S256x1024 .f32) (x2 : Vec F S256x1024 .f32) (x3 : Vec F S1x6x1024 .f32) (x4 : Vec F S1x16x1024 .f32) (fh0 : HbBuf0 (F := F) c hbM0_0) (fh1 : HbBuf0 (F := F) c hbM0_1)

set_option sl_exec.dmaWindow true in
set_option sl_exec.dmaWindowSet true in
set_option maxHeartbeats 1000000 in
/-- The body at the first grid point: the eight copies are started and awaited, then the tile is computed. -/
def kernelRun0_A :
    Σ' (L5 : List (View.Piece (Elt F) S256x1024 .f32)), Σ' (L6 : List (View.Piece (Elt F) S8x1024 .f32)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 arg5 harg5 (Memref.whole main_arg5) (Memref.isWhole_whole _) (Memref.whole main_arg6) (Memref.isWhole_whole _) arg8 harg8 arg9 harg9 arg10 harg10 cc0_scratch1) K } := by
  refine ⟨?_, ?_, ?_, fun W K => ?run⟩
  case run =>
    simp only [cc0_in_proj_bwd_eq_skeleton]; unfold cc0_in_proj_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iframe Hq0 Hq1 Hq2 Hq3 Hq4 Hq5 Hq6 Hq7 Hh0 Hh1
    iexists _; iexact HW

theorem cover0_A_5 (y : S256x1024.Idx) :
    ∃ pc ∈ (kernelRun0_A c i arg1 harg1 arg2 harg2 arg3 harg3 arg4 harg4 arg5 harg5 arg8 harg8 arg9 harg9 arg10 harg10 hc0 x0 x1 x2 x3 x4 fh0 fh1).1, y ∈ pc.1.set :=
  View.cover_of_tiledL _ S256x1024.size (by sl_kernel_rfl) y
def out0_A_5 : Vec F S256x1024 .f32 :=
  VO0_5.read (Elt F) (VO0_5.writes (Elt F) VO0_5.junk (kernelRun0_A c i arg1 harg1 arg2 harg2 arg3 harg3 arg4 harg4 arg5 harg5 arg8 harg8 arg9 harg9 arg10 harg10 hc0 x0 x1 x2 x3 x4 fh0 fh1).1)
theorem cover0_A_6 (y : S8x1024.Idx) :
    ∃ pc ∈ (kernelRun0_A c i arg1 harg1 arg2 harg2 arg3 harg3 arg4 harg4 arg5 harg5 arg8 harg8 arg9 harg9 arg10 harg10 hc0 x0 x1 x2 x3 x4 fh0 fh1).2.1, y ∈ pc.1.set :=
  View.cover_of_tiledBy _ ![1, 1024] (by sl_kernel_rfl) y
def out0_A_6 : Vec F S8x1024 .f32 :=
  VO0_6.read (Elt F) (VO0_6.writes (Elt F) VO0_6.junk (kernelRun0_A c i arg1 harg1 arg2 harg2 arg3 harg3 arg4 harg4 arg5 harg5 arg8 harg8 arg9 harg9 arg10 harg10 hc0 x0 x1 x2 x3 x4 fh0 fh1).2.1)
theorem scover0_A_0 (y : S1024x7168.Idx) :
    ∃ pc ∈ (kernelRun0_A c i arg1 harg1 arg2 harg2 arg3 harg3 arg4 harg4 arg5 harg5 arg8 harg8 arg9 harg9 arg10 harg10 hc0 x0 x1 x2 x3 x4 fh0 fh1).2.2.1, y ∈ pc.1.set :=
  View.cover_of_tiledL (kernelRun0_A c i arg1 harg1 arg2 harg2 arg3 harg3 arg4 harg4 arg5 harg5 arg8 harg8 arg9 harg9 arg10 harg10 hc0 x0 x1 x2 x3 x4 fh0 fh1).2.2.1 S1024x896.size (by sl_kernel_rfl) y
def sout0_A_0 : Vec F S1024x7168 .bf16 :=
  VS0_0.read (Elt F) (VS0_0.writes (Elt F) VS0_0.junk (kernelRun0_A c i arg1 harg1 arg2 harg2 arg3 harg3 arg4 harg4 arg5 harg5 arg8 harg8 arg9 harg9 arg10 harg10 hc0 x0 x1 x2 x3 x4 fh0 fh1).2.2.1)
end

section
variable (c : Dev nD) (i : grid0.Coords) (arg1 : Memref sig .tc .vmem S256x7168 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x6x1024 .f32) (harg4 : arg4.IsWhole) (arg5 : Memref sig .tc .vmem S1x16x1024 .f32) (harg5 : arg5.IsWhole) (arg8 : Memref sig .tc .vmem S256x1024 .f32) (harg8 : arg8.IsWhole) (arg9 : Memref sig .tc .vmem S8x1024 .f32) (harg9 : arg9.IsWhole) (arg10 : Memref sig .tc .vmem S1024x7168 .bf16) (harg10 : arg10.IsWhole) (hc0 : ¬cond0_0 i) (x0 : Vec F S256x7168 .bf16) (x1 : Vec F S256x1024 .f32) (x2 : Vec F S256x1024 .f32) (x3 : Vec F S1x6x1024 .f32) (x4 : Vec F S1x16x1024 .f32) (xo6 : Vec F S8x1024 .f32) (xs0 : Vec F S1024x7168 .bf16) (fh0 : HbBuf0 (F := F) c hbM0_0) (fh1 : HbBuf0 (F := F) c hbM0_1)

set_option maxHeartbeats 1000000 in
/-- The body at a later grid point, over what the scratch holds. -/
def kernelRun0_B :
    Σ' (L5 : List (View.Piece (Elt F) S256x1024 .f32)), Σ' (L6 : List (View.Piece (Elt F) S8x1024 .f32)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ owns (c : Thread nD τ) arg9 fullShare xo6 ∗ owns (c : Thread nD τ) arg10 fullShare xs0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xo6) L6) ∗ owns (c : Thread nD τ) arg10 fullShare xs0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 arg5 harg5 (Memref.whole main_arg5) (Memref.isWhole_whole _) (Memref.whole main_arg6) (Memref.isWhole_whole _) arg8 harg8 arg9 harg9 arg10 harg10 cc0_scratch1) K } := by
  refine ⟨?_, ?_, [], fun W K => ?run⟩
  case run =>
    simp only [cc0_in_proj_bwd_eq_skeleton]; unfold cc0_in_proj_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexact H6
    isplitl [HS0]
    · iexists _; isplitr; · ipureintro; exact harg10.read_unread _
      iexact HS0
    iframe Hq0 Hq1 Hq2 Hq3 Hq4 Hq5 Hq6 Hq7 Hh0 Hh1
    iexists _; iexact HW

theorem cover0_B_5 (y : S256x1024.Idx) :
    ∃ pc ∈ (kernelRun0_B c i arg1 harg1 arg2 harg2 arg3 harg3 arg4 harg4 arg5 harg5 arg8 harg8 arg9 harg9 arg10 harg10 hc0 x0 x1 x2 x3 x4 xo6 xs0 fh0 fh1).1, y ∈ pc.1.set :=
  View.cover_of_tiledL _ S256x1024.size (by sl_kernel_rfl) y
def out0_B_5 : Vec F S256x1024 .f32 :=
  VO0_5.read (Elt F) (VO0_5.writes (Elt F) VO0_5.junk (kernelRun0_B c i arg1 harg1 arg2 harg2 arg3 harg3 arg4 harg4 arg5 harg5 arg8 harg8 arg9 harg9 arg10 harg10 hc0 x0 x1 x2 x3 x4 xo6 xs0 fh0 fh1).1)
def out0_B_6 : Vec F S8x1024 .f32 :=
  arg9.view.read (Elt F) (arg9.view.writes (Elt F) (harg9.unread xo6) (kernelRun0_B c i arg1 harg1 arg2 harg2 arg3 harg3 arg4 harg4 arg5 harg5 arg8 harg8 arg9 harg9 arg10 harg10 hc0 x0 x1 x2 x3 x4 xo6 xs0 fh0 fh1).2.1)
end

variable (m : (ℓ : Loc nD τ sig) → Buf (Elt F) ℓ) (ρ : Dev nD → PrngReg)

/-- What the first point leaves in the outputs and in the scratch, and what a later point leaves over `p`, the point before. -/
def atA (c : Dev nD) (t : Fin cfg0.N) (h0 : t.val % 16 = 0) : Vec F S256x1024 .f32 × Vec F S8x1024 .f32 × Vec F S1024x7168 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6))
def atB (c : Dev nD) (t : Fin cfg0.N) (h0 : ¬t.val % 16 = 0) (p : Vec F S256x1024 .f32 × Vec F S8x1024 .f32 × Vec F S1024x7168 .bf16) : Vec F S256x1024 .f32 × Vec F S8x1024 .f32 × Vec F S1024x7168 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) p.2.1 p.2.2 (V m c main_arg5) (V m c main_arg6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) p.2.1 p.2.2 (V m c main_arg5) (V m c main_arg6), p.2.2)

/-- What the outputs' buffers and the scratch hold after grid point `n`. -/
def outsAt0 (c : Dev nD) : (n : ℕ) → n < cfg0.N → Vec F S256x1024 .f32 × Vec F S8x1024 .f32 × Vec F S1024x7168 .bf16
  | 0, hn => atA m c ⟨0, hn⟩ (Nat.zero_mod _)
  | n + 1, hn =>
    if h0 : (n + 1) % 16 = 0 then atA m c ⟨n + 1, hn⟩ h0
    else atB m c ⟨n + 1, hn⟩ h0 (outsAt0 c n (Nat.lt_of_succ_lt hn))

theorem outsAt0_A (c : Dev nD) (t : Fin cfg0.N) (h0 : t.val % 16 = 0) : outsAt0 m c t.val t.isLt = atA m c t h0 := by
  obtain ⟨n, hn⟩ := t
  cases n with
  | zero => exact rfl
  | succ n => exact (dif_pos h0).trans rfl
theorem outsAt0_B (c : Dev nD) (t : Fin cfg0.N) (h0 : ¬t.val % 16 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before point `n`: after the first point the scratch holds what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold atA out0_A_5 out0_A_6 sout0_A_0; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (V m c main_arg5) (V m c main_arg6)).2.2.2 W _)
      iframe H0 H1 H2 H3 H4
      isplitl [H5]; · iexists _; iexact H5
      isplitl [H6]; · iexists _; iexact H6
      iframe HS0 Hq0 Hq1 Hq2 Hq3 Hq4 Hq5 Hq6 Hq7 Hh0 Hh1 HW
      iintro ⟨H0, H1, H2, H3, H4, ⟨%e5, H5⟩, ⟨%e6, H6⟩, ⟨%es0, HS0⟩, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2 H3 H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_6_B m c t h0]
      unfold atB out0_B_5 out0_B_6; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _ _ (V m c main_arg5) (V m c main_arg6)).2.2.2 W _)
      iframe H0 H1 H2 H3 H4
      isplitl [H5]; · iexists _; iexact H5
      iframe H6 HS0 Hq0 Hq1 Hq2 Hq3 Hq4 Hq5 Hq6 Hq7 Hh0 Hh1 HW
      iintro ⟨H0, H1, H2, H3, H4, ⟨%e5, H5⟩, H6, HS0, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · iexact HS0
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2 H3 H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _)
      unfold owns; iexists _; isplitr
      swap; · iexact H6
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, ⟨Hh0, Hh1⟩⟩
  isplitl [HS0]
  · iexists _; iexact HS0
  isplitl [Hg]; · iexact Hg
  isplitl [Hq0 Hq1 Hq2 Hq3 Hq4 Hq5 Hq6 Hq7]
  · iframe Hq0 Hq1 Hq2 Hq3 Hq4 Hq5 Hq6 Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel6Ideal.InProj
-- ==== Proof.InBranch.lean ====
module

public import proofs.«01_k».proof.Proof.MlpAlg
public import Idealize.ShloMosaic.Lib.Pipeline.Value
public import Idealize.ShloMosaic.Lib.WritesUnit

/-! A layer's in-projection and its gradient over the extended reals, one row of tokens at a time, and the two buffers the
    programs fill piece by piece read back at an index: the weights' eight column blocks, and the rows of sums. -/

@[expose] public section
noncomputable section
namespace Cert.InBranch
open Idealize.ShloMosaic Cert.Mlp

theorem mul2 {a b c d : EReal} (h : a = b) (h' : c = d) : a * c = b * d := by rw [h, h']
theorem add2 {a b c d : EReal} (h : a = b) (h' : c = d) : a + c = b + d := by rw [h, h']
theorem sumE {n : ℕ} {f g : Fin n → EReal} (h : ∀ x, f x = g x) : ∑ x, f x = ∑ x, g x := Finset.sum_congr rfl fun x _ => h x

/-- Column `j` of the weights, stored as 8 blocks of 896 columns. -/
def wcol (w : Fin 8 → Fin 1024 → Fin 896 → EReal) (k : Fin 1024) (j : Fin 7168) : EReal := w ⟨j / 896, by omega⟩ k ⟨j % 896, by omega⟩

/-- The inputs: the layer's input, its shift, scale and gain rows, the weights; for the gradient also the product's
    gradient and the one the result is added to. -/
structure Branch where
  x : Fin 4096 → Fin 1024 → EReal
  sh : Fin 1024 → EReal
  sc : Fin 1024 → EReal
  g : Fin 1024 → EReal
  w : Fin 8 → Fin 1024 → Fin 896 → EReal
  dp : Fin 4096 → Fin 7168 → EReal := fun _ _ => 0
  d : Fin 4096 → Fin 1024 → EReal := fun _ _ => 0
namespace Branch
variable (I : Branch)
def H (i : Fin 4096) : Fin 1024 → EReal := hRow (I.x i) I.g I.sc I.sh
def P (i : Fin 4096) (j : Fin 7168) : EReal := ∑ k, I.H i k * wcol I.w k j
def DH (i : Fin 4096) (k : Fin 1024) : EReal := ∑ j, I.dp i j * wcol I.w k j
def DX (i : Fin 4096) : Fin 1024 → EReal := dxRow (I.d i) (I.x i) (I.DH i) I.sc I.g
/-- What token `i` adds to row `q` of the sums. -/
def SMT (q : Fin 8) (i : Fin 4096) (j : Fin 1024) : EReal :=
  ![I.DH i j * (I.x i j * rr (I.x i) * I.g j), I.DH i j, I.DH i j * (1 + I.sc j) * (I.x i j * rr (I.x i)), 0, 0, 0, 0, 0] q
def SM (q : Fin 8) (j : Fin 1024) : EReal := ∑ i, I.SMT q i j
end Branch

/-- Token `r` of tile `t` of 256, and of 512, tokens. -/
def tok (t : ℕ) (ht : t < 16) (r : Fin 256) : Fin 4096 := ⟨t * 256 + r, by omega⟩
def tok2 (t : ℕ) (ht : t < 8) (r : Fin 512) : Fin 4096 := ⟨t * 512 + r, by omega⟩

abbrev SW : Shape := ⟨2, ![1024, 7168]⟩
abbrev SB : Shape := ⟨2, ![1024, 896]⟩
abbrev SP : Shape := ⟨2, ![512, 7168]⟩
abbrev SQ : Shape := ⟨2, ![512, 1792]⟩
abbrev SS : Shape := ⟨2, ![8, 1024]⟩
abbrev SR : Shape := ⟨2, ![1, 1024]⟩

/-- Eight blocks of 896 columns side by side, read at an index. -/
theorem canon_cols (e : EltTy) (p0 p1 p2 p3 p4 p5 p6 p7 : SB.Idx → Elt Ideal e) (i0 i1 i2 i3 i4 i5 i6 i7) (k : Fin 1024) (j : Fin 7168) :
    View.canon (Val := Elt Ideal) (s := SW) (e := e)
      [⟨Rect.unit (s := SW) ![0, 6272] ![1024, 896] i7, p7⟩, ⟨Rect.unit (s := SW) ![0, 5376] ![1024, 896] i6, p6⟩,
        ⟨Rect.unit (s := SW) ![0, 4480] ![1024, 896] i5, p5⟩, ⟨Rect.unit (s := SW) ![0, 3584] ![1024, 896] i4, p4⟩,
        ⟨Rect.unit (s := SW) ![0, 2688] ![1024, 896] i3, p3⟩, ⟨Rect.unit (s := SW) ![0, 1792] ![1024, 896] i2, p2⟩,
        ⟨Rect.unit (s := SW) ![0, 896] ![1024, 896] i1, p1⟩, ⟨Rect.unit (s := SW) ![0, 0] ![1024, 896] i0, p0⟩] (ix2 k j)
      = ![p0, p1, p2, p3, p4, p5, p6, p7] ⟨j / 896, by omega⟩ (ix2 k (⟨j % 896, by omega⟩ : Fin 896)) := by
  have hit : ∀ (o : ℕ) (inb) (p : SB.Idx → Elt Ideal e) (L), o ≤ (j : ℕ) → ∀ h : (j : ℕ) - o < 896,
      View.canon (Val := Elt Ideal) (s := SW) (e := e) (⟨Rect.unit (s := SW) ![0, o] ![1024, 896] inb, p⟩ :: L) (ix2 k j) = p (ix2 k (⟨j - o, h⟩ : Fin 896)) := by
    intro o inb p L ho h
    have e' : (ix2 k j : SW.Idx) = (Rect.unit (s := SW) ![0, o] ![1024, 896] inb).emb (ix2 k (⟨j - o, h⟩ : Fin 896)) := by
      funext a
      fin_cases a
      · exact Fin.ext (show (k : ℕ) = 0 + 1 * (k : ℕ) by omega)
      · exact Fin.ext (show (j : ℕ) = o + 1 * ((j : ℕ) - o) by omega)
    rw [e']
    exact View.canon_cons_emb (Rect.unit (s := SW) ![0, o] ![1024, 896] inb) p L _
  have miss : ∀ (o : ℕ) (inb) (p : SB.Idx → Elt Ideal e) (L), (j : ℕ) < o →
      View.canon (Val := Elt Ideal) (s := SW) (e := e) (⟨Rect.unit (s := SW) ![0, o] ![1024, 896] inb, p⟩ :: L) (ix2 k j) = View.canon L (ix2 k j) := by
    intro o inb p L ho
    refine View.canon_cons_of_not_mem _ _ fun h => ?_
    have h1 : o ≤ (j : ℕ) := ((Rect.mem_set_unit (inb := inb).mp h) (1 : Fin 2)).1
    omega
  have fin : ∀ (q : Fin 8) (o : ℕ) (h : (j : ℕ) - o < 896), (j : ℕ) / 896 = q → o = 896 * q →
      ![p0, p1, p2, p3, p4, p5, p6, p7] q (ix2 k (⟨j - o, h⟩ : Fin 896))
        = ![p0, p1, p2, p3, p4, p5, p6, p7] ⟨j / 896, by omega⟩ (ix2 k (⟨j % 896, by omega⟩ : Fin 896)) := by
    intro q o h hq ho
    have h1 : q = ⟨j / 896, by omega⟩ := Fin.ext hq.symm
    have h2 : (⟨j - o, h⟩ : Fin 896) = ⟨j % 896, by omega⟩ := Fin.ext (by show (j : ℕ) - o = j % 896; omega)
    rw [h2, ← h1]
  by_cases c7 : 6272 ≤ (j : ℕ)
  · exact (hit 6272 _ _ _ c7 (by omega)).trans (fin 7 6272 (by omega) (by show (j : ℕ) / 896 = 7; omega) rfl)
  rw [miss 6272 _ _ _ (by omega)]
  by_cases c6 : 5376 ≤ (j : ℕ)
  · exact (hit 5376 _ _ _ c6 (by omega)).trans (fin 6 5376 (by omega) (by show (j : ℕ) / 896 = 6; omega) rfl)
  rw [miss 5376 _ _ _ (by omega)]
  by_cases c5 : 4480 ≤ (j : ℕ)
  · exact (hit 4480 _ _ _ c5 (by omega)).trans (fin 5 4480 (by omega) (by show (j : ℕ) / 896 = 5; omega) rfl)
  rw [miss 4480 _ _ _ (by omega)]
  by_cases c4 : 3584 ≤ (j : ℕ)
  · exact (hit 3584 _ _ _ c4 (by omega)).trans (fin 4 3584 (by omega) (by show (j : ℕ) / 896 = 4; omega) rfl)
  rw [miss 3584 _ _ _ (by omega)]
  by_cases c3 : 2688 ≤ (j : ℕ)
  · exact (hit 2688 _ _ _ c3 (by omega)).trans (fin 3 2688 (by omega) (by show (j : ℕ) / 896 = 3; omega) rfl)
  rw [miss 2688 _ _ _ (by omega)]
  by_cases c2 : 1792 ≤ (j : ℕ)
  · exact (hit 1792 _ _ _ c2 (by omega)).trans (fin 2 1792 (by omega) (by show (j : ℕ) / 896 = 2; omega) rfl)
  rw [miss 1792 _ _ _ (by omega)]
  by_cases c1 : 896 ≤ (j : ℕ)
  · exact (hit 896 _ _ _ c1 (by omega)).trans (fin 1 896 (by omega) (by show (j : ℕ) / 896 = 1; omega) rfl)
  rw [miss 896 _ _ _ (by omega)]
  exact (hit 0 _ _ _ (by omega) (by omega)).trans (fin 0 0 (by omega) (by show (j : ℕ) / 896 = 0; omega) rfl)

theorem vec8 {α : Type} (P : Fin 8 → α → Prop) {p0 p1 p2 p3 p4 p5 p6 p7 : α} (h0 : P 0 p0) (h1 : P 1 p1) (h2 : P 2 p2) (h3 : P 3 p3)
    (h4 : P 4 p4) (h5 : P 5 p5) (h6 : P 6 p6) (h7 : P 7 p7) (q : Fin 8) : P q (![p0, p1, p2, p3, p4, p5, p6, p7] q) := by
  fin_cases q
  exacts [h0, h1, h2, h3, h4, h5, h6, h7]

/-- The eight blocks loaded back whole. -/
theorem readCov_cols {sig : RefSig} (v : View sig .tc .vmem SW .bf16) (p0 p1 p2 p3 p4 p5 p6 p7 : SB.Idx → Elt Ideal .bf16)
    (i0 i1 i2 i3 i4 i5 i6 i7 i) (w : Fin 8 → Fin 1024 → Fin 896 → EReal)
    (hp : ∀ (q : Fin 8) (k : Fin 1024) (x : Fin 896), @Eq EReal (![p0, p1, p2, p3, p4, p5, p6, p7] q (ix2 k x)) (w q k x)) (k : Fin 1024) (j : Fin 7168) :
    @Eq EReal (v.readCov
      [⟨Rect.unit (s := SW) ![0, 6272] ![1024, 896] i7, p7⟩, ⟨Rect.unit (s := SW) ![0, 5376] ![1024, 896] i6, p6⟩,
        ⟨Rect.unit (s := SW) ![0, 4480] ![1024, 896] i5, p5⟩, ⟨Rect.unit (s := SW) ![0, 3584] ![1024, 896] i4, p4⟩,
        ⟨Rect.unit (s := SW) ![0, 2688] ![1024, 896] i3, p3⟩, ⟨Rect.unit (s := SW) ![0, 1792] ![1024, 896] i2, p2⟩,
        ⟨Rect.unit (s := SW) ![0, 896] ![1024, 896] i1, p1⟩, ⟨Rect.unit (s := SW) ![0, 0] ![1024, 896] i0, p0⟩]
      (Rect.unit (s := SW) ![0, 0] ![1024, 7168] i).toLoadRect (ix2 k j)) (wcol w k j) := by
  rw [View.readCov_eq_canon']
  have e' : (Rect.unit (s := SW) ![0, 0] ![1024, 7168] i).toLoadRect.idx (ix2 k j) = (ix2 k j : SW.Idx) := by
    funext a
    fin_cases a
    · exact Fin.ext (show 0 + 1 * (k : ℕ) = (k : ℕ) by omega)
    · exact Fin.ext (show 0 + 1 * (j : ℕ) = (j : ℕ) by omega)
  beta_reduce
  refine (congrArg (View.canon _) e').trans ?_
  exact (canon_cols .bf16 _ _ _ _ _ _ _ _ _ _ _ _ _ _ _ _ k j).trans (hp _ k _)

/-- A quarter of the columns loaded back. -/
theorem readCov_part {sig : RefSig} (v : View sig .tc .vmem SW .bf16) (p0 p1 p2 p3 p4 p5 p6 p7 : SB.Idx → Elt Ideal .bf16)
    (i0 i1 i2 i3 i4 i5 i6 i7) (o : ℕ) (ho : o ≤ 5376) (i) (w : Fin 8 → Fin 1024 → Fin 896 → EReal)
    (hp : ∀ (q : Fin 8) (k : Fin 1024) (x : Fin 896), @Eq EReal (![p0, p1, p2, p3, p4, p5, p6, p7] q (ix2 k x)) (w q k x)) (k : Fin 1024) (x : Fin 1792) :
    @Eq EReal (v.readCov
      [⟨Rect.unit (s := SW) ![0, 6272] ![1024, 896] i7, p7⟩, ⟨Rect.unit (s := SW) ![0, 5376] ![1024, 896] i6, p6⟩,
        ⟨Rect.unit (s := SW) ![0, 4480] ![1024, 896] i5, p5⟩, ⟨Rect.unit (s := SW) ![0, 3584] ![1024, 896] i4, p4⟩,
        ⟨Rect.unit (s := SW) ![0, 2688] ![1024, 896] i3, p3⟩, ⟨Rect.unit (s := SW) ![0, 1792] ![1024, 896] i2, p2⟩,
        ⟨Rect.unit (s := SW) ![0, 896] ![1024, 896] i1, p1⟩, ⟨Rect.unit (s := SW) ![0, 0] ![1024, 896] i0, p0⟩]
      (Rect.unit (s := SW) ![0, o] ![1024, 1792] i).toLoadRect (ix2 k x)) (wcol w k ⟨o + x, by omega⟩) := by
  rw [View.readCov_eq_canon']
  have e' : (Rect.unit (s := SW) ![0, o] ![1024, 1792] i).toLoadRect.idx (ix2 k x) = (ix2 k (⟨o + x, by omega⟩ : Fin 7168) : SW.Idx) := by
    funext a
    fin_cases a
    · exact Fin.ext (show 0 + 1 * (k : ℕ) = (k : ℕ) by omega)
    · exact Fin.ext (show o + 1 * (x : ℕ) = o + (x : ℕ) by omega)
  beta_reduce
  refine (congrArg (View.canon _) e').trans ?_
  exact (canon_cols .bf16 _ _ _ _ _ _ _ _ _ _ _ _ _ _ _ _ k _).trans (hp _ k _)

/-- The product's four column blocks, each storing the columns of `G` it covers, hold `G`. -/
theorem canon_quarters (p0 p1 p2 p3 : SQ.Idx → Elt Ideal .f32) (i0 i1 i2 i3) (r : Fin 512) (G : Fin 7168 → EReal)
    (h3 : ∀ x : Fin 1792, @Eq EReal (p3 (ix2 r x)) (G ⟨5376 + x, by omega⟩)) (h2 : ∀ x : Fin 1792, @Eq EReal (p2 (ix2 r x)) (G ⟨3584 + x, by omega⟩))
    (h1 : ∀ x : Fin 1792, @Eq EReal (p1 (ix2 r x)) (G ⟨1792 + x, by omega⟩)) (h0 : ∀ x : Fin 1792, @Eq EReal (p0 (ix2 r x)) (G ⟨0 + x, by omega⟩)) (j : Fin 7168) :
    @Eq EReal (View.canon (Val := Elt Ideal) (s := SP) (e := .f32)
      [⟨Rect.unit (s := SP) ![0, 5376] ![512, 1792] i3, p3⟩, ⟨Rect.unit (s := SP) ![0, 3584] ![512, 1792] i2, p2⟩,
        ⟨Rect.unit (s := SP) ![0, 1792] ![512, 1792] i1, p1⟩, ⟨Rect.unit (s := SP) ![0, 0] ![512, 1792] i0, p0⟩] (ix2 r j)) (G j) := by
  have hit : ∀ (o : ℕ) (inb) (p : SQ.Idx → Elt Ideal .f32) (L) (hb : o ≤ 5376), o ≤ (j : ℕ) → (j : ℕ) - o < 1792 →
      (∀ x : Fin 1792, @Eq EReal (p (ix2 r x)) (G ⟨o + x, by omega⟩)) →
      @Eq EReal (View.canon (Val := Elt Ideal) (s := SP) (e := .f32) (⟨Rect.unit (s := SP) ![0, o] ![512, 1792] inb, p⟩ :: L) (ix2 r j)) (G j) := by
    intro o inb p L hb ho h hp
    have e' : (ix2 r j : SP.Idx) = (Rect.unit (s := SP) ![0, o] ![512, 1792] inb).emb (ix2 r (⟨j - o, h⟩ : Fin 1792)) := by
      funext a
      fin_cases a
      · exact Fin.ext (show (r : ℕ) = 0 + 1 * (r : ℕ) by omega)
      · exact Fin.ext (show (j : ℕ) = o + 1 * ((j : ℕ) - o) by omega)
    rw [e']
    refine (View.canon_cons_emb (Rect.unit (s := SP) ![0, o] ![512, 1792] inb) p L _).trans ((hp _).trans (congrArg G (Fin.ext ?_)))
    show o + ((j : ℕ) - o) = j
    omega
  have miss : ∀ (o : ℕ) (inb) (p : SQ.Idx → Elt Ideal .f32) (L), (j : ℕ) < o →
      View.canon (Val := Elt Ideal) (s := SP) (e := .f32) (⟨Rect.unit (s := SP) ![0, o] ![512, 1792] inb, p⟩ :: L) (ix2 r j) = View.canon L (ix2 r j) := by
    intro o inb p L ho
    refine View.canon_cons_of_not_mem _ _ fun h => ?_
    have h1 : o ≤ (j : ℕ) := ((Rect.mem_set_unit (inb := inb).mp h) (1 : Fin 2)).1
    omega
  by_cases c3 : 5376 ≤ (j : ℕ)
  · exact hit 5376 _ _ _ (by omega) c3 (by omega) h3
  rw [miss 5376 _ _ _ (by omega)]
  by_cases c2 : 3584 ≤ (j : ℕ)
  · exact hit 3584 _ _ _ (by omega) c2 (by omega) h2
  rw [miss 3584 _ _ _ (by omega)]
  by_cases c1 : 1792 ≤ (j : ℕ)
  · exact hit 1792 _ _ _ (by omega) c1 (by omega) h1
  rw [miss 1792 _ _ _ (by omega)]
  exact hit 0 _ _ _ (by omega) (by omega) (by omega) h0

/-- Three rows stored over a whole buffer, read at an index. -/
theorem canon_rows (w0 w1 w2 : SR.Idx → Elt Ideal .f32) (z : SS.Idx → Elt Ideal .f32) (i0 i1 i2 i3) (q : Fin 8) (j : Fin 1024) :
    View.canon (Val := Elt Ideal) (s := SS) (e := .f32)
      [⟨Rect.unit (s := SS) ![2, 0] ![1, 1024] i2, w2⟩, ⟨Rect.unit (s := SS) ![1, 0] ![1, 1024] i1, w1⟩,
        ⟨Rect.unit (s := SS) ![0, 0] ![1, 1024] i0, w0⟩, ⟨Rect.unit (s := SS) ![0, 0] ![8, 1024] i3, z⟩] (ix2 q j)
      = if q = 2 then w2 (ix2 0 j) else if q = 1 then w1 (ix2 0 j) else if q = 0 then w0 (ix2 0 j) else z (ix2 q j) := by
  have hit : ∀ (o : ℕ) (inb) (p : SR.Idx → Elt Ideal .f32) (L), (q : ℕ) = o →
      View.canon (Val := Elt Ideal) (s := SS) (e := .f32) (⟨Rect.unit (s := SS) ![o, 0] ![1, 1024] inb, p⟩ :: L) (ix2 q j) = p (ix2 0 j) := by
    intro o inb p L ho
    have e' : (ix2 q j : SS.Idx) = (Rect.unit (s := SS) ![o, 0] ![1, 1024] inb).emb (ix2 0 j) := by
      funext a
      fin_cases a
      · exact Fin.ext (show (q : ℕ) = o + 1 * 0 by omega)
      · exact Fin.ext (show (j : ℕ) = 0 + 1 * (j : ℕ) by omega)
    rw [e']
    exact View.canon_cons_emb (Rect.unit (s := SS) ![o, 0] ![1, 1024] inb) p L _
  have miss : ∀ (o : ℕ) (inb) (p : SR.Idx → Elt Ideal .f32) (L), (q : ℕ) ≠ o →
      View.canon (Val := Elt Ideal) (s := SS) (e := .f32) (⟨Rect.unit (s := SS) ![o, 0] ![1, 1024] inb, p⟩ :: L) (ix2 q j) = View.canon L (ix2 q j) := by
    intro o inb p L ho
    refine View.canon_cons_of_not_mem _ _ fun h => ho ?_
    have h0 := (Rect.mem_set_unit (inb := inb).mp h) (0 : Fin 2)
    have h1 : o ≤ (q : ℕ) := h0.1
    have h2 : (q : ℕ) < o + 1 := h0.2
    omega
  split_ifs with c2 c1 c0
  · exact hit 2 _ _ _ (congrArg Fin.val c2)
  · rw [miss 2 _ _ _ fun h => c2 (Fin.ext h)]
    exact hit 1 _ _ _ (congrArg Fin.val c1)
  · rw [miss 2 _ _ _ fun h => c2 (Fin.ext h), miss 1 _ _ _ fun h => c1 (Fin.ext h)]
    exact hit 0 _ _ _ (congrArg Fin.val c0)
  · rw [miss 2 _ _ _ fun h => c2 (Fin.ext h), miss 1 _ _ _ fun h => c1 (Fin.ext h), miss 0 _ _ _ fun h => c0 (Fin.ext h)]
    have e' : (ix2 q j : SS.Idx) = (Rect.unit (s := SS) ![0, 0] ![8, 1024] i3).emb (ix2 q j) := by
      funext a
      fin_cases a
      · exact Fin.ext (show (q : ℕ) = 0 + 1 * (q : ℕ) by omega)
      · exact Fin.ext (show (j : ℕ) = 0 + 1 * (j : ℕ) by omega)
    exact (congrArg (View.canon (Val := Elt Ideal) (s := SS) (e := .f32) [⟨Rect.unit (s := SS) ![0, 0] ![8, 1024] i3, z⟩]) e').trans
      (View.canon_cons_emb (Rect.unit (s := SS) ![0, 0] ![8, 1024] i3) z [] (ix2 q j))

/-- The same three rows stored over what a buffer held. -/
theorem read_rows {sig : RefSig} (v : View sig .tc .vmem SS .f32) (f) (w0 w1 w2 : SR.Idx → Elt Ideal .f32) (i0 i1 i2) (q : Fin 8) (j : Fin 1024) :
    v.read (Elt Ideal) (v.writes (Elt Ideal) f
      [⟨Rect.unit (s := SS) ![2, 0] ![1, 1024] i2, w2⟩, ⟨Rect.unit (s := SS) ![1, 0] ![1, 1024] i1, w1⟩,
        ⟨Rect.unit (s := SS) ![0, 0] ![1, 1024] i0, w0⟩]) (ix2 q j)
      = if q = 2 then w2 (ix2 0 j) else if q = 1 then w1 (ix2 0 j) else if q = 0 then w0 (ix2 0 j) else v.read (Elt Ideal) f (ix2 q j) := by
  have hit : ∀ (o : ℕ) (inb) (p : SR.Idx → Elt Ideal .f32) (L), (q : ℕ) = o →
      v.read (Elt Ideal) (v.writes (Elt Ideal) f (⟨Rect.unit (s := SS) ![o, 0] ![1, 1024] inb, p⟩ :: L)) (ix2 q j) = p (ix2 0 j) := by
    intro o inb p L ho
    subst ho
    exact View.read_writes_cons_rows_of_mem v f inb p L (ix2 q j) (ix2 0 j) rfl rfl rfl
  have miss : ∀ (o : ℕ) (inb) (p : SR.Idx → Elt Ideal .f32) (L), (q : ℕ) ≠ o →
      v.read (Elt Ideal) (v.writes (Elt Ideal) f (⟨Rect.unit (s := SS) ![o, 0] ![1, 1024] inb, p⟩ :: L)) (ix2 q j)
        = v.read (Elt Ideal) (v.writes (Elt Ideal) f L) (ix2 q j) := by
    intro o inb p L ho
    exact View.read_writes_cons_rows_of_not_mem (W := 1) v f inb p L (ix2 q j) rfl rfl (by show (q : ℕ) < o ∨ o + 1 ≤ (q : ℕ); omega)
  split_ifs with c2 c1 c0
  · exact hit 2 _ _ _ (congrArg Fin.val c2)
  · rw [miss 2 _ _ _ fun h => c2 (Fin.ext h)]
    exact hit 1 _ _ _ (congrArg Fin.val c1)
  · rw [miss 2 _ _ _ fun h => c2 (Fin.ext h), miss 1 _ _ _ fun h => c1 (Fin.ext h)]
    exact hit 0 _ _ _ (congrArg Fin.val c0)
  · rw [miss 2 _ _ _ fun h => c2 (Fin.ext h), miss 1 _ _ _ fun h => c1 (Fin.ext h), miss 0 _ _ _ fun h => c0 (Fin.ext h)]
    rfl

end Cert.InBranch
-- ==== Proof.InV6.lean ====
module

public import proofs.«01_k».proof.Proof.InF6
public import proofs.«01_k».proof.Proof.InBranch
public import Idealize.ShloMosaic.Lib.UnfoldOut
public import Idealize.ShloMosaic.Lib.Pipeline.ValueKit
public import Idealize.ShloMosaic.Lib.Pipeline.ReadBack
public import Idealize.ShloMosaic.Lib.ValueLayout

/-! What the in-projection's backward call of layer 0 leaves: each tile of tokens' gradient, and the rows of sums gathered
    over the tiles. The weights' copy in the scratch buffer is made at the first tile and kept. -/

@[expose] public section
set_option maxRecDepth 16384
noncomputable section
namespace Cert.Kernel6Ideal.InProj
open Idealize.ShloMosaic Idealize.ShloMosaic.TcCoe Idealize.ShloMosaic.Tactic Idealize.ShloMosaic.Pointwise Idealize.SL.Sem
open Cert.Kernel6Ideal.Gen Cert.Mlp Cert.InBranch
variable (m : (ℓ : Loc nD τ sig) → Buf (Elt Ideal) ℓ)

/-- The call's inputs as rows. -/
def inR (c : Dev nD) : Branch where
  dp i j := V m c main_arg0 (ix2 i j)
  x i k := V m c main_arg1 (ix2 i k)
  d i k := V m c main_arg2 (ix2 i k)
  sh k := V m c main_arg3 (ix3 0 0 k)
  sc k := V m c main_arg3 (ix3 0 1 k)
  g k := V m c main_arg4 (ix3 0 0 k)
  w q k x := V m c main_arg5 (ix3 q k x)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_5 : ∀ t : Fin cfg0.N, win0_5.index t = ![t.val, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![0, 0, 0] := (by decide +kernel : ∀ t : Fin grid0.N, _)
theorem idx_6 : ∀ t : Fin cfg0.N, win0_6.index t = ![0, 0] := (by decide +kernel : ∀ t : Fin grid0.N, _)

theorem blk_0 (c : Dev nD) (t : Fin cfg0.N) (r : Fin 256) (k : Fin 7168) :
    iblk m c 0 t (ix2 r k) = (inR m c).dp (tok t.val t.isLt r) k := by
  show _ = V m c main_arg0 (ix2 (tok t.val t.isLt r) k)
  blk_ext! [iblk, idx_0 t, tok]
theorem blk_1 (c : Dev nD) (t : Fin cfg0.N) (r : Fin 256) (k : Fin 1024) :
    iblk m c 1 t (ix2 r k) = (inR m c).x (tok t.val t.isLt r) k := by
  show _ = V m c main_arg1 (ix2 (tok t.val t.isLt r) k)
  blk_ext! [iblk, idx_1 t, tok]
theorem blk_2 (c : Dev nD) (t : Fin cfg0.N) (r : Fin 256) (k : Fin 1024) :
    iblk m c 2 t (ix2 r k) = (inR m c).d (tok t.val t.isLt r) k := by
  show _ = V m c main_arg2 (ix2 (tok t.val t.isLt r) k)
  blk_ext! [iblk, idx_2 t, tok]
theorem ld_sc (c : Dev nD) (t : Fin cfg0.N) (k : Fin 1024) :
    (View.ld (iblk m c 3 t) (Rect.unit ![0, 1, 0] ![1, 1, 1024] inb_S1x6x1024_S1x1x1024_0_1_0)) (ix3 0 0 k) = (inR m c).sc k := by
  have h : iblk m c 3 t (ix3 0 1 k) = V m c main_arg3 (ix3 0 1 k) := by
    blk_ext! [iblk, idx_3 t]
  generalize iblk m c 3 t = x at *
  pointwise []
  exact h
theorem ld_g (c : Dev nD) (t : Fin cfg0.N) (k : Fin 1024) :
    (View.ld (iblk m c 4 t) (Rect.unit ![0, 0, 0] ![1, 1, 1024] inb_S1x16x1024_S1x1x1024_0_0_0)) (ix3 0 0 k) = (inR m c).g k := by
  have h : iblk m c 4 t (ix3 0 0 k) = V m c main_arg4 (ix3 0 0 k) := by
    blk_ext! [iblk, idx_4 t]
  generalize iblk m c 4 t = x at *
  pointwise []
  exact h

/-! ### The payloads at an index -/

theorem dh_pay (x0 : Vec Ideal S256x7168 .bf16) (scr : Vec Ideal S1024x7168 .bf16) (r : Fin 256) (k : Fin 1024) :
    k0_pay6 (F := Ideal) x0 scr (ix2 r k) = ∑ j : Fin 7168, (x0 (ix2 r j) * scr (ix2 k j) : EReal) := by
  pointwise [k0_pay6]
theorem rr_pay (x1 : Vec Ideal S256x1024 .f32) (r : Fin 256) : k0_pay8 (F := Ideal) x1 (ix2 r 0) = rr fun k => x1 (ix2 r k) := by
  simp only [rr, ms, width, eps]
  pointwise [k0_pay8]
theorem dx_pay (x0 : Vec Ideal S256x7168 .bf16) (scr : Vec Ideal S1024x7168 .bf16) (x1 x2 : Vec Ideal S256x1024 .f32)
    (sc g : Vec Ideal S1x1x1024 .f32) (r : Fin 256) (k : Fin 1024) :
    k0_pay1 (F := Ideal) (k0_pay8 x1) (k0_pay9 x1) (k0_pay12 x0 scr sc) (k0_pay14 g) x2 (ix2 r k)
      = dxRow (fun k => x2 (ix2 r k)) (fun k => x1 (ix2 r k)) (fun k => k0_pay6 (F := Ideal) x0 scr (ix2 r k)) (fun k => sc (ix3 0 0 k))
          (fun k => g (ix3 0 0 k)) k := by
  simp only [dxRow, normBwd, width, ← rr_pay]
  pointwise [k0_pay1, k0_pay9, k0_pay12, k0_pay14, k0_pay7]
theorem dsc_pay (x0 : Vec Ideal S256x7168 .bf16) (scr : Vec Ideal S1024x7168 .bf16) (x1 : Vec Ideal S256x1024 .f32) (g : Vec Ideal S1x1x1024 .f32) (j : Fin 1024) :
    k0_pay10 (F := Ideal) x0 scr x1 g (ix2 0 j)
      = ∑ r, (k0_pay6 (F := Ideal) x0 scr (ix2 r j) * (x1 (ix2 r j) * rr (fun k => x1 (ix2 r k)) * g (ix3 0 0 j)) : EReal) := by
  simp only [← rr_pay]
  pointwise [k0_pay10, k0_pay9, k0_pay7]
theorem dsh_pay (x0 : Vec Ideal S256x7168 .bf16) (scr : Vec Ideal S1024x7168 .bf16) (j : Fin 1024) :
    k0_pay11 (F := Ideal) x0 scr (ix2 0 j) = ∑ r, (k0_pay6 (F := Ideal) x0 scr (ix2 r j) : EReal) := by
  pointwise [k0_pay11]
theorem dg_pay (x0 : Vec Ideal S256x7168 .bf16) (scr : Vec Ideal S1024x7168 .bf16) (x1 : Vec Ideal S256x1024 .f32) (sc : Vec Ideal S1x1x1024 .f32) (j : Fin 1024) :
    k0_pay13 (F := Ideal) x0 scr x1 sc (ix2 0 j)
      = ∑ r, (k0_pay6 (F := Ideal) x0 scr (ix2 r j) * (1 + sc (ix3 0 0 j)) * (x1 (ix2 r j) * rr (fun k => x1 (ix2 r k))) : EReal) := by
  simp only [← rr_pay]
  pointwise [k0_pay13, k0_pay12, k0_pay9]
theorem add2_pay (a : FVec Ideal S1x1024 .f32) (b : Vec Ideal S1x1024 .f32) (j : Fin 1024) : k0_pay2 (F := Ideal) a b (ix2 0 j) = b (ix2 0 j) + a (ix2 0 j) := by
  pointwise [k0_pay2]
theorem add3_pay (a : FVec Ideal S1x1024 .f32) (b : Vec Ideal S1x1024 .f32) (j : Fin 1024) : k0_pay3 (F := Ideal) a b (ix2 0 j) = b (ix2 0 j) + a (ix2 0 j) := by
  pointwise [k0_pay3]
theorem add4_pay (a : FVec Ideal S1x1024 .f32) (b : Vec Ideal S1x1024 .f32) (j : Fin 1024) : k0_pay4 (F := Ideal) a b (ix2 0 j) = b (ix2 0 j) + a (ix2 0 j) := by
  pointwise [k0_pay4]
theorem pay5_zero (q : Fin 8) (j : Fin 1024) : k0_pay5 (F := Ideal) (ix2 q j) = 0 := by
  pointwise [k0_pay5]
theorem ld_row (X : Vec Ideal S8x1024 .f32) (o : ℕ) (ho : o < 8) (inb) (j : Fin 1024) :
    View.ld X (Rect.unit (s := S8x1024) ![o, 0] ![1, 1024] inb) (ix2 0 j) = X (ix2 (⟨o, ho⟩ : Fin 8) j) := by
  pointwise []

/-! ### The scratch buffer holds the weights' columns side by side -/

def IsW (c : Dev nD) (scr : Vec Ideal S1024x7168 .bf16) : Prop := ∀ (k : Fin 1024) (j : Fin 7168), @Eq EReal (scr (ix2 k j)) (wcol (inR m c).w k j)

theorem piece (c : Dev nD) (q : Fin 8) (o : ℕ) (ho : q.val = o) (inb) (k : Fin 1024) (x : Fin 896) :
    @Eq EReal (View.read (Elt Ideal) (((View.whole main_arg5).slice (Rect.unit (s := S8x1024x896) ![o, 0, 0] ![1, 1024, 896] inb)).reshape S1024x896
      squeezes_S1x1024x896_S1024x896.numel_eq) (V m c main_arg5) (ix2 k x)) ((inR m c).w q k x) := by
  subst ho
  show V m c main_arg5 ((Rect.unit (s := S8x1024x896) ![q.val, 0, 0] ![1, 1024, 896] inb).idx (Shape.reshapeEquiv squeezes_S1x1024x896_S1024x896.numel_eq (ix2 k x)))
    = V m c main_arg5 (ix3 q k x)
  refine congrArg (V m c main_arg5) ((congrArg _ (Idealize.ShloMosaic.ValueIdx.reshapeEquiv_ix2_1ab _ k x)).trans ?_)
  funext a
  fin_cases a
  · exact Fin.ext (show q.val + 1 * 0 = q.val by omega)
  · exact Fin.ext (show 0 + 1 * k.val = k.val by omega)
  · exact Fin.ext (show 0 + 1 * x.val = x.val by omega)
theorem pieces (c : Dev nD) (q : Fin 8) (k : Fin 1024) (x : Fin 896) :
    @Eq EReal (![ReadAs.same.apply (View.read (Elt Ideal) (((View.whole main_arg5).slice (Rect.unit ![0, 0, 0] ![1, 1024, 896] inb_S8x1024x896_S1x1024x896_0_0_0)).reshape S1024x896 squeezes_S1x1024x896_S1024x896.numel_eq) (V m c main_arg5)),
      ReadAs.same.apply (View.read (Elt Ideal) (((View.whole main_arg5).slice (Rect.unit ![1, 0, 0] ![1, 1024, 896] inb_S8x1024x896_S1x1024x896_1_0_0)).reshape S1024x896 squeezes_S1x1024x896_S1024x896.numel_eq) (V m c main_arg5)),
      ReadAs.same.apply (View.read (Elt Ideal) (((View.whole main_arg5).slice (Rect.unit ![2, 0, 0] ![1, 1024, 896] inb_S8x1024x896_S1x1024x896_2_0_0)).reshape S1024x896 squeezes_S1x1024x896_S1024x896.numel_eq) (V m c main_arg5)),
      ReadAs.same.apply (View.read (Elt Ideal) (((View.whole main_arg5).slice (Rect.unit ![3, 0, 0] ![1, 1024, 896] inb_S8x1024x896_S1x1024x896_3_0_0)).reshape S1024x896 squeezes_S1x1024x896_S1024x896.numel_eq) (V m c main_arg5)),
      ReadAs.same.apply (View.read (Elt Ideal) (((View.whole main_arg5).slice (Rect.unit ![4, 0, 0] ![1, 1024, 896] inb_S8x1024x896_S1x1024x896_4_0_0)).reshape S1024x896 squeezes_S1x1024x896_S1024x896.numel_eq) (V m c main_arg5)),
      ReadAs.same.apply (View.read (Elt Ideal) (((View.whole main_arg5).slice (Rect.unit ![5, 0, 0] ![1, 1024, 896] inb_S8x1024x896_S1x1024x896_5_0_0)).reshape S1024x896 squeezes_S1x1024x896_S1024x896.numel_eq) (V m c main_arg5)),
      ReadAs.same.apply (View.read (Elt Ideal) (((View.whole main_arg5).slice (Rect.unit ![6, 0, 0] ![1, 1024, 896] inb_S8x1024x896_S1x1024x896_6_0_0)).reshape S1024x896 squeezes_S1x1024x896_S1024x896.numel_eq) (V m c main_arg5)),
      ReadAs.same.apply (View.read (Elt Ideal) (((View.whole main_arg5).slice (Rect.unit ![7, 0, 0] ![1, 1024, 896] inb_S8x1024x896_S1x1024x896_7_0_0)).reshape S1024x896 squeezes_S1x1024x896_S1024x896.numel_eq) (V m c main_arg5))] q (ix2 k x)) ((inR m c).w q k x) := by
  exact vec8 (fun q (p : SB.Idx → Elt Ideal .bf16) => @Eq EReal (p (ix2 k x)) ((inR m c).w q k x)) (piece m c 0 0 rfl _ k x) (piece m c 1 1 rfl _ k x) (piece m c 2 2 rfl _ k x) (piece m c 3 3 rfl _ k x) (piece m c 4 4 rfl _ k x) (piece m c 5 5 rfl _ k x) (piece m c 6 6 rfl _ k x) (piece m c 7 7 rfl _ k x) q

theorem scr_A (c : Dev nD) (t : Fin cfg0.N) (h : t.val % 16 = 0) : IsW m c (outsAt0 m c t.val t.isLt).2.2 := by
  intro k j
  rw [outsAt0_A m c t h]
  dsimp only [atA]
  frame_open
  frame_out
  refine (canon_cols .bf16 _ _ _ _ _ _ _ _ _ _ _ _ _ _ _ _ k j).trans (pieces m c _ k _)
theorem scr_at (c : Dev nD) : ∀ (n : ℕ) (hn : n < cfg0.N), IsW m c (outsAt0 m c n hn).2.2
  | 0, hn => scr_A m c ⟨0, hn⟩ (Nat.zero_mod _)
  | n + 1, hn => by
    have h : ¬(n + 1) % 16 = 0 := by have : cfg0.N = 16 := N_0; omega
    have e : (outsAt0 m c (n + 1) hn).2.2 = (outsAt0 m c n (Nat.lt_of_succ_lt hn)).2.2 := by
      rw [outsAt0_B m c ⟨n + 1, hn⟩ h]
      dsimp only [atB]
      frame_open
      rfl
    rw [e]
    exact scr_at c n _
/-- Before a later tile the buffer holds what the tile before left. -/
theorem scr_B (c : Dev nD) (t : Fin cfg0.N) (hw : (Memref.whole (sig := sig) cc0_scratch0).IsWhole) :
    IsW m c (View.read (Elt Ideal) (View.whole cc0_scratch0) (hw.unread (outsAt0 m c (t.val - 1) (Nat.lt_of_le_of_lt (Nat.sub_le _ _) t.isLt)).2.2)) := by
  have e : View.read (Elt Ideal) (View.whole cc0_scratch0) (hw.unread (outsAt0 m c (t.val - 1) (Nat.lt_of_le_of_lt (Nat.sub_le _ _) t.isLt)).2.2)
      = (outsAt0 m c (t.val - 1) (Nat.lt_of_le_of_lt (Nat.sub_le _ _) t.isLt)).2.2 := hw.read_unread _
  rw [e]
  exact scr_at m c _ _

/-! ### The tile's gradient -/

theorem dh_of (c : Dev nD) (t : Fin cfg0.N) (scr : Vec Ideal S1024x7168 .bf16) (hs : IsW m c scr) (r : Fin 256) (k : Fin 1024) :
    k0_pay6 (F := Ideal) (iblk m c 0 t) scr (ix2 r k) = (inR m c).DH (tok t.val t.isLt r) k := by
  rw [dh_pay]
  exact sumE fun j => mul2 (blk_0 m c t r j) (hs k j)
theorem dx_of (c : Dev nD) (t : Fin cfg0.N) (scr : Vec Ideal S1024x7168 .bf16) (hs : IsW m c scr) (r : Fin 256) (k : Fin 1024) :
    k0_pay1 (F := Ideal) (k0_pay8 (iblk m c 1 t)) (k0_pay9 (iblk m c 1 t)) (k0_pay12 (iblk m c 0 t) scr (View.ld (iblk m c 3 t) (Rect.unit ![0, 1, 0] ![1, 1, 1024] inb_S1x6x1024_S1x1x1024_0_1_0))) (k0_pay14 (View.ld (iblk m c 4 t) (Rect.unit ![0, 0, 0] ![1, 1, 1024] inb_S1x16x1024_S1x1x1024_0_0_0)))
      (iblk m c 2 t) (ix2 r k) = (inR m c).DX (tok t.val t.isLt r) k := by
  rw [dx_pay]
  simp only [dh_of m c t scr hs, blk_1, blk_2, ld_sc, ld_g]
  rfl
theorem dx_blk (c : Dev nD) (t : Fin cfg0.N) (r : Fin 256) (k : Fin 1024) :
    (outsAt0 m c t.val t.isLt).1 (ix2 r k) = (inR m c).DX (tok t.val t.isLt r) k := by
  by_cases h : t.val % 16 = 0
  · rw [outsAt0_A m c t h]
    dsimp only [atA]
    frame_out
    exact dx_of m c t _ (readCov_cols _ _ _ _ _ _ _ _ _ _ _ _ _ _ _ _ _ _ _ (pieces m c)) r k
  · rw [outsAt0_B m c t h]
    dsimp only [atB]
    frame_out
    exact dx_of m c t _ (scr_B m c t _) r k
theorem emb_5 (t : Fin cfg0.N) (r : Fin 256) (j : Fin 1024) :
    ((win0_5.blk t).view.emb (ix2 r j) : S4096x1024.Idx) = ix2 (tok t.val t.isLt r) j := by
  blk_ext [idx_5 t, tok]
theorem dx_arr (c : Dev nD) : (dats m 0 c).arrAt 5 cfg0.N = fun i => (inR m c).DX (i 0) (i 1) := by
  refine (dats m 0 c).arrAt_eq_of_covers 5 _ (by decide +kernel) fun t hf y => ?_
  blk_simp
  rw [after0_5]
  obtain ⟨r, j, rfl⟩ : ∃ (r : Fin 256) (j : Fin 1024), y = ix2 r j := ⟨y 0, y 1, by funext a; fin_cases a <;> rfl⟩
  rw [dx_blk, emb_5]
  rfl

/-! ### The rows of sums, gathered over the tiles -/

/-- What tile `t` adds to row `q`. -/
def SMB (c : Dev nD) (q : Fin 8) (t : ℕ) (j : Fin 1024) : EReal :=
  if h : t < 16 then ∑ x : Fin 256, (inR m c).SMT q ⟨t * 256 + x, by omega⟩ j else 0
theorem smb_of (c : Dev nD) (q : Fin 8) (t : Fin cfg0.N) (j : Fin 1024) (g : Fin 256 → EReal)
    (h : ∀ r, g r = (inR m c).SMT q (tok t.val t.isLt r) j) : ∑ r, g r = SMB m c q t.val j := by
  rw [SMB, dif_pos (show t.val < 16 from t.isLt)]
  exact Finset.sum_congr rfl fun r _ => h r
theorem smb_zero (c : Dev nD) (q : Fin 8) (h2 : q ≠ 2) (h1 : q ≠ 1) (h0 : q ≠ 0) (t : Fin cfg0.N) (j : Fin 1024) : SMB m c q t.val j = 0 := by
  rw [← smb_of m c q t j (fun _ => 0) (fun r => by revert h2 h1 h0; fin_cases q <;> intro h2 h1 h0 <;> first | rfl | contradiction)]
  exact Finset.sum_const_zero
theorem dsc_of (c : Dev nD) (t : Fin cfg0.N) (scr : Vec Ideal S1024x7168 .bf16) (hs : IsW m c scr) (j : Fin 1024) :
    k0_pay10 (F := Ideal) (iblk m c 0 t) scr (iblk m c 1 t) (View.ld (iblk m c 4 t) (Rect.unit ![0, 0, 0] ![1, 1, 1024] inb_S1x16x1024_S1x1x1024_0_0_0)) (ix2 0 j) = SMB m c 0 t.val j := by
  rw [dsc_pay]
  refine smb_of m c 0 t j _ fun r => ?_
  simp only [dh_of m c t scr hs, blk_1, ld_g]
  rfl
theorem dsh_of (c : Dev nD) (t : Fin cfg0.N) (scr : Vec Ideal S1024x7168 .bf16) (hs : IsW m c scr) (j : Fin 1024) :
    k0_pay11 (F := Ideal) (iblk m c 0 t) scr (ix2 0 j) = SMB m c 1 t.val j := by
  rw [dsh_pay]
  exact smb_of m c 1 t j _ fun r => dh_of m c t scr hs r j
theorem dg_of (c : Dev nD) (t : Fin cfg0.N) (scr : Vec Ideal S1024x7168 .bf16) (hs : IsW m c scr) (j : Fin 1024) :
    k0_pay13 (F := Ideal) (iblk m c 0 t) scr (iblk m c 1 t) (View.ld (iblk m c 3 t) (Rect.unit ![0, 1, 0] ![1, 1, 1024] inb_S1x6x1024_S1x1x1024_0_1_0)) (ix2 0 j) = SMB m c 2 t.val j := by
  rw [dg_pay]
  refine smb_of m c 2 t j _ fun r => ?_
  simp only [dh_of m c t scr hs, blk_1, ld_sc]
  rfl
theorem sm_A (c : Dev nD) (q : Fin 8) (t : Fin cfg0.N) (h : t.val % 16 = 0) (j : Fin 1024) :
    (outsAt0 m c t.val t.isLt).2.1 (ix2 q j) = 0 + SMB m c q t.val j := by
  rw [outsAt0_A m c t h]
  dsimp only [atA]
  frame_open
  simp (disch := decide) only [↓ View.readCov_skip, ↓ View.readCov_cons_toLoadRect, ↓ View.readCov_fill]
  frame_out
  rw [canon_rows]
  split_ifs with c2 c1 c0
  · subst c2
    refine (add4_pay _ _ j).trans (congrArg₂ (· + ·) ?_ (dg_of m c t _ (readCov_cols _ _ _ _ _ _ _ _ _ _ _ _ _ _ _ _ _ _ _ (pieces m c)) j))
    exact (ld_row _ 2 (by decide) _ j).trans (pay5_zero 2 j)
  · subst c1
    refine (add3_pay _ _ j).trans (congrArg₂ (· + ·) ?_ (dsh_of m c t _ (readCov_cols _ _ _ _ _ _ _ _ _ _ _ _ _ _ _ _ _ _ _ (pieces m c)) j))
    exact (ld_row _ 1 (by decide) _ j).trans (pay5_zero 1 j)
  · subst c0
    refine (add2_pay _ _ j).trans (congrArg₂ (· + ·) ?_ (dsc_of m c t _ (readCov_cols _ _ _ _ _ _ _ _ _ _ _ _ _ _ _ _ _ _ _ (pieces m c)) j))
    exact (ld_row _ 0 (by decide) _ j).trans (pay5_zero 0 j)
  · rw [smb_zero m c q c2 c1 c0 t j, add_zero]
    exact pay5_zero q j
theorem sm_B (c : Dev nD) (q : Fin 8) (t : Fin cfg0.N) (h : ¬t.val % 16 = 0) (j : Fin 1024) :
    (outsAt0 m c t.val t.isLt).2.1 (ix2 q j)
      = (outsAt0 m c (t.val - 1) (Nat.lt_of_le_of_lt (Nat.sub_le _ _) t.isLt)).2.1 (ix2 q j) + SMB m c q t.val j := by
  rw [outsAt0_B m c t h]
  dsimp only [atB]
  frame_open
  try frame_out
  rw [read_rows]
  split_ifs with c2 c1 c0
  · subst c2
    exact (add4_pay _ _ j).trans (congrArg₂ (· + ·) (ld_row _ 2 (by decide) _ j) (dg_of m c t _ (scr_B m c t _) j))
  · subst c1
    exact (add3_pay _ _ j).trans (congrArg₂ (· + ·) (ld_row _ 1 (by decide) _ j) (dsh_of m c t _ (scr_B m c t _) j))
  · subst c0
    exact (add2_pay _ _ j).trans (congrArg₂ (· + ·) (ld_row _ 0 (by decide) _ j) (dsc_of m c t _ (scr_B m c t _) j))
  · rw [smb_zero m c q c2 c1 c0 t j, add_zero]
    exact congrFun (Memref.IsWhole.read_unread _ _) _
theorem sm_last (c : Dev nD) (q : Fin 8) (t : Fin cfg0.N) (ht : t.val % 16 = 15) (j : Fin 1024) :
    (outsAt0 m c t.val t.isLt).2.1 (ix2 q j) = (inR m c).SM q j := by
  have h := Pipeline.eq_sum_of_reset_step_apply_of_mod (fun n hn j => (outsAt0 m c n hn).2.1 (ix2 q j)) 16 (fun _ => 0)
    (fun n j => SMB m c q n j) (fun t h j => sm_A m c q t h j) (fun t h j => sm_B m c q t h j) t ht j
  refine h.trans ?_
  have h16 : t.val / 16 = 0 := Nat.div_eq_of_lt t.isLt
  rw [Branch.SM, sum16 fun k => (inR m c).SMT q k j, h16, zero_add]
  exact Finset.sum_congr rfl fun k _ => by rw [Nat.mul_zero, Nat.zero_add]; rfl
theorem flush_6 : ∀ t : Fin cfg0.N, (cfg0.win 6).flush t = true → t.val % 16 = 15 := by decide +kernel
theorem emb_6 (t : Fin cfg0.N) (r : Fin 8) (j : Fin 1024) : ((win0_6.blk t).view.emb (ix2 r j) : S8x1024.Idx) = ix2 r j := by
  blk_ext [idx_6 t]
theorem sm_arr (c : Dev nD) : (dats m 0 c).arrAt 6 cfg0.N = fun i => (inR m c).SM (i 0) (i 1) := by
  refine (dats m 0 c).arrAt_eq_of_covers 6 _ (by decide +kernel) fun t hf y => ?_
  blk_simp
  rw [after0_6]
  obtain ⟨r, j, rfl⟩ : ∃ (r : Fin 8) (j : Fin 1024), y = ix2 r j := ⟨y 0, y 1, by funext a; fin_cases a <;> rfl⟩
  rw [sm_last m c r t (flush_6 t hf) j, emb_6]
  rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = (fun i => (inR m c).DX (i 0) (i 1))
      ∧ r.2.mem ((c.tc : Thread nD τ).loc main_v0_1) = (fun i => (inR m c).SM (i 0) (i 1))) :=
  (θ_run defs _ _).mono (fun r h c => ⟨((h c).1 5).trans (dx_arr m c), ((h c).1 6).trans (sm_arr m c)⟩) (run_main m ρ)

end Cert.Kernel6Ideal.InProj
-- ==== Proof.InR6.lean ====
module

public import proofs.«01_k».proof.Proof.Gen.Reference6Ideal.Run
public import proofs.«01_k».proof.Proof.InBranch
public import Idealize.ShloMosaic.Lib.Pointwise

/-! The gradient the reference takes of layer 0's in-projection, over the extended reals. -/

@[expose] public section
set_option maxRecDepth 16384
noncomputable section
namespace Cert.Reference6Ideal.InProj
open Idealize.ShloMosaic Idealize.ShloMosaic.TcCoe Idealize.ShloMosaic.Tactic Idealize.ShloMosaic.Pointwise Idealize.SL.Sem
open Cert.Reference6Ideal Cert.Reference6Ideal.Gen Cert.Reference6Ideal.Value Cert.Mlp Cert.InBranch Idealize.ShloMosaic.StableHlo
variable (m : (ℓ : Loc nD τ sig) → Buf (Elt Ideal) ℓ)

/-- The arguments as rows. -/
def inR (c : Dev nD) : Branch where
  dp i j := m ((c.tc : Thread nD τ).loc main_arg0) (ix2 i j)
  x i k := m ((c.tc : Thread nD τ).loc main_arg1) (ix2 i k)
  d i k := m ((c.tc : Thread nD τ).loc main_arg2) (ix2 i k)
  sh k := m ((c.tc : Thread nD τ).loc main_arg3) (ix3 0 0 k)
  sc k := m ((c.tc : Thread nD τ).loc main_arg3) (ix3 0 1 k)
  g k := m ((c.tc : Thread nD τ).loc main_arg4) (ix3 0 0 k)
  w q k x := m ((c.tc : Thread nD τ).loc main_arg5) (ix3 q k x)

theorem dx_eq (c : Dev nD) (i : Fin 4096) (k : Fin 1024) : @Eq EReal (res_main_v59 m c (ix2 i k)) ((inR m c).DX i k) := by
  have e := vjp_eq ((inR m c).x i) (fun k => (inR m c).DH i k * (1 + (inR m c).sc k) * (inR m c).g k) k
  unfold vjpBwd at e
  pointwise [res_main_v59]
  refine Eq.trans ?_ (add2 rfl e)
  refine add2 rfl (add2 (add2 rfl (mul2 rfl ?_)) (mul2 ?_ rfl))
  · exact (Fin.sum_univ_one (M := EReal) _).trans rfl
  · exact (Fin.sum_univ_one (M := EReal) _).trans rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v59) = (fun i => (inR m c).DX (i 0) (i 1))
      ∧ r.2.mem ((c.tc : Thread nD τ).loc main_v61) = (fun i => (inR m c).SM (i 0) (i 1))) := by
  refine (θ_run defs _ _).mono (fun r h c => ⟨(h c).1.trans (funext fun i => ?_), (h c).2.1.trans (funext fun i => ?_)⟩) (run m ρ)
  · obtain ⟨r, j, rfl⟩ : ∃ (r : Fin 4096) (j : Fin 1024), i = ix2 r j := ⟨i 0, i 1, by funext a; fin_cases a <;> rfl⟩
    exact dx_eq m c r j
  · obtain ⟨q, k, rfl⟩ : ∃ (q : Fin 8) (k : Fin 1024), i = ix2 q k := ⟨i 0, i 1, by funext a; fin_cases a <;> rfl⟩
    pointwise []
    fin_cases q
    · exact sumE fun s => mul_comm _ _
    · exact sumE fun s => rfl
    · exact sumE fun s => mul_comm _ _
    all_goals exact (Finset.sum_const_zero (M := EReal)).symm

end Cert.Reference6Ideal.InProj
end
-- ==== Proof.InF7.lean ====
module

public import proofs.«01_k».proof.Proof.Gen.Kernel7Ideal.Frame.Runs
public import Idealize.ShloMosaic.Lib.Claim

/-! The run of the input projection's forward call, layer 0. The first grid point copies the eight blocks of the weights side by
    side into scratch: each copy lends its own window of the scratch, so all eight are under way together. The scratch
    then holds the whole matrix at every later point. -/

@[expose] public section
set_option maxRecDepth 16384
noncomputable section
namespace Cert.Kernel7Ideal.InProj
open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x16x1024 .f32) (harg3 : arg3.IsWhole) (arg6 : Memref sig .tc .vmem S512x7168 .f32) (harg6 : arg6.IsWhole) (arg7 : Memref sig .tc .vmem S512x1024 .bf16) (harg7 : arg7.IsWhole) (arg8 : Memref sig .tc .vmem S1024x7168 .bf16) (harg8 : arg8.IsWhole) (hc0 : cond0_0 i) (x0 : Vec F S512x1024 .f32) (x1 : Vec F S1x6x1024 .f32) (x2 : Vec F S1x16x1024 .f32) (fh0 : HbBuf0 (F := F) c hbM0_0) (fh1 : HbBuf0 (F := F) c hbM0_1)

set_option sl_exec.dmaWindow true in
set_option sl_exec.dmaWindowSet true in
set_option maxHeartbeats 1000000 in
/-- The body at the first grid point: the eight copies are started and awaited, then the tile is computed. -/
def kernelRun0_A :
    Σ' (L3 : List (View.Piece (Elt F) S512x7168 .f32)), Σ' (L4 : List (View.Piece (Elt F) S512x1024 .bf16)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_arg3) (Memref.isWhole_whole _) (Memref.whole main_arg4) (Memref.isWhole_whole _) arg6 harg6 arg7 harg7 arg8 harg8 cc0_scratch1) K } := by
  refine ⟨?_, ?_, ?_, fun W K => ?run⟩
  case run =>
    simp only [cc0_in_proj_fwd_eq_skeleton]; unfold cc0_in_proj_fwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iframe Hq0 Hq1 Hq2 Hq3 Hq4 Hq5 Hq6 Hq7 Hh0 Hh1
    iexists _; iexact HW

theorem cover0_A_3 (y : S512x7168.Idx) :
    ∃ pc ∈ (kernelRun0_A c i arg1 harg1 arg2 harg2 arg3 harg3 arg6 harg6 arg7 harg7 arg8 harg8 hc0 x0 x1 x2 fh0 fh1).1, y ∈ pc.1.set :=
  View.cover_of_tiledL (kernelRun0_A c i arg1 harg1 arg2 harg2 arg3 harg3 arg6 harg6 arg7 harg7 arg8 harg8 hc0 x0 x1 x2 fh0 fh1).1 S512x1792.size (by sl_kernel_rfl) y
def out0_A_3 : Vec F S512x7168 .f32 :=
  VO0_3.read (Elt F) (VO0_3.writes (Elt F) VO0_3.junk (kernelRun0_A c i arg1 harg1 arg2 harg2 arg3 harg3 arg6 harg6 arg7 harg7 arg8 harg8 hc0 x0 x1 x2 fh0 fh1).1)
theorem cover0_A_4 (y : S512x1024.Idx) :
    ∃ pc ∈ (kernelRun0_A c i arg1 harg1 arg2 harg2 arg3 harg3 arg6 harg6 arg7 harg7 arg8 harg8 hc0 x0 x1 x2 fh0 fh1).2.1, y ∈ pc.1.set :=
  View.cover_of_tiledL _ S512x1024.size (by sl_kernel_rfl) y
def out0_A_4 : Vec F S512x1024 .bf16 :=
  VO0_4.read (Elt F) (VO0_4.writes (Elt F) VO0_4.junk (kernelRun0_A c i arg1 harg1 arg2 harg2 arg3 harg3 arg6 harg6 arg7 harg7 arg8 harg8 hc0 x0 x1 x2 fh0 fh1).2.1)
theorem scover0_A_0 (y : S1024x7168.Idx) :
    ∃ pc ∈ (kernelRun0_A c i arg1 harg1 arg2 harg2 arg3 harg3 arg6 harg6 arg7 harg7 arg8 harg8 hc0 x0 x1 x2 fh0 fh1).2.2.1, y ∈ pc.1.set :=
  View.cover_of_tiledL (kernelRun0_A c i arg1 harg1 arg2 harg2 arg3 harg3 arg6 harg6 arg7 harg7 arg8 harg8 hc0 x0 x1 x2 fh0 fh1).2.2.1 S1024x896.size (by sl_kernel_rfl) y
def sout0_A_0 : Vec F S1024x7168 .bf16 :=
  VS0_0.read (Elt F) (VS0_0.writes (Elt F) VS0_0.junk (kernelRun0_A c i arg1 harg1 arg2 harg2 arg3 harg3 arg6 harg6 arg7 harg7 arg8 harg8 hc0 x0 x1 x2 fh0 fh1).2.2.1)
end

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x16x1024 .f32) (harg3 : arg3.IsWhole) (arg6 : Memref sig .tc .vmem S512x7168 .f32) (harg6 : arg6.IsWhole) (arg7 : Memref sig .tc .vmem S512x1024 .bf16) (harg7 : arg7.IsWhole) (arg8 : Memref sig .tc .vmem S1024x7168 .bf16) (harg8 : arg8.IsWhole) (hc0 : ¬cond0_0 i) (x0 : Vec F S512x1024 .f32) (x1 : Vec F S1x6x1024 .f32) (x2 : Vec F S1x16x1024 .f32) (xs0 : Vec F S1024x7168 .bf16) (fh0 : HbBuf0 (F := F) c hbM0_0) (fh1 : HbBuf0 (F := F) c hbM0_1)

set_option maxHeartbeats 1000000 in
/-- The body at a later grid point, over what the scratch holds. -/
def kernelRun0_B :
    Σ' (L3 : List (View.Piece (Elt F) S512x7168 .f32)), Σ' (L4 : List (View.Piece (Elt F) S512x1024 .bf16)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ owns (c : Thread nD τ) arg8 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ owns (c : Thread nD τ) arg8 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_arg3) (Memref.isWhole_whole _) (Memref.whole main_arg4) (Memref.isWhole_whole _) arg6 harg6 arg7 harg7 arg8 harg8 cc0_scratch1) K } := by
  refine ⟨?_, ?_, [], fun W K => ?run⟩
  case run =>
    simp only [cc0_in_proj_fwd_eq_skeleton]; unfold cc0_in_proj_fwd_skel
    simp only [k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _; isplitr; · ipureintro; exact harg8.read_unread _
      iexact HS0
    iframe Hq0 Hq1 Hq2 Hq3 Hq4 Hq5 Hq6 Hq7 Hh0 Hh1
    iexists _; iexact HW

theorem cover0_B_3 (y : S512x7168.Idx) :
    ∃ pc ∈ (kernelRun0_B c i arg1 harg1 arg2 harg2 arg3 harg3 arg6 harg6 arg7 harg7 arg8 harg8 hc0 x0 x1 x2 xs0 fh0 fh1).1, y ∈ pc.1.set :=
  View.cover_of_tiledL (kernelRun0_B c i arg1 harg1 arg2 harg2 arg3 harg3 arg6 harg6 arg7 harg7 arg8 harg8 hc0 x0 x1 x2 xs0 fh0 fh1).1 S512x1792.size (by sl_kernel_rfl) y
def out0_B_3 : Vec F S512x7168 .f32 :=
  VO0_3.read (Elt F) (VO0_3.writes (Elt F) VO0_3.junk (kernelRun0_B c i arg1 harg1 arg2 harg2 arg3 harg3 arg6 harg6 arg7 harg7 arg8 harg8 hc0 x0 x1 x2 xs0 fh0 fh1).1)
theorem cover0_B_4 (y : S512x1024.Idx) :
    ∃ pc ∈ (kernelRun0_B c i arg1 harg1 arg2 harg2 arg3 harg3 arg6 harg6 arg7 harg7 arg8 harg8 hc0 x0 x1 x2 xs0 fh0 fh1).2.1, y ∈ pc.1.set :=
  View.cover_of_tiledL _ S512x1024.size (by sl_kernel_rfl) y
def out0_B_4 : Vec F S512x1024 .bf16 :=
  VO0_4.read (Elt F) (VO0_4.writes (Elt F) VO0_4.junk (kernelRun0_B c i arg1 harg1 arg2 harg2 arg3 harg3 arg6 harg6 arg7 harg7 arg8 harg8 hc0 x0 x1 x2 xs0 fh0 fh1).2.1)
end

variable (m : (ℓ : Loc nD τ sig) → Buf (Elt F) ℓ) (ρ : Dev nD → PrngReg)

/-- What the first point leaves in the outputs and in the scratch, and what a later point leaves over `p`, the point before. -/
def atA (c : Dev nD) (t : Fin cfg0.N) (h0 : t.val % 8 = 0) : Vec F S512x7168 .f32 × Vec F S512x1024 .bf16 × Vec F S1024x7168 .bf16 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4))
def atB (c : Dev nD) (t : Fin cfg0.N) (h0 : ¬t.val % 8 = 0) (p : Vec F S512x7168 .f32 × Vec F S512x1024 .bf16 × Vec F S1024x7168 .bf16) : Vec F S512x7168 .f32 × Vec F S512x1024 .bf16 × Vec F S1024x7168 .bf16 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) p.2.2 (V m c main_arg3) (V m c main_arg4), out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) p.2.2 (V m c main_arg3) (V m c main_arg4), p.2.2)

/-- What the outputs' buffers and the scratch hold after grid point `n`. -/
def outsAt0 (c : Dev nD) : (n : ℕ) → n < cfg0.N → Vec F S512x7168 .f32 × Vec F S512x1024 .bf16 × Vec F S1024x7168 .bf16
  | 0, hn => atA m c ⟨0, hn⟩ (Nat.zero_mod _)
  | n + 1, hn =>
    if h0 : (n + 1) % 8 = 0 then atA m c ⟨n + 1, hn⟩ h0
    else atB m c ⟨n + 1, hn⟩ h0 (outsAt0 c n (Nat.lt_of_succ_lt hn))

theorem outsAt0_A (c : Dev nD) (t : Fin cfg0.N) (h0 : t.val % 8 = 0) : outsAt0 m c t.val t.isLt = atA m c t h0 := by
  obtain ⟨n, hn⟩ := t
  cases n with
  | zero => exact rfl
  | succ n => exact (dif_pos h0).trans rfl
theorem outsAt0_B (c : Dev nD) (t : Fin cfg0.N) (h0 : ¬t.val % 8 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before point `n`: after the first point the scratch holds what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      unfold atA out0_A_3 out0_A_4 sout0_A_0; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (V m c main_arg3) (V m c main_arg4)).2.2.2 W _)
      iframe H0 H1 H2
      isplitl [H3]; · iexists _; iexact H3
      isplitl [H4]; · iexists _; iexact H4
      iframe HS0 Hq0 Hq1 Hq2 Hq3 Hq4 Hq5 Hq6 Hq7 Hh0 Hh1 HW
      iintro ⟨H0, H1, H2, ⟨%e3, H3⟩, ⟨%e4, H4⟩, ⟨%es0, HS0⟩, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2
      isplitl [H3]
      · unfold owns; iexists _; isplitr
        swap; · iexact H3
        ipureintro; exact View.read_writes_of_cover _ _ _ _ _ (cover0_A_3 c _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold atB out0_B_3 out0_B_4; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk m c 0 t) (iblk m c 1 t) (iblk m c 2 t) _ (V m c main_arg3) (V m c main_arg4)).2.2.2 W _)
      iframe H0 H1 H2
      isplitl [H3]; · iexists _; iexact H3
      isplitl [H4]; · iexists _; iexact H4
      iframe HS0 Hq0 Hq1 Hq2 Hq3 Hq4 Hq5 Hq6 Hq7 Hh0 Hh1 HW
      iintro ⟨H0, H1, H2, ⟨%e3, H3⟩, ⟨%e4, H4⟩, HS0, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · iexact HS0
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2
      isplitl [H3]
      · unfold owns; iexists _; isplitr
        swap; · iexact H3
        ipureintro; exact View.read_writes_of_cover _ _ _ _ _ (cover0_B_3 c _ _ _ _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, ⟨Hh0, Hh1⟩⟩
  isplitl [HS0]
  · iexists _; iexact HS0
  isplitl [Hg]; · iexact Hg
  isplitl [Hq0 Hq1 Hq2 Hq3 Hq4 Hq5 Hq6 Hq7]
  · iframe Hq0 Hq1 Hq2 Hq3 Hq4 Hq5 Hq6 Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel7Ideal.InProj
-- ==== Proof.InV7.lean ====
module

public import proofs.«01_k».proof.Proof.InF7
public import proofs.«01_k».proof.Proof.InBranch
public import Idealize.ShloMosaic.Lib.UnfoldOut
public import Idealize.ShloMosaic.Lib.Pipeline.ValueKit
public import Idealize.ShloMosaic.Lib.Pipeline.ReadBack
public import Idealize.ShloMosaic.Lib.ValueLayout

/-! What the in-projection's forward call of layer 0 leaves: each tile of tokens' product and modulated norm. The weights'
    copy in the scratch buffer is made at the first tile and kept. -/

@[expose] public section
set_option maxRecDepth 16384
noncomputable section
namespace Cert.Kernel7Ideal.InProj
open Idealize.ShloMosaic Idealize.ShloMosaic.TcCoe Idealize.ShloMosaic.Tactic Idealize.ShloMosaic.Pointwise Idealize.SL.Sem
open Cert.Kernel7Ideal.Gen Cert.Mlp Cert.InBranch
variable (m : (ℓ : Loc nD τ sig) → Buf (Elt Ideal) ℓ)

/-- The call's inputs as rows. -/
def inR (c : Dev nD) : Branch where
  x i k := V m c main_arg0 (ix2 i k)
  sh k := V m c main_arg1 (ix3 0 0 k)
  sc k := V m c main_arg1 (ix3 0 1 k)
  g k := V m c main_arg2 (ix3 0 0 k)
  w q k x := V m c main_arg3 (ix3 q k x)

theorem idx_0 : ∀ t : Fin cfg0.N, win0_0.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![0, 0, 0] := (by decide +kernel : ∀ t : Fin grid0.N, _)

theorem blk_0 (c : Dev nD) (t : Fin cfg0.N) (r : Fin 512) (k : Fin 1024) :
    iblk m c 0 t (ix2 r k) = (inR m c).x (tok2 t.val t.isLt r) k := by
  show _ = V m c main_arg0 (ix2 (tok2 t.val t.isLt r) k)
  blk_ext! [iblk, idx_0 t, tok2]
theorem blk_1 (c : Dev nD) (t : Fin cfg0.N) (q : Fin 6) (k : Fin 1024) : iblk m c 1 t (ix3 0 q k) = V m c main_arg1 (ix3 0 q k) := by
  blk_ext! [iblk, idx_1 t]
theorem blk_2 (c : Dev nD) (t : Fin cfg0.N) (q : Fin 16) (k : Fin 1024) : iblk m c 2 t (ix3 0 q k) = V m c main_arg2 (ix3 0 q k) := by
  blk_ext! [iblk, idx_2 t]

/-! ### The payloads at an index -/

theorem h_pay (c : Dev nD) (t : Fin cfg0.N) (r : Fin 512) (k : Fin 1024) :
    k0_pay4 (F := Ideal) (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0)) (ix2 r k) = (inR m c).H (tok2 t.val t.isLt r) k := by
  have h0 := blk_0 m c t r
  have h1 := blk_1 m c t
  have h2 := blk_2 m c t
  simp only [Branch.H, hRow, rr, ms, width, eps]
  pointwise [k0_pay4]
  generalize iblk m c 0 t = x0 at *
  generalize iblk m c 1 t = x1 at *
  generalize iblk m c 2 t = x2 at *
  rw [h0, h1, h2, h1]
  simp only [h0]
  rfl
theorem pay1_at (h : FVec Ideal S512x1024 .bf16) (w : Vec Ideal S1024x1792 .bf16) (r : Fin 512) (x : Fin 1792) :
    k0_pay1 (F := Ideal) h w (ix2 r x) = ∑ k, (h (ix2 r k) * w (ix2 k x) : EReal) := by
  pointwise [k0_pay1]
theorem pay2_at (h : FVec Ideal S512x1024 .bf16) (w : Vec Ideal S1024x1792 .bf16) (r : Fin 512) (x : Fin 1792) :
    k0_pay2 (F := Ideal) h w (ix2 r x) = ∑ k, (h (ix2 r k) * w (ix2 k x) : EReal) := by
  pointwise [k0_pay2]
theorem pay3_at (h : FVec Ideal S512x1024 .bf16) (w : Vec Ideal S1024x1792 .bf16) (r : Fin 512) (x : Fin 1792) :
    k0_pay3 (F := Ideal) h w (ix2 r x) = ∑ k, (h (ix2 r k) * w (ix2 k x) : EReal) := by
  pointwise [k0_pay3]
theorem pay5_at (a : Vec Ideal S512x1024 .f32) (g sc sh : Vec Ideal S1x1x1024 .f32) (w : Vec Ideal S1024x1792 .bf16) (r : Fin 512) (x : Fin 1792) :
    k0_pay5 (F := Ideal) a g sc sh w (ix2 r x) = ∑ k, (k0_pay4 (F := Ideal) a g sc sh (ix2 r k) * w (ix2 k x) : EReal) := by
  pointwise [k0_pay5]

/-! ### The scratch buffer holds the weights' columns side by side -/

def IsW (c : Dev nD) (scr : Vec Ideal S1024x7168 .bf16) : Prop := ∀ (k : Fin 1024) (j : Fin 7168), @Eq EReal (scr (ix2 k j)) (wcol (inR m c).w k j)

theorem piece (c : Dev nD) (q : Fin 8) (o : ℕ) (ho : q.val = o) (inb) (k : Fin 1024) (x : Fin 896) :
    @Eq EReal (View.read (Elt Ideal) (((View.whole main_arg3).slice (Rect.unit (s := S8x1024x896) ![o, 0, 0] ![1, 1024, 896] inb)).reshape S1024x896
      squeezes_S1x1024x896_S1024x896.numel_eq) (V m c main_arg3) (ix2 k x)) ((inR m c).w q k x) := by
  subst ho
  show V m c main_arg3 ((Rect.unit (s := S8x1024x896) ![q.val, 0, 0] ![1, 1024, 896] inb).idx (Shape.reshapeEquiv squeezes_S1x1024x896_S1024x896.numel_eq (ix2 k x)))
    = V m c main_arg3 (ix3 q k x)
  refine congrArg (V m c main_arg3) ((congrArg _ (Idealize.ShloMosaic.ValueIdx.reshapeEquiv_ix2_1ab _ k x)).trans ?_)
  funext a
  fin_cases a
  · exact Fin.ext (show q.val + 1 * 0 = q.val by omega)
  · exact Fin.ext (show 0 + 1 * k.val = k.val by omega)
  · exact Fin.ext (show 0 + 1 * x.val = x.val by omega)
theorem pieces (c : Dev nD) (q : Fin 8) (k : Fin 1024) (x : Fin 896) :
    @Eq EReal (![ReadAs.same.apply (View.read (Elt Ideal) (((View.whole main_arg3).slice (Rect.unit ![0, 0, 0] ![1, 1024, 896] inb_S8x1024x896_S1x1024x896_0_0_0)).reshape S1024x896 squeezes_S1x1024x896_S1024x896.numel_eq) (V m c main_arg3)),
      ReadAs.same.apply (View.read (Elt Ideal) (((View.whole main_arg3).slice (Rect.unit ![1, 0, 0] ![1, 1024, 896] inb_S8x1024x896_S1x1024x896_1_0_0)).reshape S1024x896 squeezes_S1x1024x896_S1024x896.numel_eq) (V m c main_arg3)),
      ReadAs.same.apply (View.read (Elt Ideal) (((View.whole main_arg3).slice (Rect.unit ![2, 0, 0] ![1, 1024, 896] inb_S8x1024x896_S1x1024x896_2_0_0)).reshape S1024x896 squeezes_S1x1024x896_S1024x896.numel_eq) (V m c main_arg3)),
      ReadAs.same.apply (View.read (Elt Ideal) (((View.whole main_arg3).slice (Rect.unit ![3, 0, 0] ![1, 1024, 896] inb_S8x1024x896_S1x1024x896_3_0_0)).reshape S1024x896 squeezes_S1x1024x896_S1024x896.numel_eq) (V m c main_arg3)),
      ReadAs.same.apply (View.read (Elt Ideal) (((View.whole main_arg3).slice (Rect.unit ![4, 0, 0] ![1, 1024, 896] inb_S8x1024x896_S1x1024x896_4_0_0)).reshape S1024x896 squeezes_S1x1024x896_S1024x896.numel_eq) (V m c main_arg3)),
      ReadAs.same.apply (View.read (Elt Ideal) (((View.whole main_arg3).slice (Rect.unit ![5, 0, 0] ![1, 1024, 896] inb_S8x1024x896_S1x1024x896_5_0_0)).reshape S1024x896 squeezes_S1x1024x896_S1024x896.numel_eq) (V m c main_arg3)),
      ReadAs.same.apply (View.read (Elt Ideal) (((View.whole main_arg3).slice (Rect.unit ![6, 0, 0] ![1, 1024, 896] inb_S8x1024x896_S1x1024x896_6_0_0)).reshape S1024x896 squeezes_S1x1024x896_S1024x896.numel_eq) (V m c main_arg3)),
      ReadAs.same.apply (View.read (Elt Ideal) (((View.whole main_arg3).slice (Rect.unit ![7, 0, 0] ![1, 1024, 896] inb_S8x1024x896_S1x1024x896_7_0_0)).reshape S1024x896 squeezes_S1x1024x896_S1024x896.numel_eq) (V m c main_arg3))] q (ix2 k x)) ((inR m c).w q k x) := by
  exact vec8 (fun q (p : SB.Idx → Elt Ideal .bf16) => @Eq EReal (p (ix2 k x)) ((inR m c).w q k x)) (piece m c 0 0 rfl _ k x) (piece m c 1 1 rfl _ k x) (piece m c 2 2 rfl _ k x) (piece m c 3 3 rfl _ k x) (piece m c 4 4 rfl _ k x) (piece m c 5 5 rfl _ k x) (piece m c 6 6 rfl _ k x) (piece m c 7 7 rfl _ k x) q

theorem scr_A (c : Dev nD) (t : Fin cfg0.N) (h : t.val % 8 = 0) : IsW m c (outsAt0 m c t.val t.isLt).2.2 := by
  intro k j
  rw [outsAt0_A m c t h]
  dsimp only [atA]
  frame_open
  frame_out
  refine (canon_cols .bf16 _ _ _ _ _ _ _ _ _ _ _ _ _ _ _ _ k j).trans (pieces m c _ k _)
theorem scr_at (c : Dev nD) : ∀ (n : ℕ) (hn : n < cfg0.N), IsW m c (outsAt0 m c n hn).2.2
  | 0, hn => scr_A m c ⟨0, hn⟩ (Nat.zero_mod _)
  | n + 1, hn => by
    have h : ¬(n + 1) % 8 = 0 := by have : cfg0.N = 8 := N_0; omega
    have e : (outsAt0 m c (n + 1) hn).2.2 = (outsAt0 m c n (Nat.lt_of_succ_lt hn)).2.2 := by
      rw [outsAt0_B m c ⟨n + 1, hn⟩ h]
      dsimp only [atB]
      frame_open
      rfl
    rw [e]
    exact scr_at c n _

theorem h_blk (c : Dev nD) (t : Fin cfg0.N) (r : Fin 512) (k : Fin 1024) :
    (outsAt0 m c t.val t.isLt).2.1 (ix2 r k) = (inR m c).H (tok2 t.val t.isLt r) k := by
  by_cases h : t.val % 8 = 0
  · rw [outsAt0_A m c t h]
    dsimp only [atA]
    frame_out
    exact h_pay m c t r k
  · rw [outsAt0_B m c t h]
    dsimp only [atB]
    frame_out
    exact h_pay m c t r k
/-- A quarter of the weights' columns, from column `o` on. -/
def IsQ (c : Dev nD) (w : Vec Ideal S1024x1792 .bf16) (o : ℕ) (ho : o ≤ 5376) : Prop :=
  ∀ (k : Fin 1024) (x : Fin 1792), @Eq EReal (w (ix2 k x)) (wcol (inR m c).w k ⟨o + x, by omega⟩)
/-- Before a later tile the buffer holds what the tile before left. -/
theorem scr_B (c : Dev nD) (t : Fin cfg0.N) (hw : (Memref.whole (sig := sig) cc0_scratch0).IsWhole) (o : ℕ) (ho : o ≤ 5376) (inb) :
    IsQ m c (View.ld (View.read (Elt Ideal) (View.whole cc0_scratch0) (hw.unread (outsAt0 m c (t.val - 1) (Nat.lt_of_le_of_lt (Nat.sub_le _ _) t.isLt)).2.2))
      (Rect.unit (s := S1024x7168) ![0, o] ![1024, 1792] inb)) o ho := by
  intro k x
  have e : View.read (Elt Ideal) (View.whole cc0_scratch0) (hw.unread (outsAt0 m c (t.val - 1) (Nat.lt_of_le_of_lt (Nat.sub_le _ _) t.isLt)).2.2)
      = (outsAt0 m c (t.val - 1) (Nat.lt_of_le_of_lt (Nat.sub_le _ _) t.isLt)).2.2 := hw.read_unread _
  rw [e]
  have e' : (Rect.unit (s := S1024x7168) ![0, o] ![1024, 1792] inb).idx (ix2 k x) = (ix2 k (⟨o + x, by omega⟩ : Fin 7168) : S1024x7168.Idx) := by
    funext a
    fin_cases a
    · exact Fin.ext (show 0 + 1 * (k : ℕ) = (k : ℕ) by omega)
    · exact Fin.ext (show o + 1 * (x : ℕ) = o + (x : ℕ) by omega)
  exact (congrArg (outsAt0 m c (t.val - 1) (Nat.lt_of_le_of_lt (Nat.sub_le _ _) t.isLt)).2.2 e').trans (scr_at m c _ _ k _)
theorem p1_of (c : Dev nD) (t : Fin cfg0.N) (w : Vec Ideal S1024x1792 .bf16) (o : ℕ) (ho : o ≤ 5376) (hw : IsQ m c w o ho) (r : Fin 512) (x : Fin 1792) :
    k0_pay1 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay1_at _ w r x).trans (sumE fun k => mul2 (h_pay m c t r k) (hw k x))
theorem p2_of (c : Dev nD) (t : Fin cfg0.N) (w : Vec Ideal S1024x1792 .bf16) (o : ℕ) (ho : o ≤ 5376) (hw : IsQ m c w o ho) (r : Fin 512) (x : Fin 1792) :
    k0_pay2 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay2_at _ w r x).trans (sumE fun k => mul2 (h_pay m c t r k) (hw k x))
theorem p3_of (c : Dev nD) (t : Fin cfg0.N) (w : Vec Ideal S1024x1792 .bf16) (o : ℕ) (ho : o ≤ 5376) (hw : IsQ m c w o ho) (r : Fin 512) (x : Fin 1792) :
    k0_pay3 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay3_at _ w r x).trans (sumE fun k => mul2 (h_pay m c t r k) (hw k x))
theorem p0_of (c : Dev nD) (t : Fin cfg0.N) (w : Vec Ideal S1024x1792 .bf16) (o : ℕ) (ho : o ≤ 5376) (hw : IsQ m c w o ho) (r : Fin 512) (x : Fin 1792) :
    k0_pay5 (F := Ideal) (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0)) w (ix2 r x) = (inR m c).P (tok2 t.val t.isLt r) ⟨o + x, by omega⟩ :=
  (pay5_at _ _ _ _ w r x).trans (sumE fun k => mul2 (h_pay m c t r k) (hw k x))
theorem p_blk (c : Dev nD) (t : Fin cfg0.N) (r : Fin 512) (j : Fin 7168) :
    (outsAt0 m c t.val t.isLt).1 (ix2 r j) = (inR m c).P (tok2 t.val t.isLt r) j := by
  by_cases h : t.val % 8 = 0
  · rw [outsAt0_A m c t h]
    dsimp only [atA]
    frame_out
    refine canon_quarters _ _ _ _ _ _ _ _ r ((inR m c).P (tok2 t.val t.isLt r)) (fun x => ?_) (fun x => ?_) (fun x => ?_) (fun x => ?_) j
    · exact p3_of m c t _ 5376 (by omega) (readCov_part _ _ _ _ _ _ _ _ _ _ _ _ _ _ _ _ _ 5376 (by omega) _ _ (pieces m c)) r x
    · exact p2_of m c t _ 3584 (by omega) (readCov_part _ _ _ _ _ _ _ _ _ _ _ _ _ _ _ _ _ 3584 (by omega) _ _ (pieces m c)) r x
    · exact p1_of m c t _ 1792 (by omega) (readCov_part _ _ _ _ _ _ _ _ _ _ _ _ _ _ _ _ _ 1792 (by omega) _ _ (pieces m c)) r x
    · exact p0_of m c t _ 0 (by omega) (readCov_part _ _ _ _ _ _ _ _ _ _ _ _ _ _ _ _ _ 0 (by omega) _ _ (pieces m c)) r x
  · rw [outsAt0_B m c t h]
    dsimp only [atB]
    frame_out
    refine canon_quarters _ _ _ _ _ _ _ _ r ((inR m c).P (tok2 t.val t.isLt r)) (fun x => ?_) (fun x => ?_) (fun x => ?_) (fun x => ?_) j
    · exact p3_of m c t _ 5376 (by omega) (scr_B m c t _ 5376 (by omega) _) r x
    · exact p2_of m c t _ 3584 (by omega) (scr_B m c t _ 3584 (by omega) _) r x
    · exact p1_of m c t _ 1792 (by omega) (scr_B m c t _ 1792 (by omega) _) r x
    · exact p0_of m c t _ 0 (by omega) (scr_B m c t _ 0 (by omega) _) r x
theorem emb_3 (t : Fin cfg0.N) (r : Fin 512) (j : Fin 7168) :
    ((win0_3.blk t).view.emb (ix2 r j) : S4096x7168.Idx) = ix2 (tok2 t.val t.isLt r) j := by
  blk_ext [idx_3 t, tok2]
theorem emb_4 (t : Fin cfg0.N) (r : Fin 512) (j : Fin 1024) :
    ((win0_4.blk t).view.emb (ix2 r j) : S4096x1024.Idx) = ix2 (tok2 t.val t.isLt r) j := by
  blk_ext [idx_4 t, tok2]
theorem p_arr (c : Dev nD) : (dats m 0 c).arrAt 3 cfg0.N = fun i => (inR m c).P (i 0) (i 1) := by
  refine (dats m 0 c).arrAt_eq_of_covers 3 _ (by decide +kernel) fun t hf y => ?_
  blk_simp
  rw [after0_3]
  obtain ⟨r, j, rfl⟩ : ∃ (r : Fin 512) (j : Fin 7168), y = ix2 r j := ⟨y 0, y 1, by funext a; fin_cases a <;> rfl⟩
  rw [p_blk, emb_3]
  rfl
theorem h_arr (c : Dev nD) : (dats m 0 c).arrAt 4 cfg0.N = fun i => (inR m c).H (i 0) (i 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, by funext a; fin_cases a <;> rfl⟩
  rw [h_blk, emb_4]
  rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = (fun i => (inR m c).P (i 0) (i 1))
      ∧ r.2.mem ((c.tc : Thread nD τ).loc main_v0_1) = (fun i => (inR m c).H (i 0) (i 1))) :=
  (θ_run defs _ _).mono (fun r h c => ⟨((h c).1 3).trans (p_arr m c), ((h c).1 4).trans (h_arr m c)⟩) (run_main m ρ)

end Cert.Kernel7Ideal.InProj
end
-- ==== Proof.InR7.lean ====
module

public import proofs.«01_k».proof.Proof.Gen.Reference7Ideal.Run
public import proofs.«01_k».proof.Proof.InBranch
public import Idealize.ShloMosaic.Lib.Pointwise

/-! The reference's in-projection of layer 0 over the extended reals. -/

@[expose] public section
set_option maxRecDepth 16384
noncomputable section
namespace Cert.Reference7Ideal.InProj
open Idealize.ShloMosaic Idealize.ShloMosaic.TcCoe Idealize.ShloMosaic.Tactic Idealize.ShloMosaic.Pointwise Idealize.SL.Sem
open Cert.Reference7Ideal Cert.Reference7Ideal.Gen Cert.Reference7Ideal.Value Cert.Mlp Cert.InBranch Idealize.ShloMosaic.StableHlo
variable (m : (ℓ : Loc nD τ sig) → Buf (Elt Ideal) ℓ)

/-- The arguments as rows. -/
def inR (c : Dev nD) : Branch where
  x i k := m ((c.tc : Thread nD τ).loc main_arg0) (ix2 i k)
  sh k := m ((c.tc : Thread nD τ).loc main_arg1) (ix3 0 0 k)
  sc k := m ((c.tc : Thread nD τ).loc main_arg1) (ix3 0 1 k)
  g k := m ((c.tc : Thread nD τ).loc main_arg2) (ix3 0 0 k)
  w q k x := m ((c.tc : Thread nD τ).loc main_arg3) (ix3 q k x)

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v27) = (fun i => (inR m c).P (i 0) (i 1))
      ∧ r.2.mem ((c.tc : Thread nD τ).loc main_v28) = (fun i => (inR m c).H (i 0) (i 1))) := by
  refine (θ_run defs _ _).mono (fun r h c => ⟨(h c).1.trans (funext fun i => ?_), (h c).2.1.trans (funext fun i => ?_)⟩) (run m ρ)
  · obtain ⟨r, j, rfl⟩ : ∃ (r : Fin 4096) (j : Fin 7168), i = ix2 r j := ⟨i 0, i 1, by funext a; fin_cases a <;> rfl⟩
    simp only [Branch.P, Branch.H, hRow, rr, ms, width, eps]
    pointwise []
    rfl
  · obtain ⟨r, j, rfl⟩ : ∃ (r : Fin 4096) (j : Fin 1024), i = ix2 r j := ⟨i 0, i 1, by funext a; fin_cases a <;> rfl⟩
    simp only [Branch.H, hRow, rr, ms, width, eps]
    pointwise []
    rfl

end Cert.Reference7Ideal.InProj
end
-- ==== Proof.InF8.lean ====
module

public import proofs.«01_k».proof.Proof.Gen.Kernel8Ideal.Frame.Runs
public import Idealize.ShloMosaic.Lib.Claim

/-! The run of the input projection's backward call, layer 1. The first grid point copies the eight blocks of the weights side by
    side into scratch: each copy lends its own window of the scratch, so all eight are under way together. The scratch
    then holds the whole matrix at every later point. -/

@[expose] public section
set_option maxRecDepth 16384
noncomputable section
namespace Cert.Kernel8Ideal.InProj
open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S256x7168 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x6x1024 .f32) (harg4 : arg4.IsWhole) (arg5 : Memref sig .tc .vmem S1x16x1024 .f32) (harg5 : arg5.IsWhole) (arg8 : Memref sig .tc .vmem S256x1024 .f32) (harg8 : arg8.IsWhole) (arg9 : Memref sig .tc .vmem S8x1024 .f32) (harg9 : arg9.IsWhole) (arg10 : Memref sig .tc .vmem S1024x7168 .bf16) (harg10 : arg10.IsWhole) (hc0 : cond0_0 i) (x0 : Vec F S256x7168 .bf16) (x1 : Vec F S256x1024 .f32) (x2 : Vec F S256x1024 .f32) (x3 : Vec F S1x6x1024 .f32) (x4 : Vec F S1x16x1024 .f32) (fh0 : HbBuf0 (F := F) c hbM0_0) (fh1 : HbBuf0 (F := F) c hbM0_1)

set_option sl_exec.dmaWindow true in
set_option sl_exec.dmaWindowSet true in
set_option maxHeartbeats 1000000 in
/-- The body at the first grid point: the eight copies are started and awaited, then the tile is computed. -/
def kernelRun0_A :
    Σ' (L5 : List (View.Piece (Elt F) S256x1024 .f32)), Σ' (L6 : List (View.Piece (Elt F) S8x1024 .f32)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 arg5 harg5 (Memref.whole main_arg5) (Memref.isWhole_whole _) (Memref.whole main_arg6) (Memref.isWhole_whole _) arg8 harg8 arg9 harg9 arg10 harg10 cc0_scratch1) K } := by
  refine ⟨?_, ?_, ?_, fun W K => ?run⟩
  case run =>
    simp only [cc0_in_proj_bwd_eq_skeleton]; unfold cc0_in_proj_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iframe Hq0 Hq1 Hq2 Hq3 Hq4 Hq5 Hq6 Hq7 Hh0 Hh1
    iexists _; iexact HW

theorem cover0_A_5 (y : S256x1024.Idx) :
    ∃ pc ∈ (kernelRun0_A c i arg1 harg1 arg2 harg2 arg3 harg3 arg4 harg4 arg5 harg5 arg8 harg8 arg9 harg9 arg10 harg10 hc0 x0 x1 x2 x3 x4 fh0 fh1).1, y ∈ pc.1.set :=
  View.cover_of_tiledL _ S256x1024.size (by sl_kernel_rfl) y
def out0_A_5 : Vec F S256x1024 .f32 :=
  VO0_5.read (Elt F) (VO0_5.writes (Elt F) VO0_5.junk (kernelRun0_A c i arg1 harg1 arg2 harg2 arg3 harg3 arg4 harg4 arg5 harg5 arg8 harg8 arg9 harg9 arg10 harg10 hc0 x0 x1 x2 x3 x4 fh0 fh1).1)
theorem cover0_A_6 (y : S8x1024.Idx) :
    ∃ pc ∈ (kernelRun0_A c i arg1 harg1 arg2 harg2 arg3 harg3 arg4 harg4 arg5 harg5 arg8 harg8 arg9 harg9 arg10 harg10 hc0 x0 x1 x2 x3 x4 fh0 fh1).2.1, y ∈ pc.1.set :=
  View.cover_of_tiledBy _ ![1, 1024] (by sl_kernel_rfl) y
def out0_A_6 : Vec F S8x1024 .f32 :=
  VO0_6.read (Elt F) (VO0_6.writes (Elt F) VO0_6.junk (kernelRun0_A c i arg1 harg1 arg2 harg2 arg3 harg3 arg4 harg4 arg5 harg5 arg8 harg8 arg9 harg9 arg10 harg10 hc0 x0 x1 x2 x3 x4 fh0 fh1).2.1)
theorem scover0_A_0 (y : S1024x7168.Idx) :
    ∃ pc ∈ (kernelRun0_A c i arg1 harg1 arg2 harg2 arg3 harg3 arg4 harg4 arg5 harg5 arg8 harg8 arg9 harg9 arg10 harg10 hc0 x0 x1 x2 x3 x4 fh0 fh1).2.2.1, y ∈ pc.1.set :=
  View.cover_of_tiledL (kernelRun0_A c i arg1 harg1 arg2 harg2 arg3 harg3 arg4 harg4 arg5 harg5 arg8 harg8 arg9 harg9 arg10 harg10 hc0 x0 x1 x2 x3 x4 fh0 fh1).2.2.1 S1024x896.size (by sl_kernel_rfl) y
def sout0_A_0 : Vec F S1024x7168 .bf16 :=
  VS0_0.read (Elt F) (VS0_0.writes (Elt F) VS0_0.junk (kernelRun0_A c i arg1 harg1 arg2 harg2 arg3 harg3 arg4 harg4 arg5 harg5 arg8 harg8 arg9 harg9 arg10 harg10 hc0 x0 x1 x2 x3 x4 fh0 fh1).2.2.1)
end

section
variable (c : Dev nD) (i : grid0.Coords) (arg1 : Memref sig .tc .vmem S256x7168 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x6x1024 .f32) (harg4 : arg4.IsWhole) (arg5 : Memref sig .tc .vmem S1x16x1024 .f32) (harg5 : arg5.IsWhole) (arg8 : Memref sig .tc .vmem S256x1024 .f32) (harg8 : arg8.IsWhole) (arg9 : Memref sig .tc .vmem S8x1024 .f32) (harg9 : arg9.IsWhole) (arg10 : Memref sig .tc .vmem S1024x7168 .bf16) (harg10 : arg10.IsWhole) (hc0 : ¬cond0_0 i) (x0 : Vec F S256x7168 .bf16) (x1 : Vec F S256x1024 .f32) (x2 : Vec F S256x1024 .f32) (x3 : Vec F S1x6x1024 .f32) (x4 : Vec F S1x16x1024 .f32) (xo6 : Vec F S8x1024 .f32) (xs0 : Vec F S1024x7168 .bf16) (fh0 : HbBuf0 (F := F) c hbM0_0) (fh1 : HbBuf0 (F := F) c hbM0_1)

set_option maxHeartbeats 1000000 in
/-- The body at a later grid point, over what the scratch holds. -/
def kernelRun0_B :
    Σ' (L5 : List (View.Piece (Elt F) S256x1024 .f32)), Σ' (L6 : List (View.Piece (Elt F) S8x1024 .f32)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ owns (c : Thread nD τ) arg9 fullShare xo6 ∗ owns (c : Thread nD τ) arg10 fullShare xs0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L5) ∗ (arg9.view.loc (c : Thread nD τ) ↦[arg9.view.set]{fullShare} arg9.view.writes (Elt F) (harg9.unread xo6) L6) ∗ owns (c : Thread nD τ) arg10 fullShare xs0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_bwd i arg1 harg1 arg2 harg2 arg3 harg3 arg4 harg4 arg5 harg5 (Memref.whole main_arg5) (Memref.isWhole_whole _) (Memref.whole main_arg6) (Memref.isWhole_whole _) arg8 harg8 arg9 harg9 arg10 harg10 cc0_scratch1) K } := by
  refine ⟨?_, ?_, [], fun W K => ?run⟩
  case run =>
    simp only [cc0_in_proj_bwd_eq_skeleton]; unfold cc0_in_proj_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexact H6
    isplitl [HS0]
    · iexists _; isplitr; · ipureintro; exact harg10.read_unread _
      iexact HS0
    iframe Hq0 Hq1 Hq2 Hq3 Hq4 Hq5 Hq6 Hq7 Hh0 Hh1
    iexists _; iexact HW

theorem cover0_B_5 (y : S256x1024.Idx) :
    ∃ pc ∈ (kernelRun0_B c i arg1 harg1 arg2 harg2 arg3 harg3 arg4 harg4 arg5 harg5 arg8 harg8 arg9 harg9 arg10 harg10 hc0 x0 x1 x2 x3 x4 xo6 xs0 fh0 fh1).1, y ∈ pc.1.set :=
  View.cover_of_tiledL _ S256x1024.size (by sl_kernel_rfl) y
def out0_B_5 : Vec F S256x1024 .f32 :=
  VO0_5.read (Elt F) (VO0_5.writes (Elt F) VO0_5.junk (kernelRun0_B c i arg1 harg1 arg2 harg2 arg3 harg3 arg4 harg4 arg5 harg5 arg8 harg8 arg9 harg9 arg10 harg10 hc0 x0 x1 x2 x3 x4 xo6 xs0 fh0 fh1).1)
def out0_B_6 : Vec F S8x1024 .f32 :=
  arg9.view.read (Elt F) (arg9.view.writes (Elt F) (harg9.unread xo6) (kernelRun0_B c i arg1 harg1 arg2 harg2 arg3 harg3 arg4 harg4 arg5 harg5 arg8 harg8 arg9 harg9 arg10 harg10 hc0 x0 x1 x2 x3 x4 xo6 xs0 fh0 fh1).2.1)
end

variable (m : (ℓ : Loc nD τ sig) → Buf (Elt F) ℓ) (ρ : Dev nD → PrngReg)

/-- What the first point leaves in the outputs and in the scratch, and what a later point leaves over `p`, the point before. -/
def atA (c : Dev nD) (t : Fin cfg0.N) (h0 : t.val % 16 = 0) : Vec F S256x1024 .f32 × Vec F S8x1024 .f32 × Vec F S1024x7168 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (V m c main_arg5) (V m c main_arg6))
def atB (c : Dev nD) (t : Fin cfg0.N) (h0 : ¬t.val % 16 = 0) (p : Vec F S256x1024 .f32 × Vec F S8x1024 .f32 × Vec F S1024x7168 .bf16) : Vec F S256x1024 .f32 × Vec F S8x1024 .f32 × Vec F S1024x7168 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) p.2.1 p.2.2 (V m c main_arg5) (V m c main_arg6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) p.2.1 p.2.2 (V m c main_arg5) (V m c main_arg6), p.2.2)

/-- What the outputs' buffers and the scratch hold after grid point `n`. -/
def outsAt0 (c : Dev nD) : (n : ℕ) → n < cfg0.N → Vec F S256x1024 .f32 × Vec F S8x1024 .f32 × Vec F S1024x7168 .bf16
  | 0, hn => atA m c ⟨0, hn⟩ (Nat.zero_mod _)
  | n + 1, hn =>
    if h0 : (n + 1) % 16 = 0 then atA m c ⟨n + 1, hn⟩ h0
    else atB m c ⟨n + 1, hn⟩ h0 (outsAt0 c n (Nat.lt_of_succ_lt hn))

theorem outsAt0_A (c : Dev nD) (t : Fin cfg0.N) (h0 : t.val % 16 = 0) : outsAt0 m c t.val t.isLt = atA m c t h0 := by
  obtain ⟨n, hn⟩ := t
  cases n with
  | zero => exact rfl
  | succ n => exact (dif_pos h0).trans rfl
theorem outsAt0_B (c : Dev nD) (t : Fin cfg0.N) (h0 : ¬t.val % 16 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before point `n`: after the first point the scratch holds what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_arg5) ∗ hbPt0 c hbM0_1 (V m c main_arg6))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold atA out0_A_5 out0_A_6 sout0_A_0; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (V m c main_arg5) (V m c main_arg6)).2.2.2 W _)
      iframe H0 H1 H2 H3 H4
      isplitl [H5]; · iexists _; iexact H5
      isplitl [H6]; · iexists _; iexact H6
      iframe HS0 Hq0 Hq1 Hq2 Hq3 Hq4 Hq5 Hq6 Hq7 Hh0 Hh1 HW
      iintro ⟨H0, H1, H2, H3, H4, ⟨%e5, H5⟩, ⟨%e6, H6⟩, ⟨%es0, HS0⟩, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2 H3 H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_6_B m c t h0]
      unfold atB out0_B_5 out0_B_6; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _ _ (V m c main_arg5) (V m c main_arg6)).2.2.2 W _)
      iframe H0 H1 H2 H3 H4
      isplitl [H5]; · iexists _; iexact H5
      iframe H6 HS0 Hq0 Hq1 Hq2 Hq3 Hq4 Hq5 Hq6 Hq7 Hh0 Hh1 HW
      iintro ⟨H0, H1, H2, H3, H4, ⟨%e5, H5⟩, H6, HS0, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · iexact HS0
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2 H3 H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _)
      unfold owns; iexists _; isplitr
      swap; · iexact H6
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, ⟨Hh0, Hh1⟩⟩
  isplitl [HS0]
  · iexists _; iexact HS0
  isplitl [Hg]; · iexact Hg
  isplitl [Hq0 Hq1 Hq2 Hq3 Hq4 Hq5 Hq6 Hq7]
  · iframe Hq0 Hq1 Hq2 Hq3 Hq4 Hq5 Hq6 Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel8Ideal.InProj
-- ==== Proof.InV8.lean ====
module

public import proofs.«01_k».proof.Proof.InF8
public import proofs.«01_k».proof.Proof.InBranch
public import Idealize.ShloMosaic.Lib.UnfoldOut
public import Idealize.ShloMosaic.Lib.Pipeline.ValueKit
public import Idealize.ShloMosaic.Lib.Pipeline.ReadBack
public import Idealize.ShloMosaic.Lib.ValueLayout

/-! What the in-projection's backward call of layer 1 leaves: each tile of tokens' gradient, and the rows of sums gathered
    over the tiles. The weights' copy in the scratch buffer is made at the first tile and kept. -/

@[expose] public section
set_option maxRecDepth 16384
noncomputable section
namespace Cert.Kernel8Ideal.InProj
open Idealize.ShloMosaic Idealize.ShloMosaic.TcCoe Idealize.ShloMosaic.Tactic Idealize.ShloMosaic.Pointwise Idealize.SL.Sem
open Cert.Kernel8Ideal.Gen Cert.Mlp Cert.InBranch
variable (m : (ℓ : Loc nD τ sig) → Buf (Elt Ideal) ℓ)

/-- The call's inputs as rows. -/
def inR (c : Dev nD) : Branch where
  dp i j := V m c main_arg0 (ix2 i j)
  x i k := V m c main_arg1 (ix2 i k)
  d i k := V m c main_arg2 (ix2 i k)
  sh k := V m c main_arg3 (ix3 1 0 k)
  sc k := V m c main_arg3 (ix3 1 1 k)
  g k := V m c main_arg4 (ix3 1 0 k)
  w q k x := V m c main_arg5 (ix3 q k x)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_5 : ∀ t : Fin cfg0.N, win0_5.index t = ![t.val, 0] := (by decide +kernel : ∀ t : Fin grid0.N, _)
theorem idx_3 : ∀ t : Fin cfg0.N, win0_3.index t = ![1, 0, 0] := (by decide +kernel : ∀ t : Fin grid0.N, _)
theorem idx_4 : ∀ t : Fin cfg0.N, win0_4.index t = ![1, 0, 0] := (by decide +kernel : ∀ t : Fin grid0.N, _)
theorem idx_6 : ∀ t : Fin cfg0.N, win0_6.index t = ![0, 0] := (by decide +kernel : ∀ t : Fin grid0.N, _)

theorem blk_0 (c : Dev nD) (t : Fin cfg0.N) (r : Fin 256) (k : Fin 7168) :
    iblk m c 0 t (ix2 r k) = (inR m c).dp (tok t.val t.isLt r) k := by
  show _ = V m c main_arg0 (ix2 (tok t.val t.isLt r) k)
  blk_ext! [iblk, idx_0 t, tok]
theorem blk_1 (c : Dev nD) (t : Fin cfg0.N) (r : Fin 256) (k : Fin 1024) :
    iblk m c 1 t (ix2 r k) = (inR m c).x (tok t.val t.isLt r) k := by
  show _ = V m c main_arg1 (ix2 (tok t.val t.isLt r) k)
  blk_ext! [iblk, idx_1 t, tok]
theorem blk_2 (c : Dev nD) (t : Fin cfg0.N) (r : Fin 256) (k : Fin 1024) :
    iblk m c 2 t (ix2 r k) = (inR m c).d (tok t.val t.isLt r) k := by
  show _ = V m c main_arg2 (ix2 (tok t.val t.isLt r) k)
  blk_ext! [iblk, idx_2 t, tok]
theorem ld_sc (c : Dev nD) (t : Fin cfg0.N) (k : Fin 1024) :
    (View.ld (iblk m c 3 t) (Rect.unit ![0, 1, 0] ![1, 1, 1024] inb_S1x6x1024_S1x1x1024_0_1_0)) (ix3 0 0 k) = (inR m c).sc k := by
  have h : iblk m c 3 t (ix3 0 1 k) = V m c main_arg3 (ix3 1 1 k) := by
    blk_ext! [iblk, idx_3 t]
  generalize iblk m c 3 t = x at *
  pointwise []
  exact h
theorem ld_g (c : Dev nD) (t : Fin cfg0.N) (k : Fin 1024) :
    (View.ld (iblk m c 4 t) (Rect.unit ![0, 0, 0] ![1, 1, 1024] inb_S1x16x1024_S1x1x1024_0_0_0)) (ix3 0 0 k) = (inR m c).g k := by
  have h : iblk m c 4 t (ix3 0 0 k) = V m c main_arg4 (ix3 1 0 k) := by
    blk_ext! [iblk, idx_4 t]
  generalize iblk m c 4 t = x at *
  pointwise []
  exact h

/-! ### The payloads at an index -/

theorem dh_pay (x0 : Vec Ideal S256x7168 .bf16) (scr : Vec Ideal S1024x7168 .bf16) (r : Fin 256) (k : Fin 1024) :
    k0_pay6 (F := Ideal) x0 scr (ix2 r k) = ∑ j : Fin 7168, (x0 (ix2 r j) * scr (ix2 k j) : EReal) := by
  pointwise [k0_pay6]
theorem rr_pay (x1 : Vec Ideal S256x1024 .f32) (r : Fin 256) : k0_pay8 (F := Ideal) x1 (ix2 r 0) = rr fun k => x1 (ix2 r k) := by
  simp only [rr, ms, width, eps]
  pointwise [k0_pay8]
theorem dx_pay (x0 : Vec Ideal S256x7168 .bf16) (scr : Vec Ideal S1024x7168 .bf16) (x1 x2 : Vec Ideal S256x1024 .f32)
    (sc g : Vec Ideal S1x1x1024 .f32) (r : Fin 256) (k : Fin 1024) :
    k0_pay1 (F := Ideal) (k0_pay8 x1) (k0_pay9 x1) (k0_pay12 x0 scr sc) (k0_pay14 g) x2 (ix2 r k)
      = dxRow (fun k => x2 (ix2 r k)) (fun k => x1 (ix2 r k)) (fun k => k0_pay6 (F := Ideal) x0 scr (ix2 r k)) (fun k => sc (ix3 0 0 k))
          (fun k => g (ix3 0 0 k)) k := by
  simp only [dxRow, normBwd, width, ← rr_pay]
  pointwise [k0_pay1, k0_pay9, k0_pay12, k0_pay14, k0_pay7]
theorem dsc_pay (x0 : Vec Ideal S256x7168 .bf16) (scr : Vec Ideal S1024x7168 .bf16) (x1 : Vec Ideal S256x1024 .f32) (g : Vec Ideal S1x1x1024 .f32) (j : Fin 1024) :
    k0_pay10 (F := Ideal) x0 scr x1 g (ix2 0 j)
      = ∑ r, (k0_pay6 (F := Ideal) x0 scr (ix2 r j) * (x1 (ix2 r j) * rr (fun k => x1 (ix2 r k)) * g (ix3 0 0 j)) : EReal) := by
  simp only [← rr_pay]
  pointwise [k0_pay10, k0_pay9, k0_pay7]
theorem dsh_pay (x0 : Vec Ideal S256x7168 .bf16) (scr : Vec Ideal S1024x7168 .bf16) (j : Fin 1024) :
    k0_pay11 (F := Ideal) x0 scr (ix2 0 j) = ∑ r, (k0_pay6 (F := Ideal) x0 scr (ix2 r j) : EReal) := by
  pointwise [k0_pay11]
theorem dg_pay (x0 : Vec Ideal S256x7168 .bf16) (scr : Vec Ideal S1024x7168 .bf16) (x1 : Vec Ideal S256x1024 .f32) (sc : Vec Ideal S1x1x1024 .f32) (j : Fin 1024) :
    k0_pay13 (F := Ideal) x0 scr x1 sc (ix2 0 j)
      = ∑ r, (k0_pay6 (F := Ideal) x0 scr (ix2 r j) * (1 + sc (ix3 0 0 j)) * (x1 (ix2 r j) * rr (fun k => x1 (ix2 r k))) : EReal) := by
  simp only [← rr_pay]
  pointwise [k0_pay13, k0_pay12, k0_pay9]
theorem add2_pay (a : FVec Ideal S1x1024 .f32) (b : Vec Ideal S1x1024 .f32) (j : Fin 1024) : k0_pay2 (F := Ideal) a b (ix2 0 j) = b (ix2 0 j) + a (ix2 0 j) := by
  pointwise [k0_pay2]
theorem add3_pay (a : FVec Ideal S1x1024 .f32) (b : Vec Ideal S1x1024 .f32) (j : Fin 1024) : k0_pay3 (F := Ideal) a b (ix2 0 j) = b (ix2 0 j) + a (ix2 0 j) := by
  pointwise [k0_pay3]
theorem add4_pay (a : FVec Ideal S1x1024 .f32) (b : Vec Ideal S1x1024 .f32) (j : Fin 1024) : k0_pay4 (F := Ideal) a b (ix2 0 j) = b (ix2 0 j) + a (ix2 0 j) := by
  pointwise [k0_pay4]
theorem pay5_zero (q : Fin 8) (j : Fin 1024) : k0_pay5 (F := Ideal) (ix2 q j) = 0 := by
  pointwise [k0_pay5]
theorem ld_row (X : Vec Ideal S8x1024 .f32) (o : ℕ) (ho : o < 8) (inb) (j : Fin 1024) :
    View.ld X (Rect.unit (s := S8x1024) ![o, 0] ![1, 1024] inb) (ix2 0 j) = X (ix2 (⟨o, ho⟩ : Fin 8) j) := by
  pointwise []

/-! ### The scratch buffer holds the weights' columns side by side -/

def IsW (c : Dev nD) (scr : Vec Ideal S1024x7168 .bf16) : Prop := ∀ (k : Fin 1024) (j : Fin 7168), @Eq EReal (scr (ix2 k j)) (wcol (inR m c).w k j)

theorem piece (c : Dev nD) (q : Fin 8) (o : ℕ) (ho : q.val = o) (inb) (k : Fin 1024) (x : Fin 896) :
    @Eq EReal (View.read (Elt Ideal) (((View.whole main_arg5).slice (Rect.unit (s := S8x1024x896) ![o, 0, 0] ![1, 1024, 896] inb)).reshape S1024x896
      squeezes_S1x1024x896_S1024x896.numel_eq) (V m c main_arg5) (ix2 k x)) ((inR m c).w q k x) := by
  subst ho
  show V m c main_arg5 ((Rect.unit (s := S8x1024x896) ![q.val, 0, 0] ![1, 1024, 896] inb).idx (Shape.reshapeEquiv squeezes_S1x1024x896_S1024x896.numel_eq (ix2 k x)))
    = V m c main_arg5 (ix3 q k x)
  refine congrArg (V m c main_arg5) ((congrArg _ (Idealize.ShloMosaic.ValueIdx.reshapeEquiv_ix2_1ab _ k x)).trans ?_)
  funext a
  fin_cases a
  · exact Fin.ext (show q.val + 1 * 0 = q.val by omega)
  · exact Fin.ext (show 0 + 1 * k.val = k.val by omega)
  · exact Fin.ext (show 0 + 1 * x.val = x.val by omega)
theorem pieces (c : Dev nD) (q : Fin 8) (k : Fin 1024) (x : Fin 896) :
    @Eq EReal (![ReadAs.same.apply (View.read (Elt Ideal) (((View.whole main_arg5).slice (Rect.unit ![0, 0, 0] ![1, 1024, 896] inb_S8x1024x896_S1x1024x896_0_0_0)).reshape S1024x896 squeezes_S1x1024x896_S1024x896.numel_eq) (V m c main_arg5)),
      ReadAs.same.apply (View.read (Elt Ideal) (((View.whole main_arg5).slice (Rect.unit ![1, 0, 0] ![1, 1024, 896] inb_S8x1024x896_S1x1024x896_1_0_0)).reshape S1024x896 squeezes_S1x1024x896_S1024x896.numel_eq) (V m c main_arg5)),
      ReadAs.same.apply (View.read (Elt Ideal) (((View.whole main_arg5).slice (Rect.unit ![2, 0, 0] ![1, 1024, 896] inb_S8x1024x896_S1x1024x896_2_0_0)).reshape S1024x896 squeezes_S1x1024x896_S1024x896.numel_eq) (V m c main_arg5)),
      ReadAs.same.apply (View.read (Elt Ideal) (((View.whole main_arg5).slice (Rect.unit ![3, 0, 0] ![1, 1024, 896] inb_S8x1024x896_S1x1024x896_3_0_0)).reshape S1024x896 squeezes_S1x1024x896_S1024x896.numel_eq) (V m c main_arg5)),
      ReadAs.same.apply (View.read (Elt Ideal) (((View.whole main_arg5).slice (Rect.unit ![4, 0, 0] ![1, 1024, 896] inb_S8x1024x896_S1x1024x896_4_0_0)).reshape S1024x896 squeezes_S1x1024x896_S1024x896.numel_eq) (V m c main_arg5)),
      ReadAs.same.apply (View.read (Elt Ideal) (((View.whole main_arg5).slice (Rect.unit ![5, 0, 0] ![1, 1024, 896] inb_S8x1024x896_S1x1024x896_5_0_0)).reshape S1024x896 squeezes_S1x1024x896_S1024x896.numel_eq) (V m c main_arg5)),
      ReadAs.same.apply (View.read (Elt Ideal) (((View.whole main_arg5).slice (Rect.unit ![6, 0, 0] ![1, 1024, 896] inb_S8x1024x896_S1x1024x896_6_0_0)).reshape S1024x896 squeezes_S1x1024x896_S1024x896.numel_eq) (V m c main_arg5)),
      ReadAs.same.apply (View.read (Elt Ideal) (((View.whole main_arg5).slice (Rect.unit ![7, 0, 0] ![1, 1024, 896] inb_S8x1024x896_S1x1024x896_7_0_0)).reshape S1024x896 squeezes_S1x1024x896_S1024x896.numel_eq) (V m c main_arg5))] q (ix2 k x)) ((inR m c).w q k x) := by
  exact vec8 (fun q (p : SB.Idx → Elt Ideal .bf16) => @Eq EReal (p (ix2 k x)) ((inR m c).w q k x)) (piece m c 0 0 rfl _ k x) (piece m c 1 1 rfl _ k x) (piece m c 2 2 rfl _ k x) (piece m c 3 3 rfl _ k x) (piece m c 4 4 rfl _ k x) (piece m c 5 5 rfl _ k x) (piece m c 6 6 rfl _ k x) (piece m c 7 7 rfl _ k x) q

theorem scr_A (c : Dev nD) (t : Fin cfg0.N) (h : t.val % 16 = 0) : IsW m c (outsAt0 m c t.val t.isLt).2.2 := by
  intro k j
  rw [outsAt0_A m c t h]
  dsimp only [atA]
  frame_open
  frame_out
  refine (canon_cols .bf16 _ _ _ _ _ _ _ _ _ _ _ _ _ _ _ _ k j).trans (pieces m c _ k _)
theorem scr_at (c : Dev nD) : ∀ (n : ℕ) (hn : n < cfg0.N), IsW m c (outsAt0 m c n hn).2.2
  | 0, hn => scr_A m c ⟨0, hn⟩ (Nat.zero_mod _)
  | n + 1, hn => by
    have h : ¬(n + 1) % 16 = 0 := by have : cfg0.N = 16 := N_0; omega
    have e : (outsAt0 m c (n + 1) hn).2.2 = (outsAt0 m c n (Nat.lt_of_succ_lt hn)).2.2 := by
      rw [outsAt0_B m c ⟨n + 1, hn⟩ h]
      dsimp only [atB]
      frame_open
      rfl
    rw [e]
    exact scr_at c n _
/-- Before a later tile the buffer holds what the tile before left. -/
theorem scr_B (c : Dev nD) (t : Fin cfg0.N) (hw : (Memref.whole (sig := sig) cc0_scratch0).IsWhole) :
    IsW m c (View.read (Elt Ideal) (View.whole cc0_scratch0) (hw.unread (outsAt0 m c (t.val - 1) (Nat.lt_of_le_of_lt (Nat.sub_le _ _) t.isLt)).2.2)) := by
  have e : View.read (Elt Ideal) (View.whole cc0_scratch0) (hw.unread (outsAt0 m c (t.val - 1) (Nat.lt_of_le_of_lt (Nat.sub_le _ _) t.isLt)).2.2)
      = (outsAt0 m c (t.val - 1) (Nat.lt_of_le_of_lt (Nat.sub_le _ _) t.isLt)).2.2 := hw.read_unread _
  rw [e]
  exact scr_at m c _ _

/-! ### The tile's gradient -/

theorem dh_of (c : Dev nD) (t : Fin cfg0.N) (scr : Vec Ideal S1024x7168 .bf16) (hs : IsW m c scr) (r : Fin 256) (k : Fin 1024) :
    k0_pay6 (F := Ideal) (iblk m c 0 t) scr (ix2 r k) = (inR m c).DH (tok t.val t.isLt r) k := by
  rw [dh_pay]
  exact sumE fun j => mul2 (blk_0 m c t r j) (hs k j)
theorem dx_of (c : Dev nD) (t : Fin cfg0.N) (scr : Vec Ideal S1024x7168 .bf16) (hs : IsW m c scr) (r : Fin 256) (k : Fin 1024) :
    k0_pay1 (F := Ideal) (k0_pay8 (iblk m c 1 t)) (k0_pay9 (iblk m c 1 t)) (k0_pay12 (iblk m c 0 t) scr (View.ld (iblk m c 3 t) (Rect.unit ![0, 1, 0] ![1, 1, 1024] inb_S1x6x1024_S1x1x1024_0_1_0))) (k0_pay14 (View.ld (iblk m c 4 t) (Rect.unit ![0, 0, 0] ![1, 1, 1024] inb_S1x16x1024_S1x1x1024_0_0_0)))
      (iblk m c 2 t) (ix2 r k) = (inR m c).DX (tok t.val t.isLt r) k := by
  rw [dx_pay]
  simp only [dh_of m c t scr hs, blk_1, blk_2, ld_sc, ld_g]
  rfl
theorem dx_blk (c : Dev nD) (t : Fin cfg0.N) (r : Fin 256) (k : Fin 1024) :
    (outsAt0 m c t.val t.isLt).1 (ix2 r k) = (inR m c).DX (tok t.val t.isLt r) k := by
  by_cases h : t.val % 16 = 0
  · rw [outsAt0_A m c t h]
    dsimp only [atA]
    frame_out
    exact dx_of m c t _ (readCov_cols _ _ _ _ _ _ _ _ _ _ _ _ _ _ _ _ _ _ _ (pieces m c)) r k
  · rw [outsAt0_B m c t h]
    dsimp only [atB]
    frame_out
    exact dx_of m c t _ (scr_B m c t _) r k
theorem emb_5 (t : Fin cfg0.N) (r : Fin 256) (j : Fin 1024) :
    ((win0_5.blk t).view.emb (ix2 r j) : S4096x1024.Idx) = ix2 (tok t.val t.isLt r) j := by
  blk_ext [idx_5 t, tok]
theorem dx_arr (c : Dev nD) : (dats m 0 c).arrAt 5 cfg0.N = fun i => (inR m c).DX (i 0) (i 1) := by
  refine (dats m 0 c).arrAt_eq_of_covers 5 _ (by decide +kernel) fun t hf y => ?_
  blk_simp
  rw [after0_5]
  obtain ⟨r, j, rfl⟩ : ∃ (r : Fin 256) (j : Fin 1024), y = ix2 r j := ⟨y 0, y 1, by funext a; fin_cases a <;> rfl⟩
  rw [dx_blk, emb_5]
  rfl

/-! ### The rows of sums, gathered over the tiles -/

/-- What tile `t` adds to row `q`. -/
def SMB (c : Dev nD) (q : Fin 8) (t : ℕ) (j : Fin 1024) : EReal :=
  if h : t < 16 then ∑ x : Fin 256, (inR m c).SMT q ⟨t * 256 + x, by omega⟩ j else 0
theorem smb_of (c : Dev nD) (q : Fin 8) (t : Fin cfg0.N) (j : Fin 1024) (g : Fin 256 → EReal)
    (h : ∀ r, g r = (inR m c).SMT q (tok t.val t.isLt r) j) : ∑ r, g r = SMB m c q t.val j := by
  rw [SMB, dif_pos (show t.val < 16 from t.isLt)]
  exact Finset.sum_congr rfl fun r _ => h r
theorem smb_zero (c : Dev nD) (q : Fin 8) (h2 : q ≠ 2) (h1 : q ≠ 1) (h0 : q ≠ 0) (t : Fin cfg0.N) (j : Fin 1024) : SMB m c q t.val j = 0 := by
  rw [← smb_of m c q t j (fun _ => 0) (fun r => by revert h2 h1 h0; fin_cases q <;> intro h2 h1 h0 <;> first | rfl | contradiction)]
  exact Finset.sum_const_zero
theorem dsc_of (c : Dev nD) (t : Fin cfg0.N) (scr : Vec Ideal S1024x7168 .bf16) (hs : IsW m c scr) (j : Fin 1024) :
    k0_pay10 (F := Ideal) (iblk m c 0 t) scr (iblk m c 1 t) (View.ld (iblk m c 4 t) (Rect.unit ![0, 0, 0] ![1, 1, 1024] inb_S1x16x1024_S1x1x1024_0_0_0)) (ix2 0 j) = SMB m c 0 t.val j := by
  rw [dsc_pay]
  refine smb_of m c 0 t j _ fun r => ?_
  simp only [dh_of m c t scr hs, blk_1, ld_g]
  rfl
theorem dsh_of (c : Dev nD) (t : Fin cfg0.N) (scr : Vec Ideal S1024x7168 .bf16) (hs : IsW m c scr) (j : Fin 1024) :
    k0_pay11 (F := Ideal) (iblk m c 0 t) scr (ix2 0 j) = SMB m c 1 t.val j := by
  rw [dsh_pay]
  exact smb_of m c 1 t j _ fun r => dh_of m c t scr hs r j
theorem dg_of (c : Dev nD) (t : Fin cfg0.N) (scr : Vec Ideal S1024x7168 .bf16) (hs : IsW m c scr) (j : Fin 1024) :
    k0_pay13 (F := Ideal) (iblk m c 0 t) scr (iblk m c 1 t) (View.ld (iblk m c 3 t) (Rect.unit ![0, 1, 0] ![1, 1, 1024] inb_S1x6x1024_S1x1x1024_0_1_0)) (ix2 0 j) = SMB m c 2 t.val j := by
  rw [dg_pay]
  refine smb_of m c 2 t j _ fun r => ?_
  simp only [dh_of m c t scr hs, blk_1, ld_sc]
  rfl
theorem sm_A (c : Dev nD) (q : Fin 8) (t : Fin cfg0.N) (h : t.val % 16 = 0) (j : Fin 1024) :
    (outsAt0 m c t.val t.isLt).2.1 (ix2 q j) = 0 + SMB m c q t.val j := by
  rw [outsAt0_A m c t h]
  dsimp only [atA]
  frame_open
  simp (disch := decide) only [↓ View.readCov_skip, ↓ View.readCov_cons_toLoadRect, ↓ View.readCov_fill]
  frame_out
  rw [canon_rows]
  split_ifs with c2 c1 c0
  · subst c2
    refine (add4_pay _ _ j).trans (congrArg₂ (· + ·) ?_ (dg_of m c t _ (readCov_cols _ _ _ _ _ _ _ _ _ _ _ _ _ _ _ _ _ _ _ (pieces m c)) j))
    exact (ld_row _ 2 (by decide) _ j).trans (pay5_zero 2 j)
  · subst c1
    refine (add3_pay _ _ j).trans (congrArg₂ (· + ·) ?_ (dsh_of m c t _ (readCov_cols _ _ _ _ _ _ _ _ _ _ _ _ _ _ _ _ _ _ _ (pieces m c)) j))
    exact (ld_row _ 1 (by decide) _ j).trans (pay5_zero 1 j)
  · subst c0
    refine (add2_pay _ _ j).trans (congrArg₂ (· + ·) ?_ (dsc_of m c t _ (readCov_cols _ _ _ _ _ _ _ _ _ _ _ _ _ _ _ _ _ _ _ (pieces m c)) j))
    exact (ld_row _ 0 (by decide) _ j).trans (pay5_zero 0 j)
  · rw [smb_zero m c q c2 c1 c0 t j, add_zero]
    exact pay5_zero q j
theorem sm_B (c : Dev nD) (q : Fin 8) (t : Fin cfg0.N) (h : ¬t.val % 16 = 0) (j : Fin 1024) :
    (outsAt0 m c t.val t.isLt).2.1 (ix2 q j)
      = (outsAt0 m c (t.val - 1) (Nat.lt_of_le_of_lt (Nat.sub_le _ _) t.isLt)).2.1 (ix2 q j) + SMB m c q t.val j := by
  rw [outsAt0_B m c t h]
  dsimp only [atB]
  frame_open
  try frame_out
  rw [read_rows]
  split_ifs with c2 c1 c0
  · subst c2
    exact (add4_pay _ _ j).trans (congrArg₂ (· + ·) (ld_row _ 2 (by decide) _ j) (dg_of m c t _ (scr_B m c t _) j))
  · subst c1
    exact (add3_pay _ _ j).trans (congrArg₂ (· + ·) (ld_row _ 1 (by decide) _ j) (dsh_of m c t _ (scr_B m c t _) j))
  · subst c0
    exact (add2_pay _ _ j).trans (congrArg₂ (· + ·) (ld_row _ 0 (by decide) _ j) (dsc_of m c t _ (scr_B m c t _) j))
  · rw [smb_zero m c q c2 c1 c0 t j, add_zero]
    exact congrFun (Memref.IsWhole.read_unread _ _) _
theorem sm_last (c : Dev nD) (q : Fin 8) (t : Fin cfg0.N) (ht : t.val % 16 = 15) (j : Fin 1024) :
    (outsAt0 m c t.val t.isLt).2.1 (ix2 q j) = (inR m c).SM q j := by
  have h := Pipeline.eq_sum_of_reset_step_apply_of_mod (fun n hn j => (outsAt0 m c n hn).2.1 (ix2 q j)) 16 (fun _ => 0)
    (fun n j => SMB m c q n j) (fun t h j => sm_A m c q t h j) (fun t h j => sm_B m c q t h j) t ht j
  refine h.trans ?_
  have h16 : t.val / 16 = 0 := Nat.div_eq_of_lt t.isLt
  rw [Branch.SM, sum16 fun k => (inR m c).SMT q k j, h16, zero_add]
  exact Finset.sum_congr rfl fun k _ => by rw [Nat.mul_zero, Nat.zero_add]; rfl
theorem flush_6 : ∀ t : Fin cfg0.N, (cfg0.win 6).flush t = true → t.val % 16 = 15 := by decide +kernel
theorem emb_6 (t : Fin cfg0.N) (r : Fin 8) (j : Fin 1024) : ((win0_6.blk t).view.emb (ix2 r j) : S8x1024.Idx) = ix2 r j := by
  blk_ext [idx_6 t]
theorem sm_arr (c : Dev nD) : (dats m 0 c).arrAt 6 cfg0.N = fun i => (inR m c).SM (i 0) (i 1) := by
  refine (dats m 0 c).arrAt_eq_of_covers 6 _ (by decide +kernel) fun t hf y => ?_
  blk_simp
  rw [after0_6]
  obtain ⟨r, j, rfl⟩ : ∃ (r : Fin 8) (j : Fin 1024), y = ix2 r j := ⟨y 0, y 1, by funext a; fin_cases a <;> rfl⟩
  rw [sm_last m c r t (flush_6 t hf) j, emb_6]
  rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = (fun i => (inR m c).DX (i 0) (i 1))
      ∧ r.2.mem ((c.tc : Thread nD τ).loc main_v0_1) = (fun i => (inR m c).SM (i 0) (i 1))) :=
  (θ_run defs _ _).mono (fun r h c => ⟨((h c).1 5).trans (dx_arr m c), ((h c).1 6).trans (sm_arr m c)⟩) (run_main m ρ)

end Cert.Kernel8Ideal.InProj
-- ==== Proof.InR8.lean ====
module

public import proofs.«01_k».proof.Proof.Gen.Reference8Ideal.Run
public import proofs.«01_k».proof.Proof.InBranch
public import Idealize.ShloMosaic.Lib.Pointwise

/-! The gradient the reference takes of layer 1's in-projection, over the extended reals. -/

@[expose] public section
set_option maxRecDepth 16384
noncomputable section
namespace Cert.Reference8Ideal.InProj
open Idealize.ShloMosaic Idealize.ShloMosaic.TcCoe Idealize.ShloMosaic.Tactic Idealize.ShloMosaic.Pointwise Idealize.SL.Sem
open Cert.Reference8Ideal Cert.Reference8Ideal.Gen Cert.Reference8Ideal.Value Cert.Mlp Cert.InBranch Idealize.ShloMosaic.StableHlo
variable (m : (ℓ : Loc nD τ sig) → Buf (Elt Ideal) ℓ)

/-- The arguments as rows. -/
def inR (c : Dev nD) : Branch where
  dp i j := m ((c.tc : Thread nD τ).loc main_arg0) (ix2 i j)
  x i k := m ((c.tc : Thread nD τ).loc main_arg1) (ix2 i k)
  d i k := m ((c.tc : Thread nD τ).loc main_arg2) (ix2 i k)
  sh k := m ((c.tc : Thread nD τ).loc main_arg3) (ix3 1 0 k)
  sc k := m ((c.tc : Thread nD τ).loc main_arg3) (ix3 1 1 k)
  g k := m ((c.tc : Thread nD τ).loc main_arg4) (ix3 1 0 k)
  w q k x := m ((c.tc : Thread nD τ).loc main_arg5) (ix3 q k x)

theorem dx_eq (c : Dev nD) (i : Fin 4096) (k : Fin 1024) : @Eq EReal (res_main_v59 m c (ix2 i k)) ((inR m c).DX i k) := by
  have e := vjp_eq ((inR m c).x i) (fun k => (inR m c).DH i k * (1 + (inR m c).sc k) * (inR m c).g k) k
  unfold vjpBwd at e
  pointwise [res_main_v59]
  refine Eq.trans ?_ (add2 rfl e)
  refine add2 rfl (add2 (add2 rfl (mul2 rfl ?_)) (mul2 ?_ rfl))
  · exact (Fin.sum_univ_one (M := EReal) _).trans rfl
  · exact (Fin.sum_univ_one (M := EReal) _).trans rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v59) = (fun i => (inR m c).DX (i 0) (i 1))
      ∧ r.2.mem ((c.tc : Thread nD τ).loc main_v61) = (fun i => (inR m c).SM (i 0) (i 1))) := by
  refine (θ_run defs _ _).mono (fun r h c => ⟨(h c).1.trans (funext fun i => ?_), (h c).2.1.trans (funext fun i => ?_)⟩) (run m ρ)
  · obtain ⟨r, j, rfl⟩ : ∃ (r : Fin 4096) (j : Fin 1024), i = ix2 r j := ⟨i 0, i 1, by funext a; fin_cases a <;> rfl⟩
    exact dx_eq m c r j
  · obtain ⟨q, k, rfl⟩ : ∃ (q : Fin 8) (k : Fin 1024), i = ix2 q k := ⟨i 0, i 1, by funext a; fin_cases a <;> rfl⟩
    pointwise []
    fin_cases q
    · exact sumE fun s => mul_comm _ _
    · exact sumE fun s => rfl
    · exact sumE fun s => mul_comm _ _
    all_goals exact (Finset.sum_const_zero (M := EReal)).symm

end Cert.Reference8Ideal.InProj
end
-- ==== Proof.InF9.lean ====
module

public import proofs.«01_k».proof.Proof.Gen.Kernel9Ideal.Frame.Runs
public import Idealize.ShloMosaic.Lib.Claim

/-! The run of the input projection's forward call, layer 1. The first grid point copies the eight blocks of the weights side by
    side into scratch: each copy lends its own window of the scratch, so all eight are under way together. The scratch
    then holds the whole matrix at every later point. -/

@[expose] public section
set_option maxRecDepth 16384
noncomputable section
namespace Cert.Kernel9Ideal.InProj
open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x16x1024 .f32) (harg3 : arg3.IsWhole) (arg6 : Memref sig .tc .vmem S512x7168 .f32) (harg6 : arg6.IsWhole) (arg7 : Memref sig .tc .vmem S512x1024 .bf16) (harg7 : arg7.IsWhole) (arg8 : Memref sig .tc .vmem S1024x7168 .bf16) (harg8 : arg8.IsWhole) (hc0 : cond0_0 i) (x0 : Vec F S512x1024 .f32) (x1 : Vec F S1x6x1024 .f32) (x2 : Vec F S1x16x1024 .f32) (fh0 : HbBuf0 (F := F) c hbM0_0) (fh1 : HbBuf0 (F := F) c hbM0_1)

set_option sl_exec.dmaWindow true in
set_option sl_exec.dmaWindowSet true in
set_option maxHeartbeats 1000000 in
/-- The body at the first grid point: the eight copies are started and awaited, then the tile is computed. -/
def kernelRun0_A :
    Σ' (L3 : List (View.Piece (Elt F) S512x7168 .f32)), Σ' (L4 : List (View.Piece (Elt F) S512x1024 .bf16)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_arg3) (Memref.isWhole_whole _) (Memref.whole main_arg4) (Memref.isWhole_whole _) arg6 harg6 arg7 harg7 arg8 harg8 cc0_scratch1) K } := by
  refine ⟨?_, ?_, ?_, fun W K => ?run⟩
  case run =>
    simp only [cc0_in_proj_fwd_eq_skeleton]; unfold cc0_in_proj_fwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iframe Hq0 Hq1 Hq2 Hq3 Hq4 Hq5 Hq6 Hq7 Hh0 Hh1
    iexists _; iexact HW

theorem cover0_A_3 (y : S512x7168.Idx) :
    ∃ pc ∈ (kernelRun0_A c i arg1 harg1 arg2 harg2 arg3 harg3 arg6 harg6 arg7 harg7 arg8 harg8 hc0 x0 x1 x2 fh0 fh1).1, y ∈ pc.1.set :=
  View.cover_of_tiledL (kernelRun0_A c i arg1 harg1 arg2 harg2 arg3 harg3 arg6 harg6 arg7 harg7 arg8 harg8 hc0 x0 x1 x2 fh0 fh1).1 S512x1792.size (by sl_kernel_rfl) y
def out0_A_3 : Vec F S512x7168 .f32 :=
  VO0_3.read (Elt F) (VO0_3.writes (Elt F) VO0_3.junk (kernelRun0_A c i arg1 harg1 arg2 harg2 arg3 harg3 arg6 harg6 arg7 harg7 arg8 harg8 hc0 x0 x1 x2 fh0 fh1).1)
theorem cover0_A_4 (y : S512x1024.Idx) :
    ∃ pc ∈ (kernelRun0_A c i arg1 harg1 arg2 harg2 arg3 harg3 arg6 harg6 arg7 harg7 arg8 harg8 hc0 x0 x1 x2 fh0 fh1).2.1, y ∈ pc.1.set :=
  View.cover_of_tiledL _ S512x1024.size (by sl_kernel_rfl) y
def out0_A_4 : Vec F S512x1024 .bf16 :=
  VO0_4.read (Elt F) (VO0_4.writes (Elt F) VO0_4.junk (kernelRun0_A c i arg1 harg1 arg2 harg2 arg3 harg3 arg6 harg6 arg7 harg7 arg8 harg8 hc0 x0 x1 x2 fh0 fh1).2.1)
theorem scover0_A_0 (y : S1024x7168.Idx) :
    ∃ pc ∈ (kernelRun0_A c i arg1 harg1 arg2 harg2 arg3 harg3 arg6 harg6 arg7 harg7 arg8 harg8 hc0 x0 x1 x2 fh0 fh1).2.2.1, y ∈ pc.1.set :=
  View.cover_of_tiledL (kernelRun0_A c i arg1 harg1 arg2 harg2 arg3 harg3 arg6 harg6 arg7 harg7 arg8 harg8 hc0 x0 x1 x2 fh0 fh1).2.2.1 S1024x896.size (by sl_kernel_rfl) y
def sout0_A_0 : Vec F S1024x7168 .bf16 :=
  VS0_0.read (Elt F) (VS0_0.writes (Elt F) VS0_0.junk (kernelRun0_A c i arg1 harg1 arg2 harg2 arg3 harg3 arg6 harg6 arg7 harg7 arg8 harg8 hc0 x0 x1 x2 fh0 fh1).2.2.1)
end

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x16x1024 .f32) (harg3 : arg3.IsWhole) (arg6 : Memref sig .tc .vmem S512x7168 .f32) (harg6 : arg6.IsWhole) (arg7 : Memref sig .tc .vmem S512x1024 .bf16) (harg7 : arg7.IsWhole) (arg8 : Memref sig .tc .vmem S1024x7168 .bf16) (harg8 : arg8.IsWhole) (hc0 : ¬cond0_0 i) (x0 : Vec F S512x1024 .f32) (x1 : Vec F S1x6x1024 .f32) (x2 : Vec F S1x16x1024 .f32) (xs0 : Vec F S1024x7168 .bf16) (fh0 : HbBuf0 (F := F) c hbM0_0) (fh1 : HbBuf0 (F := F) c hbM0_1)

set_option maxHeartbeats 1000000 in
/-- The body at a later grid point, over what the scratch holds. -/
def kernelRun0_B :
    Σ' (L3 : List (View.Piece (Elt F) S512x7168 .f32)), Σ' (L4 : List (View.Piece (Elt F) S512x1024 .bf16)), { LS0 : List (View.Piece (Elt F) S1024x7168 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ owns (c : Thread nD τ) arg8 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ owns (c : Thread nD τ) arg8 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_in_proj_fwd i arg1 harg1 arg2 harg2 arg3 harg3 (Memref.whole main_arg3) (Memref.isWhole_whole _) (Memref.whole main_arg4) (Memref.isWhole_whole _) arg6 harg6 arg7 harg7 arg8 harg8 cc0_scratch1) K } := by
  refine ⟨?_, ?_, [], fun W K => ?run⟩
  case run =>
    simp only [cc0_in_proj_fwd_eq_skeleton]; unfold cc0_in_proj_fwd_skel
    simp only [k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _; isplitr; · ipureintro; exact harg8.read_unread _
      iexact HS0
    iframe Hq0 Hq1 Hq2 Hq3 Hq4 Hq5 Hq6 Hq7 Hh0 Hh1
    iexists _; iexact HW

theorem cover0_B_3 (y : S512x7168.Idx) :
    ∃ pc ∈ (kernelRun0_B c i arg1 harg1 arg2 harg2 arg3 harg3 arg6 harg6 arg7 harg7 arg8 harg8 hc0 x0 x1 x2 xs0 fh0 fh1).1, y ∈ pc.1.set :=
  View.cover_of_tiledL (kernelRun0_B c i arg1 harg1 arg2 harg2 arg3 harg3 arg6 harg6 arg7 harg7 arg8 harg8 hc0 x0 x1 x2 xs0 fh0 fh1).1 S512x1792.size (by sl_kernel_rfl) y
def out0_B_3 : Vec F S512x7168 .f32 :=
  VO0_3.read (Elt F) (VO0_3.writes (Elt F) VO0_3.junk (kernelRun0_B c i arg1 harg1 arg2 harg2 arg3 harg3 arg6 harg6 arg7 harg7 arg8 harg8 hc0 x0 x1 x2 xs0 fh0 fh1).1)
theorem cover0_B_4 (y : S512x1024.Idx) :
    ∃ pc ∈ (kernelRun0_B c i arg1 harg1 arg2 harg2 arg3 harg3 arg6 harg6 arg7 harg7 arg8 harg8 hc0 x0 x1 x2 xs0 fh0 fh1).2.1, y ∈ pc.1.set :=
  View.cover_of_tiledL _ S512x1024.size (by sl_kernel_rfl) y
def out0_B_4 : Vec F S512x1024 .bf16 :=
  VO0_4.read (Elt F) (VO0_4.writes (Elt F) VO0_4.junk (kernelRun0_B c i arg1 harg1 arg2 harg2 arg3 harg3 arg6 harg6 arg7 harg7 arg8 harg8 hc0 x0 x1 x2 xs0 fh0 fh1).2.1)
end

variable (m : (ℓ : Loc nD τ sig) → Buf (Elt F) ℓ) (ρ : Dev nD → PrngReg)

/-- What the first point leaves in the outputs and in the scratch, and what a later point leaves over `p`, the point before. -/
def atA (c : Dev nD) (t : Fin cfg0.N) (h0 : t.val % 8 = 0) : Vec F S512x7168 .f32 × Vec F S512x1024 .bf16 × Vec F S1024x7168 .bf16 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (V m c main_arg3) (V m c main_arg4))
def atB (c : Dev nD) (t : Fin cfg0.N) (h0 : ¬t.val % 8 = 0) (p : Vec F S512x7168 .f32 × Vec F S512x1024 .bf16 × Vec F S1024x7168 .bf16) : Vec F S512x7168 .f32 × Vec F S512x1024 .bf16 × Vec F S1024x7168 .bf16 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) p.2.2 (V m c main_arg3) (V m c main_arg4), out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) p.2.2 (V m c main_arg3) (V m c main_arg4), p.2.2)

/-- What the outputs' buffers and the scratch hold after grid point `n`. -/
def outsAt0 (c : Dev nD) : (n : ℕ) → n < cfg0.N → Vec F S512x7168 .f32 × Vec F S512x1024 .bf16 × Vec F S1024x7168 .bf16
  | 0, hn => atA m c ⟨0, hn⟩ (Nat.zero_mod _)
  | n + 1, hn =>
    if h0 : (n + 1) % 8 = 0 then atA m c ⟨n + 1, hn⟩ h0
    else atB m c ⟨n + 1, hn⟩ h0 (outsAt0 c n (Nat.lt_of_succ_lt hn))

theorem outsAt0_A (c : Dev nD) (t : Fin cfg0.N) (h0 : t.val % 8 = 0) : outsAt0 m c t.val t.isLt = atA m c t h0 := by
  obtain ⟨n, hn⟩ := t
  cases n with
  | zero => exact rfl
  | succ n => exact (dif_pos h0).trans rfl
theorem outsAt0_B (c : Dev nD) (t : Fin cfg0.N) (h0 : ¬t.val % 8 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before point `n`: after the first point the scratch holds what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg3) ∗ hbPt0 c hbM0_1 (V m c main_arg4))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      unfold atA out0_A_3 out0_A_4 sout0_A_0; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (V m c main_arg3) (V m c main_arg4)).2.2.2 W _)
      iframe H0 H1 H2
      isplitl [H3]; · iexists _; iexact H3
      isplitl [H4]; · iexists _; iexact H4
      iframe HS0 Hq0 Hq1 Hq2 Hq3 Hq4 Hq5 Hq6 Hq7 Hh0 Hh1 HW
      iintro ⟨H0, H1, H2, ⟨%e3, H3⟩, ⟨%e4, H4⟩, ⟨%es0, HS0⟩, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2
      isplitl [H3]
      · unfold owns; iexists _; isplitr
        swap; · iexact H3
        ipureintro; exact View.read_writes_of_cover _ _ _ _ _ (cover0_A_3 c _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold atB out0_B_3 out0_B_4; (try dsimp only)
      iintro ⟨⟨HS0, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk m c 0 t) (iblk m c 1 t) (iblk m c 2 t) _ (V m c main_arg3) (V m c main_arg4)).2.2.2 W _)
      iframe H0 H1 H2
      isplitl [H3]; · iexists _; iexact H3
      isplitl [H4]; · iexists _; iexact H4
      iframe HS0 Hq0 Hq1 Hq2 Hq3 Hq4 Hq5 Hq6 Hq7 Hh0 Hh1 HW
      iintro ⟨H0, H1, H2, ⟨%e3, H3⟩, ⟨%e4, H4⟩, HS0, Hq0, Hq1, Hq2, Hq3, Hq4, Hq5, Hq6, Hq7, Hh0, Hh1, ⟨%W', HW'⟩⟩
      isplitl [HS0 Hg Hq0 Hq1 Hq2 Hq3 Hq4 Hq5 Hq6 Hq7 Hh0 Hh1]
      · isplitl [HS0]
        · iexact HS0
        isplitl [Hg]
        · iexact Hg
        isplitl [Hq0 Hq1 Hq2 Hq3 Hq4 Hq5 Hq6 Hq7]
        · iframe Hq0 Hq1 Hq2 Hq3 Hq4 Hq5 Hq6 Hq7
        isplitl [Hh0]; · iexact Hh0
        iexact Hh1
      isplitl [HW']
      · iexists W'; isplitr; · ipureintro; exact fun _ _ => Or.inl trivial
        iexact HW'
      iframe H0 H1 H2
      isplitl [H3]
      · unfold owns; iexists _; isplitr
        swap; · iexact H3
        ipureintro; exact View.read_writes_of_cover _ _ _ _ _ (cover0_B_3 c _ _ _ _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, ⟨Hh0, Hh1⟩⟩
  isplitl [HS0]
  · iexists _; iexact HS0
  isplitl [Hg]; · iexact Hg
  isplitl [Hq0 Hq1 Hq2 Hq3 Hq4 Hq5 Hq6 Hq7]
  · iframe Hq0 Hq1 Hq2 Hq3 Hq4 Hq5 Hq6 Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel9Ideal.InProj
-- ==== Proof.InV9.lean ====
module

public import proofs.«01_k».proof.Proof.InF9
public import proofs.«01_k».proof.Proof.InBranch
public import Idealize.ShloMosaic.Lib.UnfoldOut
public import Idealize.ShloMosaic.Lib.Pipeline.ValueKit
public import Idealize.ShloMosaic.Lib.Pipeline.ReadBack
public import Idealize.ShloMosaic.Lib.ValueLayout

/-! What the in-projection's forward call of layer 1 leaves: each tile of tokens' product and modulated norm. The weights'
    copy in the scratch buffer is made at the first tile and kept. -/

@[expose] public section
set_option maxRecDepth 16384
noncomputable section
namespace Cert.Kernel9Ideal.InProj
open Idealize.ShloMosaic Idealize.ShloMosaic.TcCoe Idealize.ShloMosaic.Tactic Idealize.ShloMosaic.Pointwise Idealize.SL.Sem
open Cert.Kernel9Ideal.Gen Cert.Mlp Cert.InBranch
variable (m : (ℓ : Loc nD τ sig) → Buf (Elt Ideal) ℓ)

/-- The call's inputs as rows. -/
def inR (c : Dev nD) : Branch where
  x i k := V m c main_arg0 (ix2 i k)
  sh k := V m c main_arg1 (ix3 1 0 k)
  sc k := V m c main_arg1 (ix3 1 1 k)
  g k := V m c main_arg2 (ix3 1 0 k)
  w q k x := V m c main_arg3 (ix3 q k x)

theorem idx_0 : ∀ t : Fin cfg0.N, win0_0.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_1 : ∀ t : Fin cfg0.N, win0_1.index t = ![1, 0, 0] := (by decide +kernel : ∀ t : Fin grid0.N, _)
theorem idx_2 : ∀ t : Fin cfg0.N, win0_2.index t = ![1, 0, 0] := (by decide +kernel : ∀ t : Fin grid0.N, _)

theorem blk_0 (c : Dev nD) (t : Fin cfg0.N) (r : Fin 512) (k : Fin 1024) :
    iblk m c 0 t (ix2 r k) = (inR m c).x (tok2 t.val t.isLt r) k := by
  show _ = V m c main_arg0 (ix2 (tok2 t.val t.isLt r) k)
  blk_ext! [iblk, idx_0 t, tok2]
theorem blk_1 (c : Dev nD) (t : Fin cfg0.N) (q : Fin 6) (k : Fin 1024) : iblk m c 1 t (ix3 0 q k) = V m c main_arg1 (ix3 1 q k) := by
  blk_ext! [iblk, idx_1 t]
theorem blk_2 (c : Dev nD) (t : Fin cfg0.N) (q : Fin 16) (k : Fin 1024) : iblk m c 2 t (ix3 0 q k) = V m c main_arg2 (ix3 1 q k) := by
  blk_ext! [iblk, idx_2 t]

/-! ### The payloads at an index -/

theorem h_pay (c : Dev nD) (t : Fin cfg0.N) (r : Fin 512) (k : Fin 1024) :
    k0_pay4 (F := Ideal) (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0)) (ix2 r k) = (inR m c).H (tok2 t.val t.isLt r) k := by
  have h0 := blk_0 m c t r
  have h1 := blk_1 m c t
  have h2 := blk_2 m c t
  simp only [Branch.H, hRow, rr, ms, width, eps]
  pointwise [k0_pay4]
  generalize iblk m c 0 t = x0 at *
  generalize iblk m c 1 t = x1 at *
  generalize iblk m c 2 t = x2 at *
  rw [h0, h1, h2, h1]
  simp only [h0]
  rfl
theorem pay1_at (h : FVec Ideal S512x1024 .bf16) (w : Vec Ideal S1024x1792 .bf16) (r : Fin 512) (x : Fin 1792) :
    k0_pay1 (F := Ideal) h w (ix2 r x) = ∑ k, (h (ix2 r k) * w (ix2 k x) : EReal) := by
  pointwise [k0_pay1]
theorem pay2_at (h : FVec Ideal S512x1024 .bf16) (w : Vec Ideal S1024x1792 .bf16) (r : Fin 512) (x : Fin 1792) :
    k0_pay2 (F := Ideal) h w (ix2 r x) = ∑ k, (h (ix2 r k) * w (ix2 k x) : EReal) := by
  pointwise [k0_pay2]
theorem pay3_at (h : FVec Ideal S512x1024 .bf16) (w : Vec Ideal S1024x1792 .bf16) (r : Fin 512) (x : Fin 1792) :
    k0_pay3 (F := Ideal) h w (ix2 r x) = ∑ k, (h (ix2 r k) * w (ix2 k x) : EReal) := by
  pointwise [k0_pay3]
theorem pay5_at (a : Vec Ideal S512x1024 .f32) (g sc sh : Vec Ideal S1x1x1024 .f32) (w : Vec Ideal S1024x1792 .bf16) (r : Fin 512) (x : Fin 1792) :
    k0_pay5 (F := Ideal) a g sc sh w (ix2 r x) = ∑ k, (k0_pay4 (F := Ideal) a g sc sh (ix2 r k) * w (ix2 k x) : EReal) := by
  pointwise [k0_pay5]

/-! ### The scratch buffer holds the weights' columns side by side -/

def IsW (c : Dev nD) (scr : Vec Ideal S1024x7168 .bf16) : Prop := ∀ (k : Fin 1024) (j : Fin 7168), @Eq EReal (scr (ix2 k j)) (wcol (inR m c).w k j)

theorem piece (c : Dev nD) (q : Fin 8) (o : ℕ) (ho : q.val = o) (inb) (k : Fin 1024) (x : Fin 896) :
    @Eq EReal (View.read (Elt Ideal) (((View.whole main_arg3).slice (Rect.unit (s := S8x1024x896) ![o, 0, 0] ![1, 1024, 896] inb)).reshape S1024x896
      squeezes_S1x1024x896_S1024x896.numel_eq) (V m c main_arg3) (ix2 k x)) ((inR m c).w q k x) := by
  subst ho
  show V m c main_arg3 ((Rect.unit (s := S8x1024x896) ![q.val, 0, 0] ![1, 1024, 896] inb).idx (Shape.reshapeEquiv squeezes_S1x1024x896_S1024x896.numel_eq (ix2 k x)))
    = V m c main_arg3 (ix3 q k x)
  refine congrArg (V m c main_arg3) ((congrArg _ (Idealize.ShloMosaic.ValueIdx.reshapeEquiv_ix2_1ab _ k x)).trans ?_)
  funext a
  fin_cases a
  · exact Fin.ext (show q.val + 1 * 0 = q.val by omega)
  · exact Fin.ext (show 0 + 1 * k.val = k.val by omega)
  · exact Fin.ext (show 0 + 1 * x.val = x.val by omega)
theorem pieces (c : Dev nD) (q : Fin 8) (k : Fin 1024) (x : Fin 896) :
    @Eq EReal (![ReadAs.same.apply (View.read (Elt Ideal) (((View.whole main_arg3).slice (Rect.unit ![0, 0, 0] ![1, 1024, 896] inb_S8x1024x896_S1x1024x896_0_0_0)).reshape S1024x896 squeezes_S1x1024x896_S1024x896.numel_eq) (V m c main_arg3)),
      ReadAs.same.apply (View.read (Elt Ideal) (((View.whole main_arg3).slice (Rect.unit ![1, 0, 0] ![1, 1024, 896] inb_S8x1024x896_S1x1024x896_1_0_0)).reshape S1024x896 squeezes_S1x1024x896_S1024x896.numel_eq) (V m c main_arg3)),
      ReadAs.same.apply (View.read (Elt Ideal) (((View.whole main_arg3).slice (Rect.unit ![2, 0, 0] ![1, 1024, 896] inb_S8x1024x896_S1x1024x896_2_0_0)).reshape S1024x896 squeezes_S1x1024x896_S1024x896.numel_eq) (V m c main_arg3)),
      ReadAs.same.apply (View.read (Elt Ideal) (((View.whole main_arg3).slice (Rect.unit ![3, 0, 0] ![1, 1024, 896] inb_S8x1024x896_S1x1024x896_3_0_0)).reshape S1024x896 squeezes_S1x1024x896_S1024x896.numel_eq) (V m c main_arg3)),
      ReadAs.same.apply (View.read (Elt Ideal) (((View.whole main_arg3).slice (Rect.unit ![4, 0, 0] ![1, 1024, 896] inb_S8x1024x896_S1x1024x896_4_0_0)).reshape S1024x896 squeezes_S1x1024x896_S1024x896.numel_eq) (V m c main_arg3)),
      ReadAs.same.apply (View.read (Elt Ideal) (((View.whole main_arg3).slice (Rect.unit ![5, 0, 0] ![1, 1024, 896] inb_S8x1024x896_S1x1024x896_5_0_0)).reshape S1024x896 squeezes_S1x1024x896_S1024x896.numel_eq) (V m c main_arg3)),
      ReadAs.same.apply (View.read (Elt Ideal) (((View.whole main_arg3).slice (Rect.unit ![6, 0, 0] ![1, 1024, 896] inb_S8x1024x896_S1x1024x896_6_0_0)).reshape S1024x896 squeezes_S1x1024x896_S1024x896.numel_eq) (V m c main_arg3)),
      ReadAs.same.apply (View.read (Elt Ideal) (((View.whole main_arg3).slice (Rect.unit ![7, 0, 0] ![1, 1024, 896] inb_S8x1024x896_S1x1024x896_7_0_0)).reshape S1024x896 squeezes_S1x1024x896_S1024x896.numel_eq) (V m c main_arg3))] q (ix2 k x)) ((inR m c).w q k x) := by
  exact vec8 (fun q (p : SB.Idx → Elt Ideal .bf16) => @Eq EReal (p (ix2 k x)) ((inR m c).w q k x)) (piece m c 0 0 rfl _ k x) (piece m c 1 1 rfl _ k x) (piece m c 2 2 rfl _ k x) (piece m c 3 3 rfl _ k x) (piece m c 4 4 rfl _ k x) (piece m c 5 5 rfl _ k x) (piece m c 6 6 rfl _ k x) (piece m c 7 7 rfl _ k x) q

theorem scr_A (c : Dev nD) (t : Fin cfg0.N) (h : t.val % 8 = 0) : IsW m c (outsAt0 m c t.val t.isLt).2.2 := by
  intro k j
  rw [outsAt0_A m c t h]
  dsimp only [atA]
  frame_open
  frame_out
  refine (canon_cols .bf16 _ _ _ _ _ _ _ _ _ _ _ _ _ _ _ _ k j).trans (pieces m c _ k _)
theorem scr_at (c : Dev nD) : ∀ (n : ℕ) (hn : n < cfg0.N), IsW m c (outsAt0 m c n hn).2.2
  | 0, hn => scr_A m c ⟨0, hn⟩ (Nat.zero_mod _)
  | n + 1, hn => by
    have h : ¬(n + 1) % 8 = 0 := by have : cfg0.N = 8 := N_0; omega
    have e : (outsAt0 m c (n + 1) hn).2.2 = (outsAt0 m c n (Nat.lt_of_succ_lt hn)).2.2 := by
      rw [outsAt0_B m c ⟨n + 1, hn⟩ h]
      dsimp only [atB]
      frame_open
      rfl
    rw [e]
    exact scr_at c n _

theorem h_blk (c : Dev nD) (t : Fin cfg0.N) (r : Fin 512) (k : Fin 1024) :
    (outsAt0 m c t.val t.isLt).2.1 (ix2 r k) = (inR m c).H (tok2 t.val t.isLt r) k := by
  by_cases h : t.val % 8 = 0
  · rw [outsAt0_A m c t h]
    dsimp only [atA]
    frame_out
    exact h_pay m c t r k
  · rw [outsAt0_B m c t h]
    dsimp only [atB]
    frame_out
    exact h_pay m c t r k
/-- A quarter of the weights' columns, from column `o` on. -/
def IsQ (c : Dev nD) (w : Vec Ideal S1024x1792 .bf16) (o : ℕ) (ho : o ≤ 5376) : Prop :=
  ∀ (k : Fin 1024) (x : Fin 1792), @Eq EReal (w (ix2 k x)) (wcol (inR m c).w k ⟨o + x, by omega⟩)
/-- Before a later tile the buffer holds what the tile before left. -/
theorem scr_B (c : Dev nD) (t : Fin cfg0.N) (hw : (Memref.whole (sig := sig) cc0_scratch0).IsWhole) (o : ℕ) (ho : o ≤ 5376) (inb) :
    IsQ m c (View.ld (View.read (Elt Ideal) (View.whole cc0_scratch0) (hw.unread (outsAt0 m c (t.val - 1) (Nat.lt_of_le_of_lt (Nat.sub_le _ _) t.isLt)).2.2))
      (Rect.unit (s := S1024x7168) ![0, o] ![1024, 1792] inb)) o ho := by
  intro k x
  have e : View.read (Elt Ideal) (View.whole cc0_scratch0) (hw.unread (outsAt0 m c (t.val - 1) (Nat.lt_of_le_of_lt (Nat.sub_le _ _) t.isLt)).2.2)
      = (outsAt0 m c (t.val - 1) (Nat.lt_of_le_of_lt (Nat.sub_le _ _) t.isLt)).2.2 := hw.read_unread _
  rw [e]
  have e' : (Rect.unit (s := S1024x7168) ![0, o] ![1024, 1792] inb).idx (ix2 k x) = (ix2 k (⟨o + x, by omega⟩ : Fin 7168) : S1024x7168.Idx) := by
    funext a
    fin_cases a
    · exact Fin.ext (show 0 + 1 * (k : ℕ) = (k : ℕ) by omega)
    · exact Fin.ext (show o + 1 * (x : ℕ) = o + (x : ℕ) by omega)
  exact (congrArg (outsAt0 m c (t.val - 1) (Nat.lt_of_le_of_lt (Nat.sub_le _ _) t.isLt)).2.2 e').trans (scr_at m c _ _ k _)
theorem p1_of (c : Dev nD) (t : Fin cfg0.N) (w : Vec Ideal S1024x1792 .bf16) (o : ℕ) (ho : o ≤ 5376) (hw : IsQ m c w o ho) (r : Fin 512) (x : Fin 1792) :
    k0_pay1 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay1_at _ w r x).trans (sumE fun k => mul2 (h_pay m c t r k) (hw k x))
theorem p2_of (c : Dev nD) (t : Fin cfg0.N) (w : Vec Ideal S1024x1792 .bf16) (o : ℕ) (ho : o ≤ 5376) (hw : IsQ m c w o ho) (r : Fin 512) (x : Fin 1792) :
    k0_pay2 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay2_at _ w r x).trans (sumE fun k => mul2 (h_pay m c t r k) (hw k x))
theorem p3_of (c : Dev nD) (t : Fin cfg0.N) (w : Vec Ideal S1024x1792 .bf16) (o : ℕ) (ho : o ≤ 5376) (hw : IsQ m c w o ho) (r : Fin 512) (x : Fin 1792) :
    k0_pay3 (F := Ideal) (k0_pay4 (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0))) w (ix2 r x) = (inR m c).P (tok2 t.val t.isLt r) ⟨o + x, by omega⟩ :=
  (pay3_at _ w r x).trans (sumE fun k => mul2 (h_pay m c t r k) (hw k x))
theorem p0_of (c : Dev nD) (t : Fin cfg0.N) (w : Vec Ideal S1024x1792 .bf16) (o : ℕ) (ho : o ≤ 5376) (hw : IsQ m c w o ho) (r : Fin 512) (x : Fin 1792) :
    k0_pay5 (F := Ideal) (iblk m c 0 t) (View.ld (iblk m c 2 t) (Rect.unit ![0, 0, 0] ![1, 1, 1024] inb_S1x16x1024_S1x1x1024_0_0_0)) (View.ld (iblk m c 1 t) (Rect.unit ![0, 1, 0] ![1, 1, 1024] inb_S1x6x1024_S1x1x1024_0_1_0)) (View.ld (iblk m c 1 t) (Rect.unit ![0, 0, 0] ![1, 1, 1024] inb_S1x6x1024_S1x1x1024_0_0_0)) w (ix2 r x) = (inR m c).P (tok2 t.val t.isLt r) ⟨o + x, by omega⟩ :=
  (pay5_at _ _ _ _ w r x).trans (sumE fun k => mul2 (h_pay m c t r k) (hw k x))
theorem p_blk (c : Dev nD) (t : Fin cfg0.N) (r : Fin 512) (j : Fin 7168) :
    (outsAt0 m c t.val t.isLt).1 (ix2 r j) = (inR m c).P (tok2 t.val t.isLt r) j := by
  by_cases h : t.val % 8 = 0
  · rw [outsAt0_A m c t h]
    dsimp only [atA]
    frame_out
    refine canon_quarters _ _ _ _ _ _ _ _ r ((inR m c).P (tok2 t.val t.isLt r)) (fun x => ?_) (fun x => ?_) (fun x => ?_) (fun x => ?_) j
    · exact p3_of m c t _ 5376 (by omega) (readCov_part _ _ _ _ _ _ _ _ _ _ _ _ _ _ _ _ _ 5376 (by omega) _ _ (pieces m c)) r x
    · exact p2_of m c t _ 3584 (by omega) (readCov_part _ _ _ _ _ _ _ _ _ _ _ _ _ _ _ _ _ 3584 (by omega) _ _ (pieces m c)) r x
    · exact p1_of m c t _ 1792 (by omega) (readCov_part _ _ _ _ _ _ _ _ _ _ _ _ _ _ _ _ _ 1792 (by omega) _ _ (pieces m c)) r x
    · exact p0_of m c t _ 0 (by omega) (readCov_part _ _ _ _ _ _ _ _ _ _ _ _ _ _ _ _ _ 0 (by omega) _ _ (pieces m c)) r x
  · rw [outsAt0_B m c t h]
    dsimp only [atB]
    frame_out
    refine canon_quarters _ _ _ _ _ _ _ _ r ((inR m c).P (tok2 t.val t.isLt r)) (fun x => ?_) (fun x => ?_) (fun x => ?_) (fun x => ?_) j
    · exact p3_of m c t _ 5376 (by omega) (scr_B m c t _ 5376 (by omega) _) r x
    · exact p2_of m c t _ 3584 (by omega) (scr_B m c t _ 3584 (by omega) _) r x
    · exact p1_of m c t _ 1792 (by omega) (scr_B m c t _ 1792 (by omega) _) r x
    · exact p0_of m c t _ 0 (by omega) (scr_B m c t _ 0 (by omega) _) r x
theorem emb_3 (t : Fin cfg0.N) (r : Fin 512) (j : Fin 7168) :
    ((win0_3.blk t).view.emb (ix2 r j) : S4096x7168.Idx) = ix2 (tok2 t.val t.isLt r) j := by
  blk_ext [idx_3 t, tok2]
theorem emb_4 (t : Fin cfg0.N) (r : Fin 512) (j : Fin 1024) :
    ((win0_4.blk t).view.emb (ix2 r j) : S4096x1024.Idx) = ix2 (tok2 t.val t.isLt r) j := by
  blk_ext [idx_4 t, tok2]
theorem p_arr (c : Dev nD) : (dats m 0 c).arrAt 3 cfg0.N = fun i => (inR m c).P (i 0) (i 1) := by
  refine (dats m 0 c).arrAt_eq_of_covers 3 _ (by decide +kernel) fun t hf y => ?_
  blk_simp
  rw [after0_3]
  obtain ⟨r, j, rfl⟩ : ∃ (r : Fin 512) (j : Fin 7168), y = ix2 r j := ⟨y 0, y 1, by funext a; fin_cases a <;> rfl⟩
  rw [p_blk, emb_3]
  rfl
theorem h_arr (c : Dev nD) : (dats m 0 c).arrAt 4 cfg0.N = fun i => (inR m c).H (i 0) (i 1) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, by funext a; fin_cases a <;> rfl⟩
  rw [h_blk, emb_4]
  rfl

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = (fun i => (inR m c).P (i 0) (i 1))
      ∧ r.2.mem ((c.tc : Thread nD τ).loc main_v0_1) = (fun i => (inR m c).H (i 0) (i 1))) :=
  (θ_run defs _ _).mono (fun r h c => ⟨((h c).1 3).trans (p_arr m c), ((h c).1 4).trans (h_arr m c)⟩) (run_main m ρ)

end Cert.Kernel9Ideal.InProj
end
-- ==== Proof.InR9.lean ====
module

public import proofs.«01_k».proof.Proof.Gen.Reference9Ideal.Run
public import proofs.«01_k».proof.Proof.InBranch
public import Idealize.ShloMosaic.Lib.Pointwise

/-! The reference's in-projection of layer 1 over the extended reals. -/

@[expose] public section
set_option maxRecDepth 16384
noncomputable section
namespace Cert.Reference9Ideal.InProj
open Idealize.ShloMosaic Idealize.ShloMosaic.TcCoe Idealize.ShloMosaic.Tactic Idealize.ShloMosaic.Pointwise Idealize.SL.Sem
open Cert.Reference9Ideal Cert.Reference9Ideal.Gen Cert.Reference9Ideal.Value Cert.Mlp Cert.InBranch Idealize.ShloMosaic.StableHlo
variable (m : (ℓ : Loc nD τ sig) → Buf (Elt Ideal) ℓ)

/-- The arguments as rows. -/
def inR (c : Dev nD) : Branch where
  x i k := m ((c.tc : Thread nD τ).loc main_arg0) (ix2 i k)
  sh k := m ((c.tc : Thread nD τ).loc main_arg1) (ix3 1 0 k)
  sc k := m ((c.tc : Thread nD τ).loc main_arg1) (ix3 1 1 k)
  g k := m ((c.tc : Thread nD τ).loc main_arg2) (ix3 1 0 k)
  w q k x := m ((c.tc : Thread nD τ).loc main_arg3) (ix3 q k x)

/-- Every terminating run leaves the two results. -/
theorem run_value (ρ : Dev nD → PrngReg) : θ_run defs (onTc (τ := τ) (main (F := Ideal))) ⟨m, fun _ => 0, ρ⟩ (fun r => ∀ c : Dev nD,
      r.2.mem ((c.tc : Thread nD τ).loc main_v27) = (fun i => (inR m c).P (i 0) (i 1))
      ∧ r.2.mem ((c.tc : Thread nD τ).loc main_v28) = (fun i => (inR m c).H (i 0) (i 1))) := by
  refine (θ_run defs _ _).mono (fun r h c => ⟨(h c).1.trans (funext fun i => ?_), (h c).2.1.trans (funext fun i => ?_)⟩) (run m ρ)
  · obtain ⟨r, j, rfl⟩ : ∃ (r : Fin 4096) (j : Fin 7168), i = ix2 r j := ⟨i 0, i 1, by funext a; fin_cases a <;> rfl⟩
    simp only [Branch.P, Branch.H, hRow, rr, ms, width, eps]
    pointwise []
    rfl
  · obtain ⟨r, j, rfl⟩ : ∃ (r : Fin 4096) (j : Fin 1024), i = ix2 r j := ⟨i 0, i 1, by funext a; fin_cases a <;> rfl⟩
    simp only [Branch.H, hRow, rr, ms, width, eps]
    pointwise []
    rfl

end Cert.Reference9Ideal.InProj
end
-- ==== Proof.lean ====
module

public import proofs.«01_k».proof.Defs
public import proofs.«01_k».proof.Proof.Gen.Kernel
public import proofs.«01_k».proof.Proof.MixSame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.MlpRun
public import proofs.«01_k».proof.Proof.MlpRef
public import proofs.«01_k».proof.Proof.InARun
public import proofs.«01_k».proof.Proof.InARef
public import proofs.«01_k».proof.Proof.Mlp1Run
public import proofs.«01_k».proof.Proof.Mlp1Ref
public import proofs.«01_k».proof.Proof.InBRun
public import proofs.«01_k».proof.Proof.InBRef
public import proofs.«01_k».proof.Proof.InV6
public import proofs.«01_k».proof.Proof.InR6
public import proofs.«01_k».proof.Proof.InV7
public import proofs.«01_k».proof.Proof.InR7
public import proofs.«01_k».proof.Proof.InV8
public import proofs.«01_k».proof.Proof.InR8
public import proofs.«01_k».proof.Proof.InV9
public import proofs.«01_k».proof.Proof.InR9
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

attribute [local instance] Cert.Kernel.Gen.facts Cert.KernelIdeal.Gen.facts Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts Cert.Kernel8.Gen.facts Cert.Kernel8Ideal.Gen.facts Cert.Reference8Ideal.Gen.facts Cert.Kernel9.Gen.facts Cert.Kernel9Ideal.Gen.facts Cert.Reference9Ideal.Gen.facts

/-! ### The mixer's backward call: frames -/

theorem frame_mix_ideal : Cert.quiescent_KernelIdeal := fun m ρ _ => Cert.KernelIdeal.Mixer.frame m ρ

set_option maxRecDepth 65536 in
set_option maxHeartbeats 0 in
set_option backward.isDefEq.respectTransparency.types false in
/-- The two printed programs are the same text, so one run serves both. -/
theorem frame_mix : Cert.quiescent_Kernel := fun m ρ _ => by
  have h := Cert.KernelIdeal.Mixer.frame (F := Bits) m ρ
  rw [← Cert.KernelIdeal.Mixer.defs_eq] at h
  exact h

/-! ### The channel mixer of layer 0 -/

theorem frame_mlp : Cert.quiescent_Kernel2 := fun m ρ _ => Cert.Kernel2.Gen.frame m ρ

theorem frame_mlp_ideal : Cert.quiescent_Kernel2Ideal := fun m ρ _ => Cert.Kernel2Ideal.Gen.frame m ρ

/-- The reference's run writes no argument and declares no semaphore. -/
theorem frame_mlp_ref : Cert.quiescent_Reference2Ideal := fun m ρ _ =>
  (θ_run Cert.Reference2Ideal.defs _ _).mono (fun r h => ⟨fun c => (h c).2.2.2.2.2,
      sem_eq_zero_of_no_sems (by decide) r.2⟩)
    (Cert.Reference2Ideal.Mlp.run_value m ρ)

/-- From memories agreeing on the arguments the two programs' rows are the same. -/
theorem in_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Mlp.inR (launchContents m' c) = Cert.Kernel2Ideal.Mlp.inOf m c := by
  have e : ∀ a b : Cert.Mlp.In, a.d = b.d → a.x = b.x → a.mod = b.mod → a.row = b.row → a.up = b.up → a.dn = b.dn → a = b := by
    rintro ⟨⟩ ⟨⟩ h0 h1 h2 h3 h4 h5
    dsimp only at h0 h1 h2 h3 h4 h5
    subst h0 h1 h2 h3 h4 h5
    rfl
  refine e _ _ ?_ ?_ ?_ ?_ ?_ ?_
  · exact funext fun i => funext fun k => congrFun h0 _
  · exact funext fun i => funext fun k => congrFun h1 _
  · exact funext fun i => funext fun k => congrFun h2 _
  · exact funext fun i => funext fun k => congrFun h3 _
  · exact funext fun q => funext fun i => funext fun k => congrFun h4 _
  · exact funext fun i => funext fun k => congrFun h5 _

theorem algebraic_mlp : Cert.algebraic_Kernel2Ideal_Reference2Ideal := by
  intro m ρ m' ρ' _ hagree
  refine ⟨fun c => fun i => (Cert.Kernel2Ideal.Mlp.inOf m c).X2 (i 0) (i 1), fun c => fun i => (Cert.Kernel2Ideal.Mlp.inOf m c).DX (i 0) (i 1),
    fun c => fun i => (Cert.Kernel2Ideal.Mlp.inOf m c).SM (i 0) (i 1), fun c => fun i => (Cert.Kernel2Ideal.Mlp.inOf m c).GU (i 0) (i 1) (i 2),
    fun c => fun i => (Cert.Kernel2Ideal.Mlp.inOf m c).GD (i 0) (i 1) (i 2), Cert.Kernel2Ideal.Mlp.run_value m ρ, ?_⟩
  refine (θ_run Cert.Reference2Ideal.defs _ _).mono (fun r h c => ?_) (Cert.Reference2Ideal.Mlp.run_value m' ρ')
  obtain ⟨a0, a1, a2, a3, a4, a5, _⟩ := hagree c
  have e := in_eq m m' c a0 a1 a2 a3 a4 a5
  obtain ⟨h0, h1, h2, h3, h4, ha⟩ := h c
  rw [e] at h0 h1 h2 h3 h4
  exact ⟨h0, h1, h2, h3, h4, ha⟩

/-! ### The projections' weight gradients of layer 0 -/

theorem frame_inA : Cert.quiescent_Kernel3 := fun m ρ _ => Cert.Kernel3.Gen.frame m ρ

theorem frame_inA_ideal : Cert.quiescent_Kernel3Ideal := fun m ρ _ => Cert.Kernel3Ideal.Gen.frame m ρ

theorem frame_inA_ref : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.InProj.run_value m ρ)

theorem algebraic_inA : Cert.algebraic_Kernel3Ideal_Reference3Ideal := by
  intro m ρ m' ρ' _ hagree
  refine ⟨fun c => fun i => (Cert.Kernel3Ideal.InProj.inOf m c).GIN (i 0) (i 1) (i 2),
    fun c => fun i => (Cert.Kernel3Ideal.InProj.inOf m c).GSQ 0 (i 0) (i 1) (i 2),
    fun c => fun i => (Cert.Kernel3Ideal.InProj.inOf m c).GSQ 1 (i 0) (i 1) (i 2),
    fun c => fun i => (Cert.Kernel3Ideal.InProj.inOf m c).GSQ 2 (i 0) (i 1) (i 2),
    Cert.Kernel3Ideal.InProj.run_value m ρ, ?_⟩
  refine (θ_run Cert.Reference3Ideal.defs _ _).mono (fun r h c => ?_) (Cert.Reference3Ideal.InProj.run_value m' ρ')
  obtain ⟨a0, a1, a2, a3, _, a5, a6, a7, a8, a9, a10⟩ := hagree c
  have e : Cert.Reference3Ideal.InProj.inR m' c = Cert.Kernel3Ideal.InProj.inOf m c := by
    unfold Cert.Reference3Ideal.InProj.inR Cert.Kernel3Ideal.InProj.inOf
    rw [a0, a1, a2, a3, a5, a6, a7, a8, a9, a10]
  obtain ⟨h0, h1, h2, h3, ha⟩ := h c
  rw [e] at h0 h1 h2 h3
  exact ⟨h0, h1, h2, h3, ha⟩

/-! ### The channel mixer of layer 1 and the loss -/

theorem frame_mlp1 : Cert.quiescent_Kernel4 := fun m ρ _ => Cert.Kernel4.Gen.frame m ρ

theorem frame_mlp1_ideal : Cert.quiescent_Kernel4Ideal := fun m ρ _ => Cert.Kernel4Ideal.Gen.frame m ρ

theorem frame_mlp1_ref : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Mlp.run_value m ρ)

/-- From memories agreeing on the arguments the two programs' rows and targets are the same. -/
theorem mlp1_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Mlp.tgt (launchContents m' c) = Cert.Kernel4Ideal.Mlp.tgt m c
      ∧ Cert.Reference4Ideal.Mlp.inR (launchContents m' c) = Cert.Kernel4Ideal.Mlp.inOf m c := by
  have e1 : Cert.Reference4Ideal.Mlp.tgt (launchContents m' c) = Cert.Kernel4Ideal.Mlp.tgt m c := funext fun i => funext fun k => congrFun h1 _
  refine ⟨e1, ?_⟩
  unfold Cert.Reference4Ideal.Mlp.inR Cert.Kernel4Ideal.Mlp.inOf
  rw [e1]
  have e : ∀ (T x x' : Fin 4096 → Fin 1024 → EReal) (a a' : Fin 6 → Fin 1024 → EReal) (r r' : Fin 16 → Fin 1024 → EReal)
      (u u' : Fin 8 → Fin 1024 → Fin 512 → EReal) (d d' : Fin 4096 → Fin 1024 → EReal), x = x' → a = a' → r = r' → u = u' → d = d' →
      Cert.Mlp.lossIn x T a r u d = Cert.Mlp.lossIn x' T a' r' u' d' := by
    rintro T x _ a _ r _ u _ d _ rfl rfl rfl rfl rfl
    rfl
  refine e _ _ _ _ _ _ _ _ _ _ _ ?_ ?_ ?_ ?_ ?_
  · exact funext fun i => funext fun k => congrFun h0 _
  · exact funext fun i => funext fun k => congrFun h2 _
  · exact funext fun i => funext fun k => congrFun h3 _
  · exact funext fun q => funext fun i => funext fun k => congrFun h4 _
  · exact funext fun i => funext fun k => congrFun h5 _

theorem algebraic_mlp1 : Cert.algebraic_Kernel4Ideal_Reference4Ideal := by
  intro m ρ m' ρ' _ hagree
  refine ⟨fun c => fun _ => Cert.Mlp.loss (Cert.Kernel4Ideal.Mlp.inOf m c).X2 (Cert.Kernel4Ideal.Mlp.tgt m c), fun c => fun i => (Cert.Kernel4Ideal.Mlp.inOf m c).DX (i 0) (i 1),
    fun c => fun i => (Cert.Kernel4Ideal.Mlp.inOf m c).SM (i 0) (i 1), fun c => fun i => (Cert.Kernel4Ideal.Mlp.inOf m c).GU (i 0) (i 1) (i 2),
    fun c => fun i => (Cert.Kernel4Ideal.Mlp.inOf m c).GD (i 0) (i 1) (i 2), Cert.Kernel4Ideal.Mlp.run_value m ρ, ?_⟩
  refine (θ_run Cert.Reference4Ideal.defs _ _).mono (fun r h c => ?_) (Cert.Reference4Ideal.Mlp.run_value m' ρ')
  obtain ⟨a0, a1, a2, a3, a4, a5, _⟩ := hagree c
  obtain ⟨et, e⟩ := mlp1_eq m m' c a0 a1 a2 a3 a4 a5
  obtain ⟨h0, h1, h2, h3, h4, ha⟩ := h c
  rw [e] at h0 h1 h2 h3 h4
  rw [et] at h0
  exact ⟨h0, h1, h2, h3, h4, ha⟩

/-! ### The projections' weight gradients of layer 1 -/

theorem frame_inB : Cert.quiescent_Kernel5 := fun m ρ _ => Cert.Kernel5.Gen.frame m ρ

theorem frame_inB_ideal : Cert.quiescent_Kernel5Ideal := fun m ρ _ => Cert.Kernel5Ideal.Gen.frame m ρ

theorem frame_inB_ref : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.InProj.run_value m ρ)

theorem algebraic_inB : Cert.algebraic_Kernel5Ideal_Reference5Ideal := by
  intro m ρ m' ρ' _ hagree
  refine ⟨fun c => fun i => (Cert.Kernel5Ideal.InProj.inOf m c).GIN (i 0) (i 1) (i 2),
    fun c => fun i => (Cert.Kernel5Ideal.InProj.inOf m c).GSQ 0 (i 0) (i 1) (i 2),
    fun c => fun i => (Cert.Kernel5Ideal.InProj.inOf m c).GSQ 1 (i 0) (i 1) (i 2),
    fun c => fun i => (Cert.Kernel5Ideal.InProj.inOf m c).GSQ 2 (i 0) (i 1) (i 2),
    Cert.Kernel5Ideal.InProj.run_value m ρ, ?_⟩
  refine (θ_run Cert.Reference5Ideal.defs _ _).mono (fun r h c => ?_) (Cert.Reference5Ideal.InProj.run_value m' ρ')
  obtain ⟨a0, a1, a2, a3, _, a5, a6, a7, a8, a9, a10⟩ := hagree c
  have e : Cert.Reference5Ideal.InProj.inR m' c = Cert.Kernel5Ideal.InProj.inOf m c := by
    unfold Cert.Reference5Ideal.InProj.inR Cert.Kernel5Ideal.InProj.inOf
    rw [a0, a1, a2, a3, a5, a6, a7, a8, a9, a10]
  obtain ⟨h0, h1, h2, h3, ha⟩ := h c
  rw [e] at h0 h1 h2 h3
  exact ⟨h0, h1, h2, h3, ha⟩

/-! ### The in-projection's backward call of layer 0 -/

theorem frame_proj_bwd_ideal : Cert.quiescent_Kernel6Ideal := fun m ρ _ => Cert.Kernel6Ideal.InProj.frame m ρ

set_option maxRecDepth 65536 in
set_option maxHeartbeats 0 in
set_option backward.isDefEq.respectTransparency.types false in
/-- The two printed programs are the same text, so one run serves both: here their bodies' tables are equal. -/
theorem proj_bwd_defs₀ : @Eq (Defs Cert.Kernel6Ideal.nD Cert.Kernel6Ideal.τ Cert.Kernel6Ideal.sig (Elt Bits) Cert.Kernel6Ideal.Λ₀)
    (Cert.Kernel6.defs₀ (F := Bits)) (Cert.Kernel6Ideal.defs₀ (F := Bits)) := by
  unfold Cert.Kernel6.defs₀ Cert.Kernel6Ideal.defs₀
  refine congrArg Defs.onTc (funext fun l => funext fun a => ?_)
  obtain ⟨l, hl⟩ := l
  obtain _ | l := l
  · obtain ⟨t, s⟩ := a
    rfl
  · omega

set_option maxRecDepth 65536 in
set_option maxHeartbeats 0 in
set_option backward.isDefEq.respectTransparency.types false in
theorem proj_bwd_defs : @Eq (Defs Cert.Kernel6Ideal.nD Cert.Kernel6Ideal.τ Cert.Kernel6Ideal.sig (Elt Bits) (Pipeline.Sig Cert.Kernel6Ideal.Λ₀ (Fin 1) fun p => (Cert.Kernel6Ideal.pcfgs (F := Bits) p).Adm))
    (Cert.Kernel6.defs (F := Bits)) (Cert.Kernel6Ideal.defs (F := Bits)) := by
  unfold Cert.Kernel6Ideal.defs
  rw [← proj_bwd_defs₀]
  rfl

set_option maxRecDepth 65536 in
set_option maxHeartbeats 0 in
set_option backward.isDefEq.respectTransparency.types false in
theorem frame_proj_bwd : Cert.quiescent_Kernel6 := fun m ρ _ => by
  have h := Cert.Kernel6Ideal.InProj.frame (F := Bits) m ρ
  rw [← proj_bwd_defs] at h
  exact h

theorem frame_proj_bwd_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

theorem algebraic_proj_bwd : Cert.algebraic_Kernel6Ideal_Reference6Ideal := by
  intro m ρ m' ρ' _ hagree
  refine ⟨fun c => fun i => (Cert.Kernel6Ideal.InProj.inR m c).DX (i 0) (i 1), fun c => fun i => (Cert.Kernel6Ideal.InProj.inR m c).SM (i 0) (i 1),
    (θ_run Cert.Kernel6Ideal.defs _ _).mono (fun r h c => ⟨(h.1 c).1, (h.1 c).2, h.2 c⟩)
      (θ_run_and (Cert.Kernel6Ideal.InProj.run_value m ρ) (Cert.Kernel6Ideal.InProj.unchanged m ρ)), ?_⟩
  refine (θ_run Cert.Reference6Ideal.defs _ _).mono (fun r h c => ?_) (θ_run_and (Cert.Reference6Ideal.InProj.run_value m' ρ') (Cert.Reference6Ideal.Value.run m' ρ'))
  obtain ⟨a0, a1, a2, a3, a4, a5, _⟩ := hagree c
  have e : Cert.Reference6Ideal.InProj.inR m' c = Cert.Kernel6Ideal.InProj.inR m c := by
    unfold Cert.Reference6Ideal.InProj.inR
    rw [a0, a1, a2, a3, a4, a5]
    rfl
  obtain ⟨h0, h1⟩ := h.1 c
  rw [e] at h0 h1
  exact ⟨h0, h1, (h.2 c).2.2⟩

/-! ### The in-projection's forward call of layer 0 -/

theorem frame_proj_fwd_ideal : Cert.quiescent_Kernel7Ideal := fun m ρ _ => Cert.Kernel7Ideal.InProj.frame m ρ

set_option maxRecDepth 65536 in
set_option maxHeartbeats 0 in
set_option backward.isDefEq.respectTransparency.types false in
/-- The two printed programs are the same text, so one run serves both: here their bodies' tables are equal. -/
theorem proj_fwd_defs₀ : @Eq (Defs Cert.Kernel7Ideal.nD Cert.Kernel7Ideal.τ Cert.Kernel7Ideal.sig (Elt Bits) Cert.Kernel7Ideal.Λ₀)
    (Cert.Kernel7.defs₀ (F := Bits)) (Cert.Kernel7Ideal.defs₀ (F := Bits)) := by
  unfold Cert.Kernel7.defs₀ Cert.Kernel7Ideal.defs₀
  refine congrArg Defs.onTc (funext fun l => funext fun a => ?_)
  obtain ⟨l, hl⟩ := l
  obtain _ | l := l
  · obtain ⟨t, s⟩ := a
    rfl
  · omega

set_option maxRecDepth 65536 in
set_option maxHeartbeats 0 in
set_option backward.isDefEq.respectTransparency.types false in
theorem proj_fwd_defs : @Eq (Defs Cert.Kernel7Ideal.nD Cert.Kernel7Ideal.τ Cert.Kernel7Ideal.sig (Elt Bits) (Pipeline.Sig Cert.Kernel7Ideal.Λ₀ (Fin 1) fun p => (Cert.Kernel7Ideal.pcfgs (F := Bits) p).Adm))
    (Cert.Kernel7.defs (F := Bits)) (Cert.Kernel7Ideal.defs (F := Bits)) := by
  unfold Cert.Kernel7Ideal.defs
  rw [← proj_fwd_defs₀]
  rfl

set_option maxRecDepth 65536 in
set_option maxHeartbeats 0 in
set_option backward.isDefEq.respectTransparency.types false in
theorem frame_proj_fwd : Cert.quiescent_Kernel7 := fun m ρ _ => by
  have h := Cert.Kernel7Ideal.InProj.frame (F := Bits) m ρ
  rw [← proj_fwd_defs] at h
  exact h

theorem frame_proj_fwd_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem algebraic_proj_fwd : Cert.algebraic_Kernel7Ideal_Reference7Ideal := by
  intro m ρ m' ρ' _ hagree
  refine ⟨fun c => fun i => (Cert.Kernel7Ideal.InProj.inR m c).P (i 0) (i 1), fun c => fun i => (Cert.Kernel7Ideal.InProj.inR m c).H (i 0) (i 1),
    (θ_run Cert.Kernel7Ideal.defs _ _).mono (fun r h c => ⟨(h.1 c).1, (h.1 c).2, h.2 c⟩)
      (θ_run_and (Cert.Kernel7Ideal.InProj.run_value m ρ) (Cert.Kernel7Ideal.InProj.unchanged m ρ)), ?_⟩
  refine (θ_run Cert.Reference7Ideal.defs _ _).mono (fun r h c => ?_) (θ_run_and (Cert.Reference7Ideal.InProj.run_value m' ρ') (Cert.Reference7Ideal.Value.run m' ρ'))
  obtain ⟨a0, a1, a2, a3, _⟩ := hagree c
  have e : Cert.Reference7Ideal.InProj.inR m' c = Cert.Kernel7Ideal.InProj.inR m c := by
    unfold Cert.Reference7Ideal.InProj.inR
    rw [a0, a1, a2, a3]
    rfl
  obtain ⟨h0, h1⟩ := h.1 c
  rw [e] at h0 h1
  exact ⟨h0, h1, (h.2 c).2.2⟩

/-! ### The in-projection's backward call of layer 1 -/

theorem frame_proj_bwd1_ideal : Cert.quiescent_Kernel8Ideal := fun m ρ _ => Cert.Kernel8Ideal.InProj.frame m ρ

set_option maxRecDepth 65536 in
set_option maxHeartbeats 0 in
set_option backward.isDefEq.respectTransparency.types false in
/-- The two printed programs are the same text, so one run serves both: here their bodies' tables are equal. -/
theorem proj_bwd1_defs₀ : @Eq (Defs Cert.Kernel8Ideal.nD Cert.Kernel8Ideal.τ Cert.Kernel8Ideal.sig (Elt Bits) Cert.Kernel8Ideal.Λ₀)
    (Cert.Kernel8.defs₀ (F := Bits)) (Cert.Kernel8Ideal.defs₀ (F := Bits)) := by
  unfold Cert.Kernel8.defs₀ Cert.Kernel8Ideal.defs₀
  refine congrArg Defs.onTc (funext fun l => funext fun a => ?_)
  obtain ⟨l, hl⟩ := l
  obtain _ | l := l
  · obtain ⟨t, s⟩ := a
    rfl
  · omega

set_option maxRecDepth 65536 in
set_option maxHeartbeats 0 in
set_option backward.isDefEq.respectTransparency.types false in
theorem proj_bwd1_defs : @Eq (Defs Cert.Kernel8Ideal.nD Cert.Kernel8Ideal.τ Cert.Kernel8Ideal.sig (Elt Bits) (Pipeline.Sig Cert.Kernel8Ideal.Λ₀ (Fin 1) fun p => (Cert.Kernel8Ideal.pcfgs (F := Bits) p).Adm))
    (Cert.Kernel8.defs (F := Bits)) (Cert.Kernel8Ideal.defs (F := Bits)) := by
  unfold Cert.Kernel8Ideal.defs
  rw [← proj_bwd1_defs₀]
  rfl

set_option maxRecDepth 65536 in
set_option maxHeartbeats 0 in
set_option backward.isDefEq.respectTransparency.types false in
theorem frame_proj_bwd1 : Cert.quiescent_Kernel8 := fun m ρ _ => by
  have h := Cert.Kernel8Ideal.InProj.frame (F := Bits) m ρ
  rw [← proj_bwd1_defs] at h
  exact h

theorem frame_proj_bwd1_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

theorem algebraic_proj_bwd1 : Cert.algebraic_Kernel8Ideal_Reference8Ideal := by
  intro m ρ m' ρ' _ hagree
  refine ⟨fun c => fun i => (Cert.Kernel8Ideal.InProj.inR m c).DX (i 0) (i 1), fun c => fun i => (Cert.Kernel8Ideal.InProj.inR m c).SM (i 0) (i 1),
    (θ_run Cert.Kernel8Ideal.defs _ _).mono (fun r h c => ⟨(h.1 c).1, (h.1 c).2, h.2 c⟩)
      (θ_run_and (Cert.Kernel8Ideal.InProj.run_value m ρ) (Cert.Kernel8Ideal.InProj.unchanged m ρ)), ?_⟩
  refine (θ_run Cert.Reference8Ideal.defs _ _).mono (fun r h c => ?_) (θ_run_and (Cert.Reference8Ideal.InProj.run_value m' ρ') (Cert.Reference8Ideal.Value.run m' ρ'))
  obtain ⟨a0, a1, a2, a3, a4, a5, _⟩ := hagree c
  have e : Cert.Reference8Ideal.InProj.inR m' c = Cert.Kernel8Ideal.InProj.inR m c := by
    unfold Cert.Reference8Ideal.InProj.inR
    rw [a0, a1, a2, a3, a4, a5]
    rfl
  obtain ⟨h0, h1⟩ := h.1 c
  rw [e] at h0 h1
  exact ⟨h0, h1, (h.2 c).2.2⟩

/-! ### The in-projection's forward call of layer 1 -/

theorem frame_proj_fwd1_ideal : Cert.quiescent_Kernel9Ideal := fun m ρ _ => Cert.Kernel9Ideal.InProj.frame m ρ

set_option maxRecDepth 65536 in
set_option maxHeartbeats 0 in
set_option backward.isDefEq.respectTransparency.types false in
/-- The two printed programs are the same text, so one run serves both: here their bodies' tables are equal. -/
theorem proj_fwd1_defs₀ : @Eq (Defs Cert.Kernel9Ideal.nD Cert.Kernel9Ideal.τ Cert.Kernel9Ideal.sig (Elt Bits) Cert.Kernel9Ideal.Λ₀)
    (Cert.Kernel9.defs₀ (F := Bits)) (Cert.Kernel9Ideal.defs₀ (F := Bits)) := by
  unfold Cert.Kernel9.defs₀ Cert.Kernel9Ideal.defs₀
  refine congrArg Defs.onTc (funext fun l => funext fun a => ?_)
  obtain ⟨l, hl⟩ := l
  obtain _ | l := l
  · obtain ⟨t, s⟩ := a
    rfl
  · omega

set_option maxRecDepth 65536 in
set_option maxHeartbeats 0 in
set_option backward.isDefEq.respectTransparency.types false in
theorem proj_fwd1_defs : @Eq (Defs Cert.Kernel9Ideal.nD Cert.Kernel9Ideal.τ Cert.Kernel9Ideal.sig (Elt Bits) (Pipeline.Sig Cert.Kernel9Ideal.Λ₀ (Fin 1) fun p => (Cert.Kernel9Ideal.pcfgs (F := Bits) p).Adm))
    (Cert.Kernel9.defs (F := Bits)) (Cert.Kernel9Ideal.defs (F := Bits)) := by
  unfold Cert.Kernel9Ideal.defs
  rw [← proj_fwd1_defs₀]
  rfl

set_option maxRecDepth 65536 in
set_option maxHeartbeats 0 in
set_option backward.isDefEq.respectTransparency.types false in
theorem frame_proj_fwd1 : Cert.quiescent_Kernel9 := fun m ρ _ => by
  have h := Cert.Kernel9Ideal.InProj.frame (F := Bits) m ρ
  rw [← proj_fwd1_defs] at h
  exact h

theorem frame_proj_fwd1_ref : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

theorem algebraic_proj_fwd1 : Cert.algebraic_Kernel9Ideal_Reference9Ideal := by
  intro m ρ m' ρ' _ hagree
  refine ⟨fun c => fun i => (Cert.Kernel9Ideal.InProj.inR m c).P (i 0) (i 1), fun c => fun i => (Cert.Kernel9Ideal.InProj.inR m c).H (i 0) (i 1),
    (θ_run Cert.Kernel9Ideal.defs _ _).mono (fun r h c => ⟨(h.1 c).1, (h.1 c).2, h.2 c⟩)
      (θ_run_and (Cert.Kernel9Ideal.InProj.run_value m ρ) (Cert.Kernel9Ideal.InProj.unchanged m ρ)), ?_⟩
  refine (θ_run Cert.Reference9Ideal.defs _ _).mono (fun r h c => ?_) (θ_run_and (Cert.Reference9Ideal.InProj.run_value m' ρ') (Cert.Reference9Ideal.Value.run m' ρ'))
  obtain ⟨a0, a1, a2, a3, _⟩ := hagree c
  have e : Cert.Reference9Ideal.InProj.inR m' c = Cert.Kernel9Ideal.InProj.inR m c := by
    unfold Cert.Reference9Ideal.InProj.inR
    rw [a0, a1, a2, a3]
    rfl
  obtain ⟨h0, h1⟩ := h.1 c
  rw [e] at h0 h1
  exact ⟨h0, h1, (h.2 c).2.2⟩

theorem claim : Cert.Claim := ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  frame_mix, frame_mix_ideal, frame_mlp, frame_mlp_ideal, frame_mlp_ref, frame_inA, frame_inA_ideal, frame_inA_ref, frame_mlp1, frame_mlp1_ideal, frame_mlp1_ref, frame_inB, frame_inB_ideal, frame_inB_ref, frame_proj_bwd, frame_proj_bwd_ideal, frame_proj_bwd_ref, frame_proj_fwd, frame_proj_fwd_ideal, frame_proj_fwd_ref, frame_proj_bwd1, frame_proj_bwd1_ideal, frame_proj_bwd1_ref, frame_proj_fwd1, frame_proj_fwd1_ideal, frame_proj_fwd1_ref,
  trivial, trivial, algebraic_mlp, trivial, algebraic_inA, trivial, algebraic_mlp1, trivial, algebraic_inB, trivial, algebraic_proj_bwd, trivial, algebraic_proj_fwd, trivial, algebraic_proj_bwd1, trivial, algebraic_proj_fwd1⟩

end Cert.Proof

end
